-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def Pre_Kernel27 (m : (ℓ : Loc Cert.Kernel27.nD Cert.Kernel27.τ Cert.Kernel27.sig) → Buf (Elt Bits) ℓ) : Prop :=
  True

def Pre_Kernel27Ideal (m : (ℓ : Loc Cert.Kernel27Ideal.nD Cert.Kernel27Ideal.τ Cert.Kernel27Ideal.sig) → Buf (Elt Ideal) ℓ) : Prop :=
  True

def Pre_Reference27Ideal (m : (ℓ : Loc Cert.Reference27Ideal.nD Cert.Reference27Ideal.τ Cert.Reference27Ideal.sig) → Buf (Elt Ideal) ℓ) : Prop :=
  True

def Pre_Kernel28 (m : (ℓ : Loc Cert.Kernel28.nD Cert.Kernel28.τ Cert.Kernel28.sig) → Buf (Elt Bits) ℓ) : Prop :=
  True

def Pre_Kernel28Ideal (m : (ℓ : Loc Cert.Kernel28Ideal.nD Cert.Kernel28Ideal.τ Cert.Kernel28Ideal.sig) → Buf (Elt Ideal) ℓ) : Prop :=
  True

def Pre_Reference28Ideal (m : (ℓ : Loc Cert.Reference28Ideal.nD Cert.Reference28Ideal.τ Cert.Reference28Ideal.sig) → Buf (Elt Ideal) ℓ) : Prop :=
  True

def Pre_Kernel29 (m : (ℓ : Loc Cert.Kernel29.nD Cert.Kernel29.τ Cert.Kernel29.sig) → Buf (Elt Bits) ℓ) : Prop :=
  True

def Pre_Kernel29Ideal (m : (ℓ : Loc Cert.Kernel29Ideal.nD Cert.Kernel29Ideal.τ Cert.Kernel29Ideal.sig) → Buf (Elt Ideal) ℓ) : Prop :=
  True

def Pre_Reference29Ideal (m : (ℓ : Loc Cert.Reference29Ideal.nD Cert.Reference29Ideal.τ Cert.Reference29Ideal.sig) → Buf (Elt Ideal) ℓ) : Prop :=
  True

def Pre_Kernel30 (m : (ℓ : Loc Cert.Kernel30.nD Cert.Kernel30.τ Cert.Kernel30.sig) → Buf (Elt Bits) ℓ) : Prop :=
  True

def Pre_Kernel30Ideal (m : (ℓ : Loc Cert.Kernel30Ideal.nD Cert.Kernel30Ideal.τ Cert.Kernel30Ideal.sig) → Buf (Elt Ideal) ℓ) : Prop :=
  True

def Pre_Reference30Ideal (m : (ℓ : Loc Cert.Reference30Ideal.nD Cert.Reference30Ideal.τ Cert.Reference30Ideal.sig) → Buf (Elt Ideal) ℓ) : Prop :=
  True

def Pre_Kernel31 (m : (ℓ : Loc Cert.Kernel31.nD Cert.Kernel31.τ Cert.Kernel31.sig) → Buf (Elt Bits) ℓ) : Prop :=
  True

def Pre_Kernel31Ideal (m : (ℓ : Loc Cert.Kernel31Ideal.nD Cert.Kernel31Ideal.τ Cert.Kernel31Ideal.sig) → Buf (Elt Ideal) ℓ) : Prop :=
  True

def Pre_Reference31Ideal (m : (ℓ : Loc Cert.Reference31Ideal.nD Cert.Reference31Ideal.τ Cert.Reference31Ideal.sig) → Buf (Elt Ideal) ℓ) : Prop :=
  True

def Pre_Kernel32 (m : (ℓ : Loc Cert.Kernel32.nD Cert.Kernel32.τ Cert.Kernel32.sig) → Buf (Elt Bits) ℓ) : Prop :=
  True

def Pre_Kernel32Ideal (m : (ℓ : Loc Cert.Kernel32Ideal.nD Cert.Kernel32Ideal.τ Cert.Kernel32Ideal.sig) → Buf (Elt Ideal) ℓ) : Prop :=
  True

def Pre_Reference32Ideal (m : (ℓ : Loc Cert.Reference32Ideal.nD Cert.Reference32Ideal.τ Cert.Reference32Ideal.sig) → Buf (Elt Ideal) ℓ) : Prop :=
  True

def Pre_Kernel33 (m : (ℓ : Loc Cert.Kernel33.nD Cert.Kernel33.τ Cert.Kernel33.sig) → Buf (Elt Bits) ℓ) : Prop :=
  True

def Pre_Kernel33Ideal (m : (ℓ : Loc Cert.Kernel33Ideal.nD Cert.Kernel33Ideal.τ Cert.Kernel33Ideal.sig) → Buf (Elt Ideal) ℓ) : Prop :=
  True

def Pre_Reference33Ideal (m : (ℓ : Loc Cert.Reference33Ideal.nD Cert.Reference33Ideal.τ Cert.Reference33Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2)
      ∧ r.2.mem ((c.tc : Thread Cert.Kernel20.nD Cert.Kernel20.τ).loc Cert.Kernel20.main_arg3) = m ((c.tc : Thread Cert.Kernel20.nD Cert.Kernel20.τ).loc Cert.Kernel20.main_arg3))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2)
      ∧ r.2.mem ((c.tc : Thread Cert.Kernel21.nD Cert.Kernel21.τ).loc Cert.Kernel21.main_arg3) = m ((c.tc : Thread Cert.Kernel21.nD Cert.Kernel21.τ).loc Cert.Kernel21.main_arg3))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
      ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2)
      ∧ r.2.mem ((c.tc : Thread Cert.Reference21Ideal.nD Cert.Reference21Ideal.τ).loc Cert.Reference21Ideal.main_arg3) = m ((c.tc : Thread Cert.Reference21Ideal.nD Cert.Reference21Ideal.τ).loc Cert.Reference21Ideal.main_arg3))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2)
      ∧ r.2.mem ((c.tc : Thread Cert.Kernel22.nD Cert.Kernel22.τ).loc Cert.Kernel22.main_arg3) = m ((c.tc : Thread Cert.Kernel22.nD Cert.Kernel22.τ).loc Cert.Kernel22.main_arg3)
      ∧ r.2.mem ((c.tc : Thread Cert.Kernel22.nD Cert.Kernel22.τ).loc Cert.Kernel22.main_arg4) = m ((c.tc : Thread Cert.Kernel22.nD Cert.Kernel22.τ).loc Cert.Kernel22.main_arg4)
      ∧ r.2.mem ((c.tc : Thread Cert.Kernel22.nD Cert.Kernel22.τ).loc Cert.Kernel22.main_arg5) = m ((c.tc : Thread Cert.Kernel22.nD Cert.Kernel22.τ).loc Cert.Kernel22.main_arg5)
      ∧ r.2.mem ((c.tc : Thread Cert.Kernel22.nD Cert.Kernel22.τ).loc Cert.Kernel22.main_arg6) = m ((c.tc : Thread Cert.Kernel22.nD Cert.Kernel22.τ).loc Cert.Kernel22.main_arg6)
      ∧ r.2.mem ((c.tc : Thread Cert.Kernel22.nD Cert.Kernel22.τ).loc Cert.Kernel22.main_arg7) = m ((c.tc : Thread Cert.Kernel22.nD Cert.Kernel22.τ).loc Cert.Kernel22.main_arg7)
      ∧ r.2.mem ((c.tc : Thread Cert.Kernel22.nD Cert.Kernel22.τ).loc Cert.Kernel22.main_arg8) = m ((c.tc : Thread Cert.Kernel22.nD Cert.Kernel22.τ).loc Cert.Kernel22.main_arg8)
      ∧ r.2.mem ((c.tc : Thread Cert.Kernel22.nD Cert.Kernel22.τ).loc Cert.Kernel22.main_arg9) = m ((c.tc : Thread Cert.Kernel22.nD Cert.Kernel22.τ).loc Cert.Kernel22.main_arg9)
      ∧ r.2.mem ((c.tc : Thread Cert.Kernel22.nD Cert.Kernel22.τ).loc Cert.Kernel22.main_arg10) = m ((c.tc : Thread Cert.Kernel22.nD Cert.Kernel22.τ).loc Cert.Kernel22.main_arg10)
      ∧ r.2.mem ((c.tc : Thread Cert.Kernel22.nD Cert.Kernel22.τ).loc Cert.Kernel22.main_arg11) = m ((c.tc : Thread Cert.Kernel22.nD Cert.Kernel22.τ).loc Cert.Kernel22.main_arg11)
      ∧ r.2.mem ((c.tc : Thread Cert.Kernel22.nD Cert.Kernel22.τ).loc Cert.Kernel22.main_arg12) = m ((c.tc : Thread Cert.Kernel22.nD Cert.Kernel22.τ).loc Cert.Kernel22.main_arg12)
      ∧ r.2.mem ((c.tc : Thread Cert.Kernel22.nD Cert.Kernel22.τ).loc Cert.Kernel22.main_arg13) = m ((c.tc : Thread Cert.Kernel22.nD Cert.Kernel22.τ).loc Cert.Kernel22.main_arg13)
      ∧ r.2.mem ((c.tc : Thread Cert.Kernel22.nD Cert.Kernel22.τ).loc Cert.Kernel22.main_arg14) = m ((c.tc : Thread Cert.Kernel22.nD Cert.Kernel22.τ).loc Cert.Kernel22.main_arg14)
      ∧ r.2.mem ((c.tc : Thread Cert.Kernel22.nD Cert.Kernel22.τ).loc Cert.Kernel22.main_arg15) = m ((c.tc : Thread Cert.Kernel22.nD Cert.Kernel22.τ).loc Cert.Kernel22.main_arg15)
      ∧ r.2.mem ((c.tc : Thread Cert.Kernel22.nD Cert.Kernel22.τ).loc Cert.Kernel22.main_arg16) = m ((c.tc : Thread Cert.Kernel22.nD Cert.Kernel22.τ).loc Cert.Kernel22.main_arg16)
      ∧ r.2.mem ((c.tc : Thread Cert.Kernel22.nD Cert.Kernel22.τ).loc Cert.Kernel22.main_arg17) = m ((c.tc : Thread Cert.Kernel22.nD Cert.Kernel22.τ).loc Cert.Kernel22.main_arg17)
      ∧ r.2.mem ((c.tc : Thread Cert.Kernel22.nD Cert.Kernel22.τ).loc Cert.Kernel22.main_arg18) = m ((c.tc : Thread Cert.Kernel22.nD Cert.Kernel22.τ).loc Cert.Kernel22.main_arg18)
      ∧ r.2.mem ((c.tc : Thread Cert.Kernel22.nD Cert.Kernel22.τ).loc Cert.Kernel22.main_arg19) = m ((c.tc : Thread Cert.Kernel22.nD Cert.Kernel22.τ).loc Cert.Kernel22.main_arg19)
      ∧ r.2.mem ((c.tc : Thread Cert.Kernel22.nD Cert.Kernel22.τ).loc Cert.Kernel22.main_arg20) = m ((c.tc : Thread Cert.Kernel22.nD Cert.Kernel22.τ).loc Cert.Kernel22.main_arg20)
      ∧ r.2.mem ((c.tc : Thread Cert.Kernel22.nD Cert.Kernel22.τ).loc Cert.Kernel22.main_arg21) = m ((c.tc : Thread Cert.Kernel22.nD Cert.Kernel22.τ).loc Cert.Kernel22.main_arg21)
      ∧ r.2.mem ((c.tc : Thread Cert.Kernel22.nD Cert.Kernel22.τ).loc Cert.Kernel22.main_arg22) = m ((c.tc : Thread Cert.Kernel22.nD Cert.Kernel22.τ).loc Cert.Kernel22.main_arg22)
      ∧ r.2.mem ((c.tc : Thread Cert.Kernel22.nD Cert.Kernel22.τ).loc Cert.Kernel22.main_arg23) = m ((c.tc : Thread Cert.Kernel22.nD Cert.Kernel22.τ).loc Cert.Kernel22.main_arg23)
      ∧ r.2.mem ((c.tc : Thread Cert.Kernel22.nD Cert.Kernel22.τ).loc Cert.Kernel22.main_arg24) = m ((c.tc : Thread Cert.Kernel22.nD Cert.Kernel22.τ).loc Cert.Kernel22.main_arg24)
      ∧ r.2.mem ((c.tc : Thread Cert.Kernel22.nD Cert.Kernel22.τ).loc Cert.Kernel22.main_arg25) = m ((c.tc : Thread Cert.Kernel22.nD Cert.Kernel22.τ).loc Cert.Kernel22.main_arg25)
      ∧ r.2.mem ((c.tc : Thread Cert.Kernel22.nD Cert.Kernel22.τ).loc Cert.Kernel22.main_arg26) = m ((c.tc : Thread Cert.Kernel22.nD Cert.Kernel22.τ).loc Cert.Kernel22.main_arg26)
      ∧ r.2.mem ((c.tc : Thread Cert.Kernel22.nD Cert.Kernel22.τ).loc Cert.Kernel22.main_arg27) = m ((c.tc : Thread Cert.Kernel22.nD Cert.Kernel22.τ).loc Cert.Kernel22.main_arg27)
      ∧ r.2.mem ((c.tc : Thread Cert.Kernel22.nD Cert.Kernel22.τ).loc Cert.Kernel22.main_arg28) = m ((c.tc : Thread Cert.Kernel22.nD Cert.Kernel22.τ).loc Cert.Kernel22.main_arg28)
      ∧ r.2.mem ((c.tc : Thread Cert.Kernel22.nD Cert.Kernel22.τ).loc Cert.Kernel22.main_arg29) = m ((c.tc : Thread Cert.Kernel22.nD Cert.Kernel22.τ).loc Cert.Kernel22.main_arg29)
      ∧ r.2.mem ((c.tc : Thread Cert.Kernel22.nD Cert.Kernel22.τ).loc Cert.Kernel22.main_arg30) = m ((c.tc : Thread Cert.Kernel22.nD Cert.Kernel22.τ).loc Cert.Kernel22.main_arg30)
      ∧ r.2.mem ((c.tc : Thread Cert.Kernel22.nD Cert.Kernel22.τ).loc Cert.Kernel22.main_arg31) = m ((c.tc : Thread Cert.Kernel22.nD Cert.Kernel22.τ).loc Cert.Kernel22.main_arg31)
      ∧ r.2.mem ((c.tc : Thread Cert.Kernel22.nD Cert.Kernel22.τ).loc Cert.Kernel22.main_arg32) = m ((c.tc : Thread Cert.Kernel22.nD Cert.Kernel22.τ).loc Cert.Kernel22.main_arg32)
      ∧ r.2.mem ((c.tc : Thread Cert.Kernel22.nD Cert.Kernel22.τ).loc Cert.Kernel22.main_arg33) = m ((c.tc : Thread Cert.Kernel22.nD Cert.Kernel22.τ).loc Cert.Kernel22.main_arg33)
      ∧ r.2.mem ((c.tc : Thread Cert.Kernel22.nD Cert.Kernel22.τ).loc Cert.Kernel22.main_arg34) = m ((c.tc : Thread Cert.Kernel22.nD Cert.Kernel22.τ).loc Cert.Kernel22.main_arg34)
      ∧ r.2.mem ((c.tc : Thread Cert.Kernel22.nD Cert.Kernel22.τ).loc Cert.Kernel22.main_arg35) = m ((c.tc : Thread Cert.Kernel22.nD Cert.Kernel22.τ).loc Cert.Kernel22.main_arg35)
      ∧ r.2.mem ((c.tc : Thread Cert.Kernel22.nD Cert.Kernel22.τ).loc Cert.Kernel22.main_arg36) = m ((c.tc : Thread Cert.Kernel22.nD Cert.Kernel22.τ).loc Cert.Kernel22.main_arg36)
      ∧ r.2.mem ((c.tc : Thread Cert.Kernel22.nD Cert.Kernel22.τ).loc Cert.Kernel22.main_arg37) = m ((c.tc : Thread Cert.Kernel22.nD Cert.Kernel22.τ).loc Cert.Kernel22.main_arg37)
      ∧ r.2.mem ((c.tc : Thread Cert.Kernel22.nD Cert.Kernel22.τ).loc Cert.Kernel22.main_arg38) = m ((c.tc : Thread Cert.Kernel22.nD Cert.Kernel22.τ).loc Cert.Kernel22.main_arg38)
      ∧ r.2.mem ((c.tc : Thread Cert.Kernel22.nD Cert.Kernel22.τ).loc Cert.Kernel22.main_arg39) = m ((c.tc : Thread Cert.Kernel22.nD Cert.Kernel22.τ).loc Cert.Kernel22.main_arg39)
      ∧ r.2.mem ((c.tc : Thread Cert.Kernel22.nD Cert.Kernel22.τ).loc Cert.Kernel22.main_arg40) = m ((c.tc : Thread Cert.Kernel22.nD Cert.Kernel22.τ).loc Cert.Kernel22.main_arg40)
      ∧ r.2.mem ((c.tc : Thread Cert.Kernel22.nD Cert.Kernel22.τ).loc Cert.Kernel22.main_arg41) = m ((c.tc : Thread Cert.Kernel22.nD Cert.Kernel22.τ).loc Cert.Kernel22.main_arg41)
      ∧ r.2.mem ((c.tc : Thread Cert.Kernel22.nD Cert.Kernel22.τ).loc Cert.Kernel22.main_arg42) = m ((c.tc : Thread Cert.Kernel22.nD Cert.Kernel22.τ).loc Cert.Kernel22.main_arg42)
      ∧ r.2.mem ((c.tc : Thread Cert.Kernel22.nD Cert.Kernel22.τ).loc Cert.Kernel22.main_arg43) = m ((c.tc : Thread Cert.Kernel22.nD Cert.Kernel22.τ).loc Cert.Kernel22.main_arg43)
      ∧ r.2.mem ((c.tc : Thread Cert.Kernel22.nD Cert.Kernel22.τ).loc Cert.Kernel22.main_arg44) = m ((c.tc : Thread Cert.Kernel22.nD Cert.Kernel22.τ).loc Cert.Kernel22.main_arg44)
      ∧ r.2.mem ((c.tc : Thread Cert.Kernel22.nD Cert.Kernel22.τ).loc Cert.Kernel22.main_arg45) = m ((c.tc : Thread Cert.Kernel22.nD Cert.Kernel22.τ).loc Cert.Kernel22.main_arg45)
      ∧ r.2.mem ((c.tc : Thread Cert.Kernel22.nD Cert.Kernel22.τ).loc Cert.Kernel22.main_arg46) = m ((c.tc : Thread Cert.Kernel22.nD Cert.Kernel22.τ).loc Cert.Kernel22.main_arg46)
      ∧ r.2.mem ((c.tc : Thread Cert.Kernel22.nD Cert.Kernel22.τ).loc Cert.Kernel22.main_arg47) = m ((c.tc : Thread Cert.Kernel22.nD Cert.Kernel22.τ).loc Cert.Kernel22.main_arg47)
      ∧ r.2.mem ((c.tc : Thread Cert.Kernel22.nD Cert.Kernel22.τ).loc Cert.Kernel22.main_arg48) = m ((c.tc : Thread Cert.Kernel22.nD Cert.Kernel22.τ).loc Cert.Kernel22.main_arg48)
      ∧ r.2.mem ((c.tc : Thread Cert.Kernel22.nD Cert.Kernel22.τ).loc Cert.Kernel22.main_arg49) = m ((c.tc : Thread Cert.Kernel22.nD Cert.Kernel22.τ).loc Cert.Kernel22.main_arg49)
      ∧ r.2.mem ((c.tc : Thread Cert.Kernel22.nD Cert.Kernel22.τ).loc Cert.Kernel22.main_arg50) = m ((c.tc : Thread Cert.Kernel22.nD Cert.Kernel22.τ).loc Cert.Kernel22.main_arg50)
      ∧ r.2.mem ((c.tc : Thread Cert.Kernel22.nD Cert.Kernel22.τ).loc Cert.Kernel22.main_arg51) = m ((c.tc : Thread Cert.Kernel22.nD Cert.Kernel22.τ).loc Cert.Kernel22.main_arg51)
      ∧ r.2.mem ((c.tc : Thread Cert.Kernel22.nD Cert.Kernel22.τ).loc Cert.Kernel22.main_arg52) = m ((c.tc : Thread Cert.Kernel22.nD Cert.Kernel22.τ).loc Cert.Kernel22.main_arg52)
      ∧ r.2.mem ((c.tc : Thread Cert.Kernel22.nD Cert.Kernel22.τ).loc Cert.Kernel22.main_arg53) = m ((c.tc : Thread Cert.Kernel22.nD Cert.Kernel22.τ).loc Cert.Kernel22.main_arg53)
      ∧ r.2.mem ((c.tc : Thread Cert.Kernel22.nD Cert.Kernel22.τ).loc Cert.Kernel22.main_arg54) = m ((c.tc : Thread Cert.Kernel22.nD Cert.Kernel22.τ).loc Cert.Kernel22.main_arg54)
      ∧ r.2.mem ((c.tc : Thread Cert.Kernel22.nD Cert.Kernel22.τ).loc Cert.Kernel22.main_arg55) = m ((c.tc : Thread Cert.Kernel22.nD Cert.Kernel22.τ).loc Cert.Kernel22.main_arg55))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
      ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3)
      ∧ r.2.mem ((c.tc : Thread Cert.Kernel22Ideal.nD Cert.Kernel22Ideal.τ).loc Cert.Kernel22Ideal.main_arg4) = m ((c.tc : Thread Cert.Kernel22Ideal.nD Cert.Kernel22Ideal.τ).loc Cert.Kernel22Ideal.main_arg4)
      ∧ r.2.mem ((c.tc : Thread Cert.Kernel22Ideal.nD Cert.Kernel22Ideal.τ).loc Cert.Kernel22Ideal.main_arg5) = m ((c.tc : Thread Cert.Kernel22Ideal.nD Cert.Kernel22Ideal.τ).loc Cert.Kernel22Ideal.main_arg5)
      ∧ r.2.mem ((c.tc : Thread Cert.Kernel22Ideal.nD Cert.Kernel22Ideal.τ).loc Cert.Kernel22Ideal.main_arg6) = m ((c.tc : Thread Cert.Kernel22Ideal.nD Cert.Kernel22Ideal.τ).loc Cert.Kernel22Ideal.main_arg6)
      ∧ r.2.mem ((c.tc : Thread Cert.Kernel22Ideal.nD Cert.Kernel22Ideal.τ).loc Cert.Kernel22Ideal.main_arg7) = m ((c.tc : Thread Cert.Kernel22Ideal.nD Cert.Kernel22Ideal.τ).loc Cert.Kernel22Ideal.main_arg7)
      ∧ r.2.mem ((c.tc : Thread Cert.Kernel22Ideal.nD Cert.Kernel22Ideal.τ).loc Cert.Kernel22Ideal.main_arg8) = m ((c.tc : Thread Cert.Kernel22Ideal.nD Cert.Kernel22Ideal.τ).loc Cert.Kernel22Ideal.main_arg8)
      ∧ r.2.mem ((c.tc : Thread Cert.Kernel22Ideal.nD Cert.Kernel22Ideal.τ).loc Cert.Kernel22Ideal.main_arg9) = m ((c.tc : Thread Cert.Kernel22Ideal.nD Cert.Kernel22Ideal.τ).loc Cert.Kernel22Ideal.main_arg9)
      ∧ r.2.mem ((c.tc : Thread Cert.Kernel22Ideal.nD Cert.Kernel22Ideal.τ).loc Cert.Kernel22Ideal.main_arg10) = m ((c.tc : Thread Cert.Kernel22Ideal.nD Cert.Kernel22Ideal.τ).loc Cert.Kernel22Ideal.main_arg10)
      ∧ r.2.mem ((c.tc : Thread Cert.Kernel22Ideal.nD Cert.Kernel22Ideal.τ).loc Cert.Kernel22Ideal.main_arg11) = m ((c.tc : Thread Cert.Kernel22Ideal.nD Cert.Kernel22Ideal.τ).loc Cert.Kernel22Ideal.main_arg11)
      ∧ r.2.mem ((c.tc : Thread Cert.Kernel22Ideal.nD Cert.Kernel22Ideal.τ).loc Cert.Kernel22Ideal.main_arg12) = m ((c.tc : Thread Cert.Kernel22Ideal.nD Cert.Kernel22Ideal.τ).loc Cert.Kernel22Ideal.main_arg12)
      ∧ r.2.mem ((c.tc : Thread Cert.Kernel22Ideal.nD Cert.Kernel22Ideal.τ).loc Cert.Kernel22Ideal.main_arg13) = m ((c.tc : Thread Cert.Kernel22Ideal.nD Cert.Kernel22Ideal.τ).loc Cert.Kernel22Ideal.main_arg13)
      ∧ r.2.mem ((c.tc : Thread Cert.Kernel22Ideal.nD Cert.Kernel22Ideal.τ).loc Cert.Kernel22Ideal.main_arg14) = m ((c.tc : Thread Cert.Kernel22Ideal.nD Cert.Kernel22Ideal.τ).loc Cert.Kernel22Ideal.main_arg14)
      ∧ r.2.mem ((c.tc : Thread Cert.Kernel22Ideal.nD Cert.Kernel22Ideal.τ).loc Cert.Kernel22Ideal.main_arg15) = m ((c.tc : Thread Cert.Kernel22Ideal.nD Cert.Kernel22Ideal.τ).loc Cert.Kernel22Ideal.main_arg15)
      ∧ r.2.mem ((c.tc : Thread Cert.Kernel22Ideal.nD Cert.Kernel22Ideal.τ).loc Cert.Kernel22Ideal.main_arg16) = m ((c.tc : Thread Cert.Kernel22Ideal.nD Cert.Kernel22Ideal.τ).loc Cert.Kernel22Ideal.main_arg16)
      ∧ r.2.mem ((c.tc : Thread Cert.Kernel22Ideal.nD Cert.Kernel22Ideal.τ).loc Cert.Kernel22Ideal.main_arg17) = m ((c.tc : Thread Cert.Kernel22Ideal.nD Cert.Kernel22Ideal.τ).loc Cert.Kernel22Ideal.main_arg17)
      ∧ r.2.mem ((c.tc : Thread Cert.Kernel22Ideal.nD Cert.Kernel22Ideal.τ).loc Cert.Kernel22Ideal.main_arg18) = m ((c.tc : Thread Cert.Kernel22Ideal.nD Cert.Kernel22Ideal.τ).loc Cert.Kernel22Ideal.main_arg18)
      ∧ r.2.mem ((c.tc : Thread Cert.Kernel22Ideal.nD Cert.Kernel22Ideal.τ).loc Cert.Kernel22Ideal.main_arg19) = m ((c.tc : Thread Cert.Kernel22Ideal.nD Cert.Kernel22Ideal.τ).loc Cert.Kernel22Ideal.main_arg19)
      ∧ r.2.mem ((c.tc : Thread Cert.Kernel22Ideal.nD Cert.Kernel22Ideal.τ).loc Cert.Kernel22Ideal.main_arg20) = m ((c.tc : Thread Cert.Kernel22Ideal.nD Cert.Kernel22Ideal.τ).loc Cert.Kernel22Ideal.main_arg20)
      ∧ r.2.mem ((c.tc : Thread Cert.Kernel22Ideal.nD Cert.Kernel22Ideal.τ).loc Cert.Kernel22Ideal.main_arg21) = m ((c.tc : Thread Cert.Kernel22Ideal.nD Cert.Kernel22Ideal.τ).loc Cert.Kernel22Ideal.main_arg21)
      ∧ r.2.mem ((c.tc : Thread Cert.Kernel22Ideal.nD Cert.Kernel22Ideal.τ).loc Cert.Kernel22Ideal.main_arg22) = m ((c.tc : Thread Cert.Kernel22Ideal.nD Cert.Kernel22Ideal.τ).loc Cert.Kernel22Ideal.main_arg22)
      ∧ r.2.mem ((c.tc : Thread Cert.Kernel22Ideal.nD Cert.Kernel22Ideal.τ).loc Cert.Kernel22Ideal.main_arg23) = m ((c.tc : Thread Cert.Kernel22Ideal.nD Cert.Kernel22Ideal.τ).loc Cert.Kernel22Ideal.main_arg23)
      ∧ r.2.mem ((c.tc : Thread Cert.Kernel22Ideal.nD Cert.Kernel22Ideal.τ).loc Cert.Kernel22Ideal.main_arg24) = m ((c.tc : Thread Cert.Kernel22Ideal.nD Cert.Kernel22Ideal.τ).loc Cert.Kernel22Ideal.main_arg24)
      ∧ r.2.mem ((c.tc : Thread Cert.Kernel22Ideal.nD Cert.Kernel22Ideal.τ).loc Cert.Kernel22Ideal.main_arg25) = m ((c.tc : Thread Cert.Kernel22Ideal.nD Cert.Kernel22Ideal.τ).loc Cert.Kernel22Ideal.main_arg25)
      ∧ r.2.mem ((c.tc : Thread Cert.Kernel22Ideal.nD Cert.Kernel22Ideal.τ).loc Cert.Kernel22Ideal.main_arg26) = m ((c.tc : Thread Cert.Kernel22Ideal.nD Cert.Kernel22Ideal.τ).loc Cert.Kernel22Ideal.main_arg26)
      ∧ r.2.mem ((c.tc : Thread Cert.Kernel22Ideal.nD Cert.Kernel22Ideal.τ).loc Cert.Kernel22Ideal.main_arg27) = m ((c.tc : Thread Cert.Kernel22Ideal.nD Cert.Kernel22Ideal.τ).loc Cert.Kernel22Ideal.main_arg27)
      ∧ r.2.mem ((c.tc : Thread Cert.Kernel22Ideal.nD Cert.Kernel22Ideal.τ).loc Cert.Kernel22Ideal.main_arg28) = m ((c.tc : Thread Cert.Kernel22Ideal.nD Cert.Kernel22Ideal.τ).loc Cert.Kernel22Ideal.main_arg28)
      ∧ r.2.mem ((c.tc : Thread Cert.Kernel22Ideal.nD Cert.Kernel22Ideal.τ).loc Cert.Kernel22Ideal.main_arg29) = m ((c.tc : Thread Cert.Kernel22Ideal.nD Cert.Kernel22Ideal.τ).loc Cert.Kernel22Ideal.main_arg29)
      ∧ r.2.mem ((c.tc : Thread Cert.Kernel22Ideal.nD Cert.Kernel22Ideal.τ).loc Cert.Kernel22Ideal.main_arg30) = m ((c.tc : Thread Cert.Kernel22Ideal.nD Cert.Kernel22Ideal.τ).loc Cert.Kernel22Ideal.main_arg30)
      ∧ r.2.mem ((c.tc : Thread Cert.Kernel22Ideal.nD Cert.Kernel22Ideal.τ).loc Cert.Kernel22Ideal.main_arg31) = m ((c.tc : Thread Cert.Kernel22Ideal.nD Cert.Kernel22Ideal.τ).loc Cert.Kernel22Ideal.main_arg31)
      ∧ r.2.mem ((c.tc : Thread Cert.Kernel22Ideal.nD Cert.Kernel22Ideal.τ).loc Cert.Kernel22Ideal.main_arg32) = m ((c.tc : Thread Cert.Kernel22Ideal.nD Cert.Kernel22Ideal.τ).loc Cert.Kernel22Ideal.main_arg32)
      ∧ r.2.mem ((c.tc : Thread Cert.Kernel22Ideal.nD Cert.Kernel22Ideal.τ).loc Cert.Kernel22Ideal.main_arg33) = m ((c.tc : Thread Cert.Kernel22Ideal.nD Cert.Kernel22Ideal.τ).loc Cert.Kernel22Ideal.main_arg33)
      ∧ r.2.mem ((c.tc : Thread Cert.Kernel22Ideal.nD Cert.Kernel22Ideal.τ).loc Cert.Kernel22Ideal.main_arg34) = m ((c.tc : Thread Cert.Kernel22Ideal.nD Cert.Kernel22Ideal.τ).loc Cert.Kernel22Ideal.main_arg34)
      ∧ r.2.mem ((c.tc : Thread Cert.Kernel22Ideal.nD Cert.Kernel22Ideal.τ).loc Cert.Kernel22Ideal.main_arg35) = m ((c.tc : Thread Cert.Kernel22Ideal.nD Cert.Kernel22Ideal.τ).loc Cert.Kernel22Ideal.main_arg35)
      ∧ r.2.mem ((c.tc : Thread Cert.Kernel22Ideal.nD Cert.Kernel22Ideal.τ).loc Cert.Kernel22Ideal.main_arg36) = m ((c.tc : Thread Cert.Kernel22Ideal.nD Cert.Kernel22Ideal.τ).loc Cert.Kernel22Ideal.main_arg36)
      ∧ r.2.mem ((c.tc : Thread Cert.Kernel22Ideal.nD Cert.Kernel22Ideal.τ).loc Cert.Kernel22Ideal.main_arg37) = m ((c.tc : Thread Cert.Kernel22Ideal.nD Cert.Kernel22Ideal.τ).loc Cert.Kernel22Ideal.main_arg37)
      ∧ r.2.mem ((c.tc : Thread Cert.Kernel22Ideal.nD Cert.Kernel22Ideal.τ).loc Cert.Kernel22Ideal.main_arg38) = m ((c.tc : Thread Cert.Kernel22Ideal.nD Cert.Kernel22Ideal.τ).loc Cert.Kernel22Ideal.main_arg38)
      ∧ r.2.mem ((c.tc : Thread Cert.Kernel22Ideal.nD Cert.Kernel22Ideal.τ).loc Cert.Kernel22Ideal.main_arg39) = m ((c.tc : Thread Cert.Kernel22Ideal.nD Cert.Kernel22Ideal.τ).loc Cert.Kernel22Ideal.main_arg39)
      ∧ r.2.mem ((c.tc : Thread Cert.Kernel22Ideal.nD Cert.Kernel22Ideal.τ).loc Cert.Kernel22Ideal.main_arg40) = m ((c.tc : Thread Cert.Kernel22Ideal.nD Cert.Kernel22Ideal.τ).loc Cert.Kernel22Ideal.main_arg40)
      ∧ r.2.mem ((c.tc : Thread Cert.Kernel22Ideal.nD Cert.Kernel22Ideal.τ).loc Cert.Kernel22Ideal.main_arg41) = m ((c.tc : Thread Cert.Kernel22Ideal.nD Cert.Kernel22Ideal.τ).loc Cert.Kernel22Ideal.main_arg41)
      ∧ r.2.mem ((c.tc : Thread Cert.Kernel22Ideal.nD Cert.Kernel22Ideal.τ).loc Cert.Kernel22Ideal.main_arg42) = m ((c.tc : Thread Cert.Kernel22Ideal.nD Cert.Kernel22Ideal.τ).loc Cert.Kernel22Ideal.main_arg42)
      ∧ r.2.mem ((c.tc : Thread Cert.Kernel22Ideal.nD Cert.Kernel22Ideal.τ).loc Cert.Kernel22Ideal.main_arg43) = m ((c.tc : Thread Cert.Kernel22Ideal.nD Cert.Kernel22Ideal.τ).loc Cert.Kernel22Ideal.main_arg43)
      ∧ r.2.mem ((c.tc : Thread Cert.Kernel22Ideal.nD Cert.Kernel22Ideal.τ).loc Cert.Kernel22Ideal.main_arg44) = m ((c.tc : Thread Cert.Kernel22Ideal.nD Cert.Kernel22Ideal.τ).loc Cert.Kernel22Ideal.main_arg44)
      ∧ r.2.mem ((c.tc : Thread Cert.Kernel22Ideal.nD Cert.Kernel22Ideal.τ).loc Cert.Kernel22Ideal.main_arg45) = m ((c.tc : Thread Cert.Kernel22Ideal.nD Cert.Kernel22Ideal.τ).loc Cert.Kernel22Ideal.main_arg45)
      ∧ r.2.mem ((c.tc : Thread Cert.Kernel22Ideal.nD Cert.Kernel22Ideal.τ).loc Cert.Kernel22Ideal.main_arg46) = m ((c.tc : Thread Cert.Kernel22Ideal.nD Cert.Kernel22Ideal.τ).loc Cert.Kernel22Ideal.main_arg46)
      ∧ r.2.mem ((c.tc : Thread Cert.Kernel22Ideal.nD Cert.Kernel22Ideal.τ).loc Cert.Kernel22Ideal.main_arg47) = m ((c.tc : Thread Cert.Kernel22Ideal.nD Cert.Kernel22Ideal.τ).loc Cert.Kernel22Ideal.main_arg47)
      ∧ r.2.mem ((c.tc : Thread Cert.Kernel22Ideal.nD Cert.Kernel22Ideal.τ).loc Cert.Kernel22Ideal.main_arg48) = m ((c.tc : Thread Cert.Kernel22Ideal.nD Cert.Kernel22Ideal.τ).loc Cert.Kernel22Ideal.main_arg48)
      ∧ r.2.mem ((c.tc : Thread Cert.Kernel22Ideal.nD Cert.Kernel22Ideal.τ).loc Cert.Kernel22Ideal.main_arg49) = m ((c.tc : Thread Cert.Kernel22Ideal.nD Cert.Kernel22Ideal.τ).loc Cert.Kernel22Ideal.main_arg49)
      ∧ r.2.mem ((c.tc : Thread Cert.Kernel22Ideal.nD Cert.Kernel22Ideal.τ).loc Cert.Kernel22Ideal.main_arg50) = m ((c.tc : Thread Cert.Kernel22Ideal.nD Cert.Kernel22Ideal.τ).loc Cert.Kernel22Ideal.main_arg50)
      ∧ r.2.mem ((c.tc : Thread Cert.Kernel22Ideal.nD Cert.Kernel22Ideal.τ).loc Cert.Kernel22Ideal.main_arg51) = m ((c.tc : Thread Cert.Kernel22Ideal.nD Cert.Kernel22Ideal.τ).loc Cert.Kernel22Ideal.main_arg51)
      ∧ r.2.mem ((c.tc : Thread Cert.Kernel22Ideal.nD Cert.Kernel22Ideal.τ).loc Cert.Kernel22Ideal.main_arg52) = m ((c.tc : Thread Cert.Kernel22Ideal.nD Cert.Kernel22Ideal.τ).loc Cert.Kernel22Ideal.main_arg52)
      ∧ r.2.mem ((c.tc : Thread Cert.Kernel22Ideal.nD Cert.Kernel22Ideal.τ).loc Cert.Kernel22Ideal.main_arg53) = m ((c.tc : Thread Cert.Kernel22Ideal.nD Cert.Kernel22Ideal.τ).loc Cert.Kernel22Ideal.main_arg53)
      ∧ r.2.mem ((c.tc : Thread Cert.Kernel22Ideal.nD Cert.Kernel22Ideal.τ).loc Cert.Kernel22Ideal.main_arg54) = m ((c.tc : Thread Cert.Kernel22Ideal.nD Cert.Kernel22Ideal.τ).loc Cert.Kernel22Ideal.main_arg54)
      ∧ r.2.mem ((c.tc : Thread Cert.Kernel22Ideal.nD Cert.Kernel22Ideal.τ).loc Cert.Kernel22Ideal.main_arg55) = m ((c.tc : Thread Cert.Kernel22Ideal.nD Cert.Kernel22Ideal.τ).loc Cert.Kernel22Ideal.main_arg55))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2)
      ∧ r.2.mem ((c.tc : Thread Cert.Reference22Ideal.nD Cert.Reference22Ideal.τ).loc Cert.Reference22Ideal.main_arg3) = m ((c.tc : Thread Cert.Reference22Ideal.nD Cert.Reference22Ideal.τ).loc Cert.Reference22Ideal.main_arg3)
      ∧ r.2.mem ((c.tc : Thread Cert.Reference22Ideal.nD Cert.Reference22Ideal.τ).loc Cert.Reference22Ideal.main_arg4) = m ((c.tc : Thread Cert.Reference22Ideal.nD Cert.Reference22Ideal.τ).loc Cert.Reference22Ideal.main_arg4)
      ∧ r.2.mem ((c.tc : Thread Cert.Reference22Ideal.nD Cert.Reference22Ideal.τ).loc Cert.Reference22Ideal.main_arg5) = m ((c.tc : Thread Cert.Reference22Ideal.nD Cert.Reference22Ideal.τ).loc Cert.Reference22Ideal.main_arg5)
      ∧ r.2.mem ((c.tc : Thread Cert.Reference22Ideal.nD Cert.Reference22Ideal.τ).loc Cert.Reference22Ideal.main_arg6) = m ((c.tc : Thread Cert.Reference22Ideal.nD Cert.Reference22Ideal.τ).loc Cert.Reference22Ideal.main_arg6)
      ∧ r.2.mem ((c.tc : Thread Cert.Reference22Ideal.nD Cert.Reference22Ideal.τ).loc Cert.Reference22Ideal.main_arg7) = m ((c.tc : Thread Cert.Reference22Ideal.nD Cert.Reference22Ideal.τ).loc Cert.Reference22Ideal.main_arg7)
      ∧ r.2.mem ((c.tc : Thread Cert.Reference22Ideal.nD Cert.Reference22Ideal.τ).loc Cert.Reference22Ideal.main_arg8) = m ((c.tc : Thread Cert.Reference22Ideal.nD Cert.Reference22Ideal.τ).loc Cert.Reference22Ideal.main_arg8)
      ∧ r.2.mem ((c.tc : Thread Cert.Reference22Ideal.nD Cert.Reference22Ideal.τ).loc Cert.Reference22Ideal.main_arg9) = m ((c.tc : Thread Cert.Reference22Ideal.nD Cert.Reference22Ideal.τ).loc Cert.Reference22Ideal.main_arg9)
      ∧ r.2.mem ((c.tc : Thread Cert.Reference22Ideal.nD Cert.Reference22Ideal.τ).loc Cert.Reference22Ideal.main_arg10) = m ((c.tc : Thread Cert.Reference22Ideal.nD Cert.Reference22Ideal.τ).loc Cert.Reference22Ideal.main_arg10)
      ∧ r.2.mem ((c.tc : Thread Cert.Reference22Ideal.nD Cert.Reference22Ideal.τ).loc Cert.Reference22Ideal.main_arg11) = m ((c.tc : Thread Cert.Reference22Ideal.nD Cert.Reference22Ideal.τ).loc Cert.Reference22Ideal.main_arg11)
      ∧ r.2.mem ((c.tc : Thread Cert.Reference22Ideal.nD Cert.Reference22Ideal.τ).loc Cert.Reference22Ideal.main_arg12) = m ((c.tc : Thread Cert.Reference22Ideal.nD Cert.Reference22Ideal.τ).loc Cert.Reference22Ideal.main_arg12)
      ∧ r.2.mem ((c.tc : Thread Cert.Reference22Ideal.nD Cert.Reference22Ideal.τ).loc Cert.Reference22Ideal.main_arg13) = m ((c.tc : Thread Cert.Reference22Ideal.nD Cert.Reference22Ideal.τ).loc Cert.Reference22Ideal.main_arg13)
      ∧ r.2.mem ((c.tc : Thread Cert.Reference22Ideal.nD Cert.Reference22Ideal.τ).loc Cert.Reference22Ideal.main_arg14) = m ((c.tc : Thread Cert.Reference22Ideal.nD Cert.Reference22Ideal.τ).loc Cert.Reference22Ideal.main_arg14)
      ∧ r.2.mem ((c.tc : Thread Cert.Reference22Ideal.nD Cert.Reference22Ideal.τ).loc Cert.Reference22Ideal.main_arg15) = m ((c.tc : Thread Cert.Reference22Ideal.nD Cert.Reference22Ideal.τ).loc Cert.Reference22Ideal.main_arg15)
      ∧ r.2.mem ((c.tc : Thread Cert.Reference22Ideal.nD Cert.Reference22Ideal.τ).loc Cert.Reference22Ideal.main_arg16) = m ((c.tc : Thread Cert.Reference22Ideal.nD Cert.Reference22Ideal.τ).loc Cert.Reference22Ideal.main_arg16)
      ∧ r.2.mem ((c.tc : Thread Cert.Reference22Ideal.nD Cert.Reference22Ideal.τ).loc Cert.Reference22Ideal.main_arg17) = m ((c.tc : Thread Cert.Reference22Ideal.nD Cert.Reference22Ideal.τ).loc Cert.Reference22Ideal.main_arg17)
      ∧ r.2.mem ((c.tc : Thread Cert.Reference22Ideal.nD Cert.Reference22Ideal.τ).loc Cert.Reference22Ideal.main_arg18) = m ((c.tc : Thread Cert.Reference22Ideal.nD Cert.Reference22Ideal.τ).loc Cert.Reference22Ideal.main_arg18)
      ∧ r.2.mem ((c.tc : Thread Cert.Reference22Ideal.nD Cert.Reference22Ideal.τ).loc Cert.Reference22Ideal.main_arg19) = m ((c.tc : Thread Cert.Reference22Ideal.nD Cert.Reference22Ideal.τ).loc Cert.Reference22Ideal.main_arg19)
      ∧ r.2.mem ((c.tc : Thread Cert.Reference22Ideal.nD Cert.Reference22Ideal.τ).loc Cert.Reference22Ideal.main_arg20) = m ((c.tc : Thread Cert.Reference22Ideal.nD Cert.Reference22Ideal.τ).loc Cert.Reference22Ideal.main_arg20)
      ∧ r.2.mem ((c.tc : Thread Cert.Reference22Ideal.nD Cert.Reference22Ideal.τ).loc Cert.Reference22Ideal.main_arg21) = m ((c.tc : Thread Cert.Reference22Ideal.nD Cert.Reference22Ideal.τ).loc Cert.Reference22Ideal.main_arg21)
      ∧ r.2.mem ((c.tc : Thread Cert.Reference22Ideal.nD Cert.Reference22Ideal.τ).loc Cert.Reference22Ideal.main_arg22) = m ((c.tc : Thread Cert.Reference22Ideal.nD Cert.Reference22Ideal.τ).loc Cert.Reference22Ideal.main_arg22)
      ∧ r.2.mem ((c.tc : Thread Cert.Reference22Ideal.nD Cert.Reference22Ideal.τ).loc Cert.Reference22Ideal.main_arg23) = m ((c.tc : Thread Cert.Reference22Ideal.nD Cert.Reference22Ideal.τ).loc Cert.Reference22Ideal.main_arg23)
      ∧ r.2.mem ((c.tc : Thread Cert.Reference22Ideal.nD Cert.Reference22Ideal.τ).loc Cert.Reference22Ideal.main_arg24) = m ((c.tc : Thread Cert.Reference22Ideal.nD Cert.Reference22Ideal.τ).loc Cert.Reference22Ideal.main_arg24)
      ∧ r.2.mem ((c.tc : Thread Cert.Reference22Ideal.nD Cert.Reference22Ideal.τ).loc Cert.Reference22Ideal.main_arg25) = m ((c.tc : Thread Cert.Reference22Ideal.nD Cert.Reference22Ideal.τ).loc Cert.Reference22Ideal.main_arg25)
      ∧ r.2.mem ((c.tc : Thread Cert.Reference22Ideal.nD Cert.Reference22Ideal.τ).loc Cert.Reference22Ideal.main_arg26) = m ((c.tc : Thread Cert.Reference22Ideal.nD Cert.Reference22Ideal.τ).loc Cert.Reference22Ideal.main_arg26)
      ∧ r.2.mem ((c.tc : Thread Cert.Reference22Ideal.nD Cert.Reference22Ideal.τ).loc Cert.Reference22Ideal.main_arg27) = m ((c.tc : Thread Cert.Reference22Ideal.nD Cert.Reference22Ideal.τ).loc Cert.Reference22Ideal.main_arg27)
      ∧ r.2.mem ((c.tc : Thread Cert.Reference22Ideal.nD Cert.Reference22Ideal.τ).loc Cert.Reference22Ideal.main_arg28) = m ((c.tc : Thread Cert.Reference22Ideal.nD Cert.Reference22Ideal.τ).loc Cert.Reference22Ideal.main_arg28)
      ∧ r.2.mem ((c.tc : Thread Cert.Reference22Ideal.nD Cert.Reference22Ideal.τ).loc Cert.Reference22Ideal.main_arg29) = m ((c.tc : Thread Cert.Reference22Ideal.nD Cert.Reference22Ideal.τ).loc Cert.Reference22Ideal.main_arg29)
      ∧ r.2.mem ((c.tc : Thread Cert.Reference22Ideal.nD Cert.Reference22Ideal.τ).loc Cert.Reference22Ideal.main_arg30) = m ((c.tc : Thread Cert.Reference22Ideal.nD Cert.Reference22Ideal.τ).loc Cert.Reference22Ideal.main_arg30)
      ∧ r.2.mem ((c.tc : Thread Cert.Reference22Ideal.nD Cert.Reference22Ideal.τ).loc Cert.Reference22Ideal.main_arg31) = m ((c.tc : Thread Cert.Reference22Ideal.nD Cert.Reference22Ideal.τ).loc Cert.Reference22Ideal.main_arg31)
      ∧ r.2.mem ((c.tc : Thread Cert.Reference22Ideal.nD Cert.Reference22Ideal.τ).loc Cert.Reference22Ideal.main_arg32) = m ((c.tc : Thread Cert.Reference22Ideal.nD Cert.Reference22Ideal.τ).loc Cert.Reference22Ideal.main_arg32)
      ∧ r.2.mem ((c.tc : Thread Cert.Reference22Ideal.nD Cert.Reference22Ideal.τ).loc Cert.Reference22Ideal.main_arg33) = m ((c.tc : Thread Cert.Reference22Ideal.nD Cert.Reference22Ideal.τ).loc Cert.Reference22Ideal.main_arg33)
      ∧ r.2.mem ((c.tc : Thread Cert.Reference22Ideal.nD Cert.Reference22Ideal.τ).loc Cert.Reference22Ideal.main_arg34) = m ((c.tc : Thread Cert.Reference22Ideal.nD Cert.Reference22Ideal.τ).loc Cert.Reference22Ideal.main_arg34)
      ∧ r.2.mem ((c.tc : Thread Cert.Reference22Ideal.nD Cert.Reference22Ideal.τ).loc Cert.Reference22Ideal.main_arg35) = m ((c.tc : Thread Cert.Reference22Ideal.nD Cert.Reference22Ideal.τ).loc Cert.Reference22Ideal.main_arg35)
      ∧ r.2.mem ((c.tc : Thread Cert.Reference22Ideal.nD Cert.Reference22Ideal.τ).loc Cert.Reference22Ideal.main_arg36) = m ((c.tc : Thread Cert.Reference22Ideal.nD Cert.Reference22Ideal.τ).loc Cert.Reference22Ideal.main_arg36)
      ∧ r.2.mem ((c.tc : Thread Cert.Reference22Ideal.nD Cert.Reference22Ideal.τ).loc Cert.Reference22Ideal.main_arg37) = m ((c.tc : Thread Cert.Reference22Ideal.nD Cert.Reference22Ideal.τ).loc Cert.Reference22Ideal.main_arg37)
      ∧ r.2.mem ((c.tc : Thread Cert.Reference22Ideal.nD Cert.Reference22Ideal.τ).loc Cert.Reference22Ideal.main_arg38) = m ((c.tc : Thread Cert.Reference22Ideal.nD Cert.Reference22Ideal.τ).loc Cert.Reference22Ideal.main_arg38)
      ∧ r.2.mem ((c.tc : Thread Cert.Reference22Ideal.nD Cert.Reference22Ideal.τ).loc Cert.Reference22Ideal.main_arg39) = m ((c.tc : Thread Cert.Reference22Ideal.nD Cert.Reference22Ideal.τ).loc Cert.Reference22Ideal.main_arg39)
      ∧ r.2.mem ((c.tc : Thread Cert.Reference22Ideal.nD Cert.Reference22Ideal.τ).loc Cert.Reference22Ideal.main_arg40) = m ((c.tc : Thread Cert.Reference22Ideal.nD Cert.Reference22Ideal.τ).loc Cert.Reference22Ideal.main_arg40)
      ∧ r.2.mem ((c.tc : Thread Cert.Reference22Ideal.nD Cert.Reference22Ideal.τ).loc Cert.Reference22Ideal.main_arg41) = m ((c.tc : Thread Cert.Reference22Ideal.nD Cert.Reference22Ideal.τ).loc Cert.Reference22Ideal.main_arg41)
      ∧ r.2.mem ((c.tc : Thread Cert.Reference22Ideal.nD Cert.Reference22Ideal.τ).loc Cert.Reference22Ideal.main_arg42) = m ((c.tc : Thread Cert.Reference22Ideal.nD Cert.Reference22Ideal.τ).loc Cert.Reference22Ideal.main_arg42)
      ∧ r.2.mem ((c.tc : Thread Cert.Reference22Ideal.nD Cert.Reference22Ideal.τ).loc Cert.Reference22Ideal.main_arg43) = m ((c.tc : Thread Cert.Reference22Ideal.nD Cert.Reference22Ideal.τ).loc Cert.Reference22Ideal.main_arg43)
      ∧ r.2.mem ((c.tc : Thread Cert.Reference22Ideal.nD Cert.Reference22Ideal.τ).loc Cert.Reference22Ideal.main_arg44) = m ((c.tc : Thread Cert.Reference22Ideal.nD Cert.Reference22Ideal.τ).loc Cert.Reference22Ideal.main_arg44)
      ∧ r.2.mem ((c.tc : Thread Cert.Reference22Ideal.nD Cert.Reference22Ideal.τ).loc Cert.Reference22Ideal.main_arg45) = m ((c.tc : Thread Cert.Reference22Ideal.nD Cert.Reference22Ideal.τ).loc Cert.Reference22Ideal.main_arg45)
      ∧ r.2.mem ((c.tc : Thread Cert.Reference22Ideal.nD Cert.Reference22Ideal.τ).loc Cert.Reference22Ideal.main_arg46) = m ((c.tc : Thread Cert.Reference22Ideal.nD Cert.Reference22Ideal.τ).loc Cert.Reference22Ideal.main_arg46)
      ∧ r.2.mem ((c.tc : Thread Cert.Reference22Ideal.nD Cert.Reference22Ideal.τ).loc Cert.Reference22Ideal.main_arg47) = m ((c.tc : Thread Cert.Reference22Ideal.nD Cert.Reference22Ideal.τ).loc Cert.Reference22Ideal.main_arg47)
      ∧ r.2.mem ((c.tc : Thread Cert.Reference22Ideal.nD Cert.Reference22Ideal.τ).loc Cert.Reference22Ideal.main_arg48) = m ((c.tc : Thread Cert.Reference22Ideal.nD Cert.Reference22Ideal.τ).loc Cert.Reference22Ideal.main_arg48)
      ∧ r.2.mem ((c.tc : Thread Cert.Reference22Ideal.nD Cert.Reference22Ideal.τ).loc Cert.Reference22Ideal.main_arg49) = m ((c.tc : Thread Cert.Reference22Ideal.nD Cert.Reference22Ideal.τ).loc Cert.Reference22Ideal.main_arg49)
      ∧ r.2.mem ((c.tc : Thread Cert.Reference22Ideal.nD Cert.Reference22Ideal.τ).loc Cert.Reference22Ideal.main_arg50) = m ((c.tc : Thread Cert.Reference22Ideal.nD Cert.Reference22Ideal.τ).loc Cert.Reference22Ideal.main_arg50)
      ∧ r.2.mem ((c.tc : Thread Cert.Reference22Ideal.nD Cert.Reference22Ideal.τ).loc Cert.Reference22Ideal.main_arg51) = m ((c.tc : Thread Cert.Reference22Ideal.nD Cert.Reference22Ideal.τ).loc Cert.Reference22Ideal.main_arg51)
      ∧ r.2.mem ((c.tc : Thread Cert.Reference22Ideal.nD Cert.Reference22Ideal.τ).loc Cert.Reference22Ideal.main_arg52) = m ((c.tc : Thread Cert.Reference22Ideal.nD Cert.Reference22Ideal.τ).loc Cert.Reference22Ideal.main_arg52)
      ∧ r.2.mem ((c.tc : Thread Cert.Reference22Ideal.nD Cert.Reference22Ideal.τ).loc Cert.Reference22Ideal.main_arg53) = m ((c.tc : Thread Cert.Reference22Ideal.nD Cert.Reference22Ideal.τ).loc Cert.Reference22Ideal.main_arg53)
      ∧ r.2.mem ((c.tc : Thread Cert.Reference22Ideal.nD Cert.Reference22Ideal.τ).loc Cert.Reference22Ideal.main_arg54) = m ((c.tc : Thread Cert.Reference22Ideal.nD Cert.Reference22Ideal.τ).loc Cert.Reference22Ideal.main_arg54)
      ∧ r.2.mem ((c.tc : Thread Cert.Reference22Ideal.nD Cert.Reference22Ideal.τ).loc Cert.Reference22Ideal.main_arg55) = m ((c.tc : Thread Cert.Reference22Ideal.nD Cert.Reference22Ideal.τ).loc Cert.Reference22Ideal.main_arg55))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1)
      ∧ r.2.mem ((c.tc : Thread Cert.Kernel23.nD Cert.Kernel23.τ).loc Cert.Kernel23.main_arg2) = m ((c.tc : Thread Cert.Kernel23.nD Cert.Kernel23.τ).loc Cert.Kernel23.main_arg2)
      ∧ r.2.mem ((c.tc : Thread Cert.Kernel23.nD Cert.Kernel23.τ).loc Cert.Kernel23.main_arg3) = m ((c.tc : Thread Cert.Kernel23.nD Cert.Kernel23.τ).loc Cert.Kernel23.main_arg3)
      ∧ r.2.mem ((c.tc : Thread Cert.Kernel23.nD Cert.Kernel23.τ).loc Cert.Kernel23.main_arg4) = m ((c.tc : Thread Cert.Kernel23.nD Cert.Kernel23.τ).loc Cert.Kernel23.main_arg4))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
      ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3)
      ∧ r.2.mem ((c.tc : Thread Cert.Kernel23Ideal.nD Cert.Kernel23Ideal.τ).loc Cert.Kernel23Ideal.main_arg4) = m ((c.tc : Thread Cert.Kernel23Ideal.nD Cert.Kernel23Ideal.τ).loc Cert.Kernel23Ideal.main_arg4))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2)
      ∧ r.2.mem ((c.tc : Thread Cert.Reference23Ideal.nD Cert.Reference23Ideal.τ).loc Cert.Reference23Ideal.main_arg3) = m ((c.tc : Thread Cert.Reference23Ideal.nD Cert.Reference23Ideal.τ).loc Cert.Reference23Ideal.main_arg3)
      ∧ r.2.mem ((c.tc : Thread Cert.Reference23Ideal.nD Cert.Reference23Ideal.τ).loc Cert.Reference23Ideal.main_arg4) = m ((c.tc : Thread Cert.Reference23Ideal.nD Cert.Reference23Ideal.τ).loc Cert.Reference23Ideal.main_arg4))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0))
      ∧ r.2.sem = fun _ => 0)

def quiescent_Kernel27 [hKernel27 : Cert.Kernel27.Facts] : Prop :=
  ∀ (m : (ℓ : Loc Cert.Kernel27.nD Cert.Kernel27.τ Cert.Kernel27.sig) → Buf (Elt Bits) ℓ) (g : Dev Cert.Kernel27.nD → PrngReg), Pre_Kernel27 m →
    θ_run (Cert.Kernel27.defs (F := Bits)) (onTc (τ := Cert.Kernel27.τ) (Cert.Kernel27.main (F := Bits))) ⟨m, fun _ => 0, g⟩ (fun r => (∀ c : Dev Cert.Kernel27.nD,
      r.2.mem ((c.tc : Thread Cert.Kernel27.nD Cert.Kernel27.τ).loc Cert.Kernel27.main_arg0) = m ((c.tc : Thread Cert.Kernel27.nD Cert.Kernel27.τ).loc Cert.Kernel27.main_arg0)
      ∧ r.2.mem ((c.tc : Thread Cert.Kernel27.nD Cert.Kernel27.τ).loc Cert.Kernel27.main_arg1) = m ((c.tc : Thread Cert.Kernel27.nD Cert.Kernel27.τ).loc Cert.Kernel27.main_arg1))
      ∧ r.2.sem = fun _ => 0)

def quiescent_Kernel27Ideal [hKernel27Ideal : Cert.Kernel27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
      ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1))
      ∧ r.2.sem = fun _ => 0)

def quiescent_Reference27Ideal [hReference27Ideal : Cert.Reference27Ideal.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0)
      ∧ r.2.mem ((c.tc : Thread Cert.Reference27Ideal.nD Cert.Reference27Ideal.τ).loc Cert.Reference27Ideal.main_arg1) = m ((c.tc : Thread Cert.Reference27Ideal.nD Cert.Reference27Ideal.τ).loc Cert.Reference27Ideal.main_arg1))
      ∧ r.2.sem = fun _ => 0)

def quiescent_Kernel28 [hKernel28 : Cert.Kernel28.Facts] : Prop :=
  ∀ (m : (ℓ : Loc Cert.Kernel28.nD Cert.Kernel28.τ Cert.Kernel28.sig) → Buf (Elt Bits) ℓ) (g : Dev Cert.Kernel28.nD → PrngReg), Pre_Kernel28 m →
    θ_run (Cert.Kernel28.defs (F := Bits)) (onTc (τ := Cert.Kernel28.τ) (Cert.Kernel28.main (F := Bits))) ⟨m, fun _ => 0, g⟩ (fun r => (∀ c : Dev Cert.Kernel28.nD,
      r.2.mem ((c.tc : Thread Cert.Kernel28.nD Cert.Kernel28.τ).loc Cert.Kernel28.main_arg0) = m ((c.tc : Thread Cert.Kernel28.nD Cert.Kernel28.τ).loc Cert.Kernel28.main_arg0)
      ∧ r.2.mem ((c.tc : Thread Cert.Kernel28.nD Cert.Kernel28.τ).loc Cert.Kernel28.main_arg1) = m ((c.tc : Thread Cert.Kernel28.nD Cert.Kernel28.τ).loc Cert.Kernel28.main_arg1)
      ∧ r.2.mem ((c.tc : Thread Cert.Kernel28.nD Cert.Kernel28.τ).loc Cert.Kernel28.main_arg2) = m ((c.tc : Thread Cert.Kernel28.nD Cert.Kernel28.τ).loc Cert.Kernel28.main_arg2)
      ∧ r.2.mem ((c.tc : Thread Cert.Kernel28.nD Cert.Kernel28.τ).loc Cert.Kernel28.main_arg3) = m ((c.tc : Thread Cert.Kernel28.nD Cert.Kernel28.τ).loc Cert.Kernel28.main_arg3)
      ∧ r.2.mem ((c.tc : Thread Cert.Kernel28.nD Cert.Kernel28.τ).loc Cert.Kernel28.main_arg4) = m ((c.tc : Thread Cert.Kernel28.nD Cert.Kernel28.τ).loc Cert.Kernel28.main_arg4)
      ∧ r.2.mem ((c.tc : Thread Cert.Kernel28.nD Cert.Kernel28.τ).loc Cert.Kernel28.main_arg5) = m ((c.tc : Thread Cert.Kernel28.nD Cert.Kernel28.τ).loc Cert.Kernel28.main_arg5)
      ∧ r.2.mem ((c.tc : Thread Cert.Kernel28.nD Cert.Kernel28.τ).loc Cert.Kernel28.main_arg6) = m ((c.tc : Thread Cert.Kernel28.nD Cert.Kernel28.τ).loc Cert.Kernel28.main_arg6)
      ∧ r.2.mem ((c.tc : Thread Cert.Kernel28.nD Cert.Kernel28.τ).loc Cert.Kernel28.main_arg7) = m ((c.tc : Thread Cert.Kernel28.nD Cert.Kernel28.τ).loc Cert.Kernel28.main_arg7))
      ∧ r.2.sem = fun _ => 0)

def quiescent_Kernel28Ideal [hKernel28Ideal : Cert.Kernel28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg), Pre_Kernel28Ideal m →
    θ_run (Cert.Kernel28Ideal.defs (F := Ideal)) (onTc (τ := Cert.Kernel28Ideal.τ) (Cert.Kernel28Ideal.main (F := Ideal))) ⟨m, fun _ => 0, g⟩ (fun r => (∀ c : Dev Cert.Kernel28Ideal.nD,
      r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
      ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
      ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2)
      ∧ r.2.mem ((c.tc : Thread Cert.Kernel28Ideal.nD Cert.Kernel28Ideal.τ).loc Cert.Kernel28Ideal.main_arg3) = m ((c.tc : Thread Cert.Kernel28Ideal.nD Cert.Kernel28Ideal.τ).loc Cert.Kernel28Ideal.main_arg3)
      ∧ r.2.mem ((c.tc : Thread Cert.Kernel28Ideal.nD Cert.Kernel28Ideal.τ).loc Cert.Kernel28Ideal.main_arg4) = m ((c.tc : Thread Cert.Kernel28Ideal.nD Cert.Kernel28Ideal.τ).loc Cert.Kernel28Ideal.main_arg4)
      ∧ r.2.mem ((c.tc : Thread Cert.Kernel28Ideal.nD Cert.Kernel28Ideal.τ).loc Cert.Kernel28Ideal.main_arg5) = m ((c.tc : Thread Cert.Kernel28Ideal.nD Cert.Kernel28Ideal.τ).loc Cert.Kernel28Ideal.main_arg5)
      ∧ r.2.mem ((c.tc : Thread Cert.Kernel28Ideal.nD Cert.Kernel28Ideal.τ).loc Cert.Kernel28Ideal.main_arg6) = m ((c.tc : Thread Cert.Kernel28Ideal.nD Cert.Kernel28Ideal.τ).loc Cert.Kernel28Ideal.main_arg6)
      ∧ r.2.mem ((c.tc : Thread Cert.Kernel28Ideal.nD Cert.Kernel28Ideal.τ).loc Cert.Kernel28Ideal.main_arg7) = m ((c.tc : Thread Cert.Kernel28Ideal.nD Cert.Kernel28Ideal.τ).loc Cert.Kernel28Ideal.main_arg7))
      ∧ r.2.sem = fun _ => 0)

def quiescent_Reference28Ideal [hReference28Ideal : Cert.Reference28Ideal.Facts] : Prop :=
  ∀ (m : (ℓ : Loc Cert.Reference28Ideal.nD Cert.Reference28Ideal.τ Cert.Reference28Ideal.sig) → Buf (Elt Ideal) ℓ) (g : Dev Cert.Reference28Ideal.nD → PrngReg), Pre_Reference28Ideal m →
    θ_run (Cert.Reference28Ideal.defs (F := Ideal)) (onTc (τ := Cert.Reference28Ideal.τ) (Cert.Reference28Ideal.main (F := Ideal))) ⟨m, fun _ => 0, g⟩ (fun r => (∀ c : Dev Cert.Reference28Ideal.nD,
      r.2.mem ((c.tc : Thread Cert.Reference28Ideal.nD Cert.Reference28Ideal.τ).loc Cert.Reference28Ideal.main_arg0) = m ((c.tc : Thread Cert.Reference28Ideal.nD Cert.Reference28Ideal.τ).loc Cert.Reference28Ideal.main_arg0)
      ∧ r.2.mem ((c.tc : Thread Cert.Reference28Ideal.nD Cert.Reference28Ideal.τ).loc Cert.Reference28Ideal.main_arg1) = m ((c.tc : Thread Cert.Reference28Ideal.nD Cert.Reference28Ideal.τ).loc Cert.Reference28Ideal.main_arg1)
      ∧ r.2.mem ((c.tc : Thread Cert.Reference28Ideal.nD Cert.Reference28Ideal.τ).loc Cert.Reference28Ideal.main_arg2) = m ((c.tc : Thread Cert.Reference28Ideal.nD Cert.Reference28Ideal.τ).loc Cert.Reference28Ideal.main_arg2)
      ∧ r.2.mem ((c.tc : Thread Cert.Reference28Ideal.nD Cert.Reference28Ideal.τ).loc Cert.Reference28Ideal.main_arg3) = m ((c.tc : Thread Cert.Reference28Ideal.nD Cert.Reference28Ideal.τ).loc Cert.Reference28Ideal.main_arg3)
      ∧ r.2.mem ((c.tc : Thread Cert.Reference28Ideal.nD Cert.Reference28Ideal.τ).loc Cert.Reference28Ideal.main_arg4) = m ((c.tc : Thread Cert.Reference28Ideal.nD Cert.Reference28Ideal.τ).loc Cert.Reference28Ideal.main_arg4)
      ∧ r.2.mem ((c.tc : Thread Cert.Reference28Ideal.nD Cert.Reference28Ideal.τ).loc Cert.Reference28Ideal.main_arg5) = m ((c.tc : Thread Cert.Reference28Ideal.nD Cert.Reference28Ideal.τ).loc Cert.Reference28Ideal.main_arg5)
      ∧ r.2.mem ((c.tc : Thread Cert.Reference28Ideal.nD Cert.Reference28Ideal.τ).loc Cert.Reference28Ideal.main_arg6) = m ((c.tc : Thread Cert.Reference28Ideal.nD Cert.Reference28Ideal.τ).loc Cert.Reference28Ideal.main_arg6)
      ∧ r.2.mem ((c.tc : Thread Cert.Reference28Ideal.nD Cert.Reference28Ideal.τ).loc Cert.Reference28Ideal.main_arg7) = m ((c.tc : Thread Cert.Reference28Ideal.nD Cert.Reference28Ideal.τ).loc Cert.Reference28Ideal.main_arg7))
      ∧ r.2.sem = fun _ => 0)

def quiescent_Kernel29 [hKernel29 : Cert.Kernel29.Facts] : Prop :=
  ∀ (m : (ℓ : Loc Cert.Kernel29.nD Cert.Kernel29.τ Cert.Kernel29.sig) → Buf (Elt Bits) ℓ) (g : Dev Cert.Kernel29.nD → PrngReg), Pre_Kernel29 m →
    θ_run (Cert.Kernel29.defs (F := Bits)) (onTc (τ := Cert.Kernel29.τ) (Cert.Kernel29.main (F := Bits))) ⟨m, fun _ => 0, g⟩ (fun r => (∀ c : Dev Cert.Kernel29.nD,
      r.2.mem ((c.tc : Thread Cert.Kernel29.nD Cert.Kernel29.τ).loc Cert.Kernel29.main_arg0) = m ((c.tc : Thread Cert.Kernel29.nD Cert.Kernel29.τ).loc Cert.Kernel29.main_arg0)
      ∧ r.2.mem ((c.tc : Thread Cert.Kernel29.nD Cert.Kernel29.τ).loc Cert.Kernel29.main_arg1) = m ((c.tc : Thread Cert.Kernel29.nD Cert.Kernel29.τ).loc Cert.Kernel29.main_arg1))
      ∧ r.2.sem = fun _ => 0)

def quiescent_Kernel29Ideal [hKernel29Ideal : Cert.Kernel29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg), Pre_Kernel29Ideal m →
    θ_run (Cert.Kernel29Ideal.defs (F := Ideal)) (onTc (τ := Cert.Kernel29Ideal.τ) (Cert.Kernel29Ideal.main (F := Ideal))) ⟨m, fun _ => 0, g⟩ (fun r => (∀ c : Dev Cert.Kernel29Ideal.nD,
      r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
      ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1))
      ∧ r.2.sem = fun _ => 0)

def quiescent_Reference29Ideal [hReference29Ideal : Cert.Reference29Ideal.Facts] : Prop :=
  ∀ (m : (ℓ : Loc Cert.Reference29Ideal.nD Cert.Reference29Ideal.τ Cert.Reference29Ideal.sig) → Buf (Elt Ideal) ℓ) (g : Dev Cert.Reference29Ideal.nD → PrngReg), Pre_Reference29Ideal m →
    θ_run (Cert.Reference29Ideal.defs (F := Ideal)) (onTc (τ := Cert.Reference29Ideal.τ) (Cert.Reference29Ideal.main (F := Ideal))) ⟨m, fun _ => 0, g⟩ (fun r => (∀ c : Dev Cert.Reference29Ideal.nD,
      r.2.mem ((c.tc : Thread Cert.Reference29Ideal.nD Cert.Reference29Ideal.τ).loc Cert.Reference29Ideal.main_arg0) = m ((c.tc : Thread Cert.Reference29Ideal.nD Cert.Reference29Ideal.τ).loc Cert.Reference29Ideal.main_arg0)
      ∧ r.2.mem ((c.tc : Thread Cert.Reference29Ideal.nD Cert.Reference29Ideal.τ).loc Cert.Reference29Ideal.main_arg1) = m ((c.tc : Thread Cert.Reference29Ideal.nD Cert.Reference29Ideal.τ).loc Cert.Reference29Ideal.main_arg1))
      ∧ r.2.sem = fun _ => 0)

def quiescent_Kernel30 [hKernel30 : Cert.Kernel30.Facts] : Prop :=
  ∀ (m : (ℓ : Loc Cert.Kernel30.nD Cert.Kernel30.τ Cert.Kernel30.sig) → Buf (Elt Bits) ℓ) (g : Dev Cert.Kernel30.nD → PrngReg), Pre_Kernel30 m →
    θ_run (Cert.Kernel30.defs (F := Bits)) (onTc (τ := Cert.Kernel30.τ) (Cert.Kernel30.main (F := Bits))) ⟨m, fun _ => 0, g⟩ (fun r => (∀ c : Dev Cert.Kernel30.nD,
      r.2.mem ((c.tc : Thread Cert.Kernel30.nD Cert.Kernel30.τ).loc Cert.Kernel30.main_arg0) = m ((c.tc : Thread Cert.Kernel30.nD Cert.Kernel30.τ).loc Cert.Kernel30.main_arg0)
      ∧ r.2.mem ((c.tc : Thread Cert.Kernel30.nD Cert.Kernel30.τ).loc Cert.Kernel30.main_arg1) = m ((c.tc : Thread Cert.Kernel30.nD Cert.Kernel30.τ).loc Cert.Kernel30.main_arg1)
      ∧ r.2.mem ((c.tc : Thread Cert.Kernel30.nD Cert.Kernel30.τ).loc Cert.Kernel30.main_arg2) = m ((c.tc : Thread Cert.Kernel30.nD Cert.Kernel30.τ).loc Cert.Kernel30.main_arg2))
      ∧ r.2.sem = fun _ => 0)

def quiescent_Kernel30Ideal [hKernel30Ideal : Cert.Kernel30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg), Pre_Kernel30Ideal m →
    θ_run (Cert.Kernel30Ideal.defs (F := Ideal)) (onTc (τ := Cert.Kernel30Ideal.τ) (Cert.Kernel30Ideal.main (F := Ideal))) ⟨m, fun _ => 0, g⟩ (fun r => (∀ c : Dev Cert.Kernel30Ideal.nD,
      r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
      ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1)
      ∧ r.2.mem ((c.tc : Thread Cert.Kernel30Ideal.nD Cert.Kernel30Ideal.τ).loc Cert.Kernel30Ideal.main_arg2) = m ((c.tc : Thread Cert.Kernel30Ideal.nD Cert.Kernel30Ideal.τ).loc Cert.Kernel30Ideal.main_arg2))
      ∧ r.2.sem = fun _ => 0)

def quiescent_Reference30Ideal [hReference30Ideal : Cert.Reference30Ideal.Facts] : Prop :=
  ∀ (m : (ℓ : Loc Cert.Reference30Ideal.nD Cert.Reference30Ideal.τ Cert.Reference30Ideal.sig) → Buf (Elt Ideal) ℓ) (g : Dev Cert.Reference30Ideal.nD → PrngReg), Pre_Reference30Ideal m →
    θ_run (Cert.Reference30Ideal.defs (F := Ideal)) (onTc (τ := Cert.Reference30Ideal.τ) (Cert.Reference30Ideal.main (F := Ideal))) ⟨m, fun _ => 0, g⟩ (fun r => (∀ c : Dev Cert.Reference30Ideal.nD,
      r.2.mem ((c.tc : Thread Cert.Reference30Ideal.nD Cert.Reference30Ideal.τ).loc Cert.Reference30Ideal.main_arg0) = m ((c.tc : Thread Cert.Reference30Ideal.nD Cert.Reference30Ideal.τ).loc Cert.Reference30Ideal.main_arg0)
      ∧ r.2.mem ((c.tc : Thread Cert.Reference30Ideal.nD Cert.Reference30Ideal.τ).loc Cert.Reference30Ideal.main_arg1) = m ((c.tc : Thread Cert.Reference30Ideal.nD Cert.Reference30Ideal.τ).loc Cert.Reference30Ideal.main_arg1)
      ∧ r.2.mem ((c.tc : Thread Cert.Reference30Ideal.nD Cert.Reference30Ideal.τ).loc Cert.Reference30Ideal.main_arg2) = m ((c.tc : Thread Cert.Reference30Ideal.nD Cert.Reference30Ideal.τ).loc Cert.Reference30Ideal.main_arg2))
      ∧ r.2.sem = fun _ => 0)

def quiescent_Kernel31 [hKernel31 : Cert.Kernel31.Facts] : Prop :=
  ∀ (m : (ℓ : Loc Cert.Kernel31.nD Cert.Kernel31.τ Cert.Kernel31.sig) → Buf (Elt Bits) ℓ) (g : Dev Cert.Kernel31.nD → PrngReg), Pre_Kernel31 m →
    θ_run (Cert.Kernel31.defs (F := Bits)) (onTc (τ := Cert.Kernel31.τ) (Cert.Kernel31.main (F := Bits))) ⟨m, fun _ => 0, g⟩ (fun r => (∀ c : Dev Cert.Kernel31.nD,
      r.2.mem ((c.tc : Thread Cert.Kernel31.nD Cert.Kernel31.τ).loc Cert.Kernel31.main_arg0) = m ((c.tc : Thread Cert.Kernel31.nD Cert.Kernel31.τ).loc Cert.Kernel31.main_arg0)
      ∧ r.2.mem ((c.tc : Thread Cert.Kernel31.nD Cert.Kernel31.τ).loc Cert.Kernel31.main_arg1) = m ((c.tc : Thread Cert.Kernel31.nD Cert.Kernel31.τ).loc Cert.Kernel31.main_arg1)
      ∧ r.2.mem ((c.tc : Thread Cert.Kernel31.nD Cert.Kernel31.τ).loc Cert.Kernel31.main_arg2) = m ((c.tc : Thread Cert.Kernel31.nD Cert.Kernel31.τ).loc Cert.Kernel31.main_arg2)
      ∧ r.2.mem ((c.tc : Thread Cert.Kernel31.nD Cert.Kernel31.τ).loc Cert.Kernel31.main_arg3) = m ((c.tc : Thread Cert.Kernel31.nD Cert.Kernel31.τ).loc Cert.Kernel31.main_arg3))
      ∧ r.2.sem = fun _ => 0)

def quiescent_Kernel31Ideal [hKernel31Ideal : Cert.Kernel31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg), Pre_Kernel31Ideal m →
    θ_run (Cert.Kernel31Ideal.defs (F := Ideal)) (onTc (τ := Cert.Kernel31Ideal.τ) (Cert.Kernel31Ideal.main (F := Ideal))) ⟨m, fun _ => 0, g⟩ (fun r => (∀ c : Dev Cert.Kernel31Ideal.nD,
      r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
      ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1)
      ∧ r.2.mem ((c.tc : Thread Cert.Kernel31Ideal.nD Cert.Kernel31Ideal.τ).loc Cert.Kernel31Ideal.main_arg2) = m ((c.tc : Thread Cert.Kernel31Ideal.nD Cert.Kernel31Ideal.τ).loc Cert.Kernel31Ideal.main_arg2)
      ∧ r.2.mem ((c.tc : Thread Cert.Kernel31Ideal.nD Cert.Kernel31Ideal.τ).loc Cert.Kernel31Ideal.main_arg3) = m ((c.tc : Thread Cert.Kernel31Ideal.nD Cert.Kernel31Ideal.τ).loc Cert.Kernel31Ideal.main_arg3))
      ∧ r.2.sem = fun _ => 0)

def quiescent_Reference31Ideal [hReference31Ideal : Cert.Reference31Ideal.Facts] : Prop :=
  ∀ (m : (ℓ : Loc Cert.Reference31Ideal.nD Cert.Reference31Ideal.τ Cert.Reference31Ideal.sig) → Buf (Elt Ideal) ℓ) (g : Dev Cert.Reference31Ideal.nD → PrngReg), Pre_Reference31Ideal m →
    θ_run (Cert.Reference31Ideal.defs (F := Ideal)) (onTc (τ := Cert.Reference31Ideal.τ) (Cert.Reference31Ideal.main (F := Ideal))) ⟨m, fun _ => 0, g⟩ (fun r => (∀ c : Dev Cert.Reference31Ideal.nD,
      r.2.mem ((c.tc : Thread Cert.Reference31Ideal.nD Cert.Reference31Ideal.τ).loc Cert.Reference31Ideal.main_arg0) = m ((c.tc : Thread Cert.Reference31Ideal.nD Cert.Reference31Ideal.τ).loc Cert.Reference31Ideal.main_arg0)
      ∧ r.2.mem ((c.tc : Thread Cert.Reference31Ideal.nD Cert.Reference31Ideal.τ).loc Cert.Reference31Ideal.main_arg1) = m ((c.tc : Thread Cert.Reference31Ideal.nD Cert.Reference31Ideal.τ).loc Cert.Reference31Ideal.main_arg1)
      ∧ r.2.mem ((c.tc : Thread Cert.Reference31Ideal.nD Cert.Reference31Ideal.τ).loc Cert.Reference31Ideal.main_arg2) = m ((c.tc : Thread Cert.Reference31Ideal.nD Cert.Reference31Ideal.τ).loc Cert.Reference31Ideal.main_arg2)
      ∧ r.2.mem ((c.tc : Thread Cert.Reference31Ideal.nD Cert.Reference31Ideal.τ).loc Cert.Reference31Ideal.main_arg3) = m ((c.tc : Thread Cert.Reference31Ideal.nD Cert.Reference31Ideal.τ).loc Cert.Reference31Ideal.main_arg3))
      ∧ r.2.sem = fun _ => 0)

def quiescent_Kernel32 [hKernel32 : Cert.Kernel32.Facts] : Prop :=
  ∀ (m : (ℓ : Loc Cert.Kernel32.nD Cert.Kernel32.τ Cert.Kernel32.sig) → Buf (Elt Bits) ℓ) (g : Dev Cert.Kernel32.nD → PrngReg), Pre_Kernel32 m →
    θ_run (Cert.Kernel32.defs (F := Bits)) (onTc (τ := Cert.Kernel32.τ) (Cert.Kernel32.main (F := Bits))) ⟨m, fun _ => 0, g⟩ (fun r => (∀ c : Dev Cert.Kernel32.nD,
      r.2.mem ((c.tc : Thread Cert.Kernel32.nD Cert.Kernel32.τ).loc Cert.Kernel32.main_arg0) = m ((c.tc : Thread Cert.Kernel32.nD Cert.Kernel32.τ).loc Cert.Kernel32.main_arg0)
      ∧ r.2.mem ((c.tc : Thread Cert.Kernel32.nD Cert.Kernel32.τ).loc Cert.Kernel32.main_arg1) = m ((c.tc : Thread Cert.Kernel32.nD Cert.Kernel32.τ).loc Cert.Kernel32.main_arg1)
      ∧ r.2.mem ((c.tc : Thread Cert.Kernel32.nD Cert.Kernel32.τ).loc Cert.Kernel32.main_arg2) = m ((c.tc : Thread Cert.Kernel32.nD Cert.Kernel32.τ).loc Cert.Kernel32.main_arg2)
      ∧ r.2.mem ((c.tc : Thread Cert.Kernel32.nD Cert.Kernel32.τ).loc Cert.Kernel32.main_arg3) = m ((c.tc : Thread Cert.Kernel32.nD Cert.Kernel32.τ).loc Cert.Kernel32.main_arg3))
      ∧ r.2.sem = fun _ => 0)

def quiescent_Kernel32Ideal [hKernel32Ideal : Cert.Kernel32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg), Pre_Kernel32Ideal m →
    θ_run (Cert.Kernel32Ideal.defs (F := Ideal)) (onTc (τ := Cert.Kernel32Ideal.τ) (Cert.Kernel32Ideal.main (F := Ideal))) ⟨m, fun _ => 0, g⟩ (fun r => (∀ c : Dev Cert.Kernel32Ideal.nD,
      r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
      ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1)
      ∧ r.2.mem ((c.tc : Thread Cert.Kernel32Ideal.nD Cert.Kernel32Ideal.τ).loc Cert.Kernel32Ideal.main_arg2) = m ((c.tc : Thread Cert.Kernel32Ideal.nD Cert.Kernel32Ideal.τ).loc Cert.Kernel32Ideal.main_arg2)
      ∧ r.2.mem ((c.tc : Thread Cert.Kernel32Ideal.nD Cert.Kernel32Ideal.τ).loc Cert.Kernel32Ideal.main_arg3) = m ((c.tc : Thread Cert.Kernel32Ideal.nD Cert.Kernel32Ideal.τ).loc Cert.Kernel32Ideal.main_arg3))
      ∧ r.2.sem = fun _ => 0)

def quiescent_Reference32Ideal [hReference32Ideal : Cert.Reference32Ideal.Facts] : Prop :=
  ∀ (m : (ℓ : Loc Cert.Reference32Ideal.nD Cert.Reference32Ideal.τ Cert.Reference32Ideal.sig) → Buf (Elt Ideal) ℓ) (g : Dev Cert.Reference32Ideal.nD → PrngReg), Pre_Reference32Ideal m →
    θ_run (Cert.Reference32Ideal.defs (F := Ideal)) (onTc (τ := Cert.Reference32Ideal.τ) (Cert.Reference32Ideal.main (F := Ideal))) ⟨m, fun _ => 0, g⟩ (fun r => (∀ c : Dev Cert.Reference32Ideal.nD,
      r.2.mem ((c.tc : Thread Cert.Reference32Ideal.nD Cert.Reference32Ideal.τ).loc Cert.Reference32Ideal.main_arg0) = m ((c.tc : Thread Cert.Reference32Ideal.nD Cert.Reference32Ideal.τ).loc Cert.Reference32Ideal.main_arg0)
      ∧ r.2.mem ((c.tc : Thread Cert.Reference32Ideal.nD Cert.Reference32Ideal.τ).loc Cert.Reference32Ideal.main_arg1) = m ((c.tc : Thread Cert.Reference32Ideal.nD Cert.Reference32Ideal.τ).loc Cert.Reference32Ideal.main_arg1)
      ∧ r.2.mem ((c.tc : Thread Cert.Reference32Ideal.nD Cert.Reference32Ideal.τ).loc Cert.Reference32Ideal.main_arg2) = m ((c.tc : Thread Cert.Reference32Ideal.nD Cert.Reference32Ideal.τ).loc Cert.Reference32Ideal.main_arg2)
      ∧ r.2.mem ((c.tc : Thread Cert.Reference32Ideal.nD Cert.Reference32Ideal.τ).loc Cert.Reference32Ideal.main_arg3) = m ((c.tc : Thread Cert.Reference32Ideal.nD Cert.Reference32Ideal.τ).loc Cert.Reference32Ideal.main_arg3))
      ∧ r.2.sem = fun _ => 0)

def quiescent_Kernel33 [hKernel33 : Cert.Kernel33.Facts] : Prop :=
  ∀ (m : (ℓ : Loc Cert.Kernel33.nD Cert.Kernel33.τ Cert.Kernel33.sig) → Buf (Elt Bits) ℓ) (g : Dev Cert.Kernel33.nD → PrngReg), Pre_Kernel33 m →
    θ_run (Cert.Kernel33.defs (F := Bits)) (onTc (τ := Cert.Kernel33.τ) (Cert.Kernel33.main (F := Bits))) ⟨m, fun _ => 0, g⟩ (fun r => (∀ c : Dev Cert.Kernel33.nD,
      r.2.mem ((c.tc : Thread Cert.Kernel33.nD Cert.Kernel33.τ).loc Cert.Kernel33.main_arg0) = m ((c.tc : Thread Cert.Kernel33.nD Cert.Kernel33.τ).loc Cert.Kernel33.main_arg0)
      ∧ r.2.mem ((c.tc : Thread Cert.Kernel33.nD Cert.Kernel33.τ).loc Cert.Kernel33.main_arg1) = m ((c.tc : Thread Cert.Kernel33.nD Cert.Kernel33.τ).loc Cert.Kernel33.main_arg1)
      ∧ r.2.mem ((c.tc : Thread Cert.Kernel33.nD Cert.Kernel33.τ).loc Cert.Kernel33.main_arg2) = m ((c.tc : Thread Cert.Kernel33.nD Cert.Kernel33.τ).loc Cert.Kernel33.main_arg2)
      ∧ r.2.mem ((c.tc : Thread Cert.Kernel33.nD Cert.Kernel33.τ).loc Cert.Kernel33.main_arg3) = m ((c.tc : Thread Cert.Kernel33.nD Cert.Kernel33.τ).loc Cert.Kernel33.main_arg3)
      ∧ r.2.mem ((c.tc : Thread Cert.Kernel33.nD Cert.Kernel33.τ).loc Cert.Kernel33.main_arg4) = m ((c.tc : Thread Cert.Kernel33.nD Cert.Kernel33.τ).loc Cert.Kernel33.main_arg4)
      ∧ r.2.mem ((c.tc : Thread Cert.Kernel33.nD Cert.Kernel33.τ).loc Cert.Kernel33.main_arg5) = m ((c.tc : Thread Cert.Kernel33.nD Cert.Kernel33.τ).loc Cert.Kernel33.main_arg5)
      ∧ r.2.mem ((c.tc : Thread Cert.Kernel33.nD Cert.Kernel33.τ).loc Cert.Kernel33.main_arg6) = m ((c.tc : Thread Cert.Kernel33.nD Cert.Kernel33.τ).loc Cert.Kernel33.main_arg6))
      ∧ r.2.sem = fun _ => 0)

def quiescent_Kernel33Ideal [hKernel33Ideal : Cert.Kernel33Ideal.Facts] : Prop :=
  ∀ (m : (ℓ : Loc Cert.Kernel33Ideal.nD Cert.Kernel33Ideal.τ Cert.Kernel33Ideal.sig) → Buf (Elt Ideal) ℓ) (g : Dev Cert.Kernel33Ideal.nD → PrngReg), Pre_Kernel33Ideal m →
    θ_run (Cert.Kernel33Ideal.defs (F := Ideal)) (onTc (τ := Cert.Kernel33Ideal.τ) (Cert.Kernel33Ideal.main (F := Ideal))) ⟨m, fun _ => 0, g⟩ (fun r => (∀ c : Dev Cert.Kernel33Ideal.nD,
      r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0)
      ∧ r.2.mem ((c.tc : Thread Cert.Kernel33Ideal.nD Cert.Kernel33Ideal.τ).loc Cert.Kernel33Ideal.main_arg1) = m ((c.tc : Thread Cert.Kernel33Ideal.nD Cert.Kernel33Ideal.τ).loc Cert.Kernel33Ideal.main_arg1)
      ∧ r.2.mem ((c.tc : Thread Cert.Kernel33Ideal.nD Cert.Kernel33Ideal.τ).loc Cert.Kernel33Ideal.main_arg2) = m ((c.tc : Thread Cert.Kernel33Ideal.nD Cert.Kernel33Ideal.τ).loc Cert.Kernel33Ideal.main_arg2)
      ∧ r.2.mem ((c.tc : Thread Cert.Kernel33Ideal.nD Cert.Kernel33Ideal.τ).loc Cert.Kernel33Ideal.main_arg3) = m ((c.tc : Thread Cert.Kernel33Ideal.nD Cert.Kernel33Ideal.τ).loc Cert.Kernel33Ideal.main_arg3)
      ∧ r.2.mem ((c.tc : Thread Cert.Kernel33Ideal.nD Cert.Kernel33Ideal.τ).loc Cert.Kernel33Ideal.main_arg4) = m ((c.tc : Thread Cert.Kernel33Ideal.nD Cert.Kernel33Ideal.τ).loc Cert.Kernel33Ideal.main_arg4)
      ∧ r.2.mem ((c.tc : Thread Cert.Kernel33Ideal.nD Cert.Kernel33Ideal.τ).loc Cert.Kernel33Ideal.main_arg5) = m ((c.tc : Thread Cert.Kernel33Ideal.nD Cert.Kernel33Ideal.τ).loc Cert.Kernel33Ideal.main_arg5)
      ∧ r.2.mem ((c.tc : Thread Cert.Kernel33Ideal.nD Cert.Kernel33Ideal.τ).loc Cert.Kernel33Ideal.main_arg6) = m ((c.tc : Thread Cert.Kernel33Ideal.nD Cert.Kernel33Ideal.τ).loc Cert.Kernel33Ideal.main_arg6))
      ∧ r.2.sem = fun _ => 0)

def quiescent_Reference33Ideal [hReference33Ideal : Cert.Reference33Ideal.Facts] : Prop :=
  ∀ (m : (ℓ : Loc Cert.Reference33Ideal.nD Cert.Reference33Ideal.τ Cert.Reference33Ideal.sig) → Buf (Elt Ideal) ℓ) (g : Dev Cert.Reference33Ideal.nD → PrngReg), Pre_Reference33Ideal m →
    θ_run (Cert.Reference33Ideal.defs (F := Ideal)) (onTc (τ := Cert.Reference33Ideal.τ) (Cert.Reference33Ideal.main (F := Ideal))) ⟨m, fun _ => 0, g⟩ (fun r => (∀ c : Dev Cert.Reference33Ideal.nD,
      r.2.mem ((c.tc : Thread Cert.Reference33Ideal.nD Cert.Reference33Ideal.τ).loc Cert.Reference33Ideal.main_arg0) = m ((c.tc : Thread Cert.Reference33Ideal.nD Cert.Reference33Ideal.τ).loc Cert.Reference33Ideal.main_arg0)
      ∧ r.2.mem ((c.tc : Thread Cert.Reference33Ideal.nD Cert.Reference33Ideal.τ).loc Cert.Reference33Ideal.main_arg1) = m ((c.tc : Thread Cert.Reference33Ideal.nD Cert.Reference33Ideal.τ).loc Cert.Reference33Ideal.main_arg1)
      ∧ r.2.mem ((c.tc : Thread Cert.Reference33Ideal.nD Cert.Reference33Ideal.τ).loc Cert.Reference33Ideal.main_arg2) = m ((c.tc : Thread Cert.Reference33Ideal.nD Cert.Reference33Ideal.τ).loc Cert.Reference33Ideal.main_arg2)
      ∧ r.2.mem ((c.tc : Thread Cert.Reference33Ideal.nD Cert.Reference33Ideal.τ).loc Cert.Reference33Ideal.main_arg3) = m ((c.tc : Thread Cert.Reference33Ideal.nD Cert.Reference33Ideal.τ).loc Cert.Reference33Ideal.main_arg3)
      ∧ r.2.mem ((c.tc : Thread Cert.Reference33Ideal.nD Cert.Reference33Ideal.τ).loc Cert.Reference33Ideal.main_arg4) = m ((c.tc : Thread Cert.Reference33Ideal.nD Cert.Reference33Ideal.τ).loc Cert.Reference33Ideal.main_arg4)
      ∧ r.2.mem ((c.tc : Thread Cert.Reference33Ideal.nD Cert.Reference33Ideal.τ).loc Cert.Reference33Ideal.main_arg5) = m ((c.tc : Thread Cert.Reference33Ideal.nD Cert.Reference33Ideal.τ).loc Cert.Reference33Ideal.main_arg5)
      ∧ r.2.mem ((c.tc : Thread Cert.Reference33Ideal.nD Cert.Reference33Ideal.τ).loc Cert.Reference33Ideal.main_arg6) = m ((c.tc : Thread Cert.Reference33Ideal.nD Cert.Reference33Ideal.τ).loc Cert.Reference33Ideal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v4) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v6) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v6) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v4) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v6) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v4) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v6) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v4) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v6) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v0_0)) (v1 : (c : Dev Cert.Kernel11Ideal.nD) → Buf (Elt Ideal) ((c.tc : Thread Cert.Kernel11Ideal.nD Cert.Kernel11Ideal.τ).loc Cert.Kernel11Ideal.main_v0_1)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0_0) = v0 c
          ∧ r.2.mem ((c.tc : Thread Cert.Kernel11Ideal.nD Cert.Kernel11Ideal.τ).loc Cert.Kernel11Ideal.main_v0_1) = v1 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v2) = v0 c
          ∧ r.2.mem ((c.tc : Thread Cert.Reference11Ideal.nD Cert.Reference11Ideal.τ).loc Cert.Reference11Ideal.main_v5) = v1 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v2) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v2) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v0)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v2) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)) →
    ∃ (v0 : (c : Dev Cert.Kernel15Ideal.nD) → Buf (Elt Ideal) ((c.tc : Thread Cert.Kernel15Ideal.nD Cert.Kernel15Ideal.τ).loc Cert.Kernel15Ideal.main_v0_0)) (v1 : (c : Dev Cert.Kernel15Ideal.nD) → Buf (Elt Ideal) ((c.tc : Thread Cert.Kernel15Ideal.nD Cert.Kernel15Ideal.τ).loc Cert.Kernel15Ideal.main_v0_1)) (v2 : (c : Dev Cert.Kernel15Ideal.nD) → Buf (Elt Ideal) ((c.tc : Thread Cert.Kernel15Ideal.nD Cert.Kernel15Ideal.τ).loc Cert.Kernel15Ideal.main_v0_2)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0_0) = v0 c
          ∧ r.2.mem ((c.tc : Thread Cert.Kernel15Ideal.nD Cert.Kernel15Ideal.τ).loc Cert.Kernel15Ideal.main_v0_1) = v1 c
          ∧ r.2.mem ((c.tc : Thread Cert.Kernel15Ideal.nD Cert.Kernel15Ideal.τ).loc Cert.Kernel15Ideal.main_v0_2) = v2 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v23) = v0 c
          ∧ r.2.mem ((c.tc : Thread Cert.Reference15Ideal.nD Cert.Reference15Ideal.τ).loc Cert.Reference15Ideal.main_v4) = v1 c
          ∧ r.2.mem ((c.tc : Thread Cert.Reference15Ideal.nD Cert.Reference15Ideal.τ).loc Cert.Reference15Ideal.main_v10) = v2 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)) →
    ∃ (v0 : (c : Dev Cert.Kernel16Ideal.nD) → Buf (Elt Ideal) ((c.tc : Thread Cert.Kernel16Ideal.nD Cert.Kernel16Ideal.τ).loc Cert.Kernel16Ideal.main_v0_0)) (v1 : (c : Dev Cert.Kernel16Ideal.nD) → Buf (Elt Ideal) ((c.tc : Thread Cert.Kernel16Ideal.nD Cert.Kernel16Ideal.τ).loc Cert.Kernel16Ideal.main_v0_1)) (v2 : (c : Dev Cert.Kernel16Ideal.nD) → Buf (Elt Ideal) ((c.tc : Thread Cert.Kernel16Ideal.nD Cert.Kernel16Ideal.τ).loc Cert.Kernel16Ideal.main_v0_2)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0_0) = v0 c
          ∧ r.2.mem ((c.tc : Thread Cert.Kernel16Ideal.nD Cert.Kernel16Ideal.τ).loc Cert.Kernel16Ideal.main_v0_1) = v1 c
          ∧ r.2.mem ((c.tc : Thread Cert.Kernel16Ideal.nD Cert.Kernel16Ideal.τ).loc Cert.Kernel16Ideal.main_v0_2) = v2 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v23) = v0 c
          ∧ r.2.mem ((c.tc : Thread Cert.Reference16Ideal.nD Cert.Reference16Ideal.τ).loc Cert.Reference16Ideal.main_v4) = v1 c
          ∧ r.2.mem ((c.tc : Thread Cert.Reference16Ideal.nD Cert.Reference16Ideal.τ).loc Cert.Reference16Ideal.main_v10) = v2 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)) →
    ∃ (v0 : (c : Dev Cert.Kernel17Ideal.nD) → Buf (Elt Ideal) ((c.tc : Thread Cert.Kernel17Ideal.nD Cert.Kernel17Ideal.τ).loc Cert.Kernel17Ideal.main_v0_0)) (v1 : (c : Dev Cert.Kernel17Ideal.nD) → Buf (Elt Ideal) ((c.tc : Thread Cert.Kernel17Ideal.nD Cert.Kernel17Ideal.τ).loc Cert.Kernel17Ideal.main_v0_1)) (v2 : (c : Dev Cert.Kernel17Ideal.nD) → Buf (Elt Ideal) ((c.tc : Thread Cert.Kernel17Ideal.nD Cert.Kernel17Ideal.τ).loc Cert.Kernel17Ideal.main_v0_2)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0_0) = v0 c
          ∧ r.2.mem ((c.tc : Thread Cert.Kernel17Ideal.nD Cert.Kernel17Ideal.τ).loc Cert.Kernel17Ideal.main_v0_1) = v1 c
          ∧ r.2.mem ((c.tc : Thread Cert.Kernel17Ideal.nD Cert.Kernel17Ideal.τ).loc Cert.Kernel17Ideal.main_v0_2) = v2 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v23) = v0 c
          ∧ r.2.mem ((c.tc : Thread Cert.Reference17Ideal.nD Cert.Reference17Ideal.τ).loc Cert.Reference17Ideal.main_v4) = v1 c
          ∧ r.2.mem ((c.tc : Thread Cert.Reference17Ideal.nD Cert.Reference17Ideal.τ).loc Cert.Reference17Ideal.main_v10) = v2 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)) →
    ∃ (v0 : (c : Dev Cert.Kernel18Ideal.nD) → Buf (Elt Ideal) ((c.tc : Thread Cert.Kernel18Ideal.nD Cert.Kernel18Ideal.τ).loc Cert.Kernel18Ideal.main_v0_0)) (v1 : (c : Dev Cert.Kernel18Ideal.nD) → Buf (Elt Ideal) ((c.tc : Thread Cert.Kernel18Ideal.nD Cert.Kernel18Ideal.τ).loc Cert.Kernel18Ideal.main_v0_1)) (v2 : (c : Dev Cert.Kernel18Ideal.nD) → Buf (Elt Ideal) ((c.tc : Thread Cert.Kernel18Ideal.nD Cert.Kernel18Ideal.τ).loc Cert.Kernel18Ideal.main_v0_2)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0_0) = v0 c
          ∧ r.2.mem ((c.tc : Thread Cert.Kernel18Ideal.nD Cert.Kernel18Ideal.τ).loc Cert.Kernel18Ideal.main_v0_1) = v1 c
          ∧ r.2.mem ((c.tc : Thread Cert.Kernel18Ideal.nD Cert.Kernel18Ideal.τ).loc Cert.Kernel18Ideal.main_v0_2) = v2 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v23) = v0 c
          ∧ r.2.mem ((c.tc : Thread Cert.Reference18Ideal.nD Cert.Reference18Ideal.τ).loc Cert.Reference18Ideal.main_v4) = v1 c
          ∧ r.2.mem ((c.tc : Thread Cert.Reference18Ideal.nD Cert.Reference18Ideal.τ).loc Cert.Reference18Ideal.main_v10) = v2 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)) →
    ∃ (v0 : (c : Dev Cert.Kernel19Ideal.nD) → Buf (Elt Ideal) ((c.tc : Thread Cert.Kernel19Ideal.nD Cert.Kernel19Ideal.τ).loc Cert.Kernel19Ideal.main_v0_0)) (v1 : (c : Dev Cert.Kernel19Ideal.nD) → Buf (Elt Ideal) ((c.tc : Thread Cert.Kernel19Ideal.nD Cert.Kernel19Ideal.τ).loc Cert.Kernel19Ideal.main_v0_1)) (v2 : (c : Dev Cert.Kernel19Ideal.nD) → Buf (Elt Ideal) ((c.tc : Thread Cert.Kernel19Ideal.nD Cert.Kernel19Ideal.τ).loc Cert.Kernel19Ideal.main_v0_2)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0_0) = v0 c
          ∧ r.2.mem ((c.tc : Thread Cert.Kernel19Ideal.nD Cert.Kernel19Ideal.τ).loc Cert.Kernel19Ideal.main_v0_1) = v1 c
          ∧ r.2.mem ((c.tc : Thread Cert.Kernel19Ideal.nD Cert.Kernel19Ideal.τ).loc Cert.Kernel19Ideal.main_v0_2) = v2 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v23) = v0 c
          ∧ r.2.mem ((c.tc : Thread Cert.Reference19Ideal.nD Cert.Reference19Ideal.τ).loc Cert.Reference19Ideal.main_v4) = v1 c
          ∧ r.2.mem ((c.tc : Thread Cert.Reference19Ideal.nD Cert.Reference19Ideal.τ).loc Cert.Reference19Ideal.main_v10) = v2 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)
      ∧ m' ((c.tc : Thread Cert.Reference20Ideal.nD Cert.Reference20Ideal.τ).loc Cert.Reference20Ideal.main_arg3) = m ((c.tc : Thread Cert.Kernel20Ideal.nD Cert.Kernel20Ideal.τ).loc Cert.Kernel20Ideal.main_arg3)) →
    ∃ (v0 : (c : Dev Cert.Kernel20Ideal.nD) → Buf (Elt Ideal) ((c.tc : Thread Cert.Kernel20Ideal.nD Cert.Kernel20Ideal.τ).loc Cert.Kernel20Ideal.main_v0_0)) (v1 : (c : Dev Cert.Kernel20Ideal.nD) → Buf (Elt Ideal) ((c.tc : Thread Cert.Kernel20Ideal.nD Cert.Kernel20Ideal.τ).loc Cert.Kernel20Ideal.main_v0_1)) (v2 : (c : Dev Cert.Kernel20Ideal.nD) → Buf (Elt Ideal) ((c.tc : Thread Cert.Kernel20Ideal.nD Cert.Kernel20Ideal.τ).loc Cert.Kernel20Ideal.main_v0_2)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0_0) = v0 c
          ∧ r.2.mem ((c.tc : Thread Cert.Kernel20Ideal.nD Cert.Kernel20Ideal.τ).loc Cert.Kernel20Ideal.main_v0_1) = v1 c
          ∧ r.2.mem ((c.tc : Thread Cert.Kernel20Ideal.nD Cert.Kernel20Ideal.τ).loc Cert.Kernel20Ideal.main_v0_2) = v2 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
          ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v23) = v0 c
          ∧ r.2.mem ((c.tc : Thread Cert.Reference20Ideal.nD Cert.Reference20Ideal.τ).loc Cert.Reference20Ideal.main_v4) = v1 c
          ∧ r.2.mem ((c.tc : Thread Cert.Reference20Ideal.nD Cert.Reference20Ideal.τ).loc Cert.Reference20Ideal.main_v10) = v2 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2)
          ∧ r.2.mem ((c.tc : Thread Cert.Reference20Ideal.nD Cert.Reference20Ideal.τ).loc Cert.Reference20Ideal.main_arg3) = m' ((c.tc : Thread Cert.Reference20Ideal.nD Cert.Reference20Ideal.τ).loc Cert.Reference20Ideal.main_arg3))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)
      ∧ m' ((c.tc : Thread Cert.Reference21Ideal.nD Cert.Reference21Ideal.τ).loc Cert.Reference21Ideal.main_arg3) = m ((c.tc : Thread Cert.Kernel21Ideal.nD Cert.Kernel21Ideal.τ).loc Cert.Kernel21Ideal.main_arg3)) →
    ∃ (v0 : (c : Dev Cert.Kernel21Ideal.nD) → Buf (Elt Ideal) ((c.tc : Thread Cert.Kernel21Ideal.nD Cert.Kernel21Ideal.τ).loc Cert.Kernel21Ideal.main_v4_0)) (v1 : (c : Dev Cert.Kernel21Ideal.nD) → Buf (Elt Ideal) ((c.tc : Thread Cert.Kernel21Ideal.nD Cert.Kernel21Ideal.τ).loc Cert.Kernel21Ideal.main_v4_1)) (v2 : (c : Dev Cert.Kernel21Ideal.nD) → Buf (Elt Ideal) ((c.tc : Thread Cert.Kernel21Ideal.nD Cert.Kernel21Ideal.τ).loc Cert.Kernel21Ideal.main_v4_2)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v4_0) = v0 c
          ∧ r.2.mem ((c.tc : Thread Cert.Kernel21Ideal.nD Cert.Kernel21Ideal.τ).loc Cert.Kernel21Ideal.main_v4_1) = v1 c
          ∧ r.2.mem ((c.tc : Thread Cert.Kernel21Ideal.nD Cert.Kernel21Ideal.τ).loc Cert.Kernel21Ideal.main_v4_2) = v2 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
          ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v24) = v0 c
          ∧ r.2.mem ((c.tc : Thread Cert.Reference21Ideal.nD Cert.Reference21Ideal.τ).loc Cert.Reference21Ideal.main_v25) = v1 c
          ∧ r.2.mem ((c.tc : Thread Cert.Reference21Ideal.nD Cert.Reference21Ideal.τ).loc Cert.Reference21Ideal.main_v26) = v2 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2)
          ∧ r.2.mem ((c.tc : Thread Cert.Reference21Ideal.nD Cert.Reference21Ideal.τ).loc Cert.Reference21Ideal.main_arg3) = m' ((c.tc : Thread Cert.Reference21Ideal.nD Cert.Reference21Ideal.τ).loc Cert.Reference21Ideal.main_arg3))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)
      ∧ m' ((c.tc : Thread Cert.Reference22Ideal.nD Cert.Reference22Ideal.τ).loc Cert.Reference22Ideal.main_arg3) = m ((c.tc : Thread Cert.Kernel22Ideal.nD Cert.Kernel22Ideal.τ).loc Cert.Kernel22Ideal.main_arg3)
      ∧ m' ((c.tc : Thread Cert.Reference22Ideal.nD Cert.Reference22Ideal.τ).loc Cert.Reference22Ideal.main_arg4) = m ((c.tc : Thread Cert.Kernel22Ideal.nD Cert.Kernel22Ideal.τ).loc Cert.Kernel22Ideal.main_arg4)
      ∧ m' ((c.tc : Thread Cert.Reference22Ideal.nD Cert.Reference22Ideal.τ).loc Cert.Reference22Ideal.main_arg5) = m ((c.tc : Thread Cert.Kernel22Ideal.nD Cert.Kernel22Ideal.τ).loc Cert.Kernel22Ideal.main_arg5)
      ∧ m' ((c.tc : Thread Cert.Reference22Ideal.nD Cert.Reference22Ideal.τ).loc Cert.Reference22Ideal.main_arg6) = m ((c.tc : Thread Cert.Kernel22Ideal.nD Cert.Kernel22Ideal.τ).loc Cert.Kernel22Ideal.main_arg6)
      ∧ m' ((c.tc : Thread Cert.Reference22Ideal.nD Cert.Reference22Ideal.τ).loc Cert.Reference22Ideal.main_arg7) = m ((c.tc : Thread Cert.Kernel22Ideal.nD Cert.Kernel22Ideal.τ).loc Cert.Kernel22Ideal.main_arg7)
      ∧ m' ((c.tc : Thread Cert.Reference22Ideal.nD Cert.Reference22Ideal.τ).loc Cert.Reference22Ideal.main_arg8) = m ((c.tc : Thread Cert.Kernel22Ideal.nD Cert.Kernel22Ideal.τ).loc Cert.Kernel22Ideal.main_arg8)
      ∧ m' ((c.tc : Thread Cert.Reference22Ideal.nD Cert.Reference22Ideal.τ).loc Cert.Reference22Ideal.main_arg9) = m ((c.tc : Thread Cert.Kernel22Ideal.nD Cert.Kernel22Ideal.τ).loc Cert.Kernel22Ideal.main_arg9)
      ∧ m' ((c.tc : Thread Cert.Reference22Ideal.nD Cert.Reference22Ideal.τ).loc Cert.Reference22Ideal.main_arg10) = m ((c.tc : Thread Cert.Kernel22Ideal.nD Cert.Kernel22Ideal.τ).loc Cert.Kernel22Ideal.main_arg10)
      ∧ m' ((c.tc : Thread Cert.Reference22Ideal.nD Cert.Reference22Ideal.τ).loc Cert.Reference22Ideal.main_arg11) = m ((c.tc : Thread Cert.Kernel22Ideal.nD Cert.Kernel22Ideal.τ).loc Cert.Kernel22Ideal.main_arg11)
      ∧ m' ((c.tc : Thread Cert.Reference22Ideal.nD Cert.Reference22Ideal.τ).loc Cert.Reference22Ideal.main_arg12) = m ((c.tc : Thread Cert.Kernel22Ideal.nD Cert.Kernel22Ideal.τ).loc Cert.Kernel22Ideal.main_arg12)
      ∧ m' ((c.tc : Thread Cert.Reference22Ideal.nD Cert.Reference22Ideal.τ).loc Cert.Reference22Ideal.main_arg13) = m ((c.tc : Thread Cert.Kernel22Ideal.nD Cert.Kernel22Ideal.τ).loc Cert.Kernel22Ideal.main_arg13)
      ∧ m' ((c.tc : Thread Cert.Reference22Ideal.nD Cert.Reference22Ideal.τ).loc Cert.Reference22Ideal.main_arg14) = m ((c.tc : Thread Cert.Kernel22Ideal.nD Cert.Kernel22Ideal.τ).loc Cert.Kernel22Ideal.main_arg14)
      ∧ m' ((c.tc : Thread Cert.Reference22Ideal.nD Cert.Reference22Ideal.τ).loc Cert.Reference22Ideal.main_arg15) = m ((c.tc : Thread Cert.Kernel22Ideal.nD Cert.Kernel22Ideal.τ).loc Cert.Kernel22Ideal.main_arg15)
      ∧ m' ((c.tc : Thread Cert.Reference22Ideal.nD Cert.Reference22Ideal.τ).loc Cert.Reference22Ideal.main_arg16) = m ((c.tc : Thread Cert.Kernel22Ideal.nD Cert.Kernel22Ideal.τ).loc Cert.Kernel22Ideal.main_arg16)
      ∧ m' ((c.tc : Thread Cert.Reference22Ideal.nD Cert.Reference22Ideal.τ).loc Cert.Reference22Ideal.main_arg17) = m ((c.tc : Thread Cert.Kernel22Ideal.nD Cert.Kernel22Ideal.τ).loc Cert.Kernel22Ideal.main_arg17)
      ∧ m' ((c.tc : Thread Cert.Reference22Ideal.nD Cert.Reference22Ideal.τ).loc Cert.Reference22Ideal.main_arg18) = m ((c.tc : Thread Cert.Kernel22Ideal.nD Cert.Kernel22Ideal.τ).loc Cert.Kernel22Ideal.main_arg18)
      ∧ m' ((c.tc : Thread Cert.Reference22Ideal.nD Cert.Reference22Ideal.τ).loc Cert.Reference22Ideal.main_arg19) = m ((c.tc : Thread Cert.Kernel22Ideal.nD Cert.Kernel22Ideal.τ).loc Cert.Kernel22Ideal.main_arg19)
      ∧ m' ((c.tc : Thread Cert.Reference22Ideal.nD Cert.Reference22Ideal.τ).loc Cert.Reference22Ideal.main_arg20) = m ((c.tc : Thread Cert.Kernel22Ideal.nD Cert.Kernel22Ideal.τ).loc Cert.Kernel22Ideal.main_arg20)
      ∧ m' ((c.tc : Thread Cert.Reference22Ideal.nD Cert.Reference22Ideal.τ).loc Cert.Reference22Ideal.main_arg21) = m ((c.tc : Thread Cert.Kernel22Ideal.nD Cert.Kernel22Ideal.τ).loc Cert.Kernel22Ideal.main_arg21)
      ∧ m' ((c.tc : Thread Cert.Reference22Ideal.nD Cert.Reference22Ideal.τ).loc Cert.Reference22Ideal.main_arg22) = m ((c.tc : Thread Cert.Kernel22Ideal.nD Cert.Kernel22Ideal.τ).loc Cert.Kernel22Ideal.main_arg22)
      ∧ m' ((c.tc : Thread Cert.Reference22Ideal.nD Cert.Reference22Ideal.τ).loc Cert.Reference22Ideal.main_arg23) = m ((c.tc : Thread Cert.Kernel22Ideal.nD Cert.Kernel22Ideal.τ).loc Cert.Kernel22Ideal.main_arg23)
      ∧ m' ((c.tc : Thread Cert.Reference22Ideal.nD Cert.Reference22Ideal.τ).loc Cert.Reference22Ideal.main_arg24) = m ((c.tc : Thread Cert.Kernel22Ideal.nD Cert.Kernel22Ideal.τ).loc Cert.Kernel22Ideal.main_arg24)
      ∧ m' ((c.tc : Thread Cert.Reference22Ideal.nD Cert.Reference22Ideal.τ).loc Cert.Reference22Ideal.main_arg25) = m ((c.tc : Thread Cert.Kernel22Ideal.nD Cert.Kernel22Ideal.τ).loc Cert.Kernel22Ideal.main_arg25)
      ∧ m' ((c.tc : Thread Cert.Reference22Ideal.nD Cert.Reference22Ideal.τ).loc Cert.Reference22Ideal.main_arg26) = m ((c.tc : Thread Cert.Kernel22Ideal.nD Cert.Kernel22Ideal.τ).loc Cert.Kernel22Ideal.main_arg26)
      ∧ m' ((c.tc : Thread Cert.Reference22Ideal.nD Cert.Reference22Ideal.τ).loc Cert.Reference22Ideal.main_arg27) = m ((c.tc : Thread Cert.Kernel22Ideal.nD Cert.Kernel22Ideal.τ).loc Cert.Kernel22Ideal.main_arg27)
      ∧ m' ((c.tc : Thread Cert.Reference22Ideal.nD Cert.Reference22Ideal.τ).loc Cert.Reference22Ideal.main_arg28) = m ((c.tc : Thread Cert.Kernel22Ideal.nD Cert.Kernel22Ideal.τ).loc Cert.Kernel22Ideal.main_arg28)
      ∧ m' ((c.tc : Thread Cert.Reference22Ideal.nD Cert.Reference22Ideal.τ).loc Cert.Reference22Ideal.main_arg29) = m ((c.tc : Thread Cert.Kernel22Ideal.nD Cert.Kernel22Ideal.τ).loc Cert.Kernel22Ideal.main_arg29)
      ∧ m' ((c.tc : Thread Cert.Reference22Ideal.nD Cert.Reference22Ideal.τ).loc Cert.Reference22Ideal.main_arg30) = m ((c.tc : Thread Cert.Kernel22Ideal.nD Cert.Kernel22Ideal.τ).loc Cert.Kernel22Ideal.main_arg30)
      ∧ m' ((c.tc : Thread Cert.Reference22Ideal.nD Cert.Reference22Ideal.τ).loc Cert.Reference22Ideal.main_arg31) = m ((c.tc : Thread Cert.Kernel22Ideal.nD Cert.Kernel22Ideal.τ).loc Cert.Kernel22Ideal.main_arg31)
      ∧ m' ((c.tc : Thread Cert.Reference22Ideal.nD Cert.Reference22Ideal.τ).loc Cert.Reference22Ideal.main_arg32) = m ((c.tc : Thread Cert.Kernel22Ideal.nD Cert.Kernel22Ideal.τ).loc Cert.Kernel22Ideal.main_arg32)
      ∧ m' ((c.tc : Thread Cert.Reference22Ideal.nD Cert.Reference22Ideal.τ).loc Cert.Reference22Ideal.main_arg33) = m ((c.tc : Thread Cert.Kernel22Ideal.nD Cert.Kernel22Ideal.τ).loc Cert.Kernel22Ideal.main_arg33)
      ∧ m' ((c.tc : Thread Cert.Reference22Ideal.nD Cert.Reference22Ideal.τ).loc Cert.Reference22Ideal.main_arg34) = m ((c.tc : Thread Cert.Kernel22Ideal.nD Cert.Kernel22Ideal.τ).loc Cert.Kernel22Ideal.main_arg34)
      ∧ m' ((c.tc : Thread Cert.Reference22Ideal.nD Cert.Reference22Ideal.τ).loc Cert.Reference22Ideal.main_arg35) = m ((c.tc : Thread Cert.Kernel22Ideal.nD Cert.Kernel22Ideal.τ).loc Cert.Kernel22Ideal.main_arg35)
      ∧ m' ((c.tc : Thread Cert.Reference22Ideal.nD Cert.Reference22Ideal.τ).loc Cert.Reference22Ideal.main_arg36) = m ((c.tc : Thread Cert.Kernel22Ideal.nD Cert.Kernel22Ideal.τ).loc Cert.Kernel22Ideal.main_arg36)
      ∧ m' ((c.tc : Thread Cert.Reference22Ideal.nD Cert.Reference22Ideal.τ).loc Cert.Reference22Ideal.main_arg37) = m ((c.tc : Thread Cert.Kernel22Ideal.nD Cert.Kernel22Ideal.τ).loc Cert.Kernel22Ideal.main_arg37)
      ∧ m' ((c.tc : Thread Cert.Reference22Ideal.nD Cert.Reference22Ideal.τ).loc Cert.Reference22Ideal.main_arg38) = m ((c.tc : Thread Cert.Kernel22Ideal.nD Cert.Kernel22Ideal.τ).loc Cert.Kernel22Ideal.main_arg38)
      ∧ m' ((c.tc : Thread Cert.Reference22Ideal.nD Cert.Reference22Ideal.τ).loc Cert.Reference22Ideal.main_arg39) = m ((c.tc : Thread Cert.Kernel22Ideal.nD Cert.Kernel22Ideal.τ).loc Cert.Kernel22Ideal.main_arg39)
      ∧ m' ((c.tc : Thread Cert.Reference22Ideal.nD Cert.Reference22Ideal.τ).loc Cert.Reference22Ideal.main_arg40) = m ((c.tc : Thread Cert.Kernel22Ideal.nD Cert.Kernel22Ideal.τ).loc Cert.Kernel22Ideal.main_arg40)
      ∧ m' ((c.tc : Thread Cert.Reference22Ideal.nD Cert.Reference22Ideal.τ).loc Cert.Reference22Ideal.main_arg41) = m ((c.tc : Thread Cert.Kernel22Ideal.nD Cert.Kernel22Ideal.τ).loc Cert.Kernel22Ideal.main_arg41)
      ∧ m' ((c.tc : Thread Cert.Reference22Ideal.nD Cert.Reference22Ideal.τ).loc Cert.Reference22Ideal.main_arg42) = m ((c.tc : Thread Cert.Kernel22Ideal.nD Cert.Kernel22Ideal.τ).loc Cert.Kernel22Ideal.main_arg42)
      ∧ m' ((c.tc : Thread Cert.Reference22Ideal.nD Cert.Reference22Ideal.τ).loc Cert.Reference22Ideal.main_arg43) = m ((c.tc : Thread Cert.Kernel22Ideal.nD Cert.Kernel22Ideal.τ).loc Cert.Kernel22Ideal.main_arg43)
      ∧ m' ((c.tc : Thread Cert.Reference22Ideal.nD Cert.Reference22Ideal.τ).loc Cert.Reference22Ideal.main_arg44) = m ((c.tc : Thread Cert.Kernel22Ideal.nD Cert.Kernel22Ideal.τ).loc Cert.Kernel22Ideal.main_arg44)
      ∧ m' ((c.tc : Thread Cert.Reference22Ideal.nD Cert.Reference22Ideal.τ).loc Cert.Reference22Ideal.main_arg45) = m ((c.tc : Thread Cert.Kernel22Ideal.nD Cert.Kernel22Ideal.τ).loc Cert.Kernel22Ideal.main_arg45)
      ∧ m' ((c.tc : Thread Cert.Reference22Ideal.nD Cert.Reference22Ideal.τ).loc Cert.Reference22Ideal.main_arg46) = m ((c.tc : Thread Cert.Kernel22Ideal.nD Cert.Kernel22Ideal.τ).loc Cert.Kernel22Ideal.main_arg46)
      ∧ m' ((c.tc : Thread Cert.Reference22Ideal.nD Cert.Reference22Ideal.τ).loc Cert.Reference22Ideal.main_arg47) = m ((c.tc : Thread Cert.Kernel22Ideal.nD Cert.Kernel22Ideal.τ).loc Cert.Kernel22Ideal.main_arg47)
      ∧ m' ((c.tc : Thread Cert.Reference22Ideal.nD Cert.Reference22Ideal.τ).loc Cert.Reference22Ideal.main_arg48) = m ((c.tc : Thread Cert.Kernel22Ideal.nD Cert.Kernel22Ideal.τ).loc Cert.Kernel22Ideal.main_arg48)
      ∧ m' ((c.tc : Thread Cert.Reference22Ideal.nD Cert.Reference22Ideal.τ).loc Cert.Reference22Ideal.main_arg49) = m ((c.tc : Thread Cert.Kernel22Ideal.nD Cert.Kernel22Ideal.τ).loc Cert.Kernel22Ideal.main_arg49)
      ∧ m' ((c.tc : Thread Cert.Reference22Ideal.nD Cert.Reference22Ideal.τ).loc Cert.Reference22Ideal.main_arg50) = m ((c.tc : Thread Cert.Kernel22Ideal.nD Cert.Kernel22Ideal.τ).loc Cert.Kernel22Ideal.main_arg50)
      ∧ m' ((c.tc : Thread Cert.Reference22Ideal.nD Cert.Reference22Ideal.τ).loc Cert.Reference22Ideal.main_arg51) = m ((c.tc : Thread Cert.Kernel22Ideal.nD Cert.Kernel22Ideal.τ).loc Cert.Kernel22Ideal.main_arg51)
      ∧ m' ((c.tc : Thread Cert.Reference22Ideal.nD Cert.Reference22Ideal.τ).loc Cert.Reference22Ideal.main_arg52) = m ((c.tc : Thread Cert.Kernel22Ideal.nD Cert.Kernel22Ideal.τ).loc Cert.Kernel22Ideal.main_arg52)
      ∧ m' ((c.tc : Thread Cert.Reference22Ideal.nD Cert.Reference22Ideal.τ).loc Cert.Reference22Ideal.main_arg53) = m ((c.tc : Thread Cert.Kernel22Ideal.nD Cert.Kernel22Ideal.τ).loc Cert.Kernel22Ideal.main_arg53)
      ∧ m' ((c.tc : Thread Cert.Reference22Ideal.nD Cert.Reference22Ideal.τ).loc Cert.Reference22Ideal.main_arg54) = m ((c.tc : Thread Cert.Kernel22Ideal.nD Cert.Kernel22Ideal.τ).loc Cert.Kernel22Ideal.main_arg54)
      ∧ m' ((c.tc : Thread Cert.Reference22Ideal.nD Cert.Reference22Ideal.τ).loc Cert.Reference22Ideal.main_arg55) = m ((c.tc : Thread Cert.Kernel22Ideal.nD Cert.Kernel22Ideal.τ).loc Cert.Kernel22Ideal.main_arg55)) →
    ∃ (v0 : (c : Dev Cert.Kernel22Ideal.nD) → Buf (Elt Ideal) ((c.tc : Thread Cert.Kernel22Ideal.nD Cert.Kernel22Ideal.τ).loc Cert.Kernel22Ideal.main_v64_0)) (v1 : (c : Dev Cert.Kernel22Ideal.nD) → Buf (Elt Ideal) ((c.tc : Thread Cert.Kernel22Ideal.nD Cert.Kernel22Ideal.τ).loc Cert.Kernel22Ideal.main_v64_1)) (v2 : (c : Dev Cert.Kernel22Ideal.nD) → Buf (Elt Ideal) ((c.tc : Thread Cert.Kernel22Ideal.nD Cert.Kernel22Ideal.τ).loc Cert.Kernel22Ideal.main_v64_2)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v64_0) = v0 c
          ∧ r.2.mem ((c.tc : Thread Cert.Kernel22Ideal.nD Cert.Kernel22Ideal.τ).loc Cert.Kernel22Ideal.main_v64_1) = v1 c
          ∧ r.2.mem ((c.tc : Thread Cert.Kernel22Ideal.nD Cert.Kernel22Ideal.τ).loc Cert.Kernel22Ideal.main_v64_2) = v2 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
          ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3)
          ∧ r.2.mem ((c.tc : Thread Cert.Kernel22Ideal.nD Cert.Kernel22Ideal.τ).loc Cert.Kernel22Ideal.main_arg4) = m ((c.tc : Thread Cert.Kernel22Ideal.nD Cert.Kernel22Ideal.τ).loc Cert.Kernel22Ideal.main_arg4)
          ∧ r.2.mem ((c.tc : Thread Cert.Kernel22Ideal.nD Cert.Kernel22Ideal.τ).loc Cert.Kernel22Ideal.main_arg5) = m ((c.tc : Thread Cert.Kernel22Ideal.nD Cert.Kernel22Ideal.τ).loc Cert.Kernel22Ideal.main_arg5)
          ∧ r.2.mem ((c.tc : Thread Cert.Kernel22Ideal.nD Cert.Kernel22Ideal.τ).loc Cert.Kernel22Ideal.main_arg6) = m ((c.tc : Thread Cert.Kernel22Ideal.nD Cert.Kernel22Ideal.τ).loc Cert.Kernel22Ideal.main_arg6)
          ∧ r.2.mem ((c.tc : Thread Cert.Kernel22Ideal.nD Cert.Kernel22Ideal.τ).loc Cert.Kernel22Ideal.main_arg7) = m ((c.tc : Thread Cert.Kernel22Ideal.nD Cert.Kernel22Ideal.τ).loc Cert.Kernel22Ideal.main_arg7)
          ∧ r.2.mem ((c.tc : Thread Cert.Kernel22Ideal.nD Cert.Kernel22Ideal.τ).loc Cert.Kernel22Ideal.main_arg8) = m ((c.tc : Thread Cert.Kernel22Ideal.nD Cert.Kernel22Ideal.τ).loc Cert.Kernel22Ideal.main_arg8)
          ∧ r.2.mem ((c.tc : Thread Cert.Kernel22Ideal.nD Cert.Kernel22Ideal.τ).loc Cert.Kernel22Ideal.main_arg9) = m ((c.tc : Thread Cert.Kernel22Ideal.nD Cert.Kernel22Ideal.τ).loc Cert.Kernel22Ideal.main_arg9)
          ∧ r.2.mem ((c.tc : Thread Cert.Kernel22Ideal.nD Cert.Kernel22Ideal.τ).loc Cert.Kernel22Ideal.main_arg10) = m ((c.tc : Thread Cert.Kernel22Ideal.nD Cert.Kernel22Ideal.τ).loc Cert.Kernel22Ideal.main_arg10)
          ∧ r.2.mem ((c.tc : Thread Cert.Kernel22Ideal.nD Cert.Kernel22Ideal.τ).loc Cert.Kernel22Ideal.main_arg11) = m ((c.tc : Thread Cert.Kernel22Ideal.nD Cert.Kernel22Ideal.τ).loc Cert.Kernel22Ideal.main_arg11)
          ∧ r.2.mem ((c.tc : Thread Cert.Kernel22Ideal.nD Cert.Kernel22Ideal.τ).loc Cert.Kernel22Ideal.main_arg12) = m ((c.tc : Thread Cert.Kernel22Ideal.nD Cert.Kernel22Ideal.τ).loc Cert.Kernel22Ideal.main_arg12)
          ∧ r.2.mem ((c.tc : Thread Cert.Kernel22Ideal.nD Cert.Kernel22Ideal.τ).loc Cert.Kernel22Ideal.main_arg13) = m ((c.tc : Thread Cert.Kernel22Ideal.nD Cert.Kernel22Ideal.τ).loc Cert.Kernel22Ideal.main_arg13)
          ∧ r.2.mem ((c.tc : Thread Cert.Kernel22Ideal.nD Cert.Kernel22Ideal.τ).loc Cert.Kernel22Ideal.main_arg14) = m ((c.tc : Thread Cert.Kernel22Ideal.nD Cert.Kernel22Ideal.τ).loc Cert.Kernel22Ideal.main_arg14)
          ∧ r.2.mem ((c.tc : Thread Cert.Kernel22Ideal.nD Cert.Kernel22Ideal.τ).loc Cert.Kernel22Ideal.main_arg15) = m ((c.tc : Thread Cert.Kernel22Ideal.nD Cert.Kernel22Ideal.τ).loc Cert.Kernel22Ideal.main_arg15)
          ∧ r.2.mem ((c.tc : Thread Cert.Kernel22Ideal.nD Cert.Kernel22Ideal.τ).loc Cert.Kernel22Ideal.main_arg16) = m ((c.tc : Thread Cert.Kernel22Ideal.nD Cert.Kernel22Ideal.τ).loc Cert.Kernel22Ideal.main_arg16)
          ∧ r.2.mem ((c.tc : Thread Cert.Kernel22Ideal.nD Cert.Kernel22Ideal.τ).loc Cert.Kernel22Ideal.main_arg17) = m ((c.tc : Thread Cert.Kernel22Ideal.nD Cert.Kernel22Ideal.τ).loc Cert.Kernel22Ideal.main_arg17)
          ∧ r.2.mem ((c.tc : Thread Cert.Kernel22Ideal.nD Cert.Kernel22Ideal.τ).loc Cert.Kernel22Ideal.main_arg18) = m ((c.tc : Thread Cert.Kernel22Ideal.nD Cert.Kernel22Ideal.τ).loc Cert.Kernel22Ideal.main_arg18)
          ∧ r.2.mem ((c.tc : Thread Cert.Kernel22Ideal.nD Cert.Kernel22Ideal.τ).loc Cert.Kernel22Ideal.main_arg19) = m ((c.tc : Thread Cert.Kernel22Ideal.nD Cert.Kernel22Ideal.τ).loc Cert.Kernel22Ideal.main_arg19)
          ∧ r.2.mem ((c.tc : Thread Cert.Kernel22Ideal.nD Cert.Kernel22Ideal.τ).loc Cert.Kernel22Ideal.main_arg20) = m ((c.tc : Thread Cert.Kernel22Ideal.nD Cert.Kernel22Ideal.τ).loc Cert.Kernel22Ideal.main_arg20)
          ∧ r.2.mem ((c.tc : Thread Cert.Kernel22Ideal.nD Cert.Kernel22Ideal.τ).loc Cert.Kernel22Ideal.main_arg21) = m ((c.tc : Thread Cert.Kernel22Ideal.nD Cert.Kernel22Ideal.τ).loc Cert.Kernel22Ideal.main_arg21)
          ∧ r.2.mem ((c.tc : Thread Cert.Kernel22Ideal.nD Cert.Kernel22Ideal.τ).loc Cert.Kernel22Ideal.main_arg22) = m ((c.tc : Thread Cert.Kernel22Ideal.nD Cert.Kernel22Ideal.τ).loc Cert.Kernel22Ideal.main_arg22)
          ∧ r.2.mem ((c.tc : Thread Cert.Kernel22Ideal.nD Cert.Kernel22Ideal.τ).loc Cert.Kernel22Ideal.main_arg23) = m ((c.tc : Thread Cert.Kernel22Ideal.nD Cert.Kernel22Ideal.τ).loc Cert.Kernel22Ideal.main_arg23)
          ∧ r.2.mem ((c.tc : Thread Cert.Kernel22Ideal.nD Cert.Kernel22Ideal.τ).loc Cert.Kernel22Ideal.main_arg24) = m ((c.tc : Thread Cert.Kernel22Ideal.nD Cert.Kernel22Ideal.τ).loc Cert.Kernel22Ideal.main_arg24)
          ∧ r.2.mem ((c.tc : Thread Cert.Kernel22Ideal.nD Cert.Kernel22Ideal.τ).loc Cert.Kernel22Ideal.main_arg25) = m ((c.tc : Thread Cert.Kernel22Ideal.nD Cert.Kernel22Ideal.τ).loc Cert.Kernel22Ideal.main_arg25)
          ∧ r.2.mem ((c.tc : Thread Cert.Kernel22Ideal.nD Cert.Kernel22Ideal.τ).loc Cert.Kernel22Ideal.main_arg26) = m ((c.tc : Thread Cert.Kernel22Ideal.nD Cert.Kernel22Ideal.τ).loc Cert.Kernel22Ideal.main_arg26)
          ∧ r.2.mem ((c.tc : Thread Cert.Kernel22Ideal.nD Cert.Kernel22Ideal.τ).loc Cert.Kernel22Ideal.main_arg27) = m ((c.tc : Thread Cert.Kernel22Ideal.nD Cert.Kernel22Ideal.τ).loc Cert.Kernel22Ideal.main_arg27)
          ∧ r.2.mem ((c.tc : Thread Cert.Kernel22Ideal.nD Cert.Kernel22Ideal.τ).loc Cert.Kernel22Ideal.main_arg28) = m ((c.tc : Thread Cert.Kernel22Ideal.nD Cert.Kernel22Ideal.τ).loc Cert.Kernel22Ideal.main_arg28)
          ∧ r.2.mem ((c.tc : Thread Cert.Kernel22Ideal.nD Cert.Kernel22Ideal.τ).loc Cert.Kernel22Ideal.main_arg29) = m ((c.tc : Thread Cert.Kernel22Ideal.nD Cert.Kernel22Ideal.τ).loc Cert.Kernel22Ideal.main_arg29)
          ∧ r.2.mem ((c.tc : Thread Cert.Kernel22Ideal.nD Cert.Kernel22Ideal.τ).loc Cert.Kernel22Ideal.main_arg30) = m ((c.tc : Thread Cert.Kernel22Ideal.nD Cert.Kernel22Ideal.τ).loc Cert.Kernel22Ideal.main_arg30)
          ∧ r.2.mem ((c.tc : Thread Cert.Kernel22Ideal.nD Cert.Kernel22Ideal.τ).loc Cert.Kernel22Ideal.main_arg31) = m ((c.tc : Thread Cert.Kernel22Ideal.nD Cert.Kernel22Ideal.τ).loc Cert.Kernel22Ideal.main_arg31)
          ∧ r.2.mem ((c.tc : Thread Cert.Kernel22Ideal.nD Cert.Kernel22Ideal.τ).loc Cert.Kernel22Ideal.main_arg32) = m ((c.tc : Thread Cert.Kernel22Ideal.nD Cert.Kernel22Ideal.τ).loc Cert.Kernel22Ideal.main_arg32)
          ∧ r.2.mem ((c.tc : Thread Cert.Kernel22Ideal.nD Cert.Kernel22Ideal.τ).loc Cert.Kernel22Ideal.main_arg33) = m ((c.tc : Thread Cert.Kernel22Ideal.nD Cert.Kernel22Ideal.τ).loc Cert.Kernel22Ideal.main_arg33)
          ∧ r.2.mem ((c.tc : Thread Cert.Kernel22Ideal.nD Cert.Kernel22Ideal.τ).loc Cert.Kernel22Ideal.main_arg34) = m ((c.tc : Thread Cert.Kernel22Ideal.nD Cert.Kernel22Ideal.τ).loc Cert.Kernel22Ideal.main_arg34)
          ∧ r.2.mem ((c.tc : Thread Cert.Kernel22Ideal.nD Cert.Kernel22Ideal.τ).loc Cert.Kernel22Ideal.main_arg35) = m ((c.tc : Thread Cert.Kernel22Ideal.nD Cert.Kernel22Ideal.τ).loc Cert.Kernel22Ideal.main_arg35)
          ∧ r.2.mem ((c.tc : Thread Cert.Kernel22Ideal.nD Cert.Kernel22Ideal.τ).loc Cert.Kernel22Ideal.main_arg36) = m ((c.tc : Thread Cert.Kernel22Ideal.nD Cert.Kernel22Ideal.τ).loc Cert.Kernel22Ideal.main_arg36)
          ∧ r.2.mem ((c.tc : Thread Cert.Kernel22Ideal.nD Cert.Kernel22Ideal.τ).loc Cert.Kernel22Ideal.main_arg37) = m ((c.tc : Thread Cert.Kernel22Ideal.nD Cert.Kernel22Ideal.τ).loc Cert.Kernel22Ideal.main_arg37)
          ∧ r.2.mem ((c.tc : Thread Cert.Kernel22Ideal.nD Cert.Kernel22Ideal.τ).loc Cert.Kernel22Ideal.main_arg38) = m ((c.tc : Thread Cert.Kernel22Ideal.nD Cert.Kernel22Ideal.τ).loc Cert.Kernel22Ideal.main_arg38)
          ∧ r.2.mem ((c.tc : Thread Cert.Kernel22Ideal.nD Cert.Kernel22Ideal.τ).loc Cert.Kernel22Ideal.main_arg39) = m ((c.tc : Thread Cert.Kernel22Ideal.nD Cert.Kernel22Ideal.τ).loc Cert.Kernel22Ideal.main_arg39)
          ∧ r.2.mem ((c.tc : Thread Cert.Kernel22Ideal.nD Cert.Kernel22Ideal.τ).loc Cert.Kernel22Ideal.main_arg40) = m ((c.tc : Thread Cert.Kernel22Ideal.nD Cert.Kernel22Ideal.τ).loc Cert.Kernel22Ideal.main_arg40)
          ∧ r.2.mem ((c.tc : Thread Cert.Kernel22Ideal.nD Cert.Kernel22Ideal.τ).loc Cert.Kernel22Ideal.main_arg41) = m ((c.tc : Thread Cert.Kernel22Ideal.nD Cert.Kernel22Ideal.τ).loc Cert.Kernel22Ideal.main_arg41)
          ∧ r.2.mem ((c.tc : Thread Cert.Kernel22Ideal.nD Cert.Kernel22Ideal.τ).loc Cert.Kernel22Ideal.main_arg42) = m ((c.tc : Thread Cert.Kernel22Ideal.nD Cert.Kernel22Ideal.τ).loc Cert.Kernel22Ideal.main_arg42)
          ∧ r.2.mem ((c.tc : Thread Cert.Kernel22Ideal.nD Cert.Kernel22Ideal.τ).loc Cert.Kernel22Ideal.main_arg43) = m ((c.tc : Thread Cert.Kernel22Ideal.nD Cert.Kernel22Ideal.τ).loc Cert.Kernel22Ideal.main_arg43)
          ∧ r.2.mem ((c.tc : Thread Cert.Kernel22Ideal.nD Cert.Kernel22Ideal.τ).loc Cert.Kernel22Ideal.main_arg44) = m ((c.tc : Thread Cert.Kernel22Ideal.nD Cert.Kernel22Ideal.τ).loc Cert.Kernel22Ideal.main_arg44)
          ∧ r.2.mem ((c.tc : Thread Cert.Kernel22Ideal.nD Cert.Kernel22Ideal.τ).loc Cert.Kernel22Ideal.main_arg45) = m ((c.tc : Thread Cert.Kernel22Ideal.nD Cert.Kernel22Ideal.τ).loc Cert.Kernel22Ideal.main_arg45)
          ∧ r.2.mem ((c.tc : Thread Cert.Kernel22Ideal.nD Cert.Kernel22Ideal.τ).loc Cert.Kernel22Ideal.main_arg46) = m ((c.tc : Thread Cert.Kernel22Ideal.nD Cert.Kernel22Ideal.τ).loc Cert.Kernel22Ideal.main_arg46)
          ∧ r.2.mem ((c.tc : Thread Cert.Kernel22Ideal.nD Cert.Kernel22Ideal.τ).loc Cert.Kernel22Ideal.main_arg47) = m ((c.tc : Thread Cert.Kernel22Ideal.nD Cert.Kernel22Ideal.τ).loc Cert.Kernel22Ideal.main_arg47)
          ∧ r.2.mem ((c.tc : Thread Cert.Kernel22Ideal.nD Cert.Kernel22Ideal.τ).loc Cert.Kernel22Ideal.main_arg48) = m ((c.tc : Thread Cert.Kernel22Ideal.nD Cert.Kernel22Ideal.τ).loc Cert.Kernel22Ideal.main_arg48)
          ∧ r.2.mem ((c.tc : Thread Cert.Kernel22Ideal.nD Cert.Kernel22Ideal.τ).loc Cert.Kernel22Ideal.main_arg49) = m ((c.tc : Thread Cert.Kernel22Ideal.nD Cert.Kernel22Ideal.τ).loc Cert.Kernel22Ideal.main_arg49)
          ∧ r.2.mem ((c.tc : Thread Cert.Kernel22Ideal.nD Cert.Kernel22Ideal.τ).loc Cert.Kernel22Ideal.main_arg50) = m ((c.tc : Thread Cert.Kernel22Ideal.nD Cert.Kernel22Ideal.τ).loc Cert.Kernel22Ideal.main_arg50)
          ∧ r.2.mem ((c.tc : Thread Cert.Kernel22Ideal.nD Cert.Kernel22Ideal.τ).loc Cert.Kernel22Ideal.main_arg51) = m ((c.tc : Thread Cert.Kernel22Ideal.nD Cert.Kernel22Ideal.τ).loc Cert.Kernel22Ideal.main_arg51)
          ∧ r.2.mem ((c.tc : Thread Cert.Kernel22Ideal.nD Cert.Kernel22Ideal.τ).loc Cert.Kernel22Ideal.main_arg52) = m ((c.tc : Thread Cert.Kernel22Ideal.nD Cert.Kernel22Ideal.τ).loc Cert.Kernel22Ideal.main_arg52)
          ∧ r.2.mem ((c.tc : Thread Cert.Kernel22Ideal.nD Cert.Kernel22Ideal.τ).loc Cert.Kernel22Ideal.main_arg53) = m ((c.tc : Thread Cert.Kernel22Ideal.nD Cert.Kernel22Ideal.τ).loc Cert.Kernel22Ideal.main_arg53)
          ∧ r.2.mem ((c.tc : Thread Cert.Kernel22Ideal.nD Cert.Kernel22Ideal.τ).loc Cert.Kernel22Ideal.main_arg54) = m ((c.tc : Thread Cert.Kernel22Ideal.nD Cert.Kernel22Ideal.τ).loc Cert.Kernel22Ideal.main_arg54)
          ∧ r.2.mem ((c.tc : Thread Cert.Kernel22Ideal.nD Cert.Kernel22Ideal.τ).loc Cert.Kernel22Ideal.main_arg55) = m ((c.tc : Thread Cert.Kernel22Ideal.nD Cert.Kernel22Ideal.τ).loc Cert.Kernel22Ideal.main_arg55))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v376) = v0 c
          ∧ r.2.mem ((c.tc : Thread Cert.Reference22Ideal.nD Cert.Reference22Ideal.τ).loc Cert.Reference22Ideal.main_v378) = v1 c
          ∧ r.2.mem ((c.tc : Thread Cert.Reference22Ideal.nD Cert.Reference22Ideal.τ).loc Cert.Reference22Ideal.main_v380) = v2 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2)
          ∧ r.2.mem ((c.tc : Thread Cert.Reference22Ideal.nD Cert.Reference22Ideal.τ).loc Cert.Reference22Ideal.main_arg3) = m' ((c.tc : Thread Cert.Reference22Ideal.nD Cert.Reference22Ideal.τ).loc Cert.Reference22Ideal.main_arg3)
          ∧ r.2.mem ((c.tc : Thread Cert.Reference22Ideal.nD Cert.Reference22Ideal.τ).loc Cert.Reference22Ideal.main_arg4) = m' ((c.tc : Thread Cert.Reference22Ideal.nD Cert.Reference22Ideal.τ).loc Cert.Reference22Ideal.main_arg4)
          ∧ r.2.mem ((c.tc : Thread Cert.Reference22Ideal.nD Cert.Reference22Ideal.τ).loc Cert.Reference22Ideal.main_arg5) = m' ((c.tc : Thread Cert.Reference22Ideal.nD Cert.Reference22Ideal.τ).loc Cert.Reference22Ideal.main_arg5)
          ∧ r.2.mem ((c.tc : Thread Cert.Reference22Ideal.nD Cert.Reference22Ideal.τ).loc Cert.Reference22Ideal.main_arg6) = m' ((c.tc : Thread Cert.Reference22Ideal.nD Cert.Reference22Ideal.τ).loc Cert.Reference22Ideal.main_arg6)
          ∧ r.2.mem ((c.tc : Thread Cert.Reference22Ideal.nD Cert.Reference22Ideal.τ).loc Cert.Reference22Ideal.main_arg7) = m' ((c.tc : Thread Cert.Reference22Ideal.nD Cert.Reference22Ideal.τ).loc Cert.Reference22Ideal.main_arg7)
          ∧ r.2.mem ((c.tc : Thread Cert.Reference22Ideal.nD Cert.Reference22Ideal.τ).loc Cert.Reference22Ideal.main_arg8) = m' ((c.tc : Thread Cert.Reference22Ideal.nD Cert.Reference22Ideal.τ).loc Cert.Reference22Ideal.main_arg8)
          ∧ r.2.mem ((c.tc : Thread Cert.Reference22Ideal.nD Cert.Reference22Ideal.τ).loc Cert.Reference22Ideal.main_arg9) = m' ((c.tc : Thread Cert.Reference22Ideal.nD Cert.Reference22Ideal.τ).loc Cert.Reference22Ideal.main_arg9)
          ∧ r.2.mem ((c.tc : Thread Cert.Reference22Ideal.nD Cert.Reference22Ideal.τ).loc Cert.Reference22Ideal.main_arg10) = m' ((c.tc : Thread Cert.Reference22Ideal.nD Cert.Reference22Ideal.τ).loc Cert.Reference22Ideal.main_arg10)
          ∧ r.2.mem ((c.tc : Thread Cert.Reference22Ideal.nD Cert.Reference22Ideal.τ).loc Cert.Reference22Ideal.main_arg11) = m' ((c.tc : Thread Cert.Reference22Ideal.nD Cert.Reference22Ideal.τ).loc Cert.Reference22Ideal.main_arg11)
          ∧ r.2.mem ((c.tc : Thread Cert.Reference22Ideal.nD Cert.Reference22Ideal.τ).loc Cert.Reference22Ideal.main_arg12) = m' ((c.tc : Thread Cert.Reference22Ideal.nD Cert.Reference22Ideal.τ).loc Cert.Reference22Ideal.main_arg12)
          ∧ r.2.mem ((c.tc : Thread Cert.Reference22Ideal.nD Cert.Reference22Ideal.τ).loc Cert.Reference22Ideal.main_arg13) = m' ((c.tc : Thread Cert.Reference22Ideal.nD Cert.Reference22Ideal.τ).loc Cert.Reference22Ideal.main_arg13)
          ∧ r.2.mem ((c.tc : Thread Cert.Reference22Ideal.nD Cert.Reference22Ideal.τ).loc Cert.Reference22Ideal.main_arg14) = m' ((c.tc : Thread Cert.Reference22Ideal.nD Cert.Reference22Ideal.τ).loc Cert.Reference22Ideal.main_arg14)
          ∧ r.2.mem ((c.tc : Thread Cert.Reference22Ideal.nD Cert.Reference22Ideal.τ).loc Cert.Reference22Ideal.main_arg15) = m' ((c.tc : Thread Cert.Reference22Ideal.nD Cert.Reference22Ideal.τ).loc Cert.Reference22Ideal.main_arg15)
          ∧ r.2.mem ((c.tc : Thread Cert.Reference22Ideal.nD Cert.Reference22Ideal.τ).loc Cert.Reference22Ideal.main_arg16) = m' ((c.tc : Thread Cert.Reference22Ideal.nD Cert.Reference22Ideal.τ).loc Cert.Reference22Ideal.main_arg16)
          ∧ r.2.mem ((c.tc : Thread Cert.Reference22Ideal.nD Cert.Reference22Ideal.τ).loc Cert.Reference22Ideal.main_arg17) = m' ((c.tc : Thread Cert.Reference22Ideal.nD Cert.Reference22Ideal.τ).loc Cert.Reference22Ideal.main_arg17)
          ∧ r.2.mem ((c.tc : Thread Cert.Reference22Ideal.nD Cert.Reference22Ideal.τ).loc Cert.Reference22Ideal.main_arg18) = m' ((c.tc : Thread Cert.Reference22Ideal.nD Cert.Reference22Ideal.τ).loc Cert.Reference22Ideal.main_arg18)
          ∧ r.2.mem ((c.tc : Thread Cert.Reference22Ideal.nD Cert.Reference22Ideal.τ).loc Cert.Reference22Ideal.main_arg19) = m' ((c.tc : Thread Cert.Reference22Ideal.nD Cert.Reference22Ideal.τ).loc Cert.Reference22Ideal.main_arg19)
          ∧ r.2.mem ((c.tc : Thread Cert.Reference22Ideal.nD Cert.Reference22Ideal.τ).loc Cert.Reference22Ideal.main_arg20) = m' ((c.tc : Thread Cert.Reference22Ideal.nD Cert.Reference22Ideal.τ).loc Cert.Reference22Ideal.main_arg20)
          ∧ r.2.mem ((c.tc : Thread Cert.Reference22Ideal.nD Cert.Reference22Ideal.τ).loc Cert.Reference22Ideal.main_arg21) = m' ((c.tc : Thread Cert.Reference22Ideal.nD Cert.Reference22Ideal.τ).loc Cert.Reference22Ideal.main_arg21)
          ∧ r.2.mem ((c.tc : Thread Cert.Reference22Ideal.nD Cert.Reference22Ideal.τ).loc Cert.Reference22Ideal.main_arg22) = m' ((c.tc : Thread Cert.Reference22Ideal.nD Cert.Reference22Ideal.τ).loc Cert.Reference22Ideal.main_arg22)
          ∧ r.2.mem ((c.tc : Thread Cert.Reference22Ideal.nD Cert.Reference22Ideal.τ).loc Cert.Reference22Ideal.main_arg23) = m' ((c.tc : Thread Cert.Reference22Ideal.nD Cert.Reference22Ideal.τ).loc Cert.Reference22Ideal.main_arg23)
          ∧ r.2.mem ((c.tc : Thread Cert.Reference22Ideal.nD Cert.Reference22Ideal.τ).loc Cert.Reference22Ideal.main_arg24) = m' ((c.tc : Thread Cert.Reference22Ideal.nD Cert.Reference22Ideal.τ).loc Cert.Reference22Ideal.main_arg24)
          ∧ r.2.mem ((c.tc : Thread Cert.Reference22Ideal.nD Cert.Reference22Ideal.τ).loc Cert.Reference22Ideal.main_arg25) = m' ((c.tc : Thread Cert.Reference22Ideal.nD Cert.Reference22Ideal.τ).loc Cert.Reference22Ideal.main_arg25)
          ∧ r.2.mem ((c.tc : Thread Cert.Reference22Ideal.nD Cert.Reference22Ideal.τ).loc Cert.Reference22Ideal.main_arg26) = m' ((c.tc : Thread Cert.Reference22Ideal.nD Cert.Reference22Ideal.τ).loc Cert.Reference22Ideal.main_arg26)
          ∧ r.2.mem ((c.tc : Thread Cert.Reference22Ideal.nD Cert.Reference22Ideal.τ).loc Cert.Reference22Ideal.main_arg27) = m' ((c.tc : Thread Cert.Reference22Ideal.nD Cert.Reference22Ideal.τ).loc Cert.Reference22Ideal.main_arg27)
          ∧ r.2.mem ((c.tc : Thread Cert.Reference22Ideal.nD Cert.Reference22Ideal.τ).loc Cert.Reference22Ideal.main_arg28) = m' ((c.tc : Thread Cert.Reference22Ideal.nD Cert.Reference22Ideal.τ).loc Cert.Reference22Ideal.main_arg28)
          ∧ r.2.mem ((c.tc : Thread Cert.Reference22Ideal.nD Cert.Reference22Ideal.τ).loc Cert.Reference22Ideal.main_arg29) = m' ((c.tc : Thread Cert.Reference22Ideal.nD Cert.Reference22Ideal.τ).loc Cert.Reference22Ideal.main_arg29)
          ∧ r.2.mem ((c.tc : Thread Cert.Reference22Ideal.nD Cert.Reference22Ideal.τ).loc Cert.Reference22Ideal.main_arg30) = m' ((c.tc : Thread Cert.Reference22Ideal.nD Cert.Reference22Ideal.τ).loc Cert.Reference22Ideal.main_arg30)
          ∧ r.2.mem ((c.tc : Thread Cert.Reference22Ideal.nD Cert.Reference22Ideal.τ).loc Cert.Reference22Ideal.main_arg31) = m' ((c.tc : Thread Cert.Reference22Ideal.nD Cert.Reference22Ideal.τ).loc Cert.Reference22Ideal.main_arg31)
          ∧ r.2.mem ((c.tc : Thread Cert.Reference22Ideal.nD Cert.Reference22Ideal.τ).loc Cert.Reference22Ideal.main_arg32) = m' ((c.tc : Thread Cert.Reference22Ideal.nD Cert.Reference22Ideal.τ).loc Cert.Reference22Ideal.main_arg32)
          ∧ r.2.mem ((c.tc : Thread Cert.Reference22Ideal.nD Cert.Reference22Ideal.τ).loc Cert.Reference22Ideal.main_arg33) = m' ((c.tc : Thread Cert.Reference22Ideal.nD Cert.Reference22Ideal.τ).loc Cert.Reference22Ideal.main_arg33)
          ∧ r.2.mem ((c.tc : Thread Cert.Reference22Ideal.nD Cert.Reference22Ideal.τ).loc Cert.Reference22Ideal.main_arg34) = m' ((c.tc : Thread Cert.Reference22Ideal.nD Cert.Reference22Ideal.τ).loc Cert.Reference22Ideal.main_arg34)
          ∧ r.2.mem ((c.tc : Thread Cert.Reference22Ideal.nD Cert.Reference22Ideal.τ).loc Cert.Reference22Ideal.main_arg35) = m' ((c.tc : Thread Cert.Reference22Ideal.nD Cert.Reference22Ideal.τ).loc Cert.Reference22Ideal.main_arg35)
          ∧ r.2.mem ((c.tc : Thread Cert.Reference22Ideal.nD Cert.Reference22Ideal.τ).loc Cert.Reference22Ideal.main_arg36) = m' ((c.tc : Thread Cert.Reference22Ideal.nD Cert.Reference22Ideal.τ).loc Cert.Reference22Ideal.main_arg36)
          ∧ r.2.mem ((c.tc : Thread Cert.Reference22Ideal.nD Cert.Reference22Ideal.τ).loc Cert.Reference22Ideal.main_arg37) = m' ((c.tc : Thread Cert.Reference22Ideal.nD Cert.Reference22Ideal.τ).loc Cert.Reference22Ideal.main_arg37)
          ∧ r.2.mem ((c.tc : Thread Cert.Reference22Ideal.nD Cert.Reference22Ideal.τ).loc Cert.Reference22Ideal.main_arg38) = m' ((c.tc : Thread Cert.Reference22Ideal.nD Cert.Reference22Ideal.τ).loc Cert.Reference22Ideal.main_arg38)
          ∧ r.2.mem ((c.tc : Thread Cert.Reference22Ideal.nD Cert.Reference22Ideal.τ).loc Cert.Reference22Ideal.main_arg39) = m' ((c.tc : Thread Cert.Reference22Ideal.nD Cert.Reference22Ideal.τ).loc Cert.Reference22Ideal.main_arg39)
          ∧ r.2.mem ((c.tc : Thread Cert.Reference22Ideal.nD Cert.Reference22Ideal.τ).loc Cert.Reference22Ideal.main_arg40) = m' ((c.tc : Thread Cert.Reference22Ideal.nD Cert.Reference22Ideal.τ).loc Cert.Reference22Ideal.main_arg40)
          ∧ r.2.mem ((c.tc : Thread Cert.Reference22Ideal.nD Cert.Reference22Ideal.τ).loc Cert.Reference22Ideal.main_arg41) = m' ((c.tc : Thread Cert.Reference22Ideal.nD Cert.Reference22Ideal.τ).loc Cert.Reference22Ideal.main_arg41)
          ∧ r.2.mem ((c.tc : Thread Cert.Reference22Ideal.nD Cert.Reference22Ideal.τ).loc Cert.Reference22Ideal.main_arg42) = m' ((c.tc : Thread Cert.Reference22Ideal.nD Cert.Reference22Ideal.τ).loc Cert.Reference22Ideal.main_arg42)
          ∧ r.2.mem ((c.tc : Thread Cert.Reference22Ideal.nD Cert.Reference22Ideal.τ).loc Cert.Reference22Ideal.main_arg43) = m' ((c.tc : Thread Cert.Reference22Ideal.nD Cert.Reference22Ideal.τ).loc Cert.Reference22Ideal.main_arg43)
          ∧ r.2.mem ((c.tc : Thread Cert.Reference22Ideal.nD Cert.Reference22Ideal.τ).loc Cert.Reference22Ideal.main_arg44) = m' ((c.tc : Thread Cert.Reference22Ideal.nD Cert.Reference22Ideal.τ).loc Cert.Reference22Ideal.main_arg44)
          ∧ r.2.mem ((c.tc : Thread Cert.Reference22Ideal.nD Cert.Reference22Ideal.τ).loc Cert.Reference22Ideal.main_arg45) = m' ((c.tc : Thread Cert.Reference22Ideal.nD Cert.Reference22Ideal.τ).loc Cert.Reference22Ideal.main_arg45)
          ∧ r.2.mem ((c.tc : Thread Cert.Reference22Ideal.nD Cert.Reference22Ideal.τ).loc Cert.Reference22Ideal.main_arg46) = m' ((c.tc : Thread Cert.Reference22Ideal.nD Cert.Reference22Ideal.τ).loc Cert.Reference22Ideal.main_arg46)
          ∧ r.2.mem ((c.tc : Thread Cert.Reference22Ideal.nD Cert.Reference22Ideal.τ).loc Cert.Reference22Ideal.main_arg47) = m' ((c.tc : Thread Cert.Reference22Ideal.nD Cert.Reference22Ideal.τ).loc Cert.Reference22Ideal.main_arg47)
          ∧ r.2.mem ((c.tc : Thread Cert.Reference22Ideal.nD Cert.Reference22Ideal.τ).loc Cert.Reference22Ideal.main_arg48) = m' ((c.tc : Thread Cert.Reference22Ideal.nD Cert.Reference22Ideal.τ).loc Cert.Reference22Ideal.main_arg48)
          ∧ r.2.mem ((c.tc : Thread Cert.Reference22Ideal.nD Cert.Reference22Ideal.τ).loc Cert.Reference22Ideal.main_arg49) = m' ((c.tc : Thread Cert.Reference22Ideal.nD Cert.Reference22Ideal.τ).loc Cert.Reference22Ideal.main_arg49)
          ∧ r.2.mem ((c.tc : Thread Cert.Reference22Ideal.nD Cert.Reference22Ideal.τ).loc Cert.Reference22Ideal.main_arg50) = m' ((c.tc : Thread Cert.Reference22Ideal.nD Cert.Reference22Ideal.τ).loc Cert.Reference22Ideal.main_arg50)
          ∧ r.2.mem ((c.tc : Thread Cert.Reference22Ideal.nD Cert.Reference22Ideal.τ).loc Cert.Reference22Ideal.main_arg51) = m' ((c.tc : Thread Cert.Reference22Ideal.nD Cert.Reference22Ideal.τ).loc Cert.Reference22Ideal.main_arg51)
          ∧ r.2.mem ((c.tc : Thread Cert.Reference22Ideal.nD Cert.Reference22Ideal.τ).loc Cert.Reference22Ideal.main_arg52) = m' ((c.tc : Thread Cert.Reference22Ideal.nD Cert.Reference22Ideal.τ).loc Cert.Reference22Ideal.main_arg52)
          ∧ r.2.mem ((c.tc : Thread Cert.Reference22Ideal.nD Cert.Reference22Ideal.τ).loc Cert.Reference22Ideal.main_arg53) = m' ((c.tc : Thread Cert.Reference22Ideal.nD Cert.Reference22Ideal.τ).loc Cert.Reference22Ideal.main_arg53)
          ∧ r.2.mem ((c.tc : Thread Cert.Reference22Ideal.nD Cert.Reference22Ideal.τ).loc Cert.Reference22Ideal.main_arg54) = m' ((c.tc : Thread Cert.Reference22Ideal.nD Cert.Reference22Ideal.τ).loc Cert.Reference22Ideal.main_arg54)
          ∧ r.2.mem ((c.tc : Thread Cert.Reference22Ideal.nD Cert.Reference22Ideal.τ).loc Cert.Reference22Ideal.main_arg55) = m' ((c.tc : Thread Cert.Reference22Ideal.nD Cert.Reference22Ideal.τ).loc Cert.Reference22Ideal.main_arg55))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)
      ∧ m' ((c.tc : Thread Cert.Reference23Ideal.nD Cert.Reference23Ideal.τ).loc Cert.Reference23Ideal.main_arg2) = m ((c.tc : Thread Cert.Kernel23Ideal.nD Cert.Kernel23Ideal.τ).loc Cert.Kernel23Ideal.main_arg2)
      ∧ m' ((c.tc : Thread Cert.Reference23Ideal.nD Cert.Reference23Ideal.τ).loc Cert.Reference23Ideal.main_arg3) = m ((c.tc : Thread Cert.Kernel23Ideal.nD Cert.Kernel23Ideal.τ).loc Cert.Kernel23Ideal.main_arg3)
      ∧ m' ((c.tc : Thread Cert.Reference23Ideal.nD Cert.Reference23Ideal.τ).loc Cert.Reference23Ideal.main_arg4) = m ((c.tc : Thread Cert.Kernel23Ideal.nD Cert.Kernel23Ideal.τ).loc Cert.Kernel23Ideal.main_arg4)) →
    ∃ (v0 : (c : Dev Cert.Kernel23Ideal.nD) → Buf (Elt Ideal) ((c.tc : Thread Cert.Kernel23Ideal.nD Cert.Kernel23Ideal.τ).loc Cert.Kernel23Ideal.main_v1)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v1) = v0 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
          ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
          ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3)
          ∧ r.2.mem ((c.tc : Thread Cert.Kernel23Ideal.nD Cert.Kernel23Ideal.τ).loc Cert.Kernel23Ideal.main_arg4) = m ((c.tc : Thread Cert.Kernel23Ideal.nD Cert.Kernel23Ideal.τ).loc Cert.Kernel23Ideal.main_arg4))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v31) = v0 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1)
          ∧ r.2.mem ((c.tc : Thread Cert.Reference23Ideal.nD Cert.Reference23Ideal.τ).loc Cert.Reference23Ideal.main_arg2) = m' ((c.tc : Thread Cert.Reference23Ideal.nD Cert.Reference23Ideal.τ).loc Cert.Reference23Ideal.main_arg2)
          ∧ r.2.mem ((c.tc : Thread Cert.Reference23Ideal.nD Cert.Reference23Ideal.τ).loc Cert.Reference23Ideal.main_arg3) = m' ((c.tc : Thread Cert.Reference23Ideal.nD Cert.Reference23Ideal.τ).loc Cert.Reference23Ideal.main_arg3)
          ∧ r.2.mem ((c.tc : Thread Cert.Reference23Ideal.nD Cert.Reference23Ideal.τ).loc Cert.Reference23Ideal.main_arg4) = m' ((c.tc : Thread Cert.Reference23Ideal.nD Cert.Reference23Ideal.τ).loc Cert.Reference23Ideal.main_arg4))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)) →
    ∃ (v0 : (c : Dev Cert.Kernel24Ideal.nD) → Buf (Elt Ideal) ((c.tc : Thread Cert.Kernel24Ideal.nD Cert.Kernel24Ideal.τ).loc Cert.Kernel24Ideal.main_v0)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v0) = v0 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v3) = v0 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)) →
    ∃ (v0 : (c : Dev Cert.Kernel25Ideal.nD) → Buf (Elt Ideal) ((c.tc : Thread Cert.Kernel25Ideal.nD Cert.Kernel25Ideal.τ).loc Cert.Kernel25Ideal.main_v1)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v1) = v0 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v1) = v0 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0))

def preserves_Kernel26_Kernel26Ideal : Prop :=
  True

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)) →
    ∃ (v0 : (c : Dev Cert.Kernel26Ideal.nD) → Buf (Elt Ideal) ((c.tc : Thread Cert.Kernel26Ideal.nD Cert.Kernel26Ideal.τ).loc Cert.Kernel26Ideal.main_v0)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v0) = v0 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v0) = v0 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0))

def preserves_Kernel27_Kernel27Ideal : Prop :=
  True

def algebraic_Kernel27Ideal_Reference27Ideal [hKernel27Ideal : Cert.Kernel27Ideal.Facts] [hReference27Ideal : Cert.Reference27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg)
    (m' : (ℓ : Loc Cert.Reference27Ideal.nD Cert.Reference27Ideal.τ Cert.Reference27Ideal.sig) → Buf (Elt Ideal) ℓ) (g' : Dev Cert.Reference27Ideal.nD → PrngReg), Pre_Kernel27Ideal m →
    (∀ c : Dev Cert.Kernel27Ideal.nD,
      m' ((c.tc : Thread Cert.Reference27Ideal.nD Cert.Reference27Ideal.τ).loc Cert.Reference27Ideal.main_arg0) = m ((c.tc : Thread Cert.Kernel27Ideal.nD Cert.Kernel27Ideal.τ).loc Cert.Kernel27Ideal.main_arg0)
      ∧ m' ((c.tc : Thread Cert.Reference27Ideal.nD Cert.Reference27Ideal.τ).loc Cert.Reference27Ideal.main_arg1) = m ((c.tc : Thread Cert.Kernel27Ideal.nD Cert.Kernel27Ideal.τ).loc Cert.Kernel27Ideal.main_arg1)) →
    ∃ (v0 : (c : Dev Cert.Kernel27Ideal.nD) → Buf (Elt Ideal) ((c.tc : Thread Cert.Kernel27Ideal.nD Cert.Kernel27Ideal.τ).loc Cert.Kernel27Ideal.main_v0)),
      θ_run (Cert.Kernel27Ideal.defs (F := Ideal)) (onTc (τ := Cert.Kernel27Ideal.τ) (Cert.Kernel27Ideal.main (F := Ideal))) ⟨m, fun _ => 0, g⟩ (fun r => ∀ c : Dev Cert.Kernel27Ideal.nD,
          r.2.mem ((c.tc : Thread Cert.Kernel27Ideal.nD Cert.Kernel27Ideal.τ).loc Cert.Kernel27Ideal.main_v0) = v0 c
          ∧ r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
          ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1))
      ∧ θ_run (Cert.Reference27Ideal.defs (F := Ideal)) (onTc (τ := Cert.Reference27Ideal.τ) (Cert.Reference27Ideal.main (F := Ideal))) ⟨m', fun _ => 0, g'⟩ (fun r => ∀ c : Dev Cert.Reference27Ideal.nD,
          r.2.mem ((c.tc : Thread Cert.Reference27Ideal.nD Cert.Reference27Ideal.τ).loc Cert.Reference27Ideal.main_v2) = v0 c
          ∧ r.2.mem ((c.tc : Thread Cert.Reference27Ideal.nD Cert.Reference27Ideal.τ).loc Cert.Reference27Ideal.main_arg0) = m' ((c.tc : Thread Cert.Reference27Ideal.nD Cert.Reference27Ideal.τ).loc Cert.Reference27Ideal.main_arg0)
          ∧ r.2.mem ((c.tc : Thread Cert.Reference27Ideal.nD Cert.Reference27Ideal.τ).loc Cert.Reference27Ideal.main_arg1) = m' ((c.tc : Thread Cert.Reference27Ideal.nD Cert.Reference27Ideal.τ).loc Cert.Reference27Ideal.main_arg1))

def preserves_Kernel28_Kernel28Ideal : Prop :=
  True

def algebraic_Kernel28Ideal_Reference28Ideal [hKernel28Ideal : Cert.Kernel28Ideal.Facts] [hReference28Ideal : Cert.Reference28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg)
    (m' : (ℓ : Loc Cert.Reference28Ideal.nD Cert.Reference28Ideal.τ Cert.Reference28Ideal.sig) → Buf (Elt Ideal) ℓ) (g' : Dev Cert.Reference28Ideal.nD → PrngReg), Pre_Kernel28Ideal m →
    (∀ c : Dev Cert.Kernel28Ideal.nD,
      m' ((c.tc : Thread Cert.Reference28Ideal.nD Cert.Reference28Ideal.τ).loc Cert.Reference28Ideal.main_arg0) = m ((c.tc : Thread Cert.Kernel28Ideal.nD Cert.Kernel28Ideal.τ).loc Cert.Kernel28Ideal.main_arg0)
      ∧ m' ((c.tc : Thread Cert.Reference28Ideal.nD Cert.Reference28Ideal.τ).loc Cert.Reference28Ideal.main_arg1) = m ((c.tc : Thread Cert.Kernel28Ideal.nD Cert.Kernel28Ideal.τ).loc Cert.Kernel28Ideal.main_arg1)
      ∧ m' ((c.tc : Thread Cert.Reference28Ideal.nD Cert.Reference28Ideal.τ).loc Cert.Reference28Ideal.main_arg2) = m ((c.tc : Thread Cert.Kernel28Ideal.nD Cert.Kernel28Ideal.τ).loc Cert.Kernel28Ideal.main_arg2)
      ∧ m' ((c.tc : Thread Cert.Reference28Ideal.nD Cert.Reference28Ideal.τ).loc Cert.Reference28Ideal.main_arg3) = m ((c.tc : Thread Cert.Kernel28Ideal.nD Cert.Kernel28Ideal.τ).loc Cert.Kernel28Ideal.main_arg3)
      ∧ m' ((c.tc : Thread Cert.Reference28Ideal.nD Cert.Reference28Ideal.τ).loc Cert.Reference28Ideal.main_arg4) = m ((c.tc : Thread Cert.Kernel28Ideal.nD Cert.Kernel28Ideal.τ).loc Cert.Kernel28Ideal.main_arg4)
      ∧ m' ((c.tc : Thread Cert.Reference28Ideal.nD Cert.Reference28Ideal.τ).loc Cert.Reference28Ideal.main_arg5) = m ((c.tc : Thread Cert.Kernel28Ideal.nD Cert.Kernel28Ideal.τ).loc Cert.Kernel28Ideal.main_arg5)
      ∧ m' ((c.tc : Thread Cert.Reference28Ideal.nD Cert.Reference28Ideal.τ).loc Cert.Reference28Ideal.main_arg6) = m ((c.tc : Thread Cert.Kernel28Ideal.nD Cert.Kernel28Ideal.τ).loc Cert.Kernel28Ideal.main_arg6)
      ∧ m' ((c.tc : Thread Cert.Reference28Ideal.nD Cert.Reference28Ideal.τ).loc Cert.Reference28Ideal.main_arg7) = m ((c.tc : Thread Cert.Kernel28Ideal.nD Cert.Kernel28Ideal.τ).loc Cert.Kernel28Ideal.main_arg7)) →
    ∃ (v0 : (c : Dev Cert.Kernel28Ideal.nD) → Buf (Elt Ideal) ((c.tc : Thread Cert.Kernel28Ideal.nD Cert.Kernel28Ideal.τ).loc Cert.Kernel28Ideal.main_v0_0)) (v1 : (c : Dev Cert.Kernel28Ideal.nD) → Buf (Elt Ideal) ((c.tc : Thread Cert.Kernel28Ideal.nD Cert.Kernel28Ideal.τ).loc Cert.Kernel28Ideal.main_v0_1)) (v2 : (c : Dev Cert.Kernel28Ideal.nD) → Buf (Elt Ideal) ((c.tc : Thread Cert.Kernel28Ideal.nD Cert.Kernel28Ideal.τ).loc Cert.Kernel28Ideal.main_v0_2)) (v3 : (c : Dev Cert.Kernel28Ideal.nD) → Buf (Elt Ideal) ((c.tc : Thread Cert.Kernel28Ideal.nD Cert.Kernel28Ideal.τ).loc Cert.Kernel28Ideal.main_v0_3)) (v4 : (c : Dev Cert.Kernel28Ideal.nD) → Buf (Elt Ideal) ((c.tc : Thread Cert.Kernel28Ideal.nD Cert.Kernel28Ideal.τ).loc Cert.Kernel28Ideal.main_v0_4)) (v5 : (c : Dev Cert.Kernel28Ideal.nD) → Buf (Elt Ideal) ((c.tc : Thread Cert.Kernel28Ideal.nD Cert.Kernel28Ideal.τ).loc Cert.Kernel28Ideal.main_v0_5)),
      θ_run (Cert.Kernel28Ideal.defs (F := Ideal)) (onTc (τ := Cert.Kernel28Ideal.τ) (Cert.Kernel28Ideal.main (F := Ideal))) ⟨m, fun _ => 0, g⟩ (fun r => ∀ c : Dev Cert.Kernel28Ideal.nD,
          r.2.mem ((c.tc : Thread Cert.Kernel28Ideal.nD Cert.Kernel28Ideal.τ).loc Cert.Kernel28Ideal.main_v0_0) = v0 c
          ∧ r.2.mem ((c.tc : Thread Cert.Kernel28Ideal.nD Cert.Kernel28Ideal.τ).loc Cert.Kernel28Ideal.main_v0_1) = v1 c
          ∧ r.2.mem ((c.tc : Thread Cert.Kernel28Ideal.nD Cert.Kernel28Ideal.τ).loc Cert.Kernel28Ideal.main_v0_2) = v2 c
          ∧ r.2.mem ((c.tc : Thread Cert.Kernel28Ideal.nD Cert.Kernel28Ideal.τ).loc Cert.Kernel28Ideal.main_v0_3) = v3 c
          ∧ r.2.mem ((c.tc : Thread Cert.Kernel28Ideal.nD Cert.Kernel28Ideal.τ).loc Cert.Kernel28Ideal.main_v0_4) = v4 c
          ∧ r.2.mem ((c.tc : Thread Cert.Kernel28Ideal.nD Cert.Kernel28Ideal.τ).loc Cert.Kernel28Ideal.main_v0_5) = v5 c
          ∧ r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
          ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
          ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2)
          ∧ r.2.mem ((c.tc : Thread Cert.Kernel28Ideal.nD Cert.Kernel28Ideal.τ).loc Cert.Kernel28Ideal.main_arg3) = m ((c.tc : Thread Cert.Kernel28Ideal.nD Cert.Kernel28Ideal.τ).loc Cert.Kernel28Ideal.main_arg3)
          ∧ r.2.mem ((c.tc : Thread Cert.Kernel28Ideal.nD Cert.Kernel28Ideal.τ).loc Cert.Kernel28Ideal.main_arg4) = m ((c.tc : Thread Cert.Kernel28Ideal.nD Cert.Kernel28Ideal.τ).loc Cert.Kernel28Ideal.main_arg4)
          ∧ r.2.mem ((c.tc : Thread Cert.Kernel28Ideal.nD Cert.Kernel28Ideal.τ).loc Cert.Kernel28Ideal.main_arg5) = m ((c.tc : Thread Cert.Kernel28Ideal.nD Cert.Kernel28Ideal.τ).loc Cert.Kernel28Ideal.main_arg5)
          ∧ r.2.mem ((c.tc : Thread Cert.Kernel28Ideal.nD Cert.Kernel28Ideal.τ).loc Cert.Kernel28Ideal.main_arg6) = m ((c.tc : Thread Cert.Kernel28Ideal.nD Cert.Kernel28Ideal.τ).loc Cert.Kernel28Ideal.main_arg6)
          ∧ r.2.mem ((c.tc : Thread Cert.Kernel28Ideal.nD Cert.Kernel28Ideal.τ).loc Cert.Kernel28Ideal.main_arg7) = m ((c.tc : Thread Cert.Kernel28Ideal.nD Cert.Kernel28Ideal.τ).loc Cert.Kernel28Ideal.main_arg7))
      ∧ θ_run (Cert.Reference28Ideal.defs (F := Ideal)) (onTc (τ := Cert.Reference28Ideal.τ) (Cert.Reference28Ideal.main (F := Ideal))) ⟨m', fun _ => 0, g'⟩ (fun r => ∀ c : Dev Cert.Reference28Ideal.nD,
          r.2.mem ((c.tc : Thread Cert.Reference28Ideal.nD Cert.Reference28Ideal.τ).loc Cert.Reference28Ideal.main_v72) = v0 c
          ∧ r.2.mem ((c.tc : Thread Cert.Reference28Ideal.nD Cert.Reference28Ideal.τ).loc Cert.Reference28Ideal.main_v74) = v1 c
          ∧ r.2.mem ((c.tc : Thread Cert.Reference28Ideal.nD Cert.Reference28Ideal.τ).loc Cert.Reference28Ideal.main_v75) = v2 c
          ∧ r.2.mem ((c.tc : Thread Cert.Reference28Ideal.nD Cert.Reference28Ideal.τ).loc Cert.Reference28Ideal.main_v76) = v3 c
          ∧ r.2.mem ((c.tc : Thread Cert.Reference28Ideal.nD Cert.Reference28Ideal.τ).loc Cert.Reference28Ideal.main_v77) = v4 c
          ∧ r.2.mem ((c.tc : Thread Cert.Reference28Ideal.nD Cert.Reference28Ideal.τ).loc Cert.Reference28Ideal.main_v78) = v5 c
          ∧ r.2.mem ((c.tc : Thread Cert.Reference28Ideal.nD Cert.Reference28Ideal.τ).loc Cert.Reference28Ideal.main_arg0) = m' ((c.tc : Thread Cert.Reference28Ideal.nD Cert.Reference28Ideal.τ).loc Cert.Reference28Ideal.main_arg0)
          ∧ r.2.mem ((c.tc : Thread Cert.Reference28Ideal.nD Cert.Reference28Ideal.τ).loc Cert.Reference28Ideal.main_arg1) = m' ((c.tc : Thread Cert.Reference28Ideal.nD Cert.Reference28Ideal.τ).loc Cert.Reference28Ideal.main_arg1)
          ∧ r.2.mem ((c.tc : Thread Cert.Reference28Ideal.nD Cert.Reference28Ideal.τ).loc Cert.Reference28Ideal.main_arg2) = m' ((c.tc : Thread Cert.Reference28Ideal.nD Cert.Reference28Ideal.τ).loc Cert.Reference28Ideal.main_arg2)
          ∧ r.2.mem ((c.tc : Thread Cert.Reference28Ideal.nD Cert.Reference28Ideal.τ).loc Cert.Reference28Ideal.main_arg3) = m' ((c.tc : Thread Cert.Reference28Ideal.nD Cert.Reference28Ideal.τ).loc Cert.Reference28Ideal.main_arg3)
          ∧ r.2.mem ((c.tc : Thread Cert.Reference28Ideal.nD Cert.Reference28Ideal.τ).loc Cert.Reference28Ideal.main_arg4) = m' ((c.tc : Thread Cert.Reference28Ideal.nD Cert.Reference28Ideal.τ).loc Cert.Reference28Ideal.main_arg4)
          ∧ r.2.mem ((c.tc : Thread Cert.Reference28Ideal.nD Cert.Reference28Ideal.τ).loc Cert.Reference28Ideal.main_arg5) = m' ((c.tc : Thread Cert.Reference28Ideal.nD Cert.Reference28Ideal.τ).loc Cert.Reference28Ideal.main_arg5)
          ∧ r.2.mem ((c.tc : Thread Cert.Reference28Ideal.nD Cert.Reference28Ideal.τ).loc Cert.Reference28Ideal.main_arg6) = m' ((c.tc : Thread Cert.Reference28Ideal.nD Cert.Reference28Ideal.τ).loc Cert.Reference28Ideal.main_arg6)
          ∧ r.2.mem ((c.tc : Thread Cert.Reference28Ideal.nD Cert.Reference28Ideal.τ).loc Cert.Reference28Ideal.main_arg7) = m' ((c.tc : Thread Cert.Reference28Ideal.nD Cert.Reference28Ideal.τ).loc Cert.Reference28Ideal.main_arg7))

def preserves_Kernel29_Kernel29Ideal : Prop :=
  True

def algebraic_Kernel29Ideal_Reference29Ideal [hKernel29Ideal : Cert.Kernel29Ideal.Facts] [hReference29Ideal : Cert.Reference29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg)
    (m' : (ℓ : Loc Cert.Reference29Ideal.nD Cert.Reference29Ideal.τ Cert.Reference29Ideal.sig) → Buf (Elt Ideal) ℓ) (g' : Dev Cert.Reference29Ideal.nD → PrngReg), Pre_Kernel29Ideal m →
    (∀ c : Dev Cert.Kernel29Ideal.nD,
      m' ((c.tc : Thread Cert.Reference29Ideal.nD Cert.Reference29Ideal.τ).loc Cert.Reference29Ideal.main_arg0) = m ((c.tc : Thread Cert.Kernel29Ideal.nD Cert.Kernel29Ideal.τ).loc Cert.Kernel29Ideal.main_arg0)
      ∧ m' ((c.tc : Thread Cert.Reference29Ideal.nD Cert.Reference29Ideal.τ).loc Cert.Reference29Ideal.main_arg1) = m ((c.tc : Thread Cert.Kernel29Ideal.nD Cert.Kernel29Ideal.τ).loc Cert.Kernel29Ideal.main_arg1)) →
    ∃ (v0 : (c : Dev Cert.Kernel29Ideal.nD) → Buf (Elt Ideal) ((c.tc : Thread Cert.Kernel29Ideal.nD Cert.Kernel29Ideal.τ).loc Cert.Kernel29Ideal.main_v0_0)) (v1 : (c : Dev Cert.Kernel29Ideal.nD) → Buf (Elt Ideal) ((c.tc : Thread Cert.Kernel29Ideal.nD Cert.Kernel29Ideal.τ).loc Cert.Kernel29Ideal.main_v0_1)),
      θ_run (Cert.Kernel29Ideal.defs (F := Ideal)) (onTc (τ := Cert.Kernel29Ideal.τ) (Cert.Kernel29Ideal.main (F := Ideal))) ⟨m, fun _ => 0, g⟩ (fun r => ∀ c : Dev Cert.Kernel29Ideal.nD,
          r.2.mem ((c.tc : Thread Cert.Kernel29Ideal.nD Cert.Kernel29Ideal.τ).loc Cert.Kernel29Ideal.main_v0_0) = v0 c
          ∧ r.2.mem ((c.tc : Thread Cert.Kernel29Ideal.nD Cert.Kernel29Ideal.τ).loc Cert.Kernel29Ideal.main_v0_1) = v1 c
          ∧ r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
          ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1))
      ∧ θ_run (Cert.Reference29Ideal.defs (F := Ideal)) (onTc (τ := Cert.Reference29Ideal.τ) (Cert.Reference29Ideal.main (F := Ideal))) ⟨m', fun _ => 0, g'⟩ (fun r => ∀ c : Dev Cert.Reference29Ideal.nD,
          r.2.mem ((c.tc : Thread Cert.Reference29Ideal.nD Cert.Reference29Ideal.τ).loc Cert.Reference29Ideal.main_v15) = v0 c
          ∧ r.2.mem ((c.tc : Thread Cert.Reference29Ideal.nD Cert.Reference29Ideal.τ).loc Cert.Reference29Ideal.main_v16) = v1 c
          ∧ r.2.mem ((c.tc : Thread Cert.Reference29Ideal.nD Cert.Reference29Ideal.τ).loc Cert.Reference29Ideal.main_arg0) = m' ((c.tc : Thread Cert.Reference29Ideal.nD Cert.Reference29Ideal.τ).loc Cert.Reference29Ideal.main_arg0)
          ∧ r.2.mem ((c.tc : Thread Cert.Reference29Ideal.nD Cert.Reference29Ideal.τ).loc Cert.Reference29Ideal.main_arg1) = m' ((c.tc : Thread Cert.Reference29Ideal.nD Cert.Reference29Ideal.τ).loc Cert.Reference29Ideal.main_arg1))

def preserves_Kernel30_Kernel30Ideal : Prop :=
  True

def algebraic_Kernel30Ideal_Reference30Ideal [hKernel30Ideal : Cert.Kernel30Ideal.Facts] [hReference30Ideal : Cert.Reference30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg)
    (m' : (ℓ : Loc Cert.Reference30Ideal.nD Cert.Reference30Ideal.τ Cert.Reference30Ideal.sig) → Buf (Elt Ideal) ℓ) (g' : Dev Cert.Reference30Ideal.nD → PrngReg), Pre_Kernel30Ideal m →
    (∀ c : Dev Cert.Kernel30Ideal.nD,
      m' ((c.tc : Thread Cert.Reference30Ideal.nD Cert.Reference30Ideal.τ).loc Cert.Reference30Ideal.main_arg0) = m ((c.tc : Thread Cert.Kernel30Ideal.nD Cert.Kernel30Ideal.τ).loc Cert.Kernel30Ideal.main_arg0)
      ∧ m' ((c.tc : Thread Cert.Reference30Ideal.nD Cert.Reference30Ideal.τ).loc Cert.Reference30Ideal.main_arg1) = m ((c.tc : Thread Cert.Kernel30Ideal.nD Cert.Kernel30Ideal.τ).loc Cert.Kernel30Ideal.main_arg1)
      ∧ m' ((c.tc : Thread Cert.Reference30Ideal.nD Cert.Reference30Ideal.τ).loc Cert.Reference30Ideal.main_arg2) = m ((c.tc : Thread Cert.Kernel30Ideal.nD Cert.Kernel30Ideal.τ).loc Cert.Kernel30Ideal.main_arg2)) →
    ∃ (v0 : (c : Dev Cert.Kernel30Ideal.nD) → Buf (Elt Ideal) ((c.tc : Thread Cert.Kernel30Ideal.nD Cert.Kernel30Ideal.τ).loc Cert.Kernel30Ideal.main_v0_0)) (v1 : (c : Dev Cert.Kernel30Ideal.nD) → Buf (Elt Ideal) ((c.tc : Thread Cert.Kernel30Ideal.nD Cert.Kernel30Ideal.τ).loc Cert.Kernel30Ideal.main_v0_1)),
      θ_run (Cert.Kernel30Ideal.defs (F := Ideal)) (onTc (τ := Cert.Kernel30Ideal.τ) (Cert.Kernel30Ideal.main (F := Ideal))) ⟨m, fun _ => 0, g⟩ (fun r => ∀ c : Dev Cert.Kernel30Ideal.nD,
          r.2.mem ((c.tc : Thread Cert.Kernel30Ideal.nD Cert.Kernel30Ideal.τ).loc Cert.Kernel30Ideal.main_v0_0) = v0 c
          ∧ r.2.mem ((c.tc : Thread Cert.Kernel30Ideal.nD Cert.Kernel30Ideal.τ).loc Cert.Kernel30Ideal.main_v0_1) = v1 c
          ∧ r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
          ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1)
          ∧ r.2.mem ((c.tc : Thread Cert.Kernel30Ideal.nD Cert.Kernel30Ideal.τ).loc Cert.Kernel30Ideal.main_arg2) = m ((c.tc : Thread Cert.Kernel30Ideal.nD Cert.Kernel30Ideal.τ).loc Cert.Kernel30Ideal.main_arg2))
      ∧ θ_run (Cert.Reference30Ideal.defs (F := Ideal)) (onTc (τ := Cert.Reference30Ideal.τ) (Cert.Reference30Ideal.main (F := Ideal))) ⟨m', fun _ => 0, g'⟩ (fun r => ∀ c : Dev Cert.Reference30Ideal.nD,
          r.2.mem ((c.tc : Thread Cert.Reference30Ideal.nD Cert.Reference30Ideal.τ).loc Cert.Reference30Ideal.main_v38) = v0 c
          ∧ r.2.mem ((c.tc : Thread Cert.Reference30Ideal.nD Cert.Reference30Ideal.τ).loc Cert.Reference30Ideal.main_v39) = v1 c
          ∧ r.2.mem ((c.tc : Thread Cert.Reference30Ideal.nD Cert.Reference30Ideal.τ).loc Cert.Reference30Ideal.main_arg0) = m' ((c.tc : Thread Cert.Reference30Ideal.nD Cert.Reference30Ideal.τ).loc Cert.Reference30Ideal.main_arg0)
          ∧ r.2.mem ((c.tc : Thread Cert.Reference30Ideal.nD Cert.Reference30Ideal.τ).loc Cert.Reference30Ideal.main_arg1) = m' ((c.tc : Thread Cert.Reference30Ideal.nD Cert.Reference30Ideal.τ).loc Cert.Reference30Ideal.main_arg1)
          ∧ r.2.mem ((c.tc : Thread Cert.Reference30Ideal.nD Cert.Reference30Ideal.τ).loc Cert.Reference30Ideal.main_arg2) = m' ((c.tc : Thread Cert.Reference30Ideal.nD Cert.Reference30Ideal.τ).loc Cert.Reference30Ideal.main_arg2))

def preserves_Kernel31_Kernel31Ideal : Prop :=
  True

def algebraic_Kernel31Ideal_Reference31Ideal [hKernel31Ideal : Cert.Kernel31Ideal.Facts] [hReference31Ideal : Cert.Reference31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg)
    (m' : (ℓ : Loc Cert.Reference31Ideal.nD Cert.Reference31Ideal.τ Cert.Reference31Ideal.sig) → Buf (Elt Ideal) ℓ) (g' : Dev Cert.Reference31Ideal.nD → PrngReg), Pre_Kernel31Ideal m →
    (∀ c : Dev Cert.Kernel31Ideal.nD,
      m' ((c.tc : Thread Cert.Reference31Ideal.nD Cert.Reference31Ideal.τ).loc Cert.Reference31Ideal.main_arg0) = m ((c.tc : Thread Cert.Kernel31Ideal.nD Cert.Kernel31Ideal.τ).loc Cert.Kernel31Ideal.main_arg0)
      ∧ m' ((c.tc : Thread Cert.Reference31Ideal.nD Cert.Reference31Ideal.τ).loc Cert.Reference31Ideal.main_arg1) = m ((c.tc : Thread Cert.Kernel31Ideal.nD Cert.Kernel31Ideal.τ).loc Cert.Kernel31Ideal.main_arg1)
      ∧ m' ((c.tc : Thread Cert.Reference31Ideal.nD Cert.Reference31Ideal.τ).loc Cert.Reference31Ideal.main_arg2) = m ((c.tc : Thread Cert.Kernel31Ideal.nD Cert.Kernel31Ideal.τ).loc Cert.Kernel31Ideal.main_arg2)
      ∧ m' ((c.tc : Thread Cert.Reference31Ideal.nD Cert.Reference31Ideal.τ).loc Cert.Reference31Ideal.main_arg3) = m ((c.tc : Thread Cert.Kernel31Ideal.nD Cert.Kernel31Ideal.τ).loc Cert.Kernel31Ideal.main_arg3)) →
    ∃ (v0 : (c : Dev Cert.Kernel31Ideal.nD) → Buf (Elt Ideal) ((c.tc : Thread Cert.Kernel31Ideal.nD Cert.Kernel31Ideal.τ).loc Cert.Kernel31Ideal.main_v0_0)) (v1 : (c : Dev Cert.Kernel31Ideal.nD) → Buf (Elt Ideal) ((c.tc : Thread Cert.Kernel31Ideal.nD Cert.Kernel31Ideal.τ).loc Cert.Kernel31Ideal.main_v0_1)) (v2 : (c : Dev Cert.Kernel31Ideal.nD) → Buf (Elt Ideal) ((c.tc : Thread Cert.Kernel31Ideal.nD Cert.Kernel31Ideal.τ).loc Cert.Kernel31Ideal.main_v0_2)),
      θ_run (Cert.Kernel31Ideal.defs (F := Ideal)) (onTc (τ := Cert.Kernel31Ideal.τ) (Cert.Kernel31Ideal.main (F := Ideal))) ⟨m, fun _ => 0, g⟩ (fun r => ∀ c : Dev Cert.Kernel31Ideal.nD,
          r.2.mem ((c.tc : Thread Cert.Kernel31Ideal.nD Cert.Kernel31Ideal.τ).loc Cert.Kernel31Ideal.main_v0_0) = v0 c
          ∧ r.2.mem ((c.tc : Thread Cert.Kernel31Ideal.nD Cert.Kernel31Ideal.τ).loc Cert.Kernel31Ideal.main_v0_1) = v1 c
          ∧ r.2.mem ((c.tc : Thread Cert.Kernel31Ideal.nD Cert.Kernel31Ideal.τ).loc Cert.Kernel31Ideal.main_v0_2) = v2 c
          ∧ r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
          ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1)
          ∧ r.2.mem ((c.tc : Thread Cert.Kernel31Ideal.nD Cert.Kernel31Ideal.τ).loc Cert.Kernel31Ideal.main_arg2) = m ((c.tc : Thread Cert.Kernel31Ideal.nD Cert.Kernel31Ideal.τ).loc Cert.Kernel31Ideal.main_arg2)
          ∧ r.2.mem ((c.tc : Thread Cert.Kernel31Ideal.nD Cert.Kernel31Ideal.τ).loc Cert.Kernel31Ideal.main_arg3) = m ((c.tc : Thread Cert.Kernel31Ideal.nD Cert.Kernel31Ideal.τ).loc Cert.Kernel31Ideal.main_arg3))
      ∧ θ_run (Cert.Reference31Ideal.defs (F := Ideal)) (onTc (τ := Cert.Reference31Ideal.τ) (Cert.Reference31Ideal.main (F := Ideal))) ⟨m', fun _ => 0, g'⟩ (fun r => ∀ c : Dev Cert.Reference31Ideal.nD,
          r.2.mem ((c.tc : Thread Cert.Reference31Ideal.nD Cert.Reference31Ideal.τ).loc Cert.Reference31Ideal.main_v59) = v0 c
          ∧ r.2.mem ((c.tc : Thread Cert.Reference31Ideal.nD Cert.Reference31Ideal.τ).loc Cert.Reference31Ideal.main_v60) = v1 c
          ∧ r.2.mem ((c.tc : Thread Cert.Reference31Ideal.nD Cert.Reference31Ideal.τ).loc Cert.Reference31Ideal.main_v61) = v2 c
          ∧ r.2.mem ((c.tc : Thread Cert.Reference31Ideal.nD Cert.Reference31Ideal.τ).loc Cert.Reference31Ideal.main_arg0) = m' ((c.tc : Thread Cert.Reference31Ideal.nD Cert.Reference31Ideal.τ).loc Cert.Reference31Ideal.main_arg0)
          ∧ r.2.mem ((c.tc : Thread Cert.Reference31Ideal.nD Cert.Reference31Ideal.τ).loc Cert.Reference31Ideal.main_arg1) = m' ((c.tc : Thread Cert.Reference31Ideal.nD Cert.Reference31Ideal.τ).loc Cert.Reference31Ideal.main_arg1)
          ∧ r.2.mem ((c.tc : Thread Cert.Reference31Ideal.nD Cert.Reference31Ideal.τ).loc Cert.Reference31Ideal.main_arg2) = m' ((c.tc : Thread Cert.Reference31Ideal.nD Cert.Reference31Ideal.τ).loc Cert.Reference31Ideal.main_arg2)
          ∧ r.2.mem ((c.tc : Thread Cert.Reference31Ideal.nD Cert.Reference31Ideal.τ).loc Cert.Reference31Ideal.main_arg3) = m' ((c.tc : Thread Cert.Reference31Ideal.nD Cert.Reference31Ideal.τ).loc Cert.Reference31Ideal.main_arg3))

def preserves_Kernel32_Kernel32Ideal : Prop :=
  True

def algebraic_Kernel32Ideal_Reference32Ideal [hKernel32Ideal : Cert.Kernel32Ideal.Facts] [hReference32Ideal : Cert.Reference32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg)
    (m' : (ℓ : Loc Cert.Reference32Ideal.nD Cert.Reference32Ideal.τ Cert.Reference32Ideal.sig) → Buf (Elt Ideal) ℓ) (g' : Dev Cert.Reference32Ideal.nD → PrngReg), Pre_Kernel32Ideal m →
    (∀ c : Dev Cert.Kernel32Ideal.nD,
      m' ((c.tc : Thread Cert.Reference32Ideal.nD Cert.Reference32Ideal.τ).loc Cert.Reference32Ideal.main_arg0) = m ((c.tc : Thread Cert.Kernel32Ideal.nD Cert.Kernel32Ideal.τ).loc Cert.Kernel32Ideal.main_arg0)
      ∧ m' ((c.tc : Thread Cert.Reference32Ideal.nD Cert.Reference32Ideal.τ).loc Cert.Reference32Ideal.main_arg1) = m ((c.tc : Thread Cert.Kernel32Ideal.nD Cert.Kernel32Ideal.τ).loc Cert.Kernel32Ideal.main_arg1)
      ∧ m' ((c.tc : Thread Cert.Reference32Ideal.nD Cert.Reference32Ideal.τ).loc Cert.Reference32Ideal.main_arg2) = m ((c.tc : Thread Cert.Kernel32Ideal.nD Cert.Kernel32Ideal.τ).loc Cert.Kernel32Ideal.main_arg2)
      ∧ m' ((c.tc : Thread Cert.Reference32Ideal.nD Cert.Reference32Ideal.τ).loc Cert.Reference32Ideal.main_arg3) = m ((c.tc : Thread Cert.Kernel32Ideal.nD Cert.Kernel32Ideal.τ).loc Cert.Kernel32Ideal.main_arg3)) →
    ∃ (v0 : (c : Dev Cert.Kernel32Ideal.nD) → Buf (Elt Ideal) ((c.tc : Thread Cert.Kernel32Ideal.nD Cert.Kernel32Ideal.τ).loc Cert.Kernel32Ideal.main_v0_0)) (v1 : (c : Dev Cert.Kernel32Ideal.nD) → Buf (Elt Ideal) ((c.tc : Thread Cert.Kernel32Ideal.nD Cert.Kernel32Ideal.τ).loc Cert.Kernel32Ideal.main_v0_1)) (v2 : (c : Dev Cert.Kernel32Ideal.nD) → Buf (Elt Ideal) ((c.tc : Thread Cert.Kernel32Ideal.nD Cert.Kernel32Ideal.τ).loc Cert.Kernel32Ideal.main_v0_2)),
      θ_run (Cert.Kernel32Ideal.defs (F := Ideal)) (onTc (τ := Cert.Kernel32Ideal.τ) (Cert.Kernel32Ideal.main (F := Ideal))) ⟨m, fun _ => 0, g⟩ (fun r => ∀ c : Dev Cert.Kernel32Ideal.nD,
          r.2.mem ((c.tc : Thread Cert.Kernel32Ideal.nD Cert.Kernel32Ideal.τ).loc Cert.Kernel32Ideal.main_v0_0) = v0 c
          ∧ r.2.mem ((c.tc : Thread Cert.Kernel32Ideal.nD Cert.Kernel32Ideal.τ).loc Cert.Kernel32Ideal.main_v0_1) = v1 c
          ∧ r.2.mem ((c.tc : Thread Cert.Kernel32Ideal.nD Cert.Kernel32Ideal.τ).loc Cert.Kernel32Ideal.main_v0_2) = v2 c
          ∧ r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
          ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1)
          ∧ r.2.mem ((c.tc : Thread Cert.Kernel32Ideal.nD Cert.Kernel32Ideal.τ).loc Cert.Kernel32Ideal.main_arg2) = m ((c.tc : Thread Cert.Kernel32Ideal.nD Cert.Kernel32Ideal.τ).loc Cert.Kernel32Ideal.main_arg2)
          ∧ r.2.mem ((c.tc : Thread Cert.Kernel32Ideal.nD Cert.Kernel32Ideal.τ).loc Cert.Kernel32Ideal.main_arg3) = m ((c.tc : Thread Cert.Kernel32Ideal.nD Cert.Kernel32Ideal.τ).loc Cert.Kernel32Ideal.main_arg3))
      ∧ θ_run (Cert.Reference32Ideal.defs (F := Ideal)) (onTc (τ := Cert.Reference32Ideal.τ) (Cert.Reference32Ideal.main (F := Ideal))) ⟨m', fun _ => 0, g'⟩ (fun r => ∀ c : Dev Cert.Reference32Ideal.nD,
          r.2.mem ((c.tc : Thread Cert.Reference32Ideal.nD Cert.Reference32Ideal.τ).loc Cert.Reference32Ideal.main_v49) = v0 c
          ∧ r.2.mem ((c.tc : Thread Cert.Reference32Ideal.nD Cert.Reference32Ideal.τ).loc Cert.Reference32Ideal.main_v50) = v1 c
          ∧ r.2.mem ((c.tc : Thread Cert.Reference32Ideal.nD Cert.Reference32Ideal.τ).loc Cert.Reference32Ideal.main_v51) = v2 c
          ∧ r.2.mem ((c.tc : Thread Cert.Reference32Ideal.nD Cert.Reference32Ideal.τ).loc Cert.Reference32Ideal.main_arg0) = m' ((c.tc : Thread Cert.Reference32Ideal.nD Cert.Reference32Ideal.τ).loc Cert.Reference32Ideal.main_arg0)
          ∧ r.2.mem ((c.tc : Thread Cert.Reference32Ideal.nD Cert.Reference32Ideal.τ).loc Cert.Reference32Ideal.main_arg1) = m' ((c.tc : Thread Cert.Reference32Ideal.nD Cert.Reference32Ideal.τ).loc Cert.Reference32Ideal.main_arg1)
          ∧ r.2.mem ((c.tc : Thread Cert.Reference32Ideal.nD Cert.Reference32Ideal.τ).loc Cert.Reference32Ideal.main_arg2) = m' ((c.tc : Thread Cert.Reference32Ideal.nD Cert.Reference32Ideal.τ).loc Cert.Reference32Ideal.main_arg2)
          ∧ r.2.mem ((c.tc : Thread Cert.Reference32Ideal.nD Cert.Reference32Ideal.τ).loc Cert.Reference32Ideal.main_arg3) = m' ((c.tc : Thread Cert.Reference32Ideal.nD Cert.Reference32Ideal.τ).loc Cert.Reference32Ideal.main_arg3))

def preserves_Kernel33_Kernel33Ideal : Prop :=
  True

def algebraic_Kernel33Ideal_Reference33Ideal [hKernel33Ideal : Cert.Kernel33Ideal.Facts] [hReference33Ideal : Cert.Reference33Ideal.Facts] : Prop :=
  ∀ (m : (ℓ : Loc Cert.Kernel33Ideal.nD Cert.Kernel33Ideal.τ Cert.Kernel33Ideal.sig) → Buf (Elt Ideal) ℓ) (g : Dev Cert.Kernel33Ideal.nD → PrngReg)
    (m' : (ℓ : Loc Cert.Reference33Ideal.nD Cert.Reference33Ideal.τ Cert.Reference33Ideal.sig) → Buf (Elt Ideal) ℓ) (g' : Dev Cert.Reference33Ideal.nD → PrngReg), Pre_Kernel33Ideal m →
    (∀ c : Dev Cert.Kernel33Ideal.nD,
      m' ((c.tc : Thread Cert.Reference33Ideal.nD Cert.Reference33Ideal.τ).loc Cert.Reference33Ideal.main_arg0) = m ((c.tc : Thread Cert.Kernel33Ideal.nD Cert.Kernel33Ideal.τ).loc Cert.Kernel33Ideal.main_arg0)
      ∧ m' ((c.tc : Thread Cert.Reference33Ideal.nD Cert.Reference33Ideal.τ).loc Cert.Reference33Ideal.main_arg1) = m ((c.tc : Thread Cert.Kernel33Ideal.nD Cert.Kernel33Ideal.τ).loc Cert.Kernel33Ideal.main_arg1)
      ∧ m' ((c.tc : Thread Cert.Reference33Ideal.nD Cert.Reference33Ideal.τ).loc Cert.Reference33Ideal.main_arg2) = m ((c.tc : Thread Cert.Kernel33Ideal.nD Cert.Kernel33Ideal.τ).loc Cert.Kernel33Ideal.main_arg2)
      ∧ m' ((c.tc : Thread Cert.Reference33Ideal.nD Cert.Reference33Ideal.τ).loc Cert.Reference33Ideal.main_arg3) = m ((c.tc : Thread Cert.Kernel33Ideal.nD Cert.Kernel33Ideal.τ).loc Cert.Kernel33Ideal.main_arg3)
      ∧ m' ((c.tc : Thread Cert.Reference33Ideal.nD Cert.Reference33Ideal.τ).loc Cert.Reference33Ideal.main_arg4) = m ((c.tc : Thread Cert.Kernel33Ideal.nD Cert.Kernel33Ideal.τ).loc Cert.Kernel33Ideal.main_arg4)
      ∧ m' ((c.tc : Thread Cert.Reference33Ideal.nD Cert.Reference33Ideal.τ).loc Cert.Reference33Ideal.main_arg5) = m ((c.tc : Thread Cert.Kernel33Ideal.nD Cert.Kernel33Ideal.τ).loc Cert.Kernel33Ideal.main_arg5)
      ∧ m' ((c.tc : Thread Cert.Reference33Ideal.nD Cert.Reference33Ideal.τ).loc Cert.Reference33Ideal.main_arg6) = m ((c.tc : Thread Cert.Kernel33Ideal.nD Cert.Kernel33Ideal.τ).loc Cert.Kernel33Ideal.main_arg6)) →
    ∃ (v0 : (c : Dev Cert.Kernel33Ideal.nD) → Buf (Elt Ideal) ((c.tc : Thread Cert.Kernel33Ideal.nD Cert.Kernel33Ideal.τ).loc Cert.Kernel33Ideal.main_v1)) (v1 : (c : Dev Cert.Kernel33Ideal.nD) → Buf (Elt Ideal) ((c.tc : Thread Cert.Kernel33Ideal.nD Cert.Kernel33Ideal.τ).loc Cert.Kernel33Ideal.main_v0_1)) (v2 : (c : Dev Cert.Kernel33Ideal.nD) → Buf (Elt Ideal) ((c.tc : Thread Cert.Kernel33Ideal.nD Cert.Kernel33Ideal.τ).loc Cert.Kernel33Ideal.main_v0_2)) (v3 : (c : Dev Cert.Kernel33Ideal.nD) → Buf (Elt Ideal) ((c.tc : Thread Cert.Kernel33Ideal.nD Cert.Kernel33Ideal.τ).loc Cert.Kernel33Ideal.main_v0_3)) (v4 : (c : Dev Cert.Kernel33Ideal.nD) → Buf (Elt Ideal) ((c.tc : Thread Cert.Kernel33Ideal.nD Cert.Kernel33Ideal.τ).loc Cert.Kernel33Ideal.main_v0_4)) (v5 : (c : Dev Cert.Kernel33Ideal.nD) → Buf (Elt Ideal) ((c.tc : Thread Cert.Kernel33Ideal.nD Cert.Kernel33Ideal.τ).loc Cert.Kernel33Ideal.main_v0_5)) (v6 : (c : Dev Cert.Kernel33Ideal.nD) → Buf (Elt Ideal) ((c.tc : Thread Cert.Kernel33Ideal.nD Cert.Kernel33Ideal.τ).loc Cert.Kernel33Ideal.main_v0_6)),
      θ_run (Cert.Kernel33Ideal.defs (F := Ideal)) (onTc (τ := Cert.Kernel33Ideal.τ) (Cert.Kernel33Ideal.main (F := Ideal))) ⟨m, fun _ => 0, g⟩ (fun r => ∀ c : Dev Cert.Kernel33Ideal.nD,
          r.2.mem ((c.tc : Thread Cert.Kernel33Ideal.nD Cert.Kernel33Ideal.τ).loc Cert.Kernel33Ideal.main_v1) = v0 c
          ∧ r.2.mem ((c.tc : Thread Cert.Kernel33Ideal.nD Cert.Kernel33Ideal.τ).loc Cert.Kernel33Ideal.main_v0_1) = v1 c
          ∧ r.2.mem ((c.tc : Thread Cert.Kernel33Ideal.nD Cert.Kernel33Ideal.τ).loc Cert.Kernel33Ideal.main_v0_2) = v2 c
          ∧ r.2.mem ((c.tc : Thread Cert.Kernel33Ideal.nD Cert.Kernel33Ideal.τ).loc Cert.Kernel33Ideal.main_v0_3) = v3 c
          ∧ r.2.mem ((c.tc : Thread Cert.Kernel33Ideal.nD Cert.Kernel33Ideal.τ).loc Cert.Kernel33Ideal.main_v0_4) = v4 c
          ∧ r.2.mem ((c.tc : Thread Cert.Kernel33Ideal.nD Cert.Kernel33Ideal.τ).loc Cert.Kernel33Ideal.main_v0_5) = v5 c
          ∧ r.2.mem ((c.tc : Thread Cert.Kernel33Ideal.nD Cert.Kernel33Ideal.τ).loc Cert.Kernel33Ideal.main_v0_6) = v6 c
          ∧ r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0)
          ∧ r.2.mem ((c.tc : Thread Cert.Kernel33Ideal.nD Cert.Kernel33Ideal.τ).loc Cert.Kernel33Ideal.main_arg1) = m ((c.tc : Thread Cert.Kernel33Ideal.nD Cert.Kernel33Ideal.τ).loc Cert.Kernel33Ideal.main_arg1)
          ∧ r.2.mem ((c.tc : Thread Cert.Kernel33Ideal.nD Cert.Kernel33Ideal.τ).loc Cert.Kernel33Ideal.main_arg2) = m ((c.tc : Thread Cert.Kernel33Ideal.nD Cert.Kernel33Ideal.τ).loc Cert.Kernel33Ideal.main_arg2)
          ∧ r.2.mem ((c.tc : Thread Cert.Kernel33Ideal.nD Cert.Kernel33Ideal.τ).loc Cert.Kernel33Ideal.main_arg3) = m ((c.tc : Thread Cert.Kernel33Ideal.nD Cert.Kernel33Ideal.τ).loc Cert.Kernel33Ideal.main_arg3)
          ∧ r.2.mem ((c.tc : Thread Cert.Kernel33Ideal.nD Cert.Kernel33Ideal.τ).loc Cert.Kernel33Ideal.main_arg4) = m ((c.tc : Thread Cert.Kernel33Ideal.nD Cert.Kernel33Ideal.τ).loc Cert.Kernel33Ideal.main_arg4)
          ∧ r.2.mem ((c.tc : Thread Cert.Kernel33Ideal.nD Cert.Kernel33Ideal.τ).loc Cert.Kernel33Ideal.main_arg5) = m ((c.tc : Thread Cert.Kernel33Ideal.nD Cert.Kernel33Ideal.τ).loc Cert.Kernel33Ideal.main_arg5)
          ∧ r.2.mem ((c.tc : Thread Cert.Kernel33Ideal.nD Cert.Kernel33Ideal.τ).loc Cert.Kernel33Ideal.main_arg6) = m ((c.tc : Thread Cert.Kernel33Ideal.nD Cert.Kernel33Ideal.τ).loc Cert.Kernel33Ideal.main_arg6))
      ∧ θ_run (Cert.Reference33Ideal.defs (F := Ideal)) (onTc (τ := Cert.Reference33Ideal.τ) (Cert.Reference33Ideal.main (F := Ideal))) ⟨m', fun _ => 0, g'⟩ (fun r => ∀ c : Dev Cert.Reference33Ideal.nD,
          r.2.mem ((c.tc : Thread Cert.Reference33Ideal.nD Cert.Reference33Ideal.τ).loc Cert.Reference33Ideal.main_v43) = v0 c
          ∧ r.2.mem ((c.tc : Thread Cert.Reference33Ideal.nD Cert.Reference33Ideal.τ).loc Cert.Reference33Ideal.main_v85) = v1 c
          ∧ r.2.mem ((c.tc : Thread Cert.Reference33Ideal.nD Cert.Reference33Ideal.τ).loc Cert.Reference33Ideal.main_v87) = v2 c
          ∧ r.2.mem ((c.tc : Thread Cert.Reference33Ideal.nD Cert.Reference33Ideal.τ).loc Cert.Reference33Ideal.main_v88) = v3 c
          ∧ r.2.mem ((c.tc : Thread Cert.Reference33Ideal.nD Cert.Reference33Ideal.τ).loc Cert.Reference33Ideal.main_v89) = v4 c
          ∧ r.2.mem ((c.tc : Thread Cert.Reference33Ideal.nD Cert.Reference33Ideal.τ).loc Cert.Reference33Ideal.main_v90) = v5 c
          ∧ r.2.mem ((c.tc : Thread Cert.Reference33Ideal.nD Cert.Reference33Ideal.τ).loc Cert.Reference33Ideal.main_v91) = v6 c
          ∧ r.2.mem ((c.tc : Thread Cert.Reference33Ideal.nD Cert.Reference33Ideal.τ).loc Cert.Reference33Ideal.main_arg0) = m' ((c.tc : Thread Cert.Reference33Ideal.nD Cert.Reference33Ideal.τ).loc Cert.Reference33Ideal.main_arg0)
          ∧ r.2.mem ((c.tc : Thread Cert.Reference33Ideal.nD Cert.Reference33Ideal.τ).loc Cert.Reference33Ideal.main_arg1) = m' ((c.tc : Thread Cert.Reference33Ideal.nD Cert.Reference33Ideal.τ).loc Cert.Reference33Ideal.main_arg1)
          ∧ r.2.mem ((c.tc : Thread Cert.Reference33Ideal.nD Cert.Reference33Ideal.τ).loc Cert.Reference33Ideal.main_arg2) = m' ((c.tc : Thread Cert.Reference33Ideal.nD Cert.Reference33Ideal.τ).loc Cert.Reference33Ideal.main_arg2)
          ∧ r.2.mem ((c.tc : Thread Cert.Reference33Ideal.nD Cert.Reference33Ideal.τ).loc Cert.Reference33Ideal.main_arg3) = m' ((c.tc : Thread Cert.Reference33Ideal.nD Cert.Reference33Ideal.τ).loc Cert.Reference33Ideal.main_arg3)
          ∧ r.2.mem ((c.tc : Thread Cert.Reference33Ideal.nD Cert.Reference33Ideal.τ).loc Cert.Reference33Ideal.main_arg4) = m' ((c.tc : Thread Cert.Reference33Ideal.nD Cert.Reference33Ideal.τ).loc Cert.Reference33Ideal.main_arg4)
          ∧ r.2.mem ((c.tc : Thread Cert.Reference33Ideal.nD Cert.Reference33Ideal.τ).loc Cert.Reference33Ideal.main_arg5) = m' ((c.tc : Thread Cert.Reference33Ideal.nD Cert.Reference33Ideal.τ).loc Cert.Reference33Ideal.main_arg5)
          ∧ r.2.mem ((c.tc : Thread Cert.Reference33Ideal.nD Cert.Reference33Ideal.τ).loc Cert.Reference33Ideal.main_arg6) = m' ((c.tc : Thread Cert.Reference33Ideal.nD Cert.Reference33Ideal.τ).loc Cert.Reference33Ideal.main_arg6))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hKernel27 : Cert.Kernel27.Facts) (hKernel27Ideal : Cert.Kernel27Ideal.Facts) (hReference27Ideal : Cert.Reference27Ideal.Facts) (hKernel28 : Cert.Kernel28.Facts) (hKernel28Ideal : Cert.Kernel28Ideal.Facts) (hReference28Ideal : Cert.Reference28Ideal.Facts) (hKernel29 : Cert.Kernel29.Facts) (hKernel29Ideal : Cert.Kernel29Ideal.Facts) (hReference29Ideal : Cert.Reference29Ideal.Facts) (hKernel30 : Cert.Kernel30.Facts) (hKernel30Ideal : Cert.Kernel30Ideal.Facts) (hReference30Ideal : Cert.Reference30Ideal.Facts) (hKernel31 : Cert.Kernel31.Facts) (hKernel31Ideal : Cert.Kernel31Ideal.Facts) (hReference31Ideal : Cert.Reference31Ideal.Facts) (hKernel32 : Cert.Kernel32.Facts) (hKernel32Ideal : Cert.Kernel32Ideal.Facts) (hReference32Ideal : Cert.Reference32Ideal.Facts) (hKernel33 : Cert.Kernel33.Facts) (hKernel33Ideal : Cert.Kernel33Ideal.Facts) (hReference33Ideal : Cert.Reference33Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Reference26Ideal (hReference26Ideal := hReference26Ideal)
    ∧ quiescent_Kernel27 (hKernel27 := hKernel27)
    ∧ quiescent_Kernel27Ideal (hKernel27Ideal := hKernel27Ideal)
    ∧ quiescent_Reference27Ideal (hReference27Ideal := hReference27Ideal)
    ∧ quiescent_Kernel28 (hKernel28 := hKernel28)
    ∧ quiescent_Kernel28Ideal (hKernel28Ideal := hKernel28Ideal)
    ∧ quiescent_Reference28Ideal (hReference28Ideal := hReference28Ideal)
    ∧ quiescent_Kernel29 (hKernel29 := hKernel29)
    ∧ quiescent_Kernel29Ideal (hKernel29Ideal := hKernel29Ideal)
    ∧ quiescent_Reference29Ideal (hReference29Ideal := hReference29Ideal)
    ∧ quiescent_Kernel30 (hKernel30 := hKernel30)
    ∧ quiescent_Kernel30Ideal (hKernel30Ideal := hKernel30Ideal)
    ∧ quiescent_Reference30Ideal (hReference30Ideal := hReference30Ideal)
    ∧ quiescent_Kernel31 (hKernel31 := hKernel31)
    ∧ quiescent_Kernel31Ideal (hKernel31Ideal := hKernel31Ideal)
    ∧ quiescent_Reference31Ideal (hReference31Ideal := hReference31Ideal)
    ∧ quiescent_Kernel32 (hKernel32 := hKernel32)
    ∧ quiescent_Kernel32Ideal (hKernel32Ideal := hKernel32Ideal)
    ∧ quiescent_Reference32Ideal (hReference32Ideal := hReference32Ideal)
    ∧ quiescent_Kernel33 (hKernel33 := hKernel33)
    ∧ quiescent_Kernel33Ideal (hKernel33Ideal := hKernel33Ideal)
    ∧ quiescent_Reference33Ideal (hReference33Ideal := hReference33Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal (hKernel26Ideal := hKernel26Ideal) (hReference26Ideal := hReference26Ideal)
    ∧ preserves_Kernel27_Kernel27Ideal
    ∧ algebraic_Kernel27Ideal_Reference27Ideal (hKernel27Ideal := hKernel27Ideal) (hReference27Ideal := hReference27Ideal)
    ∧ preserves_Kernel28_Kernel28Ideal
    ∧ algebraic_Kernel28Ideal_Reference28Ideal (hKernel28Ideal := hKernel28Ideal) (hReference28Ideal := hReference28Ideal)
    ∧ preserves_Kernel29_Kernel29Ideal
    ∧ algebraic_Kernel29Ideal_Reference29Ideal (hKernel29Ideal := hKernel29Ideal) (hReference29Ideal := hReference29Ideal)
    ∧ preserves_Kernel30_Kernel30Ideal
    ∧ algebraic_Kernel30Ideal_Reference30Ideal (hKernel30Ideal := hKernel30Ideal) (hReference30Ideal := hReference30Ideal)
    ∧ preserves_Kernel31_Kernel31Ideal
    ∧ algebraic_Kernel31Ideal_Reference31Ideal (hKernel31Ideal := hKernel31Ideal) (hReference31Ideal := hReference31Ideal)
    ∧ preserves_Kernel32_Kernel32Ideal
    ∧ algebraic_Kernel32Ideal_Reference32Ideal (hKernel32Ideal := hKernel32Ideal) (hReference32Ideal := hReference32Ideal)
    ∧ preserves_Kernel33_Kernel33Ideal
    ∧ algebraic_Kernel33Ideal_Reference33Ideal (hKernel33Ideal := hKernel33Ideal) (hReference33Ideal := hReference33Ideal)
-- ==== Kernel.lean ====
abbrev S4096x2048 : Shape := ⟨2, ![4096, 2048]⟩
abbrev S8192x2048 : Shape := ⟨2, ![8192, 2048]⟩
abbrev S4096x8192 : Shape := ⟨2, ![4096, 8192]⟩
abbrev S1024x2048 : Shape := ⟨2, ![1024, 2048]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S4096x2048, .bf16⟩
  | .hbm, ⟨1, _⟩ => ⟨S8192x2048, .bf16⟩
  | .hbm, ⟨2, _⟩ => ⟨S4096x8192, .f32⟩
  | .hbm, ⟨3, _⟩ => ⟨S4096x8192, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .bf16⟩
  | .local _ .vmem, ⟨7, _⟩ => ⟨S1024x1024, .bf16⟩
  | .local _ .vmem, ⟨8, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 8, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== ReferenceIdeal.lean ====
abbrev S4096x2048 : Shape := ⟨2, ![4096, 2048]⟩
abbrev S8192x2048 : Shape := ⟨2, ![8192, 2048]⟩
abbrev S4096x8192 : Shape := ⟨2, ![4096, 8192]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S8192x2048, .bf16⟩
  | .hbm, ⟨2, _⟩ => ⟨S4096x8192, .f32⟩
  | .hbm, ⟨3, _⟩ => ⟨S_, .f32⟩
  | .hbm, ⟨4, _⟩ => ⟨S4096x8192, .f32⟩
  | .hbm, ⟨5, _⟩ => ⟨S4096x8192, .f32⟩
  | .hbm, ⟨6, _⟩ => ⟨S_, .f32⟩
  | .hbm, ⟨7, _⟩ => ⟨S4096x8192, .f32⟩
  | .hbm, ⟨8, _⟩ => ⟨S4096x8192, .i1⟩
  | .hbm, ⟨9, _⟩ => ⟨S_, .f32⟩
  | .hbm, ⟨10, _⟩ => ⟨S4096x8192, .f32⟩
  | .hbm, ⟨11, _⟩ => ⟨S4096x8192, .f32⟩
  | .hbm, ⟨12, _⟩ => ⟨S_, .f32⟩
  | .hbm, ⟨13, _⟩ => ⟨S4096x8192, .f32⟩
  | .hbm, ⟨14, _⟩ => ⟨S4096x8192, .f32⟩
  | .hbm, ⟨15, _⟩ => ⟨S8192x2048, .f32⟩
  | .hbm, ⟨16, _⟩ => ⟨S4096x2048, .f32⟩
  | .hbm, ⟨17, _⟩ => ⟨S4096x2048, .f32⟩
  | .hbm, ⟨18, _⟩ => ⟨S4096x8192, .f32⟩
  | .hbm, ⟨19, _⟩ => ⟨S4096x8192, .f32⟩
  | .hbm, ⟨20, _⟩ => ⟨S_, .f32⟩
  | .hbm, ⟨21, _⟩ => ⟨S4096x8192, .f32⟩
  | .hbm, ⟨22, _⟩ => ⟨S4096x8192, .f32⟩
  | .hbm, ⟨23, _⟩ => ⟨S4096x8192, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩

abbrev nD : Nat := 1
abbrev τ : Topo := Topo.v7x

variable {F : FTy → Type} [FloatOps F]
-- ==== Kernel2.lean ====
abbrev S4096x8192 : Shape := ⟨2, ![4096, 8192]⟩
abbrev S2048x8192 : Shape := ⟨2, ![2048, 8192]⟩
abbrev S4096x2048 : Shape := ⟨2, ![4096, 2048]⟩
abbrev S1024x2048 : Shape := ⟨2, ![1024, 2048]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x8192, .bf16⟩
  | .hbm, ⟨1, _⟩ => ⟨S2048x8192, .bf16⟩
  | .hbm, ⟨2, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference2Ideal.lean ====
abbrev S4096x8192 : Shape := ⟨2, ![4096, 8192]⟩
abbrev S2048x8192 : Shape := ⟨2, ![2048, 8192]⟩
abbrev S_ : Shape := ⟨0, ![]⟩
abbrev S4096x2048 : Shape := ⟨2, ![4096, 2048]⟩

abbrev nBuf : Space → Nat
  | .hbm => 8
  | .vmem => 0
  | .smem => 0
  | _ => 0

abbrev bufTy : (tb : Table) → Fin (tcTables nBuf tb) → BufTy
  | .hbm, ⟨0, _⟩ => ⟨S4096x8192, .bf16⟩
  | .hbm, ⟨1, _⟩ => ⟨S2048x8192, .bf16⟩
  | .hbm, ⟨2, _⟩ => ⟨S_, .f32⟩
  | .hbm, ⟨3, _⟩ => ⟨S4096x2048, .f32⟩
  | .hbm, ⟨4, _⟩ => ⟨S2048x8192, .f32⟩
  | .hbm, ⟨5, _⟩ => ⟨S4096x8192, .f32⟩
  | .hbm, ⟨6, _⟩ => ⟨S4096x8192, .f32⟩
  | .hbm, ⟨7, _⟩ => ⟨S4096x2048, .f32⟩
  | _, _ => ⟨S4096x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel3.lean ====
abbrev S4096x8192 : Shape := ⟨2, ![4096, 8192]⟩
abbrev S4096x2048 : Shape := ⟨2, ![4096, 2048]⟩
abbrev S8192x2048 : Shape := ⟨2, ![8192, 2048]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x8192, .bf16⟩
  | .hbm, ⟨1, _⟩ => ⟨S4096x2048, .bf16⟩
  | .hbm, ⟨2, _⟩ => ⟨S8192x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S4096x8192 : Shape := ⟨2, ![4096, 8192]⟩
abbrev S4096x2048 : Shape := ⟨2, ![4096, 2048]⟩
abbrev S_ : Shape := ⟨0, ![]⟩
abbrev S8192x2048 : Shape := ⟨2, ![8192, 2048]⟩
abbrev S2048x8192 : Shape := ⟨2, ![2048, 8192]⟩

abbrev nBuf : Space → Nat
  | .hbm => 10
  | .vmem => 0
  | .smem => 0
  | _ => 0

abbrev bufTy : (tb : Table) → Fin (tcTables nBuf tb) → BufTy
  | .hbm, ⟨0, _⟩ => ⟨S4096x8192, .bf16⟩
  | .hbm, ⟨1, _⟩ => ⟨S4096x2048, .bf16⟩
  | .hbm, ⟨2, _⟩ => ⟨S_, .f32⟩
  | .hbm, ⟨3, _⟩ => ⟨S8192x2048, .f32⟩
  | .hbm, ⟨4, _⟩ => ⟨S4096x8192, .f32⟩
  | .hbm, ⟨5, _⟩ => ⟨S4096x2048, .f32⟩
  | .hbm, ⟨6, _⟩ => ⟨S4096x2048, .f32⟩
  | .hbm, ⟨7, _⟩ => ⟨S2048x8192, .f32⟩
  | .hbm, ⟨8, _⟩ => ⟨S8192x2048, .f32⟩
  | .hbm, ⟨9, _⟩ => ⟨S8192x2048, .bf16⟩
  | _, _ => ⟨S4096x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel4.lean ====
abbrev S4096x2048 : Shape := ⟨2, ![4096, 2048]⟩
abbrev S4096x8192 : Shape := ⟨2, ![4096, 8192]⟩
abbrev S2048x8192 : Shape := ⟨2, ![2048, 8192]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x8192, .bf16⟩
  | .hbm, ⟨2, _⟩ => ⟨S2048x8192, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S4096x2048 : Shape := ⟨2, ![4096, 2048]⟩
abbrev S4096x8192 : Shape := ⟨2, ![4096, 8192]⟩
abbrev S_ : Shape := ⟨0, ![]⟩
abbrev S2048x8192 : Shape := ⟨2, ![2048, 8192]⟩
abbrev S8192x2048 : Shape := ⟨2, ![8192, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x8192, .bf16⟩
  | .hbm, ⟨2, _⟩ => ⟨S_, .f32⟩
  | .hbm, ⟨3, _⟩ => ⟨S2048x8192, .f32⟩
  | .hbm, ⟨4, _⟩ => ⟨S4096x2048, .f32⟩
  | .hbm, ⟨5, _⟩ => ⟨S4096x8192, .f32⟩
  | .hbm, ⟨6, _⟩ => ⟨S4096x8192, .f32⟩
  | .hbm, ⟨7, _⟩ => ⟨S8192x2048, .f32⟩
  | .hbm, ⟨8, _⟩ => ⟨S2048x8192, .f32⟩
  | .hbm, ⟨9, _⟩ => ⟨S2048x8192, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel5.lean ====
abbrev S4096x2048 : Shape := ⟨2, ![4096, 2048]⟩
abbrev S2048x2048 : Shape := ⟨2, ![2048, 2048]⟩
abbrev S1024x2048 : Shape := ⟨2, ![1024, 2048]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S4096x2048 : Shape := ⟨2, ![4096, 2048]⟩
abbrev S2048x2048 : Shape := ⟨2, ![2048, 2048]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S_, .f32⟩
  | .hbm, ⟨3, _⟩ => ⟨S4096x2048, .f32⟩
  | .hbm, ⟨4, _⟩ => ⟨S2048x2048, .f32⟩
  | .hbm, ⟨5, _⟩ => ⟨S4096x2048, .f32⟩
  | .hbm, ⟨6, _⟩ => ⟨S4096x2048, .f32⟩
  | .hbm, ⟨7, _⟩ => ⟨S4096x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel6.lean ====
abbrev S4096x2048 : Shape := ⟨2, ![4096, 2048]⟩
abbrev S2048x2048 : Shape := ⟨2, ![2048, 2048]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S2048x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S4096x2048 : Shape := ⟨2, ![4096, 2048]⟩
abbrev S_ : Shape := ⟨0, ![]⟩
abbrev S2048x2048 : Shape := ⟨2, ![2048, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S_, .f32⟩
  | .hbm, ⟨3, _⟩ => ⟨S2048x2048, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S2048x2048, .f32⟩
  | .hbm, ⟨8, _⟩ => ⟨S2048x2048, .f32⟩
  | .hbm, ⟨9, _⟩ => ⟨S2048x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel7.lean ====
abbrev S4096x6272 : Shape := ⟨2, ![4096, 6272]⟩
abbrev S2048x6272 : Shape := ⟨2, ![2048, 6272]⟩
abbrev S4096x2048 : Shape := ⟨2, ![4096, 2048]⟩
abbrev S1024x896 : Shape := ⟨2, ![1024, 896]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x6272, .bf16⟩
  | .hbm, ⟨1, _⟩ => ⟨S2048x6272, .bf16⟩
  | .hbm, ⟨2, _⟩ => ⟨S4096x2048, .f32⟩
  | .local _ .vmem, ⟨0, _⟩ => ⟨S1024x896, .bf16⟩
  | .local _ .vmem, ⟨1, _⟩ => ⟨S1024x896, .bf16⟩
  | .local _ .vmem, ⟨2, _⟩ => ⟨S1024x896, .bf16⟩
  | .local _ .vmem, ⟨3, _⟩ => ⟨S1024x896, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x6272, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 7], ![false, false, false]⟩

def k0_cond2 (i : grid0.Coords) : BitVec 1 :=
  let arg2 : BitVec 32 := BitVec.ofNat 32 (i 2).val
  let c6_i32 : BitVec 32 := 6#32
  let v11 : BitVec 1 := Scalar.cmpi .eq arg2 c6_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x896 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S4096x6272 : Shape := ⟨2, ![4096, 6272]⟩
abbrev S2048x6272 : Shape := ⟨2, ![2048, 6272]⟩
abbrev S_ : Shape := ⟨0, ![]⟩
abbrev S4096x2048 : Shape := ⟨2, ![4096, 2048]⟩

abbrev nBuf : Space → Nat
  | .hbm => 8
  | .vmem => 0
  | .smem => 0
  | _ => 0

abbrev bufTy : (tb : Table) → Fin (tcTables nBuf tb) → BufTy
  | .hbm, ⟨0, _⟩ => ⟨S4096x6272, .bf16⟩
  | .hbm, ⟨1, _⟩ => ⟨S2048x6272, .bf16⟩
  | .hbm, ⟨2, _⟩ => ⟨S_, .f32⟩
  | .hbm, ⟨3, _⟩ => ⟨S4096x2048, .f32⟩
  | .hbm, ⟨4, _⟩ => ⟨S2048x6272, .f32⟩
  | .hbm, ⟨5, _⟩ => ⟨S4096x6272, .f32⟩
  | .hbm, ⟨6, _⟩ => ⟨S4096x6272, .f32⟩
  | .hbm, ⟨7, _⟩ => ⟨S4096x2048, .f32⟩
  | _, _ => ⟨S4096x6272, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel8.lean ====
abbrev S4096x2048 : Shape := ⟨2, ![4096, 2048]⟩
abbrev S4096x6272 : Shape := ⟨2, ![4096, 6272]⟩
abbrev S2048x6272 : Shape := ⟨2, ![2048, 6272]⟩
abbrev S2048x1024 : Shape := ⟨2, ![2048, 1024]⟩
abbrev S2048x896 : Shape := ⟨2, ![2048, 896]⟩
abbrev S1024x896 : Shape := ⟨2, ![1024, 896]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x6272, .bf16⟩
  | .hbm, ⟨2, _⟩ => ⟨S2048x6272, .bf16⟩
  | .local _ .vmem, ⟨0, _⟩ => ⟨S2048x1024, .bf16⟩
  | .local _ .vmem, ⟨1, _⟩ => ⟨S2048x1024, .bf16⟩
  | .local _ .vmem, ⟨2, _⟩ => ⟨S2048x896, .bf16⟩
  | .local _ .vmem, ⟨3, _⟩ => ⟨S2048x896, .bf16⟩
  | .local _ .vmem, ⟨4, _⟩ => ⟨S1024x896, .bf16⟩
  | .local _ .vmem, ⟨5, _⟩ => ⟨S1024x896, .bf16⟩
  | .local _ .vmem, ⟨6, _⟩ => ⟨S1024x896, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 7, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x896 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S4096x2048 : Shape := ⟨2, ![4096, 2048]⟩
abbrev S4096x6272 : Shape := ⟨2, ![4096, 6272]⟩
abbrev S_ : Shape := ⟨0, ![]⟩
abbrev S2048x6272 : Shape := ⟨2, ![2048, 6272]⟩
abbrev S6272x2048 : Shape := ⟨2, ![6272, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x6272, .bf16⟩
  | .hbm, ⟨2, _⟩ => ⟨S_, .f32⟩
  | .hbm, ⟨3, _⟩ => ⟨S2048x6272, .f32⟩
  | .hbm, ⟨4, _⟩ => ⟨S4096x2048, .f32⟩
  | .hbm, ⟨5, _⟩ => ⟨S4096x6272, .f32⟩
  | .hbm, ⟨6, _⟩ => ⟨S4096x6272, .f32⟩
  | .hbm, ⟨7, _⟩ => ⟨S6272x2048, .f32⟩
  | .hbm, ⟨8, _⟩ => ⟨S2048x6272, .f32⟩
  | .hbm, ⟨9, _⟩ => ⟨S2048x6272, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel9.lean ====
abbrev S4096x1024 : Shape := ⟨2, ![4096, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S4096x1024 : Shape := ⟨2, ![4096, 1024]⟩
abbrev S1024x1024 : Shape := ⟨2, ![1024, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S_, .f32⟩
  | .hbm, ⟨3, _⟩ => ⟨S4096x1024, .f32⟩
  | .hbm, ⟨4, _⟩ => ⟨S1024x1024, .f32⟩
  | .hbm, ⟨5, _⟩ => ⟨S4096x1024, .f32⟩
  | .hbm, ⟨6, _⟩ => ⟨S4096x1024, .f32⟩
  | .hbm, ⟨7, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel10.lean ====
abbrev S4096x1024 : Shape := ⟨2, ![4096, 1024]⟩
abbrev S1024x1024 : Shape := ⟨2, ![1024, 1024]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference10Ideal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel11.lean ====
abbrev S4096x2048 : Shape := ⟨2, ![4096, 2048]⟩
abbrev S2048x8192 : Shape := ⟨2, ![2048, 8192]⟩
abbrev S4096x8192 : Shape := ⟨2, ![4096, 8192]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S4096x2048, .bf16⟩
  | .hbm, ⟨1, _⟩ => ⟨S2048x8192, .bf16⟩
  | .hbm, ⟨2, _⟩ => ⟨S4096x8192, .f32⟩
  | .hbm, ⟨3, _⟩ => ⟨S4096x8192, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .bf16⟩
  | .local _ .vmem, ⟨7, _⟩ => ⟨S1024x1024, .bf16⟩
  | .local _ .vmem, ⟨8, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 8, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference11Ideal.lean ====
abbrev S4096x2048 : Shape := ⟨2, ![4096, 2048]⟩
abbrev S2048x8192 : Shape := ⟨2, ![2048, 8192]⟩
abbrev S4096x8192 : Shape := ⟨2, ![4096, 8192]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x8192, .bf16⟩
  | .hbm, ⟨2, _⟩ => ⟨S4096x2048, .f32⟩
  | .hbm, ⟨3, _⟩ => ⟨S2048x8192, .f32⟩
  | .hbm, ⟨4, _⟩ => ⟨S4096x8192, .f32⟩
  | .hbm, ⟨5, _⟩ => ⟨S_, .f32⟩
  | .hbm, ⟨6, _⟩ => ⟨S4096x8192, .f32⟩
  | .hbm, ⟨7, _⟩ => ⟨S4096x8192, .f32⟩
  | .hbm, ⟨8, _⟩ => ⟨S4096x8192, .f32⟩
  | .hbm, ⟨9, _⟩ => ⟨S4096x8192, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_call0_cst : Ref sig .tc := ⟨.hbm, 5, rfl⟩
abbrev main_call0_v0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Kernel12.lean ====
abbrev S4096x8192 : Shape := ⟨2, ![4096, 8192]⟩
abbrev S8192x2048 : Shape := ⟨2, ![8192, 2048]⟩
abbrev S4096x2048 : Shape := ⟨2, ![4096, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x8192, .bf16⟩
  | .hbm, ⟨1, _⟩ => ⟨S8192x2048, .bf16⟩
  | .hbm, ⟨2, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference12Ideal.lean ====
abbrev S4096x8192 : Shape := ⟨2, ![4096, 8192]⟩
abbrev S8192x2048 : Shape := ⟨2, ![8192, 2048]⟩
abbrev S4096x2048 : Shape := ⟨2, ![4096, 2048]⟩

abbrev nBuf : Space → Nat
  | .hbm => 5
  | .vmem => 0
  | .smem => 0
  | _ => 0

abbrev bufTy : (tb : Table) → Fin (tcTables nBuf tb) → BufTy
  | .hbm, ⟨0, _⟩ => ⟨S4096x8192, .bf16⟩
  | .hbm, ⟨1, _⟩ => ⟨S8192x2048, .bf16⟩
  | .hbm, ⟨2, _⟩ => ⟨S4096x8192, .f32⟩
  | .hbm, ⟨3, _⟩ => ⟨S8192x2048, .f32⟩
  | .hbm, ⟨4, _⟩ => ⟨S4096x2048, .f32⟩
  | _, _ => ⟨S4096x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel13.lean ====
abbrev S4096x2048 : Shape := ⟨2, ![4096, 2048]⟩
abbrev S2048x6272 : Shape := ⟨2, ![2048, 6272]⟩
abbrev S4096x6272 : Shape := ⟨2, ![4096, 6272]⟩
abbrev S1024x2048 : Shape := ⟨2, ![1024, 2048]⟩
abbrev S2048x896 : Shape := ⟨2, ![2048, 896]⟩
abbrev S1024x896 : Shape := ⟨2, ![1024, 896]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S2048x6272, .bf16⟩
  | .hbm, ⟨2, _⟩ => ⟨S4096x6272, .f32⟩
  | .local _ .vmem, ⟨0, _⟩ => ⟨S1024x2048, .bf16⟩
  | .local _ .vmem, ⟨1, _⟩ => ⟨S1024x2048, .bf16⟩
  | .local _ .vmem, ⟨2, _⟩ => ⟨S2048x896, .bf16⟩
  | .local _ .vmem, ⟨3, _⟩ => ⟨S2048x896, .bf16⟩
  | .local _ .vmem, ⟨4, _⟩ => ⟨S1024x896, .f32⟩
  | .local _ .vmem, ⟨5, _⟩ => ⟨S1024x896, .f32⟩
  | .local _ .vmem, ⟨6, _⟩ => ⟨S1024x896, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 7, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x896 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference13Ideal.lean ====
abbrev S4096x2048 : Shape := ⟨2, ![4096, 2048]⟩
abbrev S2048x6272 : Shape := ⟨2, ![2048, 6272]⟩
abbrev S4096x6272 : Shape := ⟨2, ![4096, 6272]⟩

abbrev nBuf : Space → Nat
  | .hbm => 5
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x6272, .bf16⟩
  | .hbm, ⟨2, _⟩ => ⟨S4096x2048, .f32⟩
  | .hbm, ⟨3, _⟩ => ⟨S2048x6272, .f32⟩
  | .hbm, ⟨4, _⟩ => ⟨S4096x6272, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel14.lean ====
abbrev S4096x2048 : Shape := ⟨2, ![4096, 2048]⟩
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference14Ideal.lean ====
abbrev S4096x2048 : Shape := ⟨2, ![4096, 2048]⟩
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .hbm, ⟨3, _⟩ => ⟨S2048x2048, .f32⟩
  | .hbm, ⟨4, _⟩ => ⟨S4096x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel15.lean ====
abbrev S4x2048x3072 : Shape := ⟨3, ![4, 2048, 3072]⟩
abbrev S1x64x3072 : Shape := ⟨3, ![1, 64, 3072]⟩

abbrev nBuf : Space → Nat
  | .hbm => 7
  | .vmem => 14
  | .smem => 0
  | _ => 0

abbrev bufTy : (tb : Table) → Fin (tcTables nBuf tb) → BufTy
  | .hbm, ⟨0, _⟩ => ⟨S4x2048x3072, .f32⟩
  | .hbm, ⟨1, _⟩ => ⟨S4x2048x3072, .f32⟩
  | .hbm, ⟨2, _⟩ => ⟨S4x2048x3072, .f32⟩
  | .hbm, ⟨3, _⟩ => ⟨S4x2048x3072, .f32⟩
  | .hbm, ⟨4, _⟩ => ⟨S4x2048x3072, .f32⟩
  | .hbm, ⟨5, _⟩ => ⟨S4x2048x3072, .f32⟩
  | .hbm, ⟨6, _⟩ => ⟨S4x2048x3072, .f32⟩
  | .local _ .vmem, ⟨0, _⟩ => ⟨S1x64x3072, .f32⟩
  | .local _ .vmem, ⟨1, _⟩ => ⟨S1x64x3072, .f32⟩
  | .local _ .vmem, ⟨2, _⟩ => ⟨S1x64x3072, .f32⟩
  | .local _ .vmem, ⟨3, _⟩ => ⟨S1x64x3072, .f32⟩
  | .local _ .vmem, ⟨4, _⟩ => ⟨S1x64x3072, .f32⟩
  | .local _ .vmem, ⟨5, _⟩ => ⟨S1x64x3072, .f32⟩
  | .local _ .vmem, ⟨6, _⟩ => ⟨S1x64x3072, .f32⟩
  | .local _ .vmem, ⟨7, _⟩ => ⟨S1x64x3072, .f32⟩
  | .local _ .vmem, ⟨8, _⟩ => ⟨S1x64x3072, .f32⟩
  | .local _ .vmem, ⟨9, _⟩ => ⟨S1x64x3072, .f32⟩
  | .local _ .vmem, ⟨10, _⟩ => ⟨S1x64x3072, .f32⟩
  | .local _ .vmem, ⟨11, _⟩ => ⟨S1x64x3072, .f32⟩
  | .local _ .vmem, ⟨12, _⟩ => ⟨S1x64x3072, .f32⟩
  | .local _ .vmem, ⟨13, _⟩ => ⟨S1x64x3072, .f32⟩
  | _, _ => ⟨S4x2048x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![4, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x64x3072 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x3072 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x64x3072 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x64x3072 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x64x3072 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x64x3072 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x64x3072 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference15Ideal.lean ====
abbrev S4x2048x3072 : Shape := ⟨3, ![4, 2048, 3072]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x2048x3072, .f32⟩
  | .hbm, ⟨1, _⟩ => ⟨S4x2048x3072, .f32⟩
  | .hbm, ⟨2, _⟩ => ⟨S4x2048x3072, .f32⟩
  | .hbm, ⟨3, _⟩ => ⟨S4x2048x3072, .f32⟩
  | .hbm, ⟨4, _⟩ => ⟨S_, .f32⟩
  | .hbm, ⟨5, _⟩ => ⟨S4x2048x3072, .f32⟩
  | .hbm, ⟨6, _⟩ => ⟨S4x2048x3072, .f32⟩
  | .hbm, ⟨7, _⟩ => ⟨S_, .f32⟩
  | .hbm, ⟨8, _⟩ => ⟨S4x2048x3072, .f32⟩
  | .hbm, ⟨9, _⟩ => ⟨S4x2048x3072, .f32⟩
  | .hbm, ⟨10, _⟩ => ⟨S4x2048x3072, .f32⟩
  | .hbm, ⟨11, _⟩ => ⟨S_, .f32⟩
  | .hbm, ⟨12, _⟩ => ⟨S4x2048x3072, .f32⟩
  | .hbm, ⟨13, _⟩ => ⟨S4x2048x3072, .f32⟩
  | .hbm, ⟨14, _⟩ => ⟨S4x2048x3072, .f32⟩
  | .hbm, ⟨15, _⟩ => ⟨S_, .f32⟩
  | .hbm, ⟨16, _⟩ => ⟨S4x2048x3072, .f32⟩
  | .hbm, ⟨17, _⟩ => ⟨S4x2048x3072, .f32⟩
  | .hbm, ⟨18, _⟩ => ⟨S4x2048x3072, .f32⟩
  | .hbm, ⟨19, _⟩ => ⟨S_, .f32⟩
  | .hbm, ⟨20, _⟩ => ⟨S4x2048x3072, .f32⟩
  | .hbm, ⟨21, _⟩ => ⟨S4x2048x3072, .f32⟩
  | .hbm, ⟨22, _⟩ => ⟨S_, .f32⟩
  | .hbm, ⟨23, _⟩ => ⟨S4x2048x3072, .f32⟩
  | .hbm, ⟨24, _⟩ => ⟨S4x2048x3072, .f32⟩
  | .hbm, ⟨25, _⟩ => ⟨S4x2048x3072, .f32⟩
  | .hbm, ⟨26, _⟩ => ⟨S_, .f32⟩
  | .hbm, ⟨27, _⟩ => ⟨S4x2048x3072, .f32⟩
  | .hbm, ⟨28, _⟩ => ⟨S4x2048x3072, .f32⟩
  | .hbm, ⟨29, _⟩ => ⟨S4x2048x3072, .f32⟩
  | .hbm, ⟨30, _⟩ => ⟨S_, .f32⟩
  | .hbm, ⟨31, _⟩ => ⟨S4x2048x3072, .f32⟩
  | .hbm, ⟨32, _⟩ => ⟨S4x2048x3072, .f32⟩
  | .hbm, ⟨33, _⟩ => ⟨S4x2048x3072, .f32⟩
  | .hbm, ⟨34, _⟩ => ⟨S_, .f32⟩
  | .hbm, ⟨35, _⟩ => ⟨S4x2048x3072, .f32⟩
  | .hbm, ⟨36, _⟩ => ⟨S4x2048x3072, .f32⟩
  | _, _ => ⟨S4x2048x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel16.lean ====
abbrev S4x2048x1540 : Shape := ⟨3, ![4, 2048, 1540]⟩
abbrev S1x128x1540 : Shape := ⟨3, ![1, 128, 1540]⟩

abbrev nBuf : Space → Nat
  | .hbm => 7
  | .vmem => 14
  | .smem => 0
  | _ => 0

abbrev bufTy : (tb : Table) → Fin (tcTables nBuf tb) → BufTy
  | .hbm, ⟨0, _⟩ => ⟨S4x2048x1540, .f32⟩
  | .hbm, ⟨1, _⟩ => ⟨S4x2048x1540, .f32⟩
  | .hbm, ⟨2, _⟩ => ⟨S4x2048x1540, .f32⟩
  | .hbm, ⟨3, _⟩ => ⟨S4x2048x1540, .f32⟩
  | .hbm, ⟨4, _⟩ => ⟨S4x2048x1540, .f32⟩
  | .hbm, ⟨5, _⟩ => ⟨S4x2048x1540, .f32⟩
  | .hbm, ⟨6, _⟩ => ⟨S4x2048x1540, .f32⟩
  | .local _ .vmem, ⟨0, _⟩ => ⟨S1x128x1540, .f32⟩
  | .local _ .vmem, ⟨1, _⟩ => ⟨S1x128x1540, .f32⟩
  | .local _ .vmem, ⟨2, _⟩ => ⟨S1x128x1540, .f32⟩
  | .local _ .vmem, ⟨3, _⟩ => ⟨S1x128x1540, .f32⟩
  | .local _ .vmem, ⟨4, _⟩ => ⟨S1x128x1540, .f32⟩
  | .local _ .vmem, ⟨5, _⟩ => ⟨S1x128x1540, .f32⟩
  | .local _ .vmem, ⟨6, _⟩ => ⟨S1x128x1540, .f32⟩
  | .local _ .vmem, ⟨7, _⟩ => ⟨S1x128x1540, .f32⟩
  | .local _ .vmem, ⟨8, _⟩ => ⟨S1x128x1540, .f32⟩
  | .local _ .vmem, ⟨9, _⟩ => ⟨S1x128x1540, .f32⟩
  | .local _ .vmem, ⟨10, _⟩ => ⟨S1x128x1540, .f32⟩
  | .local _ .vmem, ⟨11, _⟩ => ⟨S1x128x1540, .f32⟩
  | .local _ .vmem, ⟨12, _⟩ => ⟨S1x128x1540, .f32⟩
  | .local _ .vmem, ⟨13, _⟩ => ⟨S1x128x1540, .f32⟩
  | _, _ => ⟨S4x2048x1540, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x1540 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x1540 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x1540 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x1540 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x1540 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x1540 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x1540 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference16Ideal.lean ====
abbrev S4x2048x1540 : Shape := ⟨3, ![4, 2048, 1540]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x2048x1540, .f32⟩
  | .hbm, ⟨1, _⟩ => ⟨S4x2048x1540, .f32⟩
  | .hbm, ⟨2, _⟩ => ⟨S4x2048x1540, .f32⟩
  | .hbm, ⟨3, _⟩ => ⟨S4x2048x1540, .f32⟩
  | .hbm, ⟨4, _⟩ => ⟨S_, .f32⟩
  | .hbm, ⟨5, _⟩ => ⟨S4x2048x1540, .f32⟩
  | .hbm, ⟨6, _⟩ => ⟨S4x2048x1540, .f32⟩
  | .hbm, ⟨7, _⟩ => ⟨S_, .f32⟩
  | .hbm, ⟨8, _⟩ => ⟨S4x2048x1540, .f32⟩
  | .hbm, ⟨9, _⟩ => ⟨S4x2048x1540, .f32⟩
  | .hbm, ⟨10, _⟩ => ⟨S4x2048x1540, .f32⟩
  | .hbm, ⟨11, _⟩ => ⟨S_, .f32⟩
  | .hbm, ⟨12, _⟩ => ⟨S4x2048x1540, .f32⟩
  | .hbm, ⟨13, _⟩ => ⟨S4x2048x1540, .f32⟩
  | .hbm, ⟨14, _⟩ => ⟨S4x2048x1540, .f32⟩
  | .hbm, ⟨15, _⟩ => ⟨S_, .f32⟩
  | .hbm, ⟨16, _⟩ => ⟨S4x2048x1540, .f32⟩
  | .hbm, ⟨17, _⟩ => ⟨S4x2048x1540, .f32⟩
  | .hbm, ⟨18, _⟩ => ⟨S4x2048x1540, .f32⟩
  | .hbm, ⟨19, _⟩ => ⟨S_, .f32⟩
  | .hbm, ⟨20, _⟩ => ⟨S4x2048x1540, .f32⟩
  | .hbm, ⟨21, _⟩ => ⟨S4x2048x1540, .f32⟩
  | .hbm, ⟨22, _⟩ => ⟨S_, .f32⟩
  | .hbm, ⟨23, _⟩ => ⟨S4x2048x1540, .f32⟩
  | .hbm, ⟨24, _⟩ => ⟨S4x2048x1540, .f32⟩
  | .hbm, ⟨25, _⟩ => ⟨S4x2048x1540, .f32⟩
  | .hbm, ⟨26, _⟩ => ⟨S_, .f32⟩
  | .hbm, ⟨27, _⟩ => ⟨S4x2048x1540, .f32⟩
  | .hbm, ⟨28, _⟩ => ⟨S4x2048x1540, .f32⟩
  | .hbm, ⟨29, _⟩ => ⟨S4x2048x1540, .f32⟩
  | .hbm, ⟨30, _⟩ => ⟨S_, .f32⟩
  | .hbm, ⟨31, _⟩ => ⟨S4x2048x1540, .f32⟩
  | .hbm, ⟨32, _⟩ => ⟨S4x2048x1540, .f32⟩
  | .hbm, ⟨33, _⟩ => ⟨S4x2048x1540, .f32⟩
  | .hbm, ⟨34, _⟩ => ⟨S_, .f32⟩
  | .hbm, ⟨35, _⟩ => ⟨S4x2048x1540, .f32⟩
  | .hbm, ⟨36, _⟩ => ⟨S4x2048x1540, .f32⟩
  | _, _ => ⟨S4x2048x1540, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel17.lean ====
abbrev S4x256x1024 : Shape := ⟨3, ![4, 256, 1024]⟩
abbrev S1x256x1024 : Shape := ⟨3, ![1, 256, 1024]⟩

abbrev nBuf : Space → Nat
  | .hbm => 7
  | .vmem => 14
  | .smem => 0
  | _ => 0

abbrev bufTy : (tb : Table) → Fin (tcTables nBuf tb) → BufTy
  | .hbm, ⟨0, _⟩ => ⟨S4x256x1024, .f32⟩
  | .hbm, ⟨1, _⟩ => ⟨S4x256x1024, .f32⟩
  | .hbm, ⟨2, _⟩ => ⟨S4x256x1024, .f32⟩
  | .hbm, ⟨3, _⟩ => ⟨S4x256x1024, .f32⟩
  | .hbm, ⟨4, _⟩ => ⟨S4x256x1024, .f32⟩
  | .hbm, ⟨5, _⟩ => ⟨S4x256x1024, .f32⟩
  | .hbm, ⟨6, _⟩ => ⟨S4x256x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x256x1024, .f32⟩
  | .local _ .vmem, ⟨5, _⟩ => ⟨S1x256x1024, .f32⟩
  | .local _ .vmem, ⟨6, _⟩ => ⟨S1x256x1024, .f32⟩
  | .local _ .vmem, ⟨7, _⟩ => ⟨S1x256x1024, .f32⟩
  | .local _ .vmem, ⟨8, _⟩ => ⟨S1x256x1024, .f32⟩
  | .local _ .vmem, ⟨9, _⟩ => ⟨S1x256x1024, .f32⟩
  | .local _ .vmem, ⟨10, _⟩ => ⟨S1x256x1024, .f32⟩
  | .local _ .vmem, ⟨11, _⟩ => ⟨S1x256x1024, .f32⟩
  | .local _ .vmem, ⟨12, _⟩ => ⟨S1x256x1024, .f32⟩
  | .local _ .vmem, ⟨13, _⟩ => ⟨S1x256x1024, .f32⟩
  | _, _ => ⟨S4x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![4, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference17Ideal.lean ====
abbrev S4x256x1024 : Shape := ⟨3, ![4, 256, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x256x1024, .f32⟩
  | .hbm, ⟨1, _⟩ => ⟨S4x256x1024, .f32⟩
  | .hbm, ⟨2, _⟩ => ⟨S4x256x1024, .f32⟩
  | .hbm, ⟨3, _⟩ => ⟨S4x256x1024, .f32⟩
  | .hbm, ⟨4, _⟩ => ⟨S_, .f32⟩
  | .hbm, ⟨5, _⟩ => ⟨S4x256x1024, .f32⟩
  | .hbm, ⟨6, _⟩ => ⟨S4x256x1024, .f32⟩
  | .hbm, ⟨7, _⟩ => ⟨S_, .f32⟩
  | .hbm, ⟨8, _⟩ => ⟨S4x256x1024, .f32⟩
  | .hbm, ⟨9, _⟩ => ⟨S4x256x1024, .f32⟩
  | .hbm, ⟨10, _⟩ => ⟨S4x256x1024, .f32⟩
  | .hbm, ⟨11, _⟩ => ⟨S_, .f32⟩
  | .hbm, ⟨12, _⟩ => ⟨S4x256x1024, .f32⟩
  | .hbm, ⟨13, _⟩ => ⟨S4x256x1024, .f32⟩
  | .hbm, ⟨14, _⟩ => ⟨S4x256x1024, .f32⟩
  | .hbm, ⟨15, _⟩ => ⟨S_, .f32⟩
  | .hbm, ⟨16, _⟩ => ⟨S4x256x1024, .f32⟩
  | .hbm, ⟨17, _⟩ => ⟨S4x256x1024, .f32⟩
  | .hbm, ⟨18, _⟩ => ⟨S4x256x1024, .f32⟩
  | .hbm, ⟨19, _⟩ => ⟨S_, .f32⟩
  | .hbm, ⟨20, _⟩ => ⟨S4x256x1024, .f32⟩
  | .hbm, ⟨21, _⟩ => ⟨S4x256x1024, .f32⟩
  | .hbm, ⟨22, _⟩ => ⟨S_, .f32⟩
  | .hbm, ⟨23, _⟩ => ⟨S4x256x1024, .f32⟩
  | .hbm, ⟨24, _⟩ => ⟨S4x256x1024, .f32⟩
  | .hbm, ⟨25, _⟩ => ⟨S4x256x1024, .f32⟩
  | .hbm, ⟨26, _⟩ => ⟨S_, .f32⟩
  | .hbm, ⟨27, _⟩ => ⟨S4x256x1024, .f32⟩
  | .hbm, ⟨28, _⟩ => ⟨S4x256x1024, .f32⟩
  | .hbm, ⟨29, _⟩ => ⟨S4x256x1024, .f32⟩
  | .hbm, ⟨30, _⟩ => ⟨S_, .f32⟩
  | .hbm, ⟨31, _⟩ => ⟨S4x256x1024, .f32⟩
  | .hbm, ⟨32, _⟩ => ⟨S4x256x1024, .f32⟩
  | .hbm, ⟨33, _⟩ => ⟨S4x256x1024, .f32⟩
  | .hbm, ⟨34, _⟩ => ⟨S_, .f32⟩
  | .hbm, ⟨35, _⟩ => ⟨S4x256x1024, .f32⟩
  | .hbm, ⟨36, _⟩ => ⟨S4x256x1024, .f32⟩
  | _, _ => ⟨S4x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel18.lean ====
abbrev S4x512x2048 : Shape := ⟨3, ![4, 512, 2048]⟩
abbrev S1x128x2048 : Shape := ⟨3, ![1, 128, 2048]⟩

abbrev nBuf : Space → Nat
  | .hbm => 7
  | .vmem => 14
  | .smem => 0
  | _ => 0

abbrev bufTy : (tb : Table) → Fin (tcTables nBuf tb) → BufTy
  | .hbm, ⟨0, _⟩ => ⟨S4x512x2048, .f32⟩
  | .hbm, ⟨1, _⟩ => ⟨S4x512x2048, .f32⟩
  | .hbm, ⟨2, _⟩ => ⟨S4x512x2048, .f32⟩
  | .hbm, ⟨3, _⟩ => ⟨S4x512x2048, .f32⟩
  | .hbm, ⟨4, _⟩ => ⟨S4x512x2048, .f32⟩
  | .hbm, ⟨5, _⟩ => ⟨S4x512x2048, .f32⟩
  | .hbm, ⟨6, _⟩ => ⟨S4x512x2048, .f32⟩
  | .local _ .vmem, ⟨0, _⟩ => ⟨S1x128x2048, .f32⟩
  | .local _ .vmem, ⟨1, _⟩ => ⟨S1x128x2048, .f32⟩
  | .local _ .vmem, ⟨2, _⟩ => ⟨S1x128x2048, .f32⟩
  | .local _ .vmem, ⟨3, _⟩ => ⟨S1x128x2048, .f32⟩
  | .local _ .vmem, ⟨4, _⟩ => ⟨S1x128x2048, .f32⟩
  | .local _ .vmem, ⟨5, _⟩ => ⟨S1x128x2048, .f32⟩
  | .local _ .vmem, ⟨6, _⟩ => ⟨S1x128x2048, .f32⟩
  | .local _ .vmem, ⟨7, _⟩ => ⟨S1x128x2048, .f32⟩
  | .local _ .vmem, ⟨8, _⟩ => ⟨S1x128x2048, .f32⟩
  | .local _ .vmem, ⟨9, _⟩ => ⟨S1x128x2048, .f32⟩
  | .local _ .vmem, ⟨10, _⟩ => ⟨S1x128x2048, .f32⟩
  | .local _ .vmem, ⟨11, _⟩ => ⟨S1x128x2048, .f32⟩
  | .local _ .vmem, ⟨12, _⟩ => ⟨S1x128x2048, .f32⟩
  | .local _ .vmem, ⟨13, _⟩ => ⟨S1x128x2048, .f32⟩
  | _, _ => ⟨S4x512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference18Ideal.lean ====
abbrev S4x512x2048 : Shape := ⟨3, ![4, 512, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x512x2048, .f32⟩
  | .hbm, ⟨1, _⟩ => ⟨S4x512x2048, .f32⟩
  | .hbm, ⟨2, _⟩ => ⟨S4x512x2048, .f32⟩
  | .hbm, ⟨3, _⟩ => ⟨S4x512x2048, .f32⟩
  | .hbm, ⟨4, _⟩ => ⟨S_, .f32⟩
  | .hbm, ⟨5, _⟩ => ⟨S4x512x2048, .f32⟩
  | .hbm, ⟨6, _⟩ => ⟨S4x512x2048, .f32⟩
  | .hbm, ⟨7, _⟩ => ⟨S_, .f32⟩
  | .hbm, ⟨8, _⟩ => ⟨S4x512x2048, .f32⟩
  | .hbm, ⟨9, _⟩ => ⟨S4x512x2048, .f32⟩
  | .hbm, ⟨10, _⟩ => ⟨S4x512x2048, .f32⟩
  | .hbm, ⟨11, _⟩ => ⟨S_, .f32⟩
  | .hbm, ⟨12, _⟩ => ⟨S4x512x2048, .f32⟩
  | .hbm, ⟨13, _⟩ => ⟨S4x512x2048, .f32⟩
  | .hbm, ⟨14, _⟩ => ⟨S4x512x2048, .f32⟩
  | .hbm, ⟨15, _⟩ => ⟨S_, .f32⟩
  | .hbm, ⟨16, _⟩ => ⟨S4x512x2048, .f32⟩
  | .hbm, ⟨17, _⟩ => ⟨S4x512x2048, .f32⟩
  | .hbm, ⟨18, _⟩ => ⟨S4x512x2048, .f32⟩
  | .hbm, ⟨19, _⟩ => ⟨S_, .f32⟩
  | .hbm, ⟨20, _⟩ => ⟨S4x512x2048, .f32⟩
  | .hbm, ⟨21, _⟩ => ⟨S4x512x2048, .f32⟩
  | .hbm, ⟨22, _⟩ => ⟨S_, .f32⟩
  | .hbm, ⟨23, _⟩ => ⟨S4x512x2048, .f32⟩
  | .hbm, ⟨24, _⟩ => ⟨S4x512x2048, .f32⟩
  | .hbm, ⟨25, _⟩ => ⟨S4x512x2048, .f32⟩
  | .hbm, ⟨26, _⟩ => ⟨S_, .f32⟩
  | .hbm, ⟨27, _⟩ => ⟨S4x512x2048, .f32⟩
  | .hbm, ⟨28, _⟩ => ⟨S4x512x2048, .f32⟩
  | .hbm, ⟨29, _⟩ => ⟨S4x512x2048, .f32⟩
  | .hbm, ⟨30, _⟩ => ⟨S_, .f32⟩
  | .hbm, ⟨31, _⟩ => ⟨S4x512x2048, .f32⟩
  | .hbm, ⟨32, _⟩ => ⟨S4x512x2048, .f32⟩
  | .hbm, ⟨33, _⟩ => ⟨S4x512x2048, .f32⟩
  | .hbm, ⟨34, _⟩ => ⟨S_, .f32⟩
  | .hbm, ⟨35, _⟩ => ⟨S4x512x2048, .f32⟩
  | .hbm, ⟨36, _⟩ => ⟨S4x512x2048, .f32⟩
  | _, _ => ⟨S4x512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel19.lean ====
abbrev S4x2048x2048 : Shape := ⟨3, ![4, 2048, 2048]⟩
abbrev S1x128x2048 : Shape := ⟨3, ![1, 128, 2048]⟩

abbrev nBuf : Space → Nat
  | .hbm => 7
  | .vmem => 14
  | .smem => 0
  | _ => 0

abbrev bufTy : (tb : Table) → Fin (tcTables nBuf tb) → BufTy
  | .hbm, ⟨0, _⟩ => ⟨S4x2048x2048, .f32⟩
  | .hbm, ⟨1, _⟩ => ⟨S4x2048x2048, .f32⟩
  | .hbm, ⟨2, _⟩ => ⟨S4x2048x2048, .f32⟩
  | .hbm, ⟨3, _⟩ => ⟨S4x2048x2048, .f32⟩
  | .hbm, ⟨4, _⟩ => ⟨S4x2048x2048, .f32⟩
  | .hbm, ⟨5, _⟩ => ⟨S4x2048x2048, .f32⟩
  | .hbm, ⟨6, _⟩ => ⟨S4x2048x2048, .f32⟩
  | .local _ .vmem, ⟨0, _⟩ => ⟨S1x128x2048, .f32⟩
  | .local _ .vmem, ⟨1, _⟩ => ⟨S1x128x2048, .f32⟩
  | .local _ .vmem, ⟨2, _⟩ => ⟨S1x128x2048, .f32⟩
  | .local _ .vmem, ⟨3, _⟩ => ⟨S1x128x2048, .f32⟩
  | .local _ .vmem, ⟨4, _⟩ => ⟨S1x128x2048, .f32⟩
  | .local _ .vmem, ⟨5, _⟩ => ⟨S1x128x2048, .f32⟩
  | .local _ .vmem, ⟨6, _⟩ => ⟨S1x128x2048, .f32⟩
  | .local _ .vmem, ⟨7, _⟩ => ⟨S1x128x2048, .f32⟩
  | .local _ .vmem, ⟨8, _⟩ => ⟨S1x128x2048, .f32⟩
  | .local _ .vmem, ⟨9, _⟩ => ⟨S1x128x2048, .f32⟩
  | .local _ .vmem, ⟨10, _⟩ => ⟨S1x128x2048, .f32⟩
  | .local _ .vmem, ⟨11, _⟩ => ⟨S1x128x2048, .f32⟩
  | .local _ .vmem, ⟨12, _⟩ => ⟨S1x128x2048, .f32⟩
  | .local _ .vmem, ⟨13, _⟩ => ⟨S1x128x2048, .f32⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference19Ideal.lean ====
abbrev S4x2048x2048 : Shape := ⟨3, ![4, 2048, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S4x2048x2048, .f32⟩
  | .hbm, ⟨2, _⟩ => ⟨S4x2048x2048, .f32⟩
  | .hbm, ⟨3, _⟩ => ⟨S4x2048x2048, .f32⟩
  | .hbm, ⟨4, _⟩ => ⟨S_, .f32⟩
  | .hbm, ⟨5, _⟩ => ⟨S4x2048x2048, .f32⟩
  | .hbm, ⟨6, _⟩ => ⟨S4x2048x2048, .f32⟩
  | .hbm, ⟨7, _⟩ => ⟨S_, .f32⟩
  | .hbm, ⟨8, _⟩ => ⟨S4x2048x2048, .f32⟩
  | .hbm, ⟨9, _⟩ => ⟨S4x2048x2048, .f32⟩
  | .hbm, ⟨10, _⟩ => ⟨S4x2048x2048, .f32⟩
  | .hbm, ⟨11, _⟩ => ⟨S_, .f32⟩
  | .hbm, ⟨12, _⟩ => ⟨S4x2048x2048, .f32⟩
  | .hbm, ⟨13, _⟩ => ⟨S4x2048x2048, .f32⟩
  | .hbm, ⟨14, _⟩ => ⟨S4x2048x2048, .f32⟩
  | .hbm, ⟨15, _⟩ => ⟨S_, .f32⟩
  | .hbm, ⟨16, _⟩ => ⟨S4x2048x2048, .f32⟩
  | .hbm, ⟨17, _⟩ => ⟨S4x2048x2048, .f32⟩
  | .hbm, ⟨18, _⟩ => ⟨S4x2048x2048, .f32⟩
  | .hbm, ⟨19, _⟩ => ⟨S_, .f32⟩
  | .hbm, ⟨20, _⟩ => ⟨S4x2048x2048, .f32⟩
  | .hbm, ⟨21, _⟩ => ⟨S4x2048x2048, .f32⟩
  | .hbm, ⟨22, _⟩ => ⟨S_, .f32⟩
  | .hbm, ⟨23, _⟩ => ⟨S4x2048x2048, .f32⟩
  | .hbm, ⟨24, _⟩ => ⟨S4x2048x2048, .f32⟩
  | .hbm, ⟨25, _⟩ => ⟨S4x2048x2048, .f32⟩
  | .hbm, ⟨26, _⟩ => ⟨S_, .f32⟩
  | .hbm, ⟨27, _⟩ => ⟨S4x2048x2048, .f32⟩
  | .hbm, ⟨28, _⟩ => ⟨S4x2048x2048, .f32⟩
  | .hbm, ⟨29, _⟩ => ⟨S4x2048x2048, .f32⟩
  | .hbm, ⟨30, _⟩ => ⟨S_, .f32⟩
  | .hbm, ⟨31, _⟩ => ⟨S4x2048x2048, .f32⟩
  | .hbm, ⟨32, _⟩ => ⟨S4x2048x2048, .f32⟩
  | .hbm, ⟨33, _⟩ => ⟨S4x2048x2048, .f32⟩
  | .hbm, ⟨34, _⟩ => ⟨S_, .f32⟩
  | .hbm, ⟨35, _⟩ => ⟨S4x2048x2048, .f32⟩
  | .hbm, ⟨36, _⟩ => ⟨S4x2048x2048, .f32⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel20.lean ====
abbrev S4x2048x2048 : Shape := ⟨3, ![4, 2048, 2048]⟩
abbrev S1x128x2048 : Shape := ⟨3, ![1, 128, 2048]⟩

abbrev nBuf : Space → Nat
  | .hbm => 7
  | .vmem => 14
  | .smem => 0
  | _ => 0

abbrev bufTy : (tb : Table) → Fin (tcTables nBuf tb) → BufTy
  | .hbm, ⟨0, _⟩ => ⟨S4x2048x2048, .f32⟩
  | .hbm, ⟨1, _⟩ => ⟨S4x2048x2048, .f32⟩
  | .hbm, ⟨2, _⟩ => ⟨S4x2048x2048, .f32⟩
  | .hbm, ⟨3, _⟩ => ⟨S4x2048x2048, .f32⟩
  | .hbm, ⟨4, _⟩ => ⟨S4x2048x2048, .f32⟩
  | .hbm, ⟨5, _⟩ => ⟨S4x2048x2048, .f32⟩
  | .hbm, ⟨6, _⟩ => ⟨S4x2048x2048, .f32⟩
  | .local _ .vmem, ⟨0, _⟩ => ⟨S1x128x2048, .f32⟩
  | .local _ .vmem, ⟨1, _⟩ => ⟨S1x128x2048, .f32⟩
  | .local _ .vmem, ⟨2, _⟩ => ⟨S1x128x2048, .f32⟩
  | .local _ .vmem, ⟨3, _⟩ => ⟨S1x128x2048, .f32⟩
  | .local _ .vmem, ⟨4, _⟩ => ⟨S1x128x2048, .f32⟩
  | .local _ .vmem, ⟨5, _⟩ => ⟨S1x128x2048, .f32⟩
  | .local _ .vmem, ⟨6, _⟩ => ⟨S1x128x2048, .f32⟩
  | .local _ .vmem, ⟨7, _⟩ => ⟨S1x128x2048, .f32⟩
  | .local _ .vmem, ⟨8, _⟩ => ⟨S1x128x2048, .f32⟩
  | .local _ .vmem, ⟨9, _⟩ => ⟨S1x128x2048, .f32⟩
  | .local _ .vmem, ⟨10, _⟩ => ⟨S1x128x2048, .f32⟩
  | .local _ .vmem, ⟨11, _⟩ => ⟨S1x128x2048, .f32⟩
  | .local _ .vmem, ⟨12, _⟩ => ⟨S1x128x2048, .f32⟩
  | .local _ .vmem, ⟨13, _⟩ => ⟨S1x128x2048, .f32⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference20Ideal.lean ====
abbrev S4x2048x2048 : Shape := ⟨3, ![4, 2048, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S4x2048x2048, .f32⟩
  | .hbm, ⟨2, _⟩ => ⟨S4x2048x2048, .f32⟩
  | .hbm, ⟨3, _⟩ => ⟨S4x2048x2048, .f32⟩
  | .hbm, ⟨4, _⟩ => ⟨S_, .f32⟩
  | .hbm, ⟨5, _⟩ => ⟨S4x2048x2048, .f32⟩
  | .hbm, ⟨6, _⟩ => ⟨S4x2048x2048, .f32⟩
  | .hbm, ⟨7, _⟩ => ⟨S_, .f32⟩
  | .hbm, ⟨8, _⟩ => ⟨S4x2048x2048, .f32⟩
  | .hbm, ⟨9, _⟩ => ⟨S4x2048x2048, .f32⟩
  | .hbm, ⟨10, _⟩ => ⟨S4x2048x2048, .f32⟩
  | .hbm, ⟨11, _⟩ => ⟨S_, .f32⟩
  | .hbm, ⟨12, _⟩ => ⟨S4x2048x2048, .f32⟩
  | .hbm, ⟨13, _⟩ => ⟨S4x2048x2048, .f32⟩
  | .hbm, ⟨14, _⟩ => ⟨S4x2048x2048, .f32⟩
  | .hbm, ⟨15, _⟩ => ⟨S_, .f32⟩
  | .hbm, ⟨16, _⟩ => ⟨S4x2048x2048, .f32⟩
  | .hbm, ⟨17, _⟩ => ⟨S4x2048x2048, .f32⟩
  | .hbm, ⟨18, _⟩ => ⟨S4x2048x2048, .f32⟩
  | .hbm, ⟨19, _⟩ => ⟨S_, .f32⟩
  | .hbm, ⟨20, _⟩ => ⟨S4x2048x2048, .f32⟩
  | .hbm, ⟨21, _⟩ => ⟨S4x2048x2048, .f32⟩
  | .hbm, ⟨22, _⟩ => ⟨S_, .f32⟩
  | .hbm, ⟨23, _⟩ => ⟨S4x2048x2048, .f32⟩
  | .hbm, ⟨24, _⟩ => ⟨S4x2048x2048, .f32⟩
  | .hbm, ⟨25, _⟩ => ⟨S4x2048x2048, .f32⟩
  | .hbm, ⟨26, _⟩ => ⟨S_, .f32⟩
  | .hbm, ⟨27, _⟩ => ⟨S4x2048x2048, .f32⟩
  | .hbm, ⟨28, _⟩ => ⟨S4x2048x2048, .f32⟩
  | .hbm, ⟨29, _⟩ => ⟨S4x2048x2048, .f32⟩
  | .hbm, ⟨30, _⟩ => ⟨S_, .f32⟩
  | .hbm, ⟨31, _⟩ => ⟨S4x2048x2048, .f32⟩
  | .hbm, ⟨32, _⟩ => ⟨S4x2048x2048, .f32⟩
  | .hbm, ⟨33, _⟩ => ⟨S4x2048x2048, .f32⟩
  | .hbm, ⟨34, _⟩ => ⟨S_, .f32⟩
  | .hbm, ⟨35, _⟩ => ⟨S4x2048x2048, .f32⟩
  | .hbm, ⟨36, _⟩ => ⟨S4x2048x2048, .f32⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel21.lean ====
abbrev S2048x1024 : Shape := ⟨2, ![2048, 1024]⟩
abbrev S1x2048x1024 : Shape := ⟨3, ![1, 2048, 1024]⟩
abbrev S1x256x1024 : Shape := ⟨3, ![1, 256, 1024]⟩

abbrev nBuf : Space → Nat
  | .hbm => 11
  | .vmem => 14
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S2048x1024, .f32⟩
  | .hbm, ⟨4, _⟩ => ⟨S1x2048x1024, .f32⟩
  | .hbm, ⟨5, _⟩ => ⟨S1x2048x1024, .f32⟩
  | .hbm, ⟨6, _⟩ => ⟨S1x2048x1024, .f32⟩
  | .hbm, ⟨7, _⟩ => ⟨S1x2048x1024, .f32⟩
  | .hbm, ⟨8, _⟩ => ⟨S1x2048x1024, .f32⟩
  | .hbm, ⟨9, _⟩ => ⟨S1x2048x1024, .f32⟩
  | .hbm, ⟨10, _⟩ => ⟨S1x2048x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x256x1024, .f32⟩
  | .local _ .vmem, ⟨5, _⟩ => ⟨S1x256x1024, .f32⟩
  | .local _ .vmem, ⟨6, _⟩ => ⟨S1x256x1024, .f32⟩
  | .local _ .vmem, ⟨7, _⟩ => ⟨S1x256x1024, .f32⟩
  | .local _ .vmem, ⟨8, _⟩ => ⟨S1x256x1024, .f32⟩
  | .local _ .vmem, ⟨9, _⟩ => ⟨S1x256x1024, .f32⟩
  | .local _ .vmem, ⟨10, _⟩ => ⟨S1x256x1024, .f32⟩
  | .local _ .vmem, ⟨11, _⟩ => ⟨S1x256x1024, .f32⟩
  | .local _ .vmem, ⟨12, _⟩ => ⟨S1x256x1024, .f32⟩
  | .local _ .vmem, ⟨13, _⟩ => ⟨S1x256x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![1, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference21Ideal.lean ====
abbrev S2048x1024 : Shape := ⟨2, ![2048, 1024]⟩
abbrev S_ : Shape := ⟨0, ![]⟩
abbrev S1x2048x1024 : Shape := ⟨3, ![1, 2048, 1024]⟩

abbrev nBuf : Space → Nat
  | .hbm => 40
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S2048x1024, .f32⟩
  | .hbm, ⟨4, _⟩ => ⟨S_, .f32⟩
  | .hbm, ⟨5, _⟩ => ⟨S2048x1024, .f32⟩
  | .hbm, ⟨6, _⟩ => ⟨S2048x1024, .f32⟩
  | .hbm, ⟨7, _⟩ => ⟨S_, .f32⟩
  | .hbm, ⟨8, _⟩ => ⟨S2048x1024, .f32⟩
  | .hbm, ⟨9, _⟩ => ⟨S2048x1024, .f32⟩
  | .hbm, ⟨10, _⟩ => ⟨S2048x1024, .f32⟩
  | .hbm, ⟨11, _⟩ => ⟨S_, .f32⟩
  | .hbm, ⟨12, _⟩ => ⟨S2048x1024, .f32⟩
  | .hbm, ⟨13, _⟩ => ⟨S2048x1024, .f32⟩
  | .hbm, ⟨14, _⟩ => ⟨S2048x1024, .f32⟩
  | .hbm, ⟨15, _⟩ => ⟨S_, .f32⟩
  | .hbm, ⟨16, _⟩ => ⟨S2048x1024, .f32⟩
  | .hbm, ⟨17, _⟩ => ⟨S2048x1024, .f32⟩
  | .hbm, ⟨18, _⟩ => ⟨S2048x1024, .f32⟩
  | .hbm, ⟨19, _⟩ => ⟨S_, .f32⟩
  | .hbm, ⟨20, _⟩ => ⟨S2048x1024, .f32⟩
  | .hbm, ⟨21, _⟩ => ⟨S2048x1024, .f32⟩
  | .hbm, ⟨22, _⟩ => ⟨S_, .f32⟩
  | .hbm, ⟨23, _⟩ => ⟨S2048x1024, .f32⟩
  | .hbm, ⟨24, _⟩ => ⟨S2048x1024, .f32⟩
  | .hbm, ⟨25, _⟩ => ⟨S2048x1024, .f32⟩
  | .hbm, ⟨26, _⟩ => ⟨S_, .f32⟩
  | .hbm, ⟨27, _⟩ => ⟨S2048x1024, .f32⟩
  | .hbm, ⟨28, _⟩ => ⟨S2048x1024, .f32⟩
  | .hbm, ⟨29, _⟩ => ⟨S2048x1024, .f32⟩
  | .hbm, ⟨30, _⟩ => ⟨S_, .f32⟩
  | .hbm, ⟨31, _⟩ => ⟨S2048x1024, .f32⟩
  | .hbm, ⟨32, _⟩ => ⟨S2048x1024, .f32⟩
  | .hbm, ⟨33, _⟩ => ⟨S2048x1024, .f32⟩
  | .hbm, ⟨34, _⟩ => ⟨S_, .f32⟩
  | .hbm, ⟨35, _⟩ => ⟨S2048x1024, .f32⟩
  | .hbm, ⟨36, _⟩ => ⟨S2048x1024, .f32⟩
  | .hbm, ⟨37, _⟩ => ⟨S1x2048x1024, .f32⟩
  | .hbm, ⟨38, _⟩ => ⟨S1x2048x1024, .f32⟩
  | .hbm, ⟨39, _⟩ => ⟨S1x2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Kernel22.lean ====
abbrev S4x12288 : Shape := ⟨2, ![4, 12288]⟩
abbrev S4x2048 : Shape := ⟨2, ![4, 2048]⟩
abbrev S4x31x256 : Shape := ⟨3, ![4, 31, 256]⟩
abbrev S4x1024 : Shape := ⟨2, ![4, 1024]⟩
abbrev S4x4x768 : Shape := ⟨3, ![4, 4, 768]⟩
abbrev S4x8 : Shape := ⟨2, ![4, 8]⟩
abbrev S4x128 : Shape := ⟨2, ![4, 128]⟩
abbrev S4096 : Shape := ⟨1, ![4096]⟩
abbrev S2048 : Shape := ⟨1, ![2048]⟩
abbrev S49152 : Shape := ⟨1, ![49152]⟩
abbrev S8192 : Shape := ⟨1, ![8192]⟩
abbrev S31744 : Shape := ⟨1, ![31744]⟩
abbrev S12288 : Shape := ⟨1, ![12288]⟩
abbrev S32 : Shape := ⟨1, ![32]⟩
abbrev S512 : Shape := ⟨1, ![512]⟩
abbrev S132672 : Shape := ⟨1, ![132672]⟩
abbrev S_ : Shape := ⟨0, ![]⟩
abbrev S139264 : Shape := ⟨1, ![139264]⟩
abbrev S136x1024 : Shape := ⟨2, ![136, 1024]⟩
abbrev S1x136x1024 : Shape := ⟨3, ![1, 136, 1024]⟩

abbrev nBuf : Space → Nat
  | .hbm => 131
  | .vmem => 7
  | .smem => 0
  | _ => 0

abbrev hbmTy0_0 (i : Nat) : BufTy := match i % 128 with
  | 0 => ⟨S4x12288, .f32⟩
  | 1 => ⟨S4x2048, .f32⟩
  | 2 => ⟨S4x31x256, .f32⟩
  | 3 => ⟨S4x1024, .f32⟩
  | 4 => ⟨S4x1024, .f32⟩
  | 5 => ⟨S4x1024, .f32⟩
  | 6 => ⟨S4x1024, .f32⟩
  | 7 => ⟨S4x4x768, .f32⟩
  | 8 => ⟨S4x8, .f32⟩
  | 9 => ⟨S4x8, .f32⟩
  | 10 => ⟨S4x128, .f32⟩
  | 11 => ⟨S4x2048, .f32⟩
  | 12 => ⟨S4096, .f32⟩
  | 13 => ⟨S2048, .f32⟩
  | 14 => ⟨S4x12288, .f32⟩
  | 15 => ⟨S4x2048, .f32⟩
  | 16 => ⟨S4x31x256, .f32⟩
  | 17 => ⟨S4x1024, .f32⟩
  | 18 => ⟨S4x1024, .f32⟩
  | 19 => ⟨S4x1024, .f32⟩
  | 20 => ⟨S4x1024, .f32⟩
  | 21 => ⟨S4x4x768, .f32⟩
  | 22 => ⟨S4x8, .f32⟩
  | 23 => ⟨S4x8, .f32⟩
  | 24 => ⟨S4x128, .f32⟩
  | 25 => ⟨S4x2048, .f32⟩
  | 26 => ⟨S4096, .f32⟩
  | 27 => ⟨S2048, .f32⟩
  | 28 => ⟨S4x12288, .f32⟩
  | 29 => ⟨S4x2048, .f32⟩
  | 30 => ⟨S4x31x256, .f32⟩
  | 31 => ⟨S4x1024, .f32⟩
  | 32 => ⟨S4x1024, .f32⟩
  | 33 => ⟨S4x1024, .f32⟩
  | 34 => ⟨S4x1024, .f32⟩
  | 35 => ⟨S4x4x768, .f32⟩
  | 36 => ⟨S4x8, .f32⟩
  | 37 => ⟨S4x8, .f32⟩
  | 38 => ⟨S4x128, .f32⟩
  | 39 => ⟨S4x2048, .f32⟩
  | 40 => ⟨S4096, .f32⟩
  | 41 => ⟨S2048, .f32⟩
  | 42 => ⟨S4x12288, .f32⟩
  | 43 => ⟨S4x2048, .f32⟩
  | 44 => ⟨S4x31x256, .f32⟩
  | 45 => ⟨S4x1024, .f32⟩
  | 46 => ⟨S4x1024, .f32⟩
  | 47 => ⟨S4x1024, .f32⟩
  | 48 => ⟨S4x1024, .f32⟩
  | 49 => ⟨S4x4x768, .f32⟩
  | 50 => ⟨S4x8, .f32⟩
  | 51 => ⟨S4x8, .f32⟩
  | 52 => ⟨S4x128, .f32⟩
  | 53 => ⟨S4x2048, .f32⟩
  | 54 => ⟨S4096, .f32⟩
  | 55 => ⟨S2048, .f32⟩
  | 56 => ⟨S49152, .f32⟩
  | 57 => ⟨S8192, .f32⟩
  | 58 => ⟨S31744, .f32⟩
  | 59 => ⟨S4096, .f32⟩
  | 60 => ⟨S4096, .f32⟩
  | 61 => ⟨S4096, .f32⟩
  | 62 => ⟨S4096, .f32⟩
  | 63 => ⟨S12288, .f32⟩
  | 64 => ⟨S32, .f32⟩
  | 65 => ⟨S32, .f32⟩
  | 66 => ⟨S512, .f32⟩
  | 67 => ⟨S8192, .f32⟩
  | 68 => ⟨S132672, .f32⟩
  | 69 => ⟨S_, .i32⟩
  | 70 => ⟨S_, .f32⟩
  | 71 => ⟨S139264, .f32⟩
  | 72 => ⟨S136x1024, .f32⟩
  | 73 => ⟨S1x136x1024, .f32⟩
  | 74 => ⟨S49152, .f32⟩
  | 75 => ⟨S8192, .f32⟩
  | 76 => ⟨S31744, .f32⟩
  | 77 => ⟨S4096, .f32⟩
  | 78 => ⟨S4096, .f32⟩
  | 79 => ⟨S4096, .f32⟩
  | 80 => ⟨S4096, .f32⟩
  | 81 => ⟨S12288, .f32⟩
  | 82 => ⟨S32, .f32⟩
  | 83 => ⟨S32, .f32⟩
  | 84 => ⟨S512, .f32⟩
  | 85 => ⟨S8192, .f32⟩
  | 86 => ⟨S132672, .f32⟩
  | 87 => ⟨S_, .i32⟩
  | 88 => ⟨S_, .f32⟩
  | 89 => ⟨S139264, .f32⟩
  | 90 => ⟨S136x1024, .f32⟩
  | 91 => ⟨S1x136x1024, .f32⟩
  | 92 => ⟨S49152, .f32⟩
  | 93 => ⟨S8192, .f32⟩
  | 94 => ⟨S31744, .f32⟩
  | 95 => ⟨S4096, .f32⟩
  | 96 => ⟨S4096, .f32⟩
  | 97 => ⟨S4096, .f32⟩
  | 98 => ⟨S4096, .f32⟩
  | 99 => ⟨S12288, .f32⟩
  | 100 => ⟨S32, .f32⟩
  | 101 => ⟨S32, .f32⟩
  | 102 => ⟨S512, .f32⟩
  | 103 => ⟨S8192, .f32⟩
  | 104 => ⟨S132672, .f32⟩
  | 105 => ⟨S_, .i32⟩
  | 106 => ⟨S_, .f32⟩
  | 107 => ⟨S139264, .f32⟩
  | 108 => ⟨S136x1024, .f32⟩
  | 109 => ⟨S1x136x1024, .f32⟩
  | 110 => ⟨S49152, .f32⟩
  | 111 => ⟨S8192, .f32⟩
  | 112 => ⟨S31744, .f32⟩
  | 113 => ⟨S4096, .f32⟩
  | 114 => ⟨S4096, .f32⟩
  | 115 => ⟨S4096, .f32⟩
  | 116 => ⟨S4096, .f32⟩
  | 117 => ⟨S12288, .f32⟩
  | 118 => ⟨S32, .f32⟩
  | 119 => ⟨S32, .f32⟩
  | 120 => ⟨S512, .f32⟩
  | 121 => ⟨S8192, .f32⟩
  | 122 => ⟨S132672, .f32⟩
  | 123 => ⟨S_, .i32⟩
  | 124 => ⟨S_, .f32⟩
  | 125 => ⟨S139264, .f32⟩
  | 126 => ⟨S136x1024, .f32⟩
  | 127 => ⟨S1x136x1024, .f32⟩
  | _ => ⟨S4x12288, .f32⟩

abbrev hbmTy0_1 (i : Nat) : BufTy := match i % 128 with
  | 0 => ⟨S1x136x1024, .f32⟩
  | 1 => ⟨S1x136x1024, .f32⟩
  | 2 => ⟨S1x136x1024, .f32⟩
  | _ => ⟨S4x12288, .f32⟩

abbrev hbmTy (i : Nat) : BufTy := match i / 128 with
  | 0 => hbmTy0_0 i
  | 1 => hbmTy0_1 i
  | _ => ⟨S4x12288, .f32⟩

abbrev bufTy : (tb : Table) → Fin (tcTables nBuf tb) → BufTy
  | .hbm, ⟨i, _⟩ => hbmTy i
  | .local _ .vmem, ⟨0, _⟩ => ⟨S1x136x1024, .f32⟩
  | .local _ .vmem, ⟨1, _⟩ => ⟨S1x136x1024, .f32⟩
  | .local _ .vmem, ⟨2, _⟩ => ⟨S1x136x1024, .f32⟩
  | .local _ .vmem, ⟨3, _⟩ => ⟨S1x136x1024, .f32⟩
  | .local _ .vmem, ⟨4, _⟩ => ⟨S1x136x1024, .f32⟩
  | .local _ .vmem, ⟨5, _⟩ => ⟨S1x136x1024, .f32⟩
  | .local _ .vmem, ⟨6, _⟩ => ⟨S1x136x1024, .f32⟩
  | _, _ => ⟨S4x12288, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_arg37 : Ref sig .tc := ⟨.hbm, 37, rfl⟩
abbrev main_arg38 : Ref sig .tc := ⟨.hbm, 38, rfl⟩
abbrev main_arg39 : Ref sig .tc := ⟨.hbm, 39, rfl⟩
abbrev main_arg40 : Ref sig .tc := ⟨.hbm, 40, rfl⟩
abbrev main_arg41 : Ref sig .tc := ⟨.hbm, 41, rfl⟩
abbrev main_arg42 : Ref sig .tc := ⟨.hbm, 42, rfl⟩
abbrev main_arg43 : Ref sig .tc := ⟨.hbm, 43, rfl⟩
abbrev main_arg44 : Ref sig .tc := ⟨.hbm, 44, rfl⟩
abbrev main_arg45 : Ref sig .tc := ⟨.hbm, 45, rfl⟩
abbrev main_arg46 : Ref sig .tc := ⟨.hbm, 46, rfl⟩
abbrev main_arg47 : Ref sig .tc := ⟨.hbm, 47, rfl⟩
abbrev main_arg48 : Ref sig .tc := ⟨.hbm, 48, rfl⟩
abbrev main_arg49 : Ref sig .tc := ⟨.hbm, 49, rfl⟩
abbrev main_arg50 : Ref sig .tc := ⟨.hbm, 50, rfl⟩
abbrev main_arg51 : Ref sig .tc := ⟨.hbm, 51, rfl⟩
abbrev main_arg52 : Ref sig .tc := ⟨.hbm, 52, rfl⟩
abbrev main_arg53 : Ref sig .tc := ⟨.hbm, 53, rfl⟩
abbrev main_arg54 : Ref sig .tc := ⟨.hbm, 54, rfl⟩
abbrev main_arg55 : Ref sig .tc := ⟨.hbm, 55, rfl⟩
abbrev main_v0 : Ref sig .tc := ⟨.hbm, 56, rfl⟩
abbrev main_v1 : Ref sig .tc := ⟨.hbm, 57, rfl⟩
abbrev main_v2 : Ref sig .tc := ⟨.hbm, 58, rfl⟩
abbrev main_v3 : Ref sig .tc := ⟨.hbm, 59, rfl⟩
abbrev main_v4 : Ref sig .tc := ⟨.hbm, 60, rfl⟩
abbrev main_v5 : Ref sig .tc := ⟨.hbm, 61, rfl⟩
abbrev main_v6 : Ref sig .tc := ⟨.hbm, 62, rfl⟩
abbrev main_v7 : Ref sig .tc := ⟨.hbm, 63, rfl⟩
abbrev main_v8 : Ref sig .tc := ⟨.hbm, 64, rfl⟩
abbrev main_v9 : Ref sig .tc := ⟨.hbm, 65, rfl⟩
abbrev main_v10 : Ref sig .tc := ⟨.hbm, 66, rfl⟩
abbrev main_v11 : Ref sig .tc := ⟨.hbm, 67, rfl⟩
abbrev main_v12 : Ref sig .tc := ⟨.hbm, 68, rfl⟩
abbrev main_c : Ref sig .tc := ⟨.hbm, 69, rfl⟩
abbrev main_call0_v0 : Ref sig .tc := ⟨.hbm, 70, rfl⟩
abbrev main_v13 : Ref sig .tc := ⟨.hbm, 71, rfl⟩
abbrev main_v14 : Ref sig .tc := ⟨.hbm, 72, rfl⟩
abbrev main_v15 : Ref sig .tc := ⟨.hbm, 73, rfl⟩
abbrev main_v16 : Ref sig .tc := ⟨.hbm, 74, rfl⟩
abbrev main_v17 : Ref sig .tc := ⟨.hbm, 75, rfl⟩
abbrev main_v18 : Ref sig .tc := ⟨.hbm, 76, rfl⟩
abbrev main_v19 : Ref sig .tc := ⟨.hbm, 77, rfl⟩
abbrev main_v20 : Ref sig .tc := ⟨.hbm, 78, rfl⟩
abbrev main_v21 : Ref sig .tc := ⟨.hbm, 79, rfl⟩
abbrev main_v22 : Ref sig .tc := ⟨.hbm, 80, rfl⟩
abbrev main_v23 : Ref sig .tc := ⟨.hbm, 81, rfl⟩
abbrev main_v24 : Ref sig .tc := ⟨.hbm, 82, rfl⟩
abbrev main_v25 : Ref sig .tc := ⟨.hbm, 83, rfl⟩
abbrev main_v26 : Ref sig .tc := ⟨.hbm, 84, rfl⟩
abbrev main_v27 : Ref sig .tc := ⟨.hbm, 85, rfl⟩
abbrev main_v28 : Ref sig .tc := ⟨.hbm, 86, rfl⟩
abbrev main_c_0 : Ref sig .tc := ⟨.hbm, 87, rfl⟩
abbrev main_call1_v0 : Ref sig .tc := ⟨.hbm, 88, rfl⟩
abbrev main_v29 : Ref sig .tc := ⟨.hbm, 89, rfl⟩
abbrev main_v30 : Ref sig .tc := ⟨.hbm, 90, rfl⟩
abbrev main_v31 : Ref sig .tc := ⟨.hbm, 91, rfl⟩
abbrev main_v32 : Ref sig .tc := ⟨.hbm, 92, rfl⟩
abbrev main_v33 : Ref sig .tc := ⟨.hbm, 93, rfl⟩
abbrev main_v34 : Ref sig .tc := ⟨.hbm, 94, rfl⟩
abbrev main_v35 : Ref sig .tc := ⟨.hbm, 95, rfl⟩
abbrev main_v36 : Ref sig .tc := ⟨.hbm, 96, rfl⟩
abbrev main_v37 : Ref sig .tc := ⟨.hbm, 97, rfl⟩
abbrev main_v38 : Ref sig .tc := ⟨.hbm, 98, rfl⟩
abbrev main_v39 : Ref sig .tc := ⟨.hbm, 99, rfl⟩
abbrev main_v40 : Ref sig .tc := ⟨.hbm, 100, rfl⟩
abbrev main_v41 : Ref sig .tc := ⟨.hbm, 101, rfl⟩
abbrev main_v42 : Ref sig .tc := ⟨.hbm, 102, rfl⟩
abbrev main_v43 : Ref sig .tc := ⟨.hbm, 103, rfl⟩
abbrev main_v44 : Ref sig .tc := ⟨.hbm, 104, rfl⟩
abbrev main_c_1 : Ref sig .tc := ⟨.hbm, 105, rfl⟩
abbrev main_call2_v0 : Ref sig .tc := ⟨.hbm, 106, rfl⟩
abbrev main_v45 : Ref sig .tc := ⟨.hbm, 107, rfl⟩
abbrev main_v46 : Ref sig .tc := ⟨.hbm, 108, rfl⟩
abbrev main_v47 : Ref sig .tc := ⟨.hbm, 109, rfl⟩
abbrev main_v48 : Ref sig .tc := ⟨.hbm, 110, rfl⟩
abbrev main_v49 : Ref sig .tc := ⟨.hbm, 111, rfl⟩
abbrev main_v50 : Ref sig .tc := ⟨.hbm, 112, rfl⟩
abbrev main_v51 : Ref sig .tc := ⟨.hbm, 113, rfl⟩
abbrev main_v52 : Ref sig .tc := ⟨.hbm, 114, rfl⟩
abbrev main_v53 : Ref sig .tc := ⟨.hbm, 115, rfl⟩
abbrev main_v54 : Ref sig .tc := ⟨.hbm, 116, rfl⟩
abbrev main_v55 : Ref sig .tc := ⟨.hbm, 117, rfl⟩
abbrev main_v56 : Ref sig .tc := ⟨.hbm, 118, rfl⟩
abbrev main_v57 : Ref sig .tc := ⟨.hbm, 119, rfl⟩
abbrev main_v58 : Ref sig .tc := ⟨.hbm, 120, rfl⟩
abbrev main_v59 : Ref sig .tc := ⟨.hbm, 121, rfl⟩
abbrev main_v60 : Ref sig .tc := ⟨.hbm, 122, rfl⟩
abbrev main_c_2 : Ref sig .tc := ⟨.hbm, 123, rfl⟩
abbrev main_call3_v0 : Ref sig .tc := ⟨.hbm, 124, rfl⟩
abbrev main_v61 : Ref sig .tc := ⟨.hbm, 125, rfl⟩
abbrev main_v62 : Ref sig .tc := ⟨.hbm, 126, rfl⟩
abbrev main_v63 : Ref sig .tc := ⟨.hbm, 127, rfl⟩
abbrev main_v64_0 : Ref sig .tc := ⟨.hbm, 128, rfl⟩
abbrev main_v64_1 : Ref sig .tc := ⟨.hbm, 129, rfl⟩
abbrev main_v64_2 : Ref sig .tc := ⟨.hbm, 130, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S1x136x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x136x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x136x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x136x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x136x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x136x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x136x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]
-- ==== Reference22Ideal.lean ====
abbrev S4x12288 : Shape := ⟨2, ![4, 12288]⟩
abbrev S4x2048 : Shape := ⟨2, ![4, 2048]⟩
abbrev S4x31x256 : Shape := ⟨3, ![4, 31, 256]⟩
abbrev S4x1024 : Shape := ⟨2, ![4, 1024]⟩
abbrev S4x4x768 : Shape := ⟨3, ![4, 4, 768]⟩
abbrev S4x8 : Shape := ⟨2, ![4, 8]⟩
abbrev S4x128 : Shape := ⟨2, ![4, 128]⟩
abbrev S4096 : Shape := ⟨1, ![4096]⟩
abbrev S2048 : Shape := ⟨1, ![2048]⟩
abbrev S_ : Shape := ⟨0, ![]⟩
abbrev S49152 : Shape := ⟨1, ![49152]⟩
abbrev S8192 : Shape := ⟨1, ![8192]⟩
abbrev S31744 : Shape := ⟨1, ![31744]⟩
abbrev S12288 : Shape := ⟨1, ![12288]⟩
abbrev S32 : Shape := ⟨1, ![32]⟩
abbrev S512 : Shape := ⟨1, ![512]⟩
abbrev S132672 : Shape := ⟨1, ![132672]⟩
abbrev S139264 : Shape := ⟨1, ![139264]⟩
abbrev S1x136x1024 : Shape := ⟨3, ![1, 136, 1024]⟩

abbrev nBuf : Space → Nat
  | .hbm => 569
  | .vmem => 0
  | .smem => 0
  | _ => 0

abbrev hbmTy0_0 (i : Nat) : BufTy := match i % 128 with
  | 0 => ⟨S4x12288, .f32⟩
  | 1 => ⟨S4x2048, .f32⟩
  | 2 => ⟨S4x31x256, .f32⟩
  | 3 => ⟨S4x1024, .f32⟩
  | 4 => ⟨S4x1024, .f32⟩
  | 5 => ⟨S4x1024, .f32⟩
  | 6 => ⟨S4x1024, .f32⟩
  | 7 => ⟨S4x4x768, .f32⟩
  | 8 => ⟨S4x8, .f32⟩
  | 9 => ⟨S4x8, .f32⟩
  | 10 => ⟨S4x128, .f32⟩
  | 11 => ⟨S4x2048, .f32⟩
  | 12 => ⟨S4096, .f32⟩
  | 13 => ⟨S2048, .f32⟩
  | 14 => ⟨S4x12288, .f32⟩
  | 15 => ⟨S4x2048, .f32⟩
  | 16 => ⟨S4x31x256, .f32⟩
  | 17 => ⟨S4x1024, .f32⟩
  | 18 => ⟨S4x1024, .f32⟩
  | 19 => ⟨S4x1024, .f32⟩
  | 20 => ⟨S4x1024, .f32⟩
  | 21 => ⟨S4x4x768, .f32⟩
  | 22 => ⟨S4x8, .f32⟩
  | 23 => ⟨S4x8, .f32⟩
  | 24 => ⟨S4x128, .f32⟩
  | 25 => ⟨S4x2048, .f32⟩
  | 26 => ⟨S4096, .f32⟩
  | 27 => ⟨S2048, .f32⟩
  | 28 => ⟨S4x12288, .f32⟩
  | 29 => ⟨S4x2048, .f32⟩
  | 30 => ⟨S4x31x256, .f32⟩
  | 31 => ⟨S4x1024, .f32⟩
  | 32 => ⟨S4x1024, .f32⟩
  | 33 => ⟨S4x1024, .f32⟩
  | 34 => ⟨S4x1024, .f32⟩
  | 35 => ⟨S4x4x768, .f32⟩
  | 36 => ⟨S4x8, .f32⟩
  | 37 => ⟨S4x8, .f32⟩
  | 38 => ⟨S4x128, .f32⟩
  | 39 => ⟨S4x2048, .f32⟩
  | 40 => ⟨S4096, .f32⟩
  | 41 => ⟨S2048, .f32⟩
  | 42 => ⟨S4x12288, .f32⟩
  | 43 => ⟨S4x2048, .f32⟩
  | 44 => ⟨S4x31x256, .f32⟩
  | 45 => ⟨S4x1024, .f32⟩
  | 46 => ⟨S4x1024, .f32⟩
  | 47 => ⟨S4x1024, .f32⟩
  | 48 => ⟨S4x1024, .f32⟩
  | 49 => ⟨S4x4x768, .f32⟩
  | 50 => ⟨S4x8, .f32⟩
  | 51 => ⟨S4x8, .f32⟩
  | 52 => ⟨S4x128, .f32⟩
  | 53 => ⟨S4x2048, .f32⟩
  | 54 => ⟨S4096, .f32⟩
  | 55 => ⟨S2048, .f32⟩
  | 56 => ⟨S_, .f32⟩
  | 57 => ⟨S4x12288, .f32⟩
  | 58 => ⟨S4x12288, .f32⟩
  | 59 => ⟨S_, .f32⟩
  | 60 => ⟨S4x12288, .f32⟩
  | 61 => ⟨S4x12288, .f32⟩
  | 62 => ⟨S4x12288, .f32⟩
  | 63 => ⟨S_, .f32⟩
  | 64 => ⟨S4x12288, .f32⟩
  | 65 => ⟨S4x12288, .f32⟩
  | 66 => ⟨S4x12288, .f32⟩
  | 67 => ⟨S_, .f32⟩
  | 68 => ⟨S4x12288, .f32⟩
  | 69 => ⟨S4x12288, .f32⟩
  | 70 => ⟨S4x12288, .f32⟩
  | 71 => ⟨S_, .f32⟩
  | 72 => ⟨S4x12288, .f32⟩
  | 73 => ⟨S4x12288, .f32⟩
  | 74 => ⟨S_, .f32⟩
  | 75 => ⟨S4x12288, .f32⟩
  | 76 => ⟨S4x12288, .f32⟩
  | 77 => ⟨S4x12288, .f32⟩
  | 78 => ⟨S_, .f32⟩
  | 79 => ⟨S4x12288, .f32⟩
  | 80 => ⟨S4x12288, .f32⟩
  | 81 => ⟨S4x12288, .f32⟩
  | 82 => ⟨S_, .f32⟩
  | 83 => ⟨S4x12288, .f32⟩
  | 84 => ⟨S4x12288, .f32⟩
  | 85 => ⟨S4x12288, .f32⟩
  | 86 => ⟨S_, .f32⟩
  | 87 => ⟨S4x12288, .f32⟩
  | 88 => ⟨S4x12288, .f32⟩
  | 89 => ⟨S_, .f32⟩
  | 90 => ⟨S4x2048, .f32⟩
  | 91 => ⟨S4x2048, .f32⟩
  | 92 => ⟨S_, .f32⟩
  | 93 => ⟨S4x2048, .f32⟩
  | 94 => ⟨S4x2048, .f32⟩
  | 95 => ⟨S4x2048, .f32⟩
  | 96 => ⟨S_, .f32⟩
  | 97 => ⟨S4x2048, .f32⟩
  | 98 => ⟨S4x2048, .f32⟩
  | 99 => ⟨S4x2048, .f32⟩
  | 100 => ⟨S_, .f32⟩
  | 101 => ⟨S4x2048, .f32⟩
  | 102 => ⟨S4x2048, .f32⟩
  | 103 => ⟨S4x2048, .f32⟩
  | 104 => ⟨S_, .f32⟩
  | 105 => ⟨S4x2048, .f32⟩
  | 106 => ⟨S4x2048, .f32⟩
  | 107 => ⟨S_, .f32⟩
  | 108 => ⟨S4x2048, .f32⟩
  | 109 => ⟨S4x2048, .f32⟩
  | 110 => ⟨S4x2048, .f32⟩
  | 111 => ⟨S_, .f32⟩
  | 112 => ⟨S4x2048, .f32⟩
  | 113 => ⟨S4x2048, .f32⟩
  | 114 => ⟨S4x2048, .f32⟩
  | 115 => ⟨S_, .f32⟩
  | 116 => ⟨S4x2048, .f32⟩
  | 117 => ⟨S4x2048, .f32⟩
  | 118 => ⟨S4x2048, .f32⟩
  | 119 => ⟨S_, .f32⟩
  | 120 => ⟨S4x2048, .f32⟩
  | 121 => ⟨S4x2048, .f32⟩
  | 122 => ⟨S_, .f32⟩
  | 123 => ⟨S4x31x256, .f32⟩
  | 124 => ⟨S4x31x256, .f32⟩
  | 125 => ⟨S_, .f32⟩
  | 126 => ⟨S4x31x256, .f32⟩
  | 127 => ⟨S4x31x256, .f32⟩
  | _ => ⟨S4x12288, .f32⟩

abbrev hbmTy0_1 (i : Nat) : BufTy := match i % 128 with
  | 0 => ⟨S4x31x256, .f32⟩
  | 1 => ⟨S_, .f32⟩
  | 2 => ⟨S4x31x256, .f32⟩
  | 3 => ⟨S4x31x256, .f32⟩
  | 4 => ⟨S4x31x256, .f32⟩
  | 5 => ⟨S_, .f32⟩
  | 6 => ⟨S4x31x256, .f32⟩
  | 7 => ⟨S4x31x256, .f32⟩
  | 8 => ⟨S4x31x256, .f32⟩
  | 9 => ⟨S_, .f32⟩
  | 10 => ⟨S4x31x256, .f32⟩
  | 11 => ⟨S4x31x256, .f32⟩
  | 12 => ⟨S_, .f32⟩
  | 13 => ⟨S4x31x256, .f32⟩
  | 14 => ⟨S4x31x256, .f32⟩
  | 15 => ⟨S4x31x256, .f32⟩
  | 16 => ⟨S_, .f32⟩
  | 17 => ⟨S4x31x256, .f32⟩
  | 18 => ⟨S4x31x256, .f32⟩
  | 19 => ⟨S4x31x256, .f32⟩
  | 20 => ⟨S_, .f32⟩
  | 21 => ⟨S4x31x256, .f32⟩
  | 22 => ⟨S4x31x256, .f32⟩
  | 23 => ⟨S4x31x256, .f32⟩
  | 24 => ⟨S_, .f32⟩
  | 25 => ⟨S4x31x256, .f32⟩
  | 26 => ⟨S4x31x256, .f32⟩
  | 27 => ⟨S_, .f32⟩
  | 28 => ⟨S4x1024, .f32⟩
  | 29 => ⟨S4x1024, .f32⟩
  | 30 => ⟨S_, .f32⟩
  | 31 => ⟨S4x1024, .f32⟩
  | 32 => ⟨S4x1024, .f32⟩
  | 33 => ⟨S4x1024, .f32⟩
  | 34 => ⟨S_, .f32⟩
  | 35 => ⟨S4x1024, .f32⟩
  | 36 => ⟨S4x1024, .f32⟩
  | 37 => ⟨S4x1024, .f32⟩
  | 38 => ⟨S_, .f32⟩
  | 39 => ⟨S4x1024, .f32⟩
  | 40 => ⟨S4x1024, .f32⟩
  | 41 => ⟨S4x1024, .f32⟩
  | 42 => ⟨S_, .f32⟩
  | 43 => ⟨S4x1024, .f32⟩
  | 44 => ⟨S4x1024, .f32⟩
  | 45 => ⟨S_, .f32⟩
  | 46 => ⟨S4x1024, .f32⟩
  | 47 => ⟨S4x1024, .f32⟩
  | 48 => ⟨S4x1024, .f32⟩
  | 49 => ⟨S_, .f32⟩
  | 50 => ⟨S4x1024, .f32⟩
  | 51 => ⟨S4x1024, .f32⟩
  | 52 => ⟨S4x1024, .f32⟩
  | 53 => ⟨S_, .f32⟩
  | 54 => ⟨S4x1024, .f32⟩
  | 55 => ⟨S4x1024, .f32⟩
  | 56 => ⟨S4x1024, .f32⟩
  | 57 => ⟨S_, .f32⟩
  | 58 => ⟨S4x1024, .f32⟩
  | 59 => ⟨S4x1024, .f32⟩
  | 60 => ⟨S_, .f32⟩
  | 61 => ⟨S4x1024, .f32⟩
  | 62 => ⟨S4x1024, .f32⟩
  | 63 => ⟨S_, .f32⟩
  | 64 => ⟨S4x1024, .f32⟩
  | 65 => ⟨S4x1024, .f32⟩
  | 66 => ⟨S4x1024, .f32⟩
  | 67 => ⟨S_, .f32⟩
  | 68 => ⟨S4x1024, .f32⟩
  | 69 => ⟨S4x1024, .f32⟩
  | 70 => ⟨S4x1024, .f32⟩
  | 71 => ⟨S_, .f32⟩
  | 72 => ⟨S4x1024, .f32⟩
  | 73 => ⟨S4x1024, .f32⟩
  | 74 => ⟨S4x1024, .f32⟩
  | 75 => ⟨S_, .f32⟩
  | 76 => ⟨S4x1024, .f32⟩
  | 77 => ⟨S4x1024, .f32⟩
  | 78 => ⟨S_, .f32⟩
  | 79 => ⟨S4x1024, .f32⟩
  | 80 => ⟨S4x1024, .f32⟩
  | 81 => ⟨S4x1024, .f32⟩
  | 82 => ⟨S_, .f32⟩
  | 83 => ⟨S4x1024, .f32⟩
  | 84 => ⟨S4x1024, .f32⟩
  | 85 => ⟨S4x1024, .f32⟩
  | 86 => ⟨S_, .f32⟩
  | 87 => ⟨S4x1024, .f32⟩
  | 88 => ⟨S4x1024, .f32⟩
  | 89 => ⟨S4x1024, .f32⟩
  | 90 => ⟨S_, .f32⟩
  | 91 => ⟨S4x1024, .f32⟩
  | 92 => ⟨S4x1024, .f32⟩
  | 93 => ⟨S_, .f32⟩
  | 94 => ⟨S4x1024, .f32⟩
  | 95 => ⟨S4x1024, .f32⟩
  | 96 => ⟨S_, .f32⟩
  | 97 => ⟨S4x1024, .f32⟩
  | 98 => ⟨S4x1024, .f32⟩
  | 99 => ⟨S4x1024, .f32⟩
  | 100 => ⟨S_, .f32⟩
  | 101 => ⟨S4x1024, .f32⟩
  | 102 => ⟨S4x1024, .f32⟩
  | 103 => ⟨S4x1024, .f32⟩
  | 104 => ⟨S_, .f32⟩
  | 105 => ⟨S4x1024, .f32⟩
  | 106 => ⟨S4x1024, .f32⟩
  | 107 => ⟨S4x1024, .f32⟩
  | 108 => ⟨S_, .f32⟩
  | 109 => ⟨S4x1024, .f32⟩
  | 110 => ⟨S4x1024, .f32⟩
  | 111 => ⟨S_, .f32⟩
  | 112 => ⟨S4x1024, .f32⟩
  | 113 => ⟨S4x1024, .f32⟩
  | 114 => ⟨S4x1024, .f32⟩
  | 115 => ⟨S_, .f32⟩
  | 116 => ⟨S4x1024, .f32⟩
  | 117 => ⟨S4x1024, .f32⟩
  | 118 => ⟨S4x1024, .f32⟩
  | 119 => ⟨S_, .f32⟩
  | 120 => ⟨S4x1024, .f32⟩
  | 121 => ⟨S4x1024, .f32⟩
  | 122 => ⟨S4x1024, .f32⟩
  | 123 => ⟨S_, .f32⟩
  | 124 => ⟨S4x1024, .f32⟩
  | 125 => ⟨S4x1024, .f32⟩
  | 126 => ⟨S_, .f32⟩
  | 127 => ⟨S4x1024, .f32⟩
  | _ => ⟨S4x12288, .f32⟩

abbrev hbmTy0_2 (i : Nat) : BufTy := match i % 128 with
  | 0 => ⟨S4x1024, .f32⟩
  | 1 => ⟨S_, .f32⟩
  | 2 => ⟨S4x1024, .f32⟩
  | 3 => ⟨S4x1024, .f32⟩
  | 4 => ⟨S4x1024, .f32⟩
  | 5 => ⟨S_, .f32⟩
  | 6 => ⟨S4x1024, .f32⟩
  | 7 => ⟨S4x1024, .f32⟩
  | 8 => ⟨S4x1024, .f32⟩
  | 9 => ⟨S_, .f32⟩
  | 10 => ⟨S4x1024, .f32⟩
  | 11 => ⟨S4x1024, .f32⟩
  | 12 => ⟨S4x1024, .f32⟩
  | 13 => ⟨S_, .f32⟩
  | 14 => ⟨S4x1024, .f32⟩
  | 15 => ⟨S4x1024, .f32⟩
  | 16 => ⟨S_, .f32⟩
  | 17 => ⟨S4x1024, .f32⟩
  | 18 => ⟨S4x1024, .f32⟩
  | 19 => ⟨S4x1024, .f32⟩
  | 20 => ⟨S_, .f32⟩
  | 21 => ⟨S4x1024, .f32⟩
  | 22 => ⟨S4x1024, .f32⟩
  | 23 => ⟨S4x1024, .f32⟩
  | 24 => ⟨S_, .f32⟩
  | 25 => ⟨S4x1024, .f32⟩
  | 26 => ⟨S4x1024, .f32⟩
  | 27 => ⟨S4x1024, .f32⟩
  | 28 => ⟨S_, .f32⟩
  | 29 => ⟨S4x1024, .f32⟩
  | 30 => ⟨S4x1024, .f32⟩
  | 31 => ⟨S_, .f32⟩
  | 32 => ⟨S4x4x768, .f32⟩
  | 33 => ⟨S4x4x768, .f32⟩
  | 34 => ⟨S_, .f32⟩
  | 35 => ⟨S4x4x768, .f32⟩
  | 36 => ⟨S4x4x768, .f32⟩
  | 37 => ⟨S4x4x768, .f32⟩
  | 38 => ⟨S_, .f32⟩
  | 39 => ⟨S4x4x768, .f32⟩
  | 40 => ⟨S4x4x768, .f32⟩
  | 41 => ⟨S4x4x768, .f32⟩
  | 42 => ⟨S_, .f32⟩
  | 43 => ⟨S4x4x768, .f32⟩
  | 44 => ⟨S4x4x768, .f32⟩
  | 45 => ⟨S4x4x768, .f32⟩
  | 46 => ⟨S_, .f32⟩
  | 47 => ⟨S4x4x768, .f32⟩
  | 48 => ⟨S4x4x768, .f32⟩
  | 49 => ⟨S_, .f32⟩
  | 50 => ⟨S4x4x768, .f32⟩
  | 51 => ⟨S4x4x768, .f32⟩
  | 52 => ⟨S4x4x768, .f32⟩
  | 53 => ⟨S_, .f32⟩
  | 54 => ⟨S4x4x768, .f32⟩
  | 55 => ⟨S4x4x768, .f32⟩
  | 56 => ⟨S4x4x768, .f32⟩
  | 57 => ⟨S_, .f32⟩
  | 58 => ⟨S4x4x768, .f32⟩
  | 59 => ⟨S4x4x768, .f32⟩
  | 60 => ⟨S4x4x768, .f32⟩
  | 61 => ⟨S_, .f32⟩
  | 62 => ⟨S4x4x768, .f32⟩
  | 63 => ⟨S4x4x768, .f32⟩
  | 64 => ⟨S_, .f32⟩
  | 65 => ⟨S4x8, .f32⟩
  | 66 => ⟨S4x8, .f32⟩
  | 67 => ⟨S_, .f32⟩
  | 68 => ⟨S4x8, .f32⟩
  | 69 => ⟨S4x8, .f32⟩
  | 70 => ⟨S4x8, .f32⟩
  | 71 => ⟨S_, .f32⟩
  | 72 => ⟨S4x8, .f32⟩
  | 73 => ⟨S4x8, .f32⟩
  | 74 => ⟨S4x8, .f32⟩
  | 75 => ⟨S_, .f32⟩
  | 76 => ⟨S4x8, .f32⟩
  | 77 => ⟨S4x8, .f32⟩
  | 78 => ⟨S4x8, .f32⟩
  | 79 => ⟨S_, .f32⟩
  | 80 => ⟨S4x8, .f32⟩
  | 81 => ⟨S4x8, .f32⟩
  | 82 => ⟨S_, .f32⟩
  | 83 => ⟨S4x8, .f32⟩
  | 84 => ⟨S4x8, .f32⟩
  | 85 => ⟨S4x8, .f32⟩
  | 86 => ⟨S_, .f32⟩
  | 87 => ⟨S4x8, .f32⟩
  | 88 => ⟨S4x8, .f32⟩
  | 89 => ⟨S4x8, .f32⟩
  | 90 => ⟨S_, .f32⟩
  | 91 => ⟨S4x8, .f32⟩
  | 92 => ⟨S4x8, .f32⟩
  | 93 => ⟨S4x8, .f32⟩
  | 94 => ⟨S_, .f32⟩
  | 95 => ⟨S4x8, .f32⟩
  | 96 => ⟨S4x8, .f32⟩
  | 97 => ⟨S_, .f32⟩
  | 98 => ⟨S4x8, .f32⟩
  | 99 => ⟨S4x8, .f32⟩
  | 100 => ⟨S_, .f32⟩
  | 101 => ⟨S4x8, .f32⟩
  | 102 => ⟨S4x8, .f32⟩
  | 103 => ⟨S4x8, .f32⟩
  | 104 => ⟨S_, .f32⟩
  | 105 => ⟨S4x8, .f32⟩
  | 106 => ⟨S4x8, .f32⟩
  | 107 => ⟨S4x8, .f32⟩
  | 108 => ⟨S_, .f32⟩
  | 109 => ⟨S4x8, .f32⟩
  | 110 => ⟨S4x8, .f32⟩
  | 111 => ⟨S4x8, .f32⟩
  | 112 => ⟨S_, .f32⟩
  | 113 => ⟨S4x8, .f32⟩
  | 114 => ⟨S4x8, .f32⟩
  | 115 => ⟨S_, .f32⟩
  | 116 => ⟨S4x8, .f32⟩
  | 117 => ⟨S4x8, .f32⟩
  | 118 => ⟨S4x8, .f32⟩
  | 119 => ⟨S_, .f32⟩
  | 120 => ⟨S4x8, .f32⟩
  | 121 => ⟨S4x8, .f32⟩
  | 122 => ⟨S4x8, .f32⟩
  | 123 => ⟨S_, .f32⟩
  | 124 => ⟨S4x8, .f32⟩
  | 125 => ⟨S4x8, .f32⟩
  | 126 => ⟨S4x8, .f32⟩
  | 127 => ⟨S_, .f32⟩
  | _ => ⟨S4x12288, .f32⟩

abbrev hbmTy0_3 (i : Nat) : BufTy := match i % 128 with
  | 0 => ⟨S4x8, .f32⟩
  | 1 => ⟨S4x8, .f32⟩
  | 2 => ⟨S_, .f32⟩
  | 3 => ⟨S4x128, .f32⟩
  | 4 => ⟨S4x128, .f32⟩
  | 5 => ⟨S_, .f32⟩
  | 6 => ⟨S4x128, .f32⟩
  | 7 => ⟨S4x128, .f32⟩
  | 8 => ⟨S4x128, .f32⟩
  | 9 => ⟨S_, .f32⟩
  | 10 => ⟨S4x128, .f32⟩
  | 11 => ⟨S4x128, .f32⟩
  | 12 => ⟨S4x128, .f32⟩
  | 13 => ⟨S_, .f32⟩
  | 14 => ⟨S4x128, .f32⟩
  | 15 => ⟨S4x128, .f32⟩
  | 16 => ⟨S4x128, .f32⟩
  | 17 => ⟨S_, .f32⟩
  | 18 => ⟨S4x128, .f32⟩
  | 19 => ⟨S4x128, .f32⟩
  | 20 => ⟨S_, .f32⟩
  | 21 => ⟨S4x128, .f32⟩
  | 22 => ⟨S4x128, .f32⟩
  | 23 => ⟨S4x128, .f32⟩
  | 24 => ⟨S_, .f32⟩
  | 25 => ⟨S4x128, .f32⟩
  | 26 => ⟨S4x128, .f32⟩
  | 27 => ⟨S4x128, .f32⟩
  | 28 => ⟨S_, .f32⟩
  | 29 => ⟨S4x128, .f32⟩
  | 30 => ⟨S4x128, .f32⟩
  | 31 => ⟨S4x128, .f32⟩
  | 32 => ⟨S_, .f32⟩
  | 33 => ⟨S4x128, .f32⟩
  | 34 => ⟨S4x128, .f32⟩
  | 35 => ⟨S_, .f32⟩
  | 36 => ⟨S4x2048, .f32⟩
  | 37 => ⟨S4x2048, .f32⟩
  | 38 => ⟨S_, .f32⟩
  | 39 => ⟨S4x2048, .f32⟩
  | 40 => ⟨S4x2048, .f32⟩
  | 41 => ⟨S4x2048, .f32⟩
  | 42 => ⟨S_, .f32⟩
  | 43 => ⟨S4x2048, .f32⟩
  | 44 => ⟨S4x2048, .f32⟩
  | 45 => ⟨S4x2048, .f32⟩
  | 46 => ⟨S_, .f32⟩
  | 47 => ⟨S4x2048, .f32⟩
  | 48 => ⟨S4x2048, .f32⟩
  | 49 => ⟨S4x2048, .f32⟩
  | 50 => ⟨S_, .f32⟩
  | 51 => ⟨S4x2048, .f32⟩
  | 52 => ⟨S4x2048, .f32⟩
  | 53 => ⟨S_, .f32⟩
  | 54 => ⟨S4x2048, .f32⟩
  | 55 => ⟨S4x2048, .f32⟩
  | 56 => ⟨S4x2048, .f32⟩
  | 57 => ⟨S_, .f32⟩
  | 58 => ⟨S4x2048, .f32⟩
  | 59 => ⟨S4x2048, .f32⟩
  | 60 => ⟨S4x2048, .f32⟩
  | 61 => ⟨S_, .f32⟩
  | 62 => ⟨S4x2048, .f32⟩
  | 63 => ⟨S4x2048, .f32⟩
  | 64 => ⟨S4x2048, .f32⟩
  | 65 => ⟨S_, .f32⟩
  | 66 => ⟨S4x2048, .f32⟩
  | 67 => ⟨S4x2048, .f32⟩
  | 68 => ⟨S_, .f32⟩
  | 69 => ⟨S4096, .f32⟩
  | 70 => ⟨S4096, .f32⟩
  | 71 => ⟨S_, .f32⟩
  | 72 => ⟨S4096, .f32⟩
  | 73 => ⟨S4096, .f32⟩
  | 74 => ⟨S4096, .f32⟩
  | 75 => ⟨S_, .f32⟩
  | 76 => ⟨S4096, .f32⟩
  | 77 => ⟨S4096, .f32⟩
  | 78 => ⟨S4096, .f32⟩
  | 79 => ⟨S_, .f32⟩
  | 80 => ⟨S4096, .f32⟩
  | 81 => ⟨S4096, .f32⟩
  | 82 => ⟨S4096, .f32⟩
  | 83 => ⟨S_, .f32⟩
  | 84 => ⟨S4096, .f32⟩
  | 85 => ⟨S4096, .f32⟩
  | 86 => ⟨S_, .f32⟩
  | 87 => ⟨S4096, .f32⟩
  | 88 => ⟨S4096, .f32⟩
  | 89 => ⟨S4096, .f32⟩
  | 90 => ⟨S_, .f32⟩
  | 91 => ⟨S4096, .f32⟩
  | 92 => ⟨S4096, .f32⟩
  | 93 => ⟨S4096, .f32⟩
  | 94 => ⟨S_, .f32⟩
  | 95 => ⟨S4096, .f32⟩
  | 96 => ⟨S4096, .f32⟩
  | 97 => ⟨S4096, .f32⟩
  | 98 => ⟨S_, .f32⟩
  | 99 => ⟨S4096, .f32⟩
  | 100 => ⟨S4096, .f32⟩
  | 101 => ⟨S_, .f32⟩
  | 102 => ⟨S2048, .f32⟩
  | 103 => ⟨S2048, .f32⟩
  | 104 => ⟨S_, .f32⟩
  | 105 => ⟨S2048, .f32⟩
  | 106 => ⟨S2048, .f32⟩
  | 107 => ⟨S2048, .f32⟩
  | 108 => ⟨S_, .f32⟩
  | 109 => ⟨S2048, .f32⟩
  | 110 => ⟨S2048, .f32⟩
  | 111 => ⟨S2048, .f32⟩
  | 112 => ⟨S_, .f32⟩
  | 113 => ⟨S2048, .f32⟩
  | 114 => ⟨S2048, .f32⟩
  | 115 => ⟨S2048, .f32⟩
  | 116 => ⟨S_, .f32⟩
  | 117 => ⟨S2048, .f32⟩
  | 118 => ⟨S2048, .f32⟩
  | 119 => ⟨S_, .f32⟩
  | 120 => ⟨S2048, .f32⟩
  | 121 => ⟨S2048, .f32⟩
  | 122 => ⟨S2048, .f32⟩
  | 123 => ⟨S_, .f32⟩
  | 124 => ⟨S2048, .f32⟩
  | 125 => ⟨S2048, .f32⟩
  | 126 => ⟨S2048, .f32⟩
  | 127 => ⟨S_, .f32⟩
  | _ => ⟨S4x12288, .f32⟩

abbrev hbmTy0_4 (i : Nat) : BufTy := match i % 128 with
  | 0 => ⟨S2048, .f32⟩
  | 1 => ⟨S2048, .f32⟩
  | 2 => ⟨S2048, .f32⟩
  | 3 => ⟨S_, .f32⟩
  | 4 => ⟨S2048, .f32⟩
  | 5 => ⟨S2048, .f32⟩
  | 6 => ⟨S49152, .f32⟩
  | 7 => ⟨S8192, .f32⟩
  | 8 => ⟨S31744, .f32⟩
  | 9 => ⟨S4096, .f32⟩
  | 10 => ⟨S4096, .f32⟩
  | 11 => ⟨S4096, .f32⟩
  | 12 => ⟨S4096, .f32⟩
  | 13 => ⟨S12288, .f32⟩
  | 14 => ⟨S32, .f32⟩
  | 15 => ⟨S32, .f32⟩
  | 16 => ⟨S512, .f32⟩
  | 17 => ⟨S8192, .f32⟩
  | 18 => ⟨S132672, .f32⟩
  | 19 => ⟨S49152, .f32⟩
  | 20 => ⟨S8192, .f32⟩
  | 21 => ⟨S31744, .f32⟩
  | 22 => ⟨S4096, .f32⟩
  | 23 => ⟨S4096, .f32⟩
  | 24 => ⟨S4096, .f32⟩
  | 25 => ⟨S4096, .f32⟩
  | 26 => ⟨S12288, .f32⟩
  | 27 => ⟨S32, .f32⟩
  | 28 => ⟨S32, .f32⟩
  | 29 => ⟨S512, .f32⟩
  | 30 => ⟨S8192, .f32⟩
  | 31 => ⟨S132672, .f32⟩
  | 32 => ⟨S49152, .f32⟩
  | 33 => ⟨S8192, .f32⟩
  | 34 => ⟨S31744, .f32⟩
  | 35 => ⟨S4096, .f32⟩
  | 36 => ⟨S4096, .f32⟩
  | 37 => ⟨S4096, .f32⟩
  | 38 => ⟨S4096, .f32⟩
  | 39 => ⟨S12288, .f32⟩
  | 40 => ⟨S32, .f32⟩
  | 41 => ⟨S32, .f32⟩
  | 42 => ⟨S512, .f32⟩
  | 43 => ⟨S8192, .f32⟩
  | 44 => ⟨S132672, .f32⟩
  | 45 => ⟨S_, .i32⟩
  | 46 => ⟨S_, .f32⟩
  | 47 => ⟨S139264, .f32⟩
  | 48 => ⟨S1x136x1024, .f32⟩
  | 49 => ⟨S_, .i32⟩
  | 50 => ⟨S_, .f32⟩
  | 51 => ⟨S139264, .f32⟩
  | 52 => ⟨S1x136x1024, .f32⟩
  | 53 => ⟨S_, .i32⟩
  | 54 => ⟨S_, .f32⟩
  | 55 => ⟨S139264, .f32⟩
  | 56 => ⟨S1x136x1024, .f32⟩
  | _ => ⟨S4x12288, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S4x12288, .f32⟩

abbrev bufTy : (tb : Table) → Fin (tcTables nBuf tb) → BufTy
  | .hbm, ⟨i, _⟩ => hbmTy i
  | _, _ => ⟨S4x12288, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_arg37 : Ref sig .tc := ⟨.hbm, 37, rfl⟩
abbrev main_arg38 : Ref sig .tc := ⟨.hbm, 38, rfl⟩
abbrev main_arg39 : Ref sig .tc := ⟨.hbm, 39, rfl⟩
abbrev main_arg40 : Ref sig .tc := ⟨.hbm, 40, rfl⟩
abbrev main_arg41 : Ref sig .tc := ⟨.hbm, 41, rfl⟩
abbrev main_arg42 : Ref sig .tc := ⟨.hbm, 42, rfl⟩
abbrev main_arg43 : Ref sig .tc := ⟨.hbm, 43, rfl⟩
abbrev main_arg44 : Ref sig .tc := ⟨.hbm, 44, rfl⟩
abbrev main_arg45 : Ref sig .tc := ⟨.hbm, 45, rfl⟩
abbrev main_arg46 : Ref sig .tc := ⟨.hbm, 46, rfl⟩
abbrev main_arg47 : Ref sig .tc := ⟨.hbm, 47, rfl⟩
abbrev main_arg48 : Ref sig .tc := ⟨.hbm, 48, rfl⟩
abbrev main_arg49 : Ref sig .tc := ⟨.hbm, 49, rfl⟩
abbrev main_arg50 : Ref sig .tc := ⟨.hbm, 50, rfl⟩
abbrev main_arg51 : Ref sig .tc := ⟨.hbm, 51, rfl⟩
abbrev main_arg52 : Ref sig .tc := ⟨.hbm, 52, rfl⟩
abbrev main_arg53 : Ref sig .tc := ⟨.hbm, 53, rfl⟩
abbrev main_arg54 : Ref sig .tc := ⟨.hbm, 54, rfl⟩
abbrev main_arg55 : Ref sig .tc := ⟨.hbm, 55, rfl⟩
abbrev main_cst : Ref sig .tc := ⟨.hbm, 56, rfl⟩
abbrev main_v0 : Ref sig .tc := ⟨.hbm, 57, rfl⟩
abbrev main_v1 : Ref sig .tc := ⟨.hbm, 58, rfl⟩
abbrev main_cst_0 : Ref sig .tc := ⟨.hbm, 59, rfl⟩
abbrev main_v2 : Ref sig .tc := ⟨.hbm, 60, rfl⟩
abbrev main_v3 : Ref sig .tc := ⟨.hbm, 61, rfl⟩
abbrev main_v4 : Ref sig .tc := ⟨.hbm, 62, rfl⟩
abbrev main_cst_1 : Ref sig .tc := ⟨.hbm, 63, rfl⟩
abbrev main_v5 : Ref sig .tc := ⟨.hbm, 64, rfl⟩
abbrev main_v6 : Ref sig .tc := ⟨.hbm, 65, rfl⟩
abbrev main_v7 : Ref sig .tc := ⟨.hbm, 66, rfl⟩
abbrev main_cst_2 : Ref sig .tc := ⟨.hbm, 67, rfl⟩
abbrev main_v8 : Ref sig .tc := ⟨.hbm, 68, rfl⟩
abbrev main_v9 : Ref sig .tc := ⟨.hbm, 69, rfl⟩
abbrev main_v10 : Ref sig .tc := ⟨.hbm, 70, rfl⟩
abbrev main_cst_3 : Ref sig .tc := ⟨.hbm, 71, rfl⟩
abbrev main_v11 : Ref sig .tc := ⟨.hbm, 72, rfl⟩
abbrev main_v12 : Ref sig .tc := ⟨.hbm, 73, rfl⟩
abbrev main_cst_4 : Ref sig .tc := ⟨.hbm, 74, rfl⟩
abbrev main_v13 : Ref sig .tc := ⟨.hbm, 75, rfl⟩
abbrev main_v14 : Ref sig .tc := ⟨.hbm, 76, rfl⟩
abbrev main_v15 : Ref sig .tc := ⟨.hbm, 77, rfl⟩
abbrev main_cst_5 : Ref sig .tc := ⟨.hbm, 78, rfl⟩
abbrev main_v16 : Ref sig .tc := ⟨.hbm, 79, rfl⟩
abbrev main_v17 : Ref sig .tc := ⟨.hbm, 80, rfl⟩
abbrev main_v18 : Ref sig .tc := ⟨.hbm, 81, rfl⟩
abbrev main_cst_6 : Ref sig .tc := ⟨.hbm, 82, rfl⟩
abbrev main_v19 : Ref sig .tc := ⟨.hbm, 83, rfl⟩
abbrev main_v20 : Ref sig .tc := ⟨.hbm, 84, rfl⟩
abbrev main_v21 : Ref sig .tc := ⟨.hbm, 85, rfl⟩
abbrev main_cst_7 : Ref sig .tc := ⟨.hbm, 86, rfl⟩
abbrev main_v22 : Ref sig .tc := ⟨.hbm, 87, rfl⟩
abbrev main_v23 : Ref sig .tc := ⟨.hbm, 88, rfl⟩
abbrev main_cst_8 : Ref sig .tc := ⟨.hbm, 89, rfl⟩
abbrev main_v24 : Ref sig .tc := ⟨.hbm, 90, rfl⟩
abbrev main_v25 : Ref sig .tc := ⟨.hbm, 91, rfl⟩
abbrev main_cst_9 : Ref sig .tc := ⟨.hbm, 92, rfl⟩
abbrev main_v26 : Ref sig .tc := ⟨.hbm, 93, rfl⟩
abbrev main_v27 : Ref sig .tc := ⟨.hbm, 94, rfl⟩
abbrev main_v28 : Ref sig .tc := ⟨.hbm, 95, rfl⟩
abbrev main_cst_10 : Ref sig .tc := ⟨.hbm, 96, rfl⟩
abbrev main_v29 : Ref sig .tc := ⟨.hbm, 97, rfl⟩
abbrev main_v30 : Ref sig .tc := ⟨.hbm, 98, rfl⟩
abbrev main_v31 : Ref sig .tc := ⟨.hbm, 99, rfl⟩
abbrev main_cst_11 : Ref sig .tc := ⟨.hbm, 100, rfl⟩
abbrev main_v32 : Ref sig .tc := ⟨.hbm, 101, rfl⟩
abbrev main_v33 : Ref sig .tc := ⟨.hbm, 102, rfl⟩
abbrev main_v34 : Ref sig .tc := ⟨.hbm, 103, rfl⟩
abbrev main_cst_12 : Ref sig .tc := ⟨.hbm, 104, rfl⟩
abbrev main_v35 : Ref sig .tc := ⟨.hbm, 105, rfl⟩
abbrev main_v36 : Ref sig .tc := ⟨.hbm, 106, rfl⟩
abbrev main_cst_13 : Ref sig .tc := ⟨.hbm, 107, rfl⟩
abbrev main_v37 : Ref sig .tc := ⟨.hbm, 108, rfl⟩
abbrev main_v38 : Ref sig .tc := ⟨.hbm, 109, rfl⟩
abbrev main_v39 : Ref sig .tc := ⟨.hbm, 110, rfl⟩
abbrev main_cst_14 : Ref sig .tc := ⟨.hbm, 111, rfl⟩
abbrev main_v40 : Ref sig .tc := ⟨.hbm, 112, rfl⟩
abbrev main_v41 : Ref sig .tc := ⟨.hbm, 113, rfl⟩
abbrev main_v42 : Ref sig .tc := ⟨.hbm, 114, rfl⟩
abbrev main_cst_15 : Ref sig .tc := ⟨.hbm, 115, rfl⟩
abbrev main_v43 : Ref sig .tc := ⟨.hbm, 116, rfl⟩
abbrev main_v44 : Ref sig .tc := ⟨.hbm, 117, rfl⟩
abbrev main_v45 : Ref sig .tc := ⟨.hbm, 118, rfl⟩
abbrev main_cst_16 : Ref sig .tc := ⟨.hbm, 119, rfl⟩
abbrev main_v46 : Ref sig .tc := ⟨.hbm, 120, rfl⟩
abbrev main_v47 : Ref sig .tc := ⟨.hbm, 121, rfl⟩
abbrev main_cst_17 : Ref sig .tc := ⟨.hbm, 122, rfl⟩
abbrev main_v48 : Ref sig .tc := ⟨.hbm, 123, rfl⟩
abbrev main_v49 : Ref sig .tc := ⟨.hbm, 124, rfl⟩
abbrev main_cst_18 : Ref sig .tc := ⟨.hbm, 125, rfl⟩
abbrev main_v50 : Ref sig .tc := ⟨.hbm, 126, rfl⟩
abbrev main_v51 : Ref sig .tc := ⟨.hbm, 127, rfl⟩
abbrev main_v52 : Ref sig .tc := ⟨.hbm, 128, rfl⟩
abbrev main_cst_19 : Ref sig .tc := ⟨.hbm, 129, rfl⟩
abbrev main_v53 : Ref sig .tc := ⟨.hbm, 130, rfl⟩
abbrev main_v54 : Ref sig .tc := ⟨.hbm, 131, rfl⟩
abbrev main_v55 : Ref sig .tc := ⟨.hbm, 132, rfl⟩
abbrev main_cst_20 : Ref sig .tc := ⟨.hbm, 133, rfl⟩
abbrev main_v56 : Ref sig .tc := ⟨.hbm, 134, rfl⟩
abbrev main_v57 : Ref sig .tc := ⟨.hbm, 135, rfl⟩
abbrev main_v58 : Ref sig .tc := ⟨.hbm, 136, rfl⟩
abbrev main_cst_21 : Ref sig .tc := ⟨.hbm, 137, rfl⟩
abbrev main_v59 : Ref sig .tc := ⟨.hbm, 138, rfl⟩
abbrev main_v60 : Ref sig .tc := ⟨.hbm, 139, rfl⟩
abbrev main_cst_22 : Ref sig .tc := ⟨.hbm, 140, rfl⟩
abbrev main_v61 : Ref sig .tc := ⟨.hbm, 141, rfl⟩
abbrev main_v62 : Ref sig .tc := ⟨.hbm, 142, rfl⟩
abbrev main_v63 : Ref sig .tc := ⟨.hbm, 143, rfl⟩
abbrev main_cst_23 : Ref sig .tc := ⟨.hbm, 144, rfl⟩
abbrev main_v64 : Ref sig .tc := ⟨.hbm, 145, rfl⟩
abbrev main_v65 : Ref sig .tc := ⟨.hbm, 146, rfl⟩
abbrev main_v66 : Ref sig .tc := ⟨.hbm, 147, rfl⟩
abbrev main_cst_24 : Ref sig .tc := ⟨.hbm, 148, rfl⟩
abbrev main_v67 : Ref sig .tc := ⟨.hbm, 149, rfl⟩
abbrev main_v68 : Ref sig .tc := ⟨.hbm, 150, rfl⟩
abbrev main_v69 : Ref sig .tc := ⟨.hbm, 151, rfl⟩
abbrev main_cst_25 : Ref sig .tc := ⟨.hbm, 152, rfl⟩
abbrev main_v70 : Ref sig .tc := ⟨.hbm, 153, rfl⟩
abbrev main_v71 : Ref sig .tc := ⟨.hbm, 154, rfl⟩
abbrev main_cst_26 : Ref sig .tc := ⟨.hbm, 155, rfl⟩
abbrev main_v72 : Ref sig .tc := ⟨.hbm, 156, rfl⟩
abbrev main_v73 : Ref sig .tc := ⟨.hbm, 157, rfl⟩
abbrev main_cst_27 : Ref sig .tc := ⟨.hbm, 158, rfl⟩
abbrev main_v74 : Ref sig .tc := ⟨.hbm, 159, rfl⟩
abbrev main_v75 : Ref sig .tc := ⟨.hbm, 160, rfl⟩
abbrev main_v76 : Ref sig .tc := ⟨.hbm, 161, rfl⟩
abbrev main_cst_28 : Ref sig .tc := ⟨.hbm, 162, rfl⟩
abbrev main_v77 : Ref sig .tc := ⟨.hbm, 163, rfl⟩
abbrev main_v78 : Ref sig .tc := ⟨.hbm, 164, rfl⟩
abbrev main_v79 : Ref sig .tc := ⟨.hbm, 165, rfl⟩
abbrev main_cst_29 : Ref sig .tc := ⟨.hbm, 166, rfl⟩
abbrev main_v80 : Ref sig .tc := ⟨.hbm, 167, rfl⟩
abbrev main_v81 : Ref sig .tc := ⟨.hbm, 168, rfl⟩
abbrev main_v82 : Ref sig .tc := ⟨.hbm, 169, rfl⟩
abbrev main_cst_30 : Ref sig .tc := ⟨.hbm, 170, rfl⟩
abbrev main_v83 : Ref sig .tc := ⟨.hbm, 171, rfl⟩
abbrev main_v84 : Ref sig .tc := ⟨.hbm, 172, rfl⟩
abbrev main_cst_31 : Ref sig .tc := ⟨.hbm, 173, rfl⟩
abbrev main_v85 : Ref sig .tc := ⟨.hbm, 174, rfl⟩
abbrev main_v86 : Ref sig .tc := ⟨.hbm, 175, rfl⟩
abbrev main_v87 : Ref sig .tc := ⟨.hbm, 176, rfl⟩
abbrev main_cst_32 : Ref sig .tc := ⟨.hbm, 177, rfl⟩
abbrev main_v88 : Ref sig .tc := ⟨.hbm, 178, rfl⟩
abbrev main_v89 : Ref sig .tc := ⟨.hbm, 179, rfl⟩
abbrev main_v90 : Ref sig .tc := ⟨.hbm, 180, rfl⟩
abbrev main_cst_33 : Ref sig .tc := ⟨.hbm, 181, rfl⟩
abbrev main_v91 : Ref sig .tc := ⟨.hbm, 182, rfl⟩
abbrev main_v92 : Ref sig .tc := ⟨.hbm, 183, rfl⟩
abbrev main_v93 : Ref sig .tc := ⟨.hbm, 184, rfl⟩
abbrev main_cst_34 : Ref sig .tc := ⟨.hbm, 185, rfl⟩
abbrev main_v94 : Ref sig .tc := ⟨.hbm, 186, rfl⟩
abbrev main_v95 : Ref sig .tc := ⟨.hbm, 187, rfl⟩
abbrev main_cst_35 : Ref sig .tc := ⟨.hbm, 188, rfl⟩
abbrev main_v96 : Ref sig .tc := ⟨.hbm, 189, rfl⟩
abbrev main_v97 : Ref sig .tc := ⟨.hbm, 190, rfl⟩
abbrev main_cst_36 : Ref sig .tc := ⟨.hbm, 191, rfl⟩
abbrev main_v98 : Ref sig .tc := ⟨.hbm, 192, rfl⟩
abbrev main_v99 : Ref sig .tc := ⟨.hbm, 193, rfl⟩
abbrev main_v100 : Ref sig .tc := ⟨.hbm, 194, rfl⟩
abbrev main_cst_37 : Ref sig .tc := ⟨.hbm, 195, rfl⟩
abbrev main_v101 : Ref sig .tc := ⟨.hbm, 196, rfl⟩
abbrev main_v102 : Ref sig .tc := ⟨.hbm, 197, rfl⟩
abbrev main_v103 : Ref sig .tc := ⟨.hbm, 198, rfl⟩
abbrev main_cst_38 : Ref sig .tc := ⟨.hbm, 199, rfl⟩
abbrev main_v104 : Ref sig .tc := ⟨.hbm, 200, rfl⟩
abbrev main_v105 : Ref sig .tc := ⟨.hbm, 201, rfl⟩
abbrev main_v106 : Ref sig .tc := ⟨.hbm, 202, rfl⟩
abbrev main_cst_39 : Ref sig .tc := ⟨.hbm, 203, rfl⟩
abbrev main_v107 : Ref sig .tc := ⟨.hbm, 204, rfl⟩
abbrev main_v108 : Ref sig .tc := ⟨.hbm, 205, rfl⟩
abbrev main_cst_40 : Ref sig .tc := ⟨.hbm, 206, rfl⟩
abbrev main_v109 : Ref sig .tc := ⟨.hbm, 207, rfl⟩
abbrev main_v110 : Ref sig .tc := ⟨.hbm, 208, rfl⟩
abbrev main_v111 : Ref sig .tc := ⟨.hbm, 209, rfl⟩
abbrev main_cst_41 : Ref sig .tc := ⟨.hbm, 210, rfl⟩
abbrev main_v112 : Ref sig .tc := ⟨.hbm, 211, rfl⟩
abbrev main_v113 : Ref sig .tc := ⟨.hbm, 212, rfl⟩
abbrev main_v114 : Ref sig .tc := ⟨.hbm, 213, rfl⟩
abbrev main_cst_42 : Ref sig .tc := ⟨.hbm, 214, rfl⟩
abbrev main_v115 : Ref sig .tc := ⟨.hbm, 215, rfl⟩
abbrev main_v116 : Ref sig .tc := ⟨.hbm, 216, rfl⟩
abbrev main_v117 : Ref sig .tc := ⟨.hbm, 217, rfl⟩
abbrev main_cst_43 : Ref sig .tc := ⟨.hbm, 218, rfl⟩
abbrev main_v118 : Ref sig .tc := ⟨.hbm, 219, rfl⟩
abbrev main_v119 : Ref sig .tc := ⟨.hbm, 220, rfl⟩
abbrev main_cst_44 : Ref sig .tc := ⟨.hbm, 221, rfl⟩
abbrev main_v120 : Ref sig .tc := ⟨.hbm, 222, rfl⟩
abbrev main_v121 : Ref sig .tc := ⟨.hbm, 223, rfl⟩
abbrev main_cst_45 : Ref sig .tc := ⟨.hbm, 224, rfl⟩
abbrev main_v122 : Ref sig .tc := ⟨.hbm, 225, rfl⟩
abbrev main_v123 : Ref sig .tc := ⟨.hbm, 226, rfl⟩
abbrev main_v124 : Ref sig .tc := ⟨.hbm, 227, rfl⟩
abbrev main_cst_46 : Ref sig .tc := ⟨.hbm, 228, rfl⟩
abbrev main_v125 : Ref sig .tc := ⟨.hbm, 229, rfl⟩
abbrev main_v126 : Ref sig .tc := ⟨.hbm, 230, rfl⟩
abbrev main_v127 : Ref sig .tc := ⟨.hbm, 231, rfl⟩
abbrev main_cst_47 : Ref sig .tc := ⟨.hbm, 232, rfl⟩
abbrev main_v128 : Ref sig .tc := ⟨.hbm, 233, rfl⟩
abbrev main_v129 : Ref sig .tc := ⟨.hbm, 234, rfl⟩
abbrev main_v130 : Ref sig .tc := ⟨.hbm, 235, rfl⟩
abbrev main_cst_48 : Ref sig .tc := ⟨.hbm, 236, rfl⟩
abbrev main_v131 : Ref sig .tc := ⟨.hbm, 237, rfl⟩
abbrev main_v132 : Ref sig .tc := ⟨.hbm, 238, rfl⟩
abbrev main_cst_49 : Ref sig .tc := ⟨.hbm, 239, rfl⟩
abbrev main_v133 : Ref sig .tc := ⟨.hbm, 240, rfl⟩
abbrev main_v134 : Ref sig .tc := ⟨.hbm, 241, rfl⟩
abbrev main_v135 : Ref sig .tc := ⟨.hbm, 242, rfl⟩
abbrev main_cst_50 : Ref sig .tc := ⟨.hbm, 243, rfl⟩
abbrev main_v136 : Ref sig .tc := ⟨.hbm, 244, rfl⟩
abbrev main_v137 : Ref sig .tc := ⟨.hbm, 245, rfl⟩
abbrev main_v138 : Ref sig .tc := ⟨.hbm, 246, rfl⟩
abbrev main_cst_51 : Ref sig .tc := ⟨.hbm, 247, rfl⟩
abbrev main_v139 : Ref sig .tc := ⟨.hbm, 248, rfl⟩
abbrev main_v140 : Ref sig .tc := ⟨.hbm, 249, rfl⟩
abbrev main_v141 : Ref sig .tc := ⟨.hbm, 250, rfl⟩
abbrev main_cst_52 : Ref sig .tc := ⟨.hbm, 251, rfl⟩
abbrev main_v142 : Ref sig .tc := ⟨.hbm, 252, rfl⟩
abbrev main_v143 : Ref sig .tc := ⟨.hbm, 253, rfl⟩
abbrev main_cst_53 : Ref sig .tc := ⟨.hbm, 254, rfl⟩
abbrev main_v144 : Ref sig .tc := ⟨.hbm, 255, rfl⟩
abbrev main_v145 : Ref sig .tc := ⟨.hbm, 256, rfl⟩
abbrev main_cst_54 : Ref sig .tc := ⟨.hbm, 257, rfl⟩
abbrev main_v146 : Ref sig .tc := ⟨.hbm, 258, rfl⟩
abbrev main_v147 : Ref sig .tc := ⟨.hbm, 259, rfl⟩
abbrev main_v148 : Ref sig .tc := ⟨.hbm, 260, rfl⟩
abbrev main_cst_55 : Ref sig .tc := ⟨.hbm, 261, rfl⟩
abbrev main_v149 : Ref sig .tc := ⟨.hbm, 262, rfl⟩
abbrev main_v150 : Ref sig .tc := ⟨.hbm, 263, rfl⟩
abbrev main_v151 : Ref sig .tc := ⟨.hbm, 264, rfl⟩
abbrev main_cst_56 : Ref sig .tc := ⟨.hbm, 265, rfl⟩
abbrev main_v152 : Ref sig .tc := ⟨.hbm, 266, rfl⟩
abbrev main_v153 : Ref sig .tc := ⟨.hbm, 267, rfl⟩
abbrev main_v154 : Ref sig .tc := ⟨.hbm, 268, rfl⟩
abbrev main_cst_57 : Ref sig .tc := ⟨.hbm, 269, rfl⟩
abbrev main_v155 : Ref sig .tc := ⟨.hbm, 270, rfl⟩
abbrev main_v156 : Ref sig .tc := ⟨.hbm, 271, rfl⟩
abbrev main_cst_58 : Ref sig .tc := ⟨.hbm, 272, rfl⟩
abbrev main_v157 : Ref sig .tc := ⟨.hbm, 273, rfl⟩
abbrev main_v158 : Ref sig .tc := ⟨.hbm, 274, rfl⟩
abbrev main_v159 : Ref sig .tc := ⟨.hbm, 275, rfl⟩
abbrev main_cst_59 : Ref sig .tc := ⟨.hbm, 276, rfl⟩
abbrev main_v160 : Ref sig .tc := ⟨.hbm, 277, rfl⟩
abbrev main_v161 : Ref sig .tc := ⟨.hbm, 278, rfl⟩
abbrev main_v162 : Ref sig .tc := ⟨.hbm, 279, rfl⟩
abbrev main_cst_60 : Ref sig .tc := ⟨.hbm, 280, rfl⟩
abbrev main_v163 : Ref sig .tc := ⟨.hbm, 281, rfl⟩
abbrev main_v164 : Ref sig .tc := ⟨.hbm, 282, rfl⟩
abbrev main_v165 : Ref sig .tc := ⟨.hbm, 283, rfl⟩
abbrev main_cst_61 : Ref sig .tc := ⟨.hbm, 284, rfl⟩
abbrev main_v166 : Ref sig .tc := ⟨.hbm, 285, rfl⟩
abbrev main_v167 : Ref sig .tc := ⟨.hbm, 286, rfl⟩
abbrev main_cst_62 : Ref sig .tc := ⟨.hbm, 287, rfl⟩
abbrev main_v168 : Ref sig .tc := ⟨.hbm, 288, rfl⟩
abbrev main_v169 : Ref sig .tc := ⟨.hbm, 289, rfl⟩
abbrev main_cst_63 : Ref sig .tc := ⟨.hbm, 290, rfl⟩
abbrev main_v170 : Ref sig .tc := ⟨.hbm, 291, rfl⟩
abbrev main_v171 : Ref sig .tc := ⟨.hbm, 292, rfl⟩
abbrev main_v172 : Ref sig .tc := ⟨.hbm, 293, rfl⟩
abbrev main_cst_64 : Ref sig .tc := ⟨.hbm, 294, rfl⟩
abbrev main_v173 : Ref sig .tc := ⟨.hbm, 295, rfl⟩
abbrev main_v174 : Ref sig .tc := ⟨.hbm, 296, rfl⟩
abbrev main_v175 : Ref sig .tc := ⟨.hbm, 297, rfl⟩
abbrev main_cst_65 : Ref sig .tc := ⟨.hbm, 298, rfl⟩
abbrev main_v176 : Ref sig .tc := ⟨.hbm, 299, rfl⟩
abbrev main_v177 : Ref sig .tc := ⟨.hbm, 300, rfl⟩
abbrev main_v178 : Ref sig .tc := ⟨.hbm, 301, rfl⟩
abbrev main_cst_66 : Ref sig .tc := ⟨.hbm, 302, rfl⟩
abbrev main_v179 : Ref sig .tc := ⟨.hbm, 303, rfl⟩
abbrev main_v180 : Ref sig .tc := ⟨.hbm, 304, rfl⟩
abbrev main_cst_67 : Ref sig .tc := ⟨.hbm, 305, rfl⟩
abbrev main_v181 : Ref sig .tc := ⟨.hbm, 306, rfl⟩
abbrev main_v182 : Ref sig .tc := ⟨.hbm, 307, rfl⟩
abbrev main_v183 : Ref sig .tc := ⟨.hbm, 308, rfl⟩
abbrev main_cst_68 : Ref sig .tc := ⟨.hbm, 309, rfl⟩
abbrev main_v184 : Ref sig .tc := ⟨.hbm, 310, rfl⟩
abbrev main_v185 : Ref sig .tc := ⟨.hbm, 311, rfl⟩
abbrev main_v186 : Ref sig .tc := ⟨.hbm, 312, rfl⟩
abbrev main_cst_69 : Ref sig .tc := ⟨.hbm, 313, rfl⟩
abbrev main_v187 : Ref sig .tc := ⟨.hbm, 314, rfl⟩
abbrev main_v188 : Ref sig .tc := ⟨.hbm, 315, rfl⟩
abbrev main_v189 : Ref sig .tc := ⟨.hbm, 316, rfl⟩
abbrev main_cst_70 : Ref sig .tc := ⟨.hbm, 317, rfl⟩
abbrev main_v190 : Ref sig .tc := ⟨.hbm, 318, rfl⟩
abbrev main_v191 : Ref sig .tc := ⟨.hbm, 319, rfl⟩
abbrev main_cst_71 : Ref sig .tc := ⟨.hbm, 320, rfl⟩
abbrev main_v192 : Ref sig .tc := ⟨.hbm, 321, rfl⟩
abbrev main_v193 : Ref sig .tc := ⟨.hbm, 322, rfl⟩
abbrev main_cst_72 : Ref sig .tc := ⟨.hbm, 323, rfl⟩
abbrev main_v194 : Ref sig .tc := ⟨.hbm, 324, rfl⟩
abbrev main_v195 : Ref sig .tc := ⟨.hbm, 325, rfl⟩
abbrev main_v196 : Ref sig .tc := ⟨.hbm, 326, rfl⟩
abbrev main_cst_73 : Ref sig .tc := ⟨.hbm, 327, rfl⟩
abbrev main_v197 : Ref sig .tc := ⟨.hbm, 328, rfl⟩
abbrev main_v198 : Ref sig .tc := ⟨.hbm, 329, rfl⟩
abbrev main_v199 : Ref sig .tc := ⟨.hbm, 330, rfl⟩
abbrev main_cst_74 : Ref sig .tc := ⟨.hbm, 331, rfl⟩
abbrev main_v200 : Ref sig .tc := ⟨.hbm, 332, rfl⟩
abbrev main_v201 : Ref sig .tc := ⟨.hbm, 333, rfl⟩
abbrev main_v202 : Ref sig .tc := ⟨.hbm, 334, rfl⟩
abbrev main_cst_75 : Ref sig .tc := ⟨.hbm, 335, rfl⟩
abbrev main_v203 : Ref sig .tc := ⟨.hbm, 336, rfl⟩
abbrev main_v204 : Ref sig .tc := ⟨.hbm, 337, rfl⟩
abbrev main_cst_76 : Ref sig .tc := ⟨.hbm, 338, rfl⟩
abbrev main_v205 : Ref sig .tc := ⟨.hbm, 339, rfl⟩
abbrev main_v206 : Ref sig .tc := ⟨.hbm, 340, rfl⟩
abbrev main_v207 : Ref sig .tc := ⟨.hbm, 341, rfl⟩
abbrev main_cst_77 : Ref sig .tc := ⟨.hbm, 342, rfl⟩
abbrev main_v208 : Ref sig .tc := ⟨.hbm, 343, rfl⟩
abbrev main_v209 : Ref sig .tc := ⟨.hbm, 344, rfl⟩
abbrev main_v210 : Ref sig .tc := ⟨.hbm, 345, rfl⟩
abbrev main_cst_78 : Ref sig .tc := ⟨.hbm, 346, rfl⟩
abbrev main_v211 : Ref sig .tc := ⟨.hbm, 347, rfl⟩
abbrev main_v212 : Ref sig .tc := ⟨.hbm, 348, rfl⟩
abbrev main_v213 : Ref sig .tc := ⟨.hbm, 349, rfl⟩
abbrev main_cst_79 : Ref sig .tc := ⟨.hbm, 350, rfl⟩
abbrev main_v214 : Ref sig .tc := ⟨.hbm, 351, rfl⟩
abbrev main_v215 : Ref sig .tc := ⟨.hbm, 352, rfl⟩
abbrev main_cst_80 : Ref sig .tc := ⟨.hbm, 353, rfl⟩
abbrev main_v216 : Ref sig .tc := ⟨.hbm, 354, rfl⟩
abbrev main_v217 : Ref sig .tc := ⟨.hbm, 355, rfl⟩
abbrev main_cst_81 : Ref sig .tc := ⟨.hbm, 356, rfl⟩
abbrev main_v218 : Ref sig .tc := ⟨.hbm, 357, rfl⟩
abbrev main_v219 : Ref sig .tc := ⟨.hbm, 358, rfl⟩
abbrev main_v220 : Ref sig .tc := ⟨.hbm, 359, rfl⟩
abbrev main_cst_82 : Ref sig .tc := ⟨.hbm, 360, rfl⟩
abbrev main_v221 : Ref sig .tc := ⟨.hbm, 361, rfl⟩
abbrev main_v222 : Ref sig .tc := ⟨.hbm, 362, rfl⟩
abbrev main_v223 : Ref sig .tc := ⟨.hbm, 363, rfl⟩
abbrev main_cst_83 : Ref sig .tc := ⟨.hbm, 364, rfl⟩
abbrev main_v224 : Ref sig .tc := ⟨.hbm, 365, rfl⟩
abbrev main_v225 : Ref sig .tc := ⟨.hbm, 366, rfl⟩
abbrev main_v226 : Ref sig .tc := ⟨.hbm, 367, rfl⟩
abbrev main_cst_84 : Ref sig .tc := ⟨.hbm, 368, rfl⟩
abbrev main_v227 : Ref sig .tc := ⟨.hbm, 369, rfl⟩
abbrev main_v228 : Ref sig .tc := ⟨.hbm, 370, rfl⟩
abbrev main_cst_85 : Ref sig .tc := ⟨.hbm, 371, rfl⟩
abbrev main_v229 : Ref sig .tc := ⟨.hbm, 372, rfl⟩
abbrev main_v230 : Ref sig .tc := ⟨.hbm, 373, rfl⟩
abbrev main_v231 : Ref sig .tc := ⟨.hbm, 374, rfl⟩
abbrev main_cst_86 : Ref sig .tc := ⟨.hbm, 375, rfl⟩
abbrev main_v232 : Ref sig .tc := ⟨.hbm, 376, rfl⟩
abbrev main_v233 : Ref sig .tc := ⟨.hbm, 377, rfl⟩
abbrev main_v234 : Ref sig .tc := ⟨.hbm, 378, rfl⟩
abbrev main_cst_87 : Ref sig .tc := ⟨.hbm, 379, rfl⟩
abbrev main_v235 : Ref sig .tc := ⟨.hbm, 380, rfl⟩
abbrev main_v236 : Ref sig .tc := ⟨.hbm, 381, rfl⟩
abbrev main_v237 : Ref sig .tc := ⟨.hbm, 382, rfl⟩
abbrev main_cst_88 : Ref sig .tc := ⟨.hbm, 383, rfl⟩
abbrev main_v238 : Ref sig .tc := ⟨.hbm, 384, rfl⟩
abbrev main_v239 : Ref sig .tc := ⟨.hbm, 385, rfl⟩
abbrev main_cst_89 : Ref sig .tc := ⟨.hbm, 386, rfl⟩
abbrev main_v240 : Ref sig .tc := ⟨.hbm, 387, rfl⟩
abbrev main_v241 : Ref sig .tc := ⟨.hbm, 388, rfl⟩
abbrev main_cst_90 : Ref sig .tc := ⟨.hbm, 389, rfl⟩
abbrev main_v242 : Ref sig .tc := ⟨.hbm, 390, rfl⟩
abbrev main_v243 : Ref sig .tc := ⟨.hbm, 391, rfl⟩
abbrev main_v244 : Ref sig .tc := ⟨.hbm, 392, rfl⟩
abbrev main_cst_91 : Ref sig .tc := ⟨.hbm, 393, rfl⟩
abbrev main_v245 : Ref sig .tc := ⟨.hbm, 394, rfl⟩
abbrev main_v246 : Ref sig .tc := ⟨.hbm, 395, rfl⟩
abbrev main_v247 : Ref sig .tc := ⟨.hbm, 396, rfl⟩
abbrev main_cst_92 : Ref sig .tc := ⟨.hbm, 397, rfl⟩
abbrev main_v248 : Ref sig .tc := ⟨.hbm, 398, rfl⟩
abbrev main_v249 : Ref sig .tc := ⟨.hbm, 399, rfl⟩
abbrev main_v250 : Ref sig .tc := ⟨.hbm, 400, rfl⟩
abbrev main_cst_93 : Ref sig .tc := ⟨.hbm, 401, rfl⟩
abbrev main_v251 : Ref sig .tc := ⟨.hbm, 402, rfl⟩
abbrev main_v252 : Ref sig .tc := ⟨.hbm, 403, rfl⟩
abbrev main_cst_94 : Ref sig .tc := ⟨.hbm, 404, rfl⟩
abbrev main_v253 : Ref sig .tc := ⟨.hbm, 405, rfl⟩
abbrev main_v254 : Ref sig .tc := ⟨.hbm, 406, rfl⟩
abbrev main_v255 : Ref sig .tc := ⟨.hbm, 407, rfl⟩
abbrev main_cst_95 : Ref sig .tc := ⟨.hbm, 408, rfl⟩
abbrev main_v256 : Ref sig .tc := ⟨.hbm, 409, rfl⟩
abbrev main_v257 : Ref sig .tc := ⟨.hbm, 410, rfl⟩
abbrev main_v258 : Ref sig .tc := ⟨.hbm, 411, rfl⟩
abbrev main_cst_96 : Ref sig .tc := ⟨.hbm, 412, rfl⟩
abbrev main_v259 : Ref sig .tc := ⟨.hbm, 413, rfl⟩
abbrev main_v260 : Ref sig .tc := ⟨.hbm, 414, rfl⟩
abbrev main_v261 : Ref sig .tc := ⟨.hbm, 415, rfl⟩
abbrev main_cst_97 : Ref sig .tc := ⟨.hbm, 416, rfl⟩
abbrev main_v262 : Ref sig .tc := ⟨.hbm, 417, rfl⟩
abbrev main_v263 : Ref sig .tc := ⟨.hbm, 418, rfl⟩
abbrev main_cst_98 : Ref sig .tc := ⟨.hbm, 419, rfl⟩
abbrev main_v264 : Ref sig .tc := ⟨.hbm, 420, rfl⟩
abbrev main_v265 : Ref sig .tc := ⟨.hbm, 421, rfl⟩
abbrev main_cst_99 : Ref sig .tc := ⟨.hbm, 422, rfl⟩
abbrev main_v266 : Ref sig .tc := ⟨.hbm, 423, rfl⟩
abbrev main_v267 : Ref sig .tc := ⟨.hbm, 424, rfl⟩
abbrev main_v268 : Ref sig .tc := ⟨.hbm, 425, rfl⟩
abbrev main_cst_100 : Ref sig .tc := ⟨.hbm, 426, rfl⟩
abbrev main_v269 : Ref sig .tc := ⟨.hbm, 427, rfl⟩
abbrev main_v270 : Ref sig .tc := ⟨.hbm, 428, rfl⟩
abbrev main_v271 : Ref sig .tc := ⟨.hbm, 429, rfl⟩
abbrev main_cst_101 : Ref sig .tc := ⟨.hbm, 430, rfl⟩
abbrev main_v272 : Ref sig .tc := ⟨.hbm, 431, rfl⟩
abbrev main_v273 : Ref sig .tc := ⟨.hbm, 432, rfl⟩
abbrev main_v274 : Ref sig .tc := ⟨.hbm, 433, rfl⟩
abbrev main_cst_102 : Ref sig .tc := ⟨.hbm, 434, rfl⟩
abbrev main_v275 : Ref sig .tc := ⟨.hbm, 435, rfl⟩
abbrev main_v276 : Ref sig .tc := ⟨.hbm, 436, rfl⟩
abbrev main_cst_103 : Ref sig .tc := ⟨.hbm, 437, rfl⟩
abbrev main_v277 : Ref sig .tc := ⟨.hbm, 438, rfl⟩
abbrev main_v278 : Ref sig .tc := ⟨.hbm, 439, rfl⟩
abbrev main_v279 : Ref sig .tc := ⟨.hbm, 440, rfl⟩
abbrev main_cst_104 : Ref sig .tc := ⟨.hbm, 441, rfl⟩
abbrev main_v280 : Ref sig .tc := ⟨.hbm, 442, rfl⟩
abbrev main_v281 : Ref sig .tc := ⟨.hbm, 443, rfl⟩
abbrev main_v282 : Ref sig .tc := ⟨.hbm, 444, rfl⟩
abbrev main_cst_105 : Ref sig .tc := ⟨.hbm, 445, rfl⟩
abbrev main_v283 : Ref sig .tc := ⟨.hbm, 446, rfl⟩
abbrev main_v284 : Ref sig .tc := ⟨.hbm, 447, rfl⟩
abbrev main_v285 : Ref sig .tc := ⟨.hbm, 448, rfl⟩
abbrev main_cst_106 : Ref sig .tc := ⟨.hbm, 449, rfl⟩
abbrev main_v286 : Ref sig .tc := ⟨.hbm, 450, rfl⟩
abbrev main_v287 : Ref sig .tc := ⟨.hbm, 451, rfl⟩
abbrev main_cst_107 : Ref sig .tc := ⟨.hbm, 452, rfl⟩
abbrev main_v288 : Ref sig .tc := ⟨.hbm, 453, rfl⟩
abbrev main_v289 : Ref sig .tc := ⟨.hbm, 454, rfl⟩
abbrev main_cst_108 : Ref sig .tc := ⟨.hbm, 455, rfl⟩
abbrev main_v290 : Ref sig .tc := ⟨.hbm, 456, rfl⟩
abbrev main_v291 : Ref sig .tc := ⟨.hbm, 457, rfl⟩
abbrev main_v292 : Ref sig .tc := ⟨.hbm, 458, rfl⟩
abbrev main_cst_109 : Ref sig .tc := ⟨.hbm, 459, rfl⟩
abbrev main_v293 : Ref sig .tc := ⟨.hbm, 460, rfl⟩
abbrev main_v294 : Ref sig .tc := ⟨.hbm, 461, rfl⟩
abbrev main_v295 : Ref sig .tc := ⟨.hbm, 462, rfl⟩
abbrev main_cst_110 : Ref sig .tc := ⟨.hbm, 463, rfl⟩
abbrev main_v296 : Ref sig .tc := ⟨.hbm, 464, rfl⟩
abbrev main_v297 : Ref sig .tc := ⟨.hbm, 465, rfl⟩
abbrev main_v298 : Ref sig .tc := ⟨.hbm, 466, rfl⟩
abbrev main_cst_111 : Ref sig .tc := ⟨.hbm, 467, rfl⟩
abbrev main_v299 : Ref sig .tc := ⟨.hbm, 468, rfl⟩
abbrev main_v300 : Ref sig .tc := ⟨.hbm, 469, rfl⟩
abbrev main_cst_112 : Ref sig .tc := ⟨.hbm, 470, rfl⟩
abbrev main_v301 : Ref sig .tc := ⟨.hbm, 471, rfl⟩
abbrev main_v302 : Ref sig .tc := ⟨.hbm, 472, rfl⟩
abbrev main_v303 : Ref sig .tc := ⟨.hbm, 473, rfl⟩
abbrev main_cst_113 : Ref sig .tc := ⟨.hbm, 474, rfl⟩
abbrev main_v304 : Ref sig .tc := ⟨.hbm, 475, rfl⟩
abbrev main_v305 : Ref sig .tc := ⟨.hbm, 476, rfl⟩
abbrev main_v306 : Ref sig .tc := ⟨.hbm, 477, rfl⟩
abbrev main_cst_114 : Ref sig .tc := ⟨.hbm, 478, rfl⟩
abbrev main_v307 : Ref sig .tc := ⟨.hbm, 479, rfl⟩
abbrev main_v308 : Ref sig .tc := ⟨.hbm, 480, rfl⟩
abbrev main_v309 : Ref sig .tc := ⟨.hbm, 481, rfl⟩
abbrev main_cst_115 : Ref sig .tc := ⟨.hbm, 482, rfl⟩
abbrev main_v310 : Ref sig .tc := ⟨.hbm, 483, rfl⟩
abbrev main_v311 : Ref sig .tc := ⟨.hbm, 484, rfl⟩
abbrev main_cst_116 : Ref sig .tc := ⟨.hbm, 485, rfl⟩
abbrev main_v312 : Ref sig .tc := ⟨.hbm, 486, rfl⟩
abbrev main_v313 : Ref sig .tc := ⟨.hbm, 487, rfl⟩
abbrev main_cst_117 : Ref sig .tc := ⟨.hbm, 488, rfl⟩
abbrev main_v314 : Ref sig .tc := ⟨.hbm, 489, rfl⟩
abbrev main_v315 : Ref sig .tc := ⟨.hbm, 490, rfl⟩
abbrev main_v316 : Ref sig .tc := ⟨.hbm, 491, rfl⟩
abbrev main_cst_118 : Ref sig .tc := ⟨.hbm, 492, rfl⟩
abbrev main_v317 : Ref sig .tc := ⟨.hbm, 493, rfl⟩
abbrev main_v318 : Ref sig .tc := ⟨.hbm, 494, rfl⟩
abbrev main_v319 : Ref sig .tc := ⟨.hbm, 495, rfl⟩
abbrev main_cst_119 : Ref sig .tc := ⟨.hbm, 496, rfl⟩
abbrev main_v320 : Ref sig .tc := ⟨.hbm, 497, rfl⟩
abbrev main_v321 : Ref sig .tc := ⟨.hbm, 498, rfl⟩
abbrev main_v322 : Ref sig .tc := ⟨.hbm, 499, rfl⟩
abbrev main_cst_120 : Ref sig .tc := ⟨.hbm, 500, rfl⟩
abbrev main_v323 : Ref sig .tc := ⟨.hbm, 501, rfl⟩
abbrev main_v324 : Ref sig .tc := ⟨.hbm, 502, rfl⟩
abbrev main_cst_121 : Ref sig .tc := ⟨.hbm, 503, rfl⟩
abbrev main_v325 : Ref sig .tc := ⟨.hbm, 504, rfl⟩
abbrev main_v326 : Ref sig .tc := ⟨.hbm, 505, rfl⟩
abbrev main_v327 : Ref sig .tc := ⟨.hbm, 506, rfl⟩
abbrev main_cst_122 : Ref sig .tc := ⟨.hbm, 507, rfl⟩
abbrev main_v328 : Ref sig .tc := ⟨.hbm, 508, rfl⟩
abbrev main_v329 : Ref sig .tc := ⟨.hbm, 509, rfl⟩
abbrev main_v330 : Ref sig .tc := ⟨.hbm, 510, rfl⟩
abbrev main_cst_123 : Ref sig .tc := ⟨.hbm, 511, rfl⟩
abbrev main_v331 : Ref sig .tc := ⟨.hbm, 512, rfl⟩
abbrev main_v332 : Ref sig .tc := ⟨.hbm, 513, rfl⟩
abbrev main_v333 : Ref sig .tc := ⟨.hbm, 514, rfl⟩
abbrev main_cst_124 : Ref sig .tc := ⟨.hbm, 515, rfl⟩
abbrev main_v334 : Ref sig .tc := ⟨.hbm, 516, rfl⟩
abbrev main_v335 : Ref sig .tc := ⟨.hbm, 517, rfl⟩
abbrev main_v336 : Ref sig .tc := ⟨.hbm, 518, rfl⟩
abbrev main_v337 : Ref sig .tc := ⟨.hbm, 519, rfl⟩
abbrev main_v338 : Ref sig .tc := ⟨.hbm, 520, rfl⟩
abbrev main_v339 : Ref sig .tc := ⟨.hbm, 521, rfl⟩
abbrev main_v340 : Ref sig .tc := ⟨.hbm, 522, rfl⟩
abbrev main_v341 : Ref sig .tc := ⟨.hbm, 523, rfl⟩
abbrev main_v342 : Ref sig .tc := ⟨.hbm, 524, rfl⟩
abbrev main_v343 : Ref sig .tc := ⟨.hbm, 525, rfl⟩
abbrev main_v344 : Ref sig .tc := ⟨.hbm, 526, rfl⟩
abbrev main_v345 : Ref sig .tc := ⟨.hbm, 527, rfl⟩
abbrev main_v346 : Ref sig .tc := ⟨.hbm, 528, rfl⟩
abbrev main_v347 : Ref sig .tc := ⟨.hbm, 529, rfl⟩
abbrev main_v348 : Ref sig .tc := ⟨.hbm, 530, rfl⟩
abbrev main_v349 : Ref sig .tc := ⟨.hbm, 531, rfl⟩
abbrev main_v350 : Ref sig .tc := ⟨.hbm, 532, rfl⟩
abbrev main_v351 : Ref sig .tc := ⟨.hbm, 533, rfl⟩
abbrev main_v352 : Ref sig .tc := ⟨.hbm, 534, rfl⟩
abbrev main_v353 : Ref sig .tc := ⟨.hbm, 535, rfl⟩
abbrev main_v354 : Ref sig .tc := ⟨.hbm, 536, rfl⟩
abbrev main_v355 : Ref sig .tc := ⟨.hbm, 537, rfl⟩
abbrev main_v356 : Ref sig .tc := ⟨.hbm, 538, rfl⟩
abbrev main_v357 : Ref sig .tc := ⟨.hbm, 539, rfl⟩
abbrev main_v358 : Ref sig .tc := ⟨.hbm, 540, rfl⟩
abbrev main_v359 : Ref sig .tc := ⟨.hbm, 541, rfl⟩
abbrev main_v360 : Ref sig .tc := ⟨.hbm, 542, rfl⟩
abbrev main_v361 : Ref sig .tc := ⟨.hbm, 543, rfl⟩
abbrev main_v362 : Ref sig .tc := ⟨.hbm, 544, rfl⟩
abbrev main_v363 : Ref sig .tc := ⟨.hbm, 545, rfl⟩
abbrev main_v364 : Ref sig .tc := ⟨.hbm, 546, rfl⟩
abbrev main_v365 : Ref sig .tc := ⟨.hbm, 547, rfl⟩
abbrev main_v366 : Ref sig .tc := ⟨.hbm, 548, rfl⟩
abbrev main_v367 : Ref sig .tc := ⟨.hbm, 549, rfl⟩
abbrev main_v368 : Ref sig .tc := ⟨.hbm, 550, rfl⟩
abbrev main_v369 : Ref sig .tc := ⟨.hbm, 551, rfl⟩
abbrev main_v370 : Ref sig .tc := ⟨.hbm, 552, rfl⟩
abbrev main_v371 : Ref sig .tc := ⟨.hbm, 553, rfl⟩
abbrev main_v372 : Ref sig .tc := ⟨.hbm, 554, rfl⟩
abbrev main_v373 : Ref sig .tc := ⟨.hbm, 555, rfl⟩
abbrev main_v374 : Ref sig .tc := ⟨.hbm, 556, rfl⟩
abbrev main_c : Ref sig .tc := ⟨.hbm, 557, rfl⟩
abbrev main_call0_v0 : Ref sig .tc := ⟨.hbm, 558, rfl⟩
abbrev main_v375 : Ref sig .tc := ⟨.hbm, 559, rfl⟩
abbrev main_v376 : Ref sig .tc := ⟨.hbm, 560, rfl⟩
abbrev main_c_125 : Ref sig .tc := ⟨.hbm, 561, rfl⟩
abbrev main_call1_v0 : Ref sig .tc := ⟨.hbm, 562, rfl⟩
abbrev main_v377 : Ref sig .tc := ⟨.hbm, 563, rfl⟩
abbrev main_v378 : Ref sig .tc := ⟨.hbm, 564, rfl⟩
abbrev main_c_126 : Ref sig .tc := ⟨.hbm, 565, rfl⟩
abbrev main_call2_v0 : Ref sig .tc := ⟨.hbm, 566, rfl⟩
abbrev main_v379 : Ref sig .tc := ⟨.hbm, 567, rfl⟩
abbrev main_v380 : Ref sig .tc := ⟨.hbm, 568, rfl⟩

abbrev nD : Nat := 1
abbrev τ : Topo := Topo.v7x

variable {F : FTy → Type} [FloatOps F]
-- ==== Kernel23.lean ====
abbrev S16x2048 : Shape := ⟨2, ![16, 2048]⟩
abbrev S16x3072 : Shape := ⟨2, ![16, 3072]⟩
abbrev S16x12288 : Shape := ⟨2, ![16, 12288]⟩
abbrev S4x2048x3072 : Shape := ⟨3, ![4, 2048, 3072]⟩
abbrev S16x1024 : Shape := ⟨2, ![16, 1024]⟩
abbrev S1x1024x1024 : Shape := ⟨3, ![1, 1024, 1024]⟩
abbrev S1024x1024 : Shape := ⟨2, ![1024, 1024]⟩

abbrev nBuf : Space → Nat
  | .hbm => 7
  | .vmem => 7
  | .smem => 0
  | _ => 0

abbrev bufTy : (tb : Table) → Fin (tcTables nBuf tb) → BufTy
  | .hbm, ⟨0, _⟩ => ⟨S16x2048, .f32⟩
  | .hbm, ⟨1, _⟩ => ⟨S16x3072, .f32⟩
  | .hbm, ⟨2, _⟩ => ⟨S16x3072, .f32⟩
  | .hbm, ⟨3, _⟩ => ⟨S16x3072, .f32⟩
  | .hbm, ⟨4, _⟩ => ⟨S16x3072, .f32⟩
  | .hbm, ⟨5, _⟩ => ⟨S16x12288, .f32⟩
  | .hbm, ⟨6, _⟩ => ⟨S4x2048x3072, .f32⟩
  | .local _ .vmem, ⟨0, _⟩ => ⟨S16x1024, .f32⟩
  | .local _ .vmem, ⟨1, _⟩ => ⟨S16x1024, .f32⟩
  | .local _ .vmem, ⟨2, _⟩ => ⟨S16x1024, .f32⟩
  | .local _ .vmem, ⟨3, _⟩ => ⟨S16x1024, .f32⟩
  | .local _ .vmem, ⟨4, _⟩ => ⟨S1x1024x1024, .f32⟩
  | .local _ .vmem, ⟨5, _⟩ => ⟨S1x1024x1024, .f32⟩
  | .local _ .vmem, ⟨6, _⟩ => ⟨S1024x1024, .f32⟩
  | _, _ => ⟨S16x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 12, 1], ![false, false, false]⟩

def k0_cond2 (i : grid0.Coords) : BitVec 1 :=
  let arg2 : BitVec 32 := BitVec.ofNat 32 (i 2).val
  let c0_i32_8 : BitVec 32 := 0#32
  let v14 : BitVec 1 := Scalar.cmpi .eq arg2 c0_i32_8
  let v15 : BitVec 32 := Scalar.extui v14
  let c0_i32_9 : BitVec 32 := 0#32
  let v16 : BitVec 1 := Scalar.cmpi .ne v15 c0_i32_9
  v16

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.divsi arg1 c3_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c3_i32 c0_i32_1
  let v7 : BitVec 32 := Scalar.extui v6
  let c0_i32_2 : BitVec 32 := 0#32
  let v8 : BitVec 1 := Scalar.cmpi .slt c3_i32 c0_i32_2
  let v9 : BitVec 32 := Scalar.extui v8
  let v10 : BitVec 32 := Scalar.subi v7 v9
  let v11 : BitVec 1 := Scalar.cmpi .ne v5 v10
  let v12 : BitVec 32 := Scalar.remsi arg1 c3_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c3_i32_4 : BitVec 32 := 3#32
  let c0_i32_5 : BitVec 32 := 0#32
  let v17 : BitVec 1 := Scalar.cmpi .eq c3_i32_4 c0_i32_5
  let c1_i32_6 : BitVec 32 := 1#32
  let v18 : BitVec 32 := Scalar.select v17 c1_i32_6 c3_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 2 → Memref sig .tc .vmem S16x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S16x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference23Ideal.lean ====
abbrev S16x2048 : Shape := ⟨2, ![16, 2048]⟩
abbrev S16x3072 : Shape := ⟨2, ![16, 3072]⟩
abbrev S_ : Shape := ⟨0, ![]⟩
abbrev S4x2048x3072 : Shape := ⟨3, ![4, 2048, 3072]⟩
abbrev S1x2048x3072 : Shape := ⟨3, ![1, 2048, 3072]⟩
abbrev S2048x3072 : Shape := ⟨2, ![2048, 3072]⟩
abbrev S3072x2048 : Shape := ⟨2, ![3072, 2048]⟩

abbrev nBuf : Space → Nat
  | .hbm => 42
  | .vmem => 0
  | .smem => 0
  | _ => 0

abbrev bufTy : (tb : Table) → Fin (tcTables nBuf tb) → BufTy
  | .hbm, ⟨0, _⟩ => ⟨S16x2048, .f32⟩
  | .hbm, ⟨1, _⟩ => ⟨S16x3072, .f32⟩
  | .hbm, ⟨2, _⟩ => ⟨S16x3072, .f32⟩
  | .hbm, ⟨3, _⟩ => ⟨S16x3072, .f32⟩
  | .hbm, ⟨4, _⟩ => ⟨S16x3072, .f32⟩
  | .hbm, ⟨5, _⟩ => ⟨S_, .f32⟩
  | .hbm, ⟨6, _⟩ => ⟨S4x2048x3072, .f32⟩
  | .hbm, ⟨7, _⟩ => ⟨S1x2048x3072, .f32⟩
  | .hbm, ⟨8, _⟩ => ⟨S2048x3072, .f32⟩
  | .hbm, ⟨9, _⟩ => ⟨S16x3072, .f32⟩
  | .hbm, ⟨10, _⟩ => ⟨S1x2048x3072, .f32⟩
  | .hbm, ⟨11, _⟩ => ⟨S2048x3072, .f32⟩
  | .hbm, ⟨12, _⟩ => ⟨S16x3072, .f32⟩
  | .hbm, ⟨13, _⟩ => ⟨S1x2048x3072, .f32⟩
  | .hbm, ⟨14, _⟩ => ⟨S2048x3072, .f32⟩
  | .hbm, ⟨15, _⟩ => ⟨S16x3072, .f32⟩
  | .hbm, ⟨16, _⟩ => ⟨S1x2048x3072, .f32⟩
  | .hbm, ⟨17, _⟩ => ⟨S2048x3072, .f32⟩
  | .hbm, ⟨18, _⟩ => ⟨S16x3072, .f32⟩
  | .hbm, ⟨19, _⟩ => ⟨S3072x2048, .f32⟩
  | .hbm, ⟨20, _⟩ => ⟨S2048x3072, .f32⟩
  | .hbm, ⟨21, _⟩ => ⟨S1x2048x3072, .f32⟩
  | .hbm, ⟨22, _⟩ => ⟨S_, .f32⟩
  | .hbm, ⟨23, _⟩ => ⟨S4x2048x3072, .f32⟩
  | .hbm, ⟨24, _⟩ => ⟨S3072x2048, .f32⟩
  | .hbm, ⟨25, _⟩ => ⟨S2048x3072, .f32⟩
  | .hbm, ⟨26, _⟩ => ⟨S1x2048x3072, .f32⟩
  | .hbm, ⟨27, _⟩ => ⟨S_, .f32⟩
  | .hbm, ⟨28, _⟩ => ⟨S4x2048x3072, .f32⟩
  | .hbm, ⟨29, _⟩ => ⟨S4x2048x3072, .f32⟩
  | .hbm, ⟨30, _⟩ => ⟨S3072x2048, .f32⟩
  | .hbm, ⟨31, _⟩ => ⟨S2048x3072, .f32⟩
  | .hbm, ⟨32, _⟩ => ⟨S1x2048x3072, .f32⟩
  | .hbm, ⟨33, _⟩ => ⟨S_, .f32⟩
  | .hbm, ⟨34, _⟩ => ⟨S4x2048x3072, .f32⟩
  | .hbm, ⟨35, _⟩ => ⟨S4x2048x3072, .f32⟩
  | .hbm, ⟨36, _⟩ => ⟨S3072x2048, .f32⟩
  | .hbm, ⟨37, _⟩ => ⟨S2048x3072, .f32⟩
  | .hbm, ⟨38, _⟩ => ⟨S1x2048x3072, .f32⟩
  | .hbm, ⟨39, _⟩ => ⟨S_, .f32⟩
  | .hbm, ⟨40, _⟩ => ⟨S4x2048x3072, .f32⟩
  | .hbm, ⟨41, _⟩ => ⟨S4x2048x3072, .f32⟩
  | _, _ => ⟨S16x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_0 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_1 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst_2 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_cst_3 : Ref sig .tc := ⟨.hbm, 39, rfl⟩
abbrev main_v30 : Ref sig .tc := ⟨.hbm, 40, rfl⟩
abbrev main_v31 : Ref sig .tc := ⟨.hbm, 41, rfl⟩

abbrev nD : Nat := 1
abbrev τ : Topo := Topo.v7x

variable {F : FTy → Type} [FloatOps F]
-- ==== Kernel24.lean ====
abbrev S16x2048 : Shape := ⟨2, ![16, 2048]⟩
abbrev S16x1024 : Shape := ⟨2, ![16, 1024]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S16x2048, .f32⟩
  | .hbm, ⟨1, _⟩ => ⟨S16x1024, .f32⟩
  | .hbm, ⟨2, _⟩ => ⟨S2048x1024, .f32⟩
  | .local _ .vmem, ⟨0, _⟩ => ⟨S16x1024, .f32⟩
  | .local _ .vmem, ⟨1, _⟩ => ⟨S16x1024, .f32⟩
  | .local _ .vmem, ⟨2, _⟩ => ⟨S16x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | _, _ => ⟨S16x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S16x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S16x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference24Ideal.lean ====
abbrev S16x2048 : Shape := ⟨2, ![16, 2048]⟩
abbrev S16x1024 : Shape := ⟨2, ![16, 1024]⟩
abbrev S_ : Shape := ⟨0, ![]⟩
abbrev S2048x1024 : Shape := ⟨2, ![2048, 1024]⟩
abbrev S1024x2048 : Shape := ⟨2, ![1024, 2048]⟩

abbrev nBuf : Space → Nat
  | .hbm => 7
  | .vmem => 0
  | .smem => 0
  | _ => 0

abbrev bufTy : (tb : Table) → Fin (tcTables nBuf tb) → BufTy
  | .hbm, ⟨0, _⟩ => ⟨S16x2048, .f32⟩
  | .hbm, ⟨1, _⟩ => ⟨S16x1024, .f32⟩
  | .hbm, ⟨2, _⟩ => ⟨S_, .f32⟩
  | .hbm, ⟨3, _⟩ => ⟨S2048x1024, .f32⟩
  | .hbm, ⟨4, _⟩ => ⟨S16x1024, .f32⟩
  | .hbm, ⟨5, _⟩ => ⟨S1024x2048, .f32⟩
  | .hbm, ⟨6, _⟩ => ⟨S2048x1024, .f32⟩
  | _, _ => ⟨S16x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel25.lean ====
abbrev S16x53248 : Shape := ⟨2, ![16, 53248]⟩
abbrev S16x52x1024 : Shape := ⟨3, ![16, 52, 1024]⟩
abbrev S52x1024 : Shape := ⟨2, ![52, 1024]⟩
abbrev S1x52x1024 : Shape := ⟨3, ![1, 52, 1024]⟩

abbrev nBuf : Space → Nat
  | .hbm => 3
  | .vmem => 2
  | .smem => 0
  | _ => 0

abbrev bufTy : (tb : Table) → Fin (tcTables nBuf tb) → BufTy
  | .hbm, ⟨0, _⟩ => ⟨S16x53248, .f32⟩
  | .hbm, ⟨1, _⟩ => ⟨S16x52x1024, .f32⟩
  | .hbm, ⟨2, _⟩ => ⟨S52x1024, .f32⟩
  | .local _ .vmem, ⟨0, _⟩ => ⟨S16x52x1024, .f32⟩
  | .local _ .vmem, ⟨1, _⟩ => ⟨S52x1024, .f32⟩
  | _, _ => ⟨S16x53248, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S16x52x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S52x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== Reference25Ideal.lean ====
abbrev S16x53248 : Shape := ⟨2, ![16, 53248]⟩
abbrev S_ : Shape := ⟨0, ![]⟩
abbrev S53248 : Shape := ⟨1, ![53248]⟩
abbrev S52x1024 : Shape := ⟨2, ![52, 1024]⟩

abbrev nBuf : Space → Nat
  | .hbm => 4
  | .vmem => 0
  | .smem => 0
  | _ => 0

abbrev bufTy : (tb : Table) → Fin (tcTables nBuf tb) → BufTy
  | .hbm, ⟨0, _⟩ => ⟨S16x53248, .f32⟩
  | .hbm, ⟨1, _⟩ => ⟨S_, .f32⟩
  | .hbm, ⟨2, _⟩ => ⟨S53248, .f32⟩
  | .hbm, ⟨3, _⟩ => ⟨S52x1024, .f32⟩
  | _, _ => ⟨S16x53248, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel26.lean ====
abbrev S8x312x1024 : Shape := ⟨3, ![8, 312, 1024]⟩
abbrev S312x1024 : Shape := ⟨2, ![312, 1024]⟩
abbrev S8x24x1024 : Shape := ⟨3, ![8, 24, 1024]⟩
abbrev S24x1024 : Shape := ⟨2, ![24, 1024]⟩
abbrev S1x24x1024 : Shape := ⟨3, ![1, 24, 1024]⟩

abbrev nBuf : Space → Nat
  | .hbm => 2
  | .vmem => 4
  | .smem => 0
  | _ => 0

abbrev bufTy : (tb : Table) → Fin (tcTables nBuf tb) → BufTy
  | .hbm, ⟨0, _⟩ => ⟨S8x312x1024, .f32⟩
  | .hbm, ⟨1, _⟩ => ⟨S312x1024, .f32⟩
  | .local _ .vmem, ⟨0, _⟩ => ⟨S8x24x1024, .f32⟩
  | .local _ .vmem, ⟨1, _⟩ => ⟨S8x24x1024, .f32⟩
  | .local _ .vmem, ⟨2, _⟩ => ⟨S24x1024, .f32⟩
  | .local _ .vmem, ⟨3, _⟩ => ⟨S24x1024, .f32⟩
  | _, _ => ⟨S8x312x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![13], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x24x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S24x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Reference26Ideal.lean ====
abbrev S8x312x1024 : Shape := ⟨3, ![8, 312, 1024]⟩
abbrev S_ : Shape := ⟨0, ![]⟩
abbrev S312x1024 : Shape := ⟨2, ![312, 1024]⟩

abbrev nBuf : Space → Nat
  | .hbm => 3
  | .vmem => 0
  | .smem => 0
  | _ => 0

abbrev bufTy : (tb : Table) → Fin (tcTables nBuf tb) → BufTy
  | .hbm, ⟨0, _⟩ => ⟨S8x312x1024, .f32⟩
  | .hbm, ⟨1, _⟩ => ⟨S_, .f32⟩
  | .hbm, ⟨2, _⟩ => ⟨S312x1024, .f32⟩
  | _, _ => ⟨S8x312x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel27.lean ====
abbrev S4096x1024 : Shape := ⟨2, ![4096, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference27Ideal.lean ====
abbrev S4096x1024 : Shape := ⟨2, ![4096, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S1024x1024, .f32⟩
  | .hbm, ⟨4, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel28.lean ====
abbrev S4096x2048 : Shape := ⟨2, ![4096, 2048]⟩
abbrev S2x1x2048 : Shape := ⟨3, ![2, 1, 2048]⟩
abbrev S1x2048 : Shape := ⟨2, ![1, 2048]⟩
abbrev S128x2048 : Shape := ⟨2, ![128, 2048]⟩
abbrev S1x1x2048 : Shape := ⟨3, ![1, 1, 2048]⟩
abbrev S128 : Shape := ⟨1, ![128]⟩
abbrev S128x1 : Shape := ⟨2, ![128, 1]⟩
abbrev S2048 : Shape := ⟨1, ![2048]⟩

abbrev nBuf : Space → Nat
  | .hbm => 14
  | .vmem => 26
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S2x1x2048, .f32⟩
  | .hbm, ⟨3, _⟩ => ⟨S2x1x2048, .f32⟩
  | .hbm, ⟨4, _⟩ => ⟨S2x1x2048, .f32⟩
  | .hbm, ⟨5, _⟩ => ⟨S1x2048, .f32⟩
  | .hbm, ⟨6, _⟩ => ⟨S4096x2048, .f32⟩
  | .hbm, ⟨7, _⟩ => ⟨S4096x2048, .f32⟩
  | .hbm, ⟨8, _⟩ => ⟨S4096x2048, .f32⟩
  | .hbm, ⟨9, _⟩ => ⟨S4096x2048, .bf16⟩
  | .hbm, ⟨10, _⟩ => ⟨S2x1x2048, .f32⟩
  | .hbm, ⟨11, _⟩ => ⟨S2x1x2048, .f32⟩
  | .hbm, ⟨12, _⟩ => ⟨S2x1x2048, .f32⟩
  | .hbm, ⟨13, _⟩ => ⟨S1x2048, .f32⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1x2048, .f32⟩
  | .local _ .vmem, ⟨7, _⟩ => ⟨S1x1x2048, .f32⟩
  | .local _ .vmem, ⟨8, _⟩ => ⟨S1x1x2048, .f32⟩
  | .local _ .vmem, ⟨9, _⟩ => ⟨S1x1x2048, .f32⟩
  | .local _ .vmem, ⟨10, _⟩ => ⟨S1x2048, .f32⟩
  | .local _ .vmem, ⟨11, _⟩ => ⟨S128x2048, .f32⟩
  | .local _ .vmem, ⟨12, _⟩ => ⟨S128x2048, .f32⟩
  | .local _ .vmem, ⟨13, _⟩ => ⟨S128x2048, .f32⟩
  | .local _ .vmem, ⟨14, _⟩ => ⟨S128x2048, .f32⟩
  | .local _ .vmem, ⟨15, _⟩ => ⟨S128x2048, .f32⟩
  | .local _ .vmem, ⟨16, _⟩ => ⟨S128x2048, .f32⟩
  | .local _ .vmem, ⟨17, _⟩ => ⟨S128x2048, .bf16⟩
  | .local _ .vmem, ⟨18, _⟩ => ⟨S128x2048, .bf16⟩
  | .local _ .vmem, ⟨19, _⟩ => ⟨S1x1x2048, .f32⟩
  | .local _ .vmem, ⟨20, _⟩ => ⟨S1x1x2048, .f32⟩
  | .local _ .vmem, ⟨21, _⟩ => ⟨S1x1x2048, .f32⟩
  | .local _ .vmem, ⟨22, _⟩ => ⟨S1x1x2048, .f32⟩
  | .local _ .vmem, ⟨23, _⟩ => ⟨S1x1x2048, .f32⟩
  | .local _ .vmem, ⟨24, _⟩ => ⟨S1x1x2048, .f32⟩
  | .local _ .vmem, ⟨25, _⟩ => ⟨S1x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev main_v0_4 : Ref sig .tc := ⟨.hbm, 12, rfl⟩
abbrev main_v0_5 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg12_1 : Ref sig .tc := ⟨.vmem, 24, rfl⟩
abbrev cc0_stg13_0 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24
abbrev cc0_sem13_0 : DmaSem sig := 25

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_11 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_12 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S128x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x1x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x1x2048 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x1x2048 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S1x2048 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== Reference28Ideal.lean ====
abbrev S4096x2048 : Shape := ⟨2, ![4096, 2048]⟩
abbrev S2x1x2048 : Shape := ⟨3, ![2, 1, 2048]⟩
abbrev S1x2048 : Shape := ⟨2, ![1, 2048]⟩
abbrev S2x2048x2048 : Shape := ⟨3, ![2, 2048, 2048]⟩
abbrev S2x2048 : Shape := ⟨2, ![2, 2048]⟩
abbrev S2048 : Shape := ⟨1, ![2048]⟩
abbrev S_ : Shape := ⟨0, ![]⟩
abbrev S2x2048x1 : Shape := ⟨3, ![2, 2048, 1]⟩
abbrev S1x1x2048 : Shape := ⟨3, ![1, 1, 2048]⟩

abbrev nBuf : Space → Nat
  | .hbm => 103
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S2x1x2048, .f32⟩
  | .hbm, ⟨3, _⟩ => ⟨S2x1x2048, .f32⟩
  | .hbm, ⟨4, _⟩ => ⟨S2x1x2048, .f32⟩
  | .hbm, ⟨5, _⟩ => ⟨S1x2048, .f32⟩
  | .hbm, ⟨6, _⟩ => ⟨S4096x2048, .f32⟩
  | .hbm, ⟨7, _⟩ => ⟨S4096x2048, .f32⟩
  | .hbm, ⟨8, _⟩ => ⟨S2x2048x2048, .f32⟩
  | .hbm, ⟨9, _⟩ => ⟨S2x2048x2048, .f32⟩
  | .hbm, ⟨10, _⟩ => ⟨S2x2048, .f32⟩
  | .hbm, ⟨11, _⟩ => ⟨S2x2048, .f32⟩
  | .hbm, ⟨12, _⟩ => ⟨S2x2048, .f32⟩
  | .hbm, ⟨13, _⟩ => ⟨S2048, .f32⟩
  | .hbm, ⟨14, _⟩ => ⟨S2x1x2048, .f32⟩
  | .hbm, ⟨15, _⟩ => ⟨S2x2048x2048, .f32⟩
  | .hbm, ⟨16, _⟩ => ⟨S2x2048x2048, .f32⟩
  | .hbm, ⟨17, _⟩ => ⟨S2x2048x2048, .f32⟩
  | .hbm, ⟨18, _⟩ => ⟨S2x2048x2048, .f32⟩
  | .hbm, ⟨19, _⟩ => ⟨S_, .f32⟩
  | .hbm, ⟨20, _⟩ => ⟨S2x2048, .f32⟩
  | .hbm, ⟨21, _⟩ => ⟨S2x2048x1, .f32⟩
  | .hbm, ⟨22, _⟩ => ⟨S_, .f32⟩
  | .hbm, ⟨23, _⟩ => ⟨S2x2048x1, .f32⟩
  | .hbm, ⟨24, _⟩ => ⟨S2x2048x1, .f32⟩
  | .hbm, ⟨25, _⟩ => ⟨S_, .f32⟩
  | .hbm, ⟨26, _⟩ => ⟨S2x2048x1, .f32⟩
  | .hbm, ⟨27, _⟩ => ⟨S2x2048x1, .f32⟩
  | .hbm, ⟨28, _⟩ => ⟨S2x2048x1, .f32⟩
  | .hbm, ⟨29, _⟩ => ⟨S2x2048x1, .f32⟩
  | .hbm, ⟨30, _⟩ => ⟨S_, .f32⟩
  | .hbm, ⟨31, _⟩ => ⟨S2x2048x1, .f32⟩
  | .hbm, ⟨32, _⟩ => ⟨S2x2048x1, .f32⟩
  | .hbm, ⟨33, _⟩ => ⟨S2x2048x2048, .f32⟩
  | .hbm, ⟨34, _⟩ => ⟨S2x2048x2048, .f32⟩
  | .hbm, ⟨35, _⟩ => ⟨S1x1x2048, .f32⟩
  | .hbm, ⟨36, _⟩ => ⟨S2x2048x2048, .f32⟩
  | .hbm, ⟨37, _⟩ => ⟨S2x2048x2048, .f32⟩
  | .hbm, ⟨38, _⟩ => ⟨S2x1x2048, .f32⟩
  | .hbm, ⟨39, _⟩ => ⟨S_, .f32⟩
  | .hbm, ⟨40, _⟩ => ⟨S2x1x2048, .f32⟩
  | .hbm, ⟨41, _⟩ => ⟨S2x1x2048, .f32⟩
  | .hbm, ⟨42, _⟩ => ⟨S2x2048x2048, .f32⟩
  | .hbm, ⟨43, _⟩ => ⟨S2x2048x2048, .f32⟩
  | .hbm, ⟨44, _⟩ => ⟨S2x1x2048, .f32⟩
  | .hbm, ⟨45, _⟩ => ⟨S2x2048x2048, .f32⟩
  | .hbm, ⟨46, _⟩ => ⟨S2x2048x2048, .f32⟩
  | .hbm, ⟨47, _⟩ => ⟨S2x2048x2048, .f32⟩
  | .hbm, ⟨48, _⟩ => ⟨S2x2048x2048, .f32⟩
  | .hbm, ⟨49, _⟩ => ⟨S_, .f32⟩
  | .hbm, ⟨50, _⟩ => ⟨S2x2048, .f32⟩
  | .hbm, ⟨51, _⟩ => ⟨S2x1x2048, .f32⟩
  | .hbm, ⟨52, _⟩ => ⟨S_, .f32⟩
  | .hbm, ⟨53, _⟩ => ⟨S2x2048, .f32⟩
  | .hbm, ⟨54, _⟩ => ⟨S2x2048x2048, .f32⟩
  | .hbm, ⟨55, _⟩ => ⟨S_, .f32⟩
  | .hbm, ⟨56, _⟩ => ⟨S2x2048, .f32⟩
  | .hbm, ⟨57, _⟩ => ⟨S2x1x2048, .f32⟩
  | .hbm, ⟨58, _⟩ => ⟨S2x2048x2048, .f32⟩
  | .hbm, ⟨59, _⟩ => ⟨S2x2048x2048, .f32⟩
  | .hbm, ⟨60, _⟩ => ⟨S_, .f32⟩
  | .hbm, ⟨61, _⟩ => ⟨S2x2048, .f32⟩
  | .hbm, ⟨62, _⟩ => ⟨S2x2048x2048, .f32⟩
  | .hbm, ⟨63, _⟩ => ⟨S_, .f32⟩
  | .hbm, ⟨64, _⟩ => ⟨S2048, .f32⟩
  | .hbm, ⟨65, _⟩ => ⟨S1x1x2048, .f32⟩
  | .hbm, ⟨66, _⟩ => ⟨S2x2048x2048, .f32⟩
  | .hbm, ⟨67, _⟩ => ⟨S2x2048x2048, .f32⟩
  | .hbm, ⟨68, _⟩ => ⟨S_, .f32⟩
  | .hbm, ⟨69, _⟩ => ⟨S2048, .f32⟩
  | .hbm, ⟨70, _⟩ => ⟨S2x2048x2048, .f32⟩
  | .hbm, ⟨71, _⟩ => ⟨S_, .f32⟩
  | .hbm, ⟨72, _⟩ => ⟨S2x2048, .f32⟩
  | .hbm, ⟨73, _⟩ => ⟨S2x2048x1, .f32⟩
  | .hbm, ⟨74, _⟩ => ⟨S2x2048x2048, .f32⟩
  | .hbm, ⟨75, _⟩ => ⟨S2x2048x2048, .f32⟩
  | .hbm, ⟨76, _⟩ => ⟨S2x2048x2048, .f32⟩
  | .hbm, ⟨77, _⟩ => ⟨S2x2048x1, .f32⟩
  | .hbm, ⟨78, _⟩ => ⟨S_, .f32⟩
  | .hbm, ⟨79, _⟩ => ⟨S2x2048x1, .f32⟩
  | .hbm, ⟨80, _⟩ => ⟨S2x2048x1, .f32⟩
  | .hbm, ⟨81, _⟩ => ⟨S_, .f32⟩
  | .hbm, ⟨82, _⟩ => ⟨S2x2048, .f32⟩
  | .hbm, ⟨83, _⟩ => ⟨S2x2048x2048, .f32⟩
  | .hbm, ⟨84, _⟩ => ⟨S2x2048x2048, .f32⟩
  | .hbm, ⟨85, _⟩ => ⟨S2x2048x2048, .f32⟩
  | .hbm, ⟨86, _⟩ => ⟨S2x2048x2048, .f32⟩
  | .hbm, ⟨87, _⟩ => ⟨S2x2048x2048, .f32⟩
  | .hbm, ⟨88, _⟩ => ⟨S2x2048x2048, .f32⟩
  | .hbm, ⟨89, _⟩ => ⟨S2x2048x2048, .f32⟩
  | .hbm, ⟨90, _⟩ => ⟨S2x2048x2048, .f32⟩
  | .hbm, ⟨91, _⟩ => ⟨S_, .f32⟩
  | .hbm, ⟨92, _⟩ => ⟨S2x2048, .f32⟩
  | .hbm, ⟨93, _⟩ => ⟨S2x1x2048, .f32⟩
  | .hbm, ⟨94, _⟩ => ⟨S_, .f32⟩
  | .hbm, ⟨95, _⟩ => ⟨S2x2048, .f32⟩
  | .hbm, ⟨96, _⟩ => ⟨S4096x2048, .f32⟩
  | .hbm, ⟨97, _⟩ => ⟨S4096x2048, .f32⟩
  | .hbm, ⟨98, _⟩ => ⟨S4096x2048, .bf16⟩
  | .hbm, ⟨99, _⟩ => ⟨S2x1x2048, .f32⟩
  | .hbm, ⟨100, _⟩ => ⟨S2x1x2048, .f32⟩
  | .hbm, ⟨101, _⟩ => ⟨S2x1x2048, .f32⟩
  | .hbm, ⟨102, _⟩ => ⟨S1x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_cst_0 : Ref sig .tc := ⟨.hbm, 22, rfl⟩
abbrev main_v13 : Ref sig .tc := ⟨.hbm, 23, rfl⟩
abbrev main_v14 : Ref sig .tc := ⟨.hbm, 24, rfl⟩
abbrev main_cst_1 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_2 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_3 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_4 : Ref sig .tc := ⟨.hbm, 49, rfl⟩
abbrev main_v36 : Ref sig .tc := ⟨.hbm, 50, rfl⟩
abbrev main_v37 : Ref sig .tc := ⟨.hbm, 51, rfl⟩
abbrev main_cst_5 : Ref sig .tc := ⟨.hbm, 52, rfl⟩
abbrev main_v38 : Ref sig .tc := ⟨.hbm, 53, rfl⟩
abbrev main_v39 : Ref sig .tc := ⟨.hbm, 54, rfl⟩
abbrev main_cst_6 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_cst_7 : Ref sig .tc := ⟨.hbm, 60, rfl⟩
abbrev main_v44 : Ref sig .tc := ⟨.hbm, 61, rfl⟩
abbrev main_v45 : Ref sig .tc := ⟨.hbm, 62, rfl⟩
abbrev main_cst_8 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_cst_9 : Ref sig .tc := ⟨.hbm, 68, rfl⟩
abbrev main_v50 : Ref sig .tc := ⟨.hbm, 69, rfl⟩
abbrev main_v51 : Ref sig .tc := ⟨.hbm, 70, rfl⟩
abbrev main_cst_10 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_cst_11 : Ref sig .tc := ⟨.hbm, 78, rfl⟩
abbrev main_v58 : Ref sig .tc := ⟨.hbm, 79, rfl⟩
abbrev main_v59 : Ref sig .tc := ⟨.hbm, 80, rfl⟩
abbrev main_cst_12 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_cst_13 : Ref sig .tc := ⟨.hbm, 91, rfl⟩
abbrev main_v69 : Ref sig .tc := ⟨.hbm, 92, rfl⟩
abbrev main_v70 : Ref sig .tc := ⟨.hbm, 93, rfl⟩
abbrev main_cst_14 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩

abbrev nD : Nat := 1
abbrev τ : Topo := Topo.v7x

variable {F : FTy → Type} [FloatOps F]
-- ==== Kernel29.lean ====
abbrev S4096x6272 : Shape := ⟨2, ![4096, 6272]⟩
abbrev S4096x1024 : Shape := ⟨2, ![4096, 1024]⟩
abbrev S128x1024 : Shape := ⟨2, ![128, 1024]⟩

abbrev nBuf : Space → Nat
  | .hbm => 4
  | .vmem => 10
  | .smem => 0
  | _ => 0

abbrev bufTy : (tb : Table) → Fin (tcTables nBuf tb) → BufTy
  | .hbm, ⟨0, _⟩ => ⟨S4096x6272, .f32⟩
  | .hbm, ⟨1, _⟩ => ⟨S4096x1024, .f32⟩
  | .hbm, ⟨2, _⟩ => ⟨S4096x1024, .bf16⟩
  | .hbm, ⟨3, _⟩ => ⟨S4096x1024, .bf16⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .bf16⟩
  | .local _ .vmem, ⟨7, _⟩ => ⟨S128x1024, .bf16⟩
  | .local _ .vmem, ⟨8, _⟩ => ⟨S128x1024, .bf16⟩
  | .local _ .vmem, ⟨9, _⟩ => ⟨S128x1024, .bf16⟩
  | _, _ => ⟨S4096x6272, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference29Ideal.lean ====
abbrev S4096x6272 : Shape := ⟨2, ![4096, 6272]⟩
abbrev S4096x1024 : Shape := ⟨2, ![4096, 1024]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S4096x6272, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096x1024, .f32⟩
  | .hbm, ⟨8, _⟩ => ⟨S4096x1024, .f32⟩
  | .hbm, ⟨9, _⟩ => ⟨S_, .f32⟩
  | .hbm, ⟨10, _⟩ => ⟨S4096x1024, .f32⟩
  | .hbm, ⟨11, _⟩ => ⟨S4096x1024, .f32⟩
  | .hbm, ⟨12, _⟩ => ⟨S_, .f32⟩
  | .hbm, ⟨13, _⟩ => ⟨S4096x1024, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S4096x1024, .bf16⟩
  | .hbm, ⟨21, _⟩ => ⟨S4096x1024, .bf16⟩
  | _, _ => ⟨S4096x6272, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩

abbrev nD : Nat := 1
abbrev τ : Topo := Topo.v7x

variable {F : FTy → Type} [FloatOps F]
-- ==== Kernel30.lean ====
abbrev S4096x1024 : Shape := ⟨2, ![4096, 1024]⟩
abbrev S1x1024 : Shape := ⟨2, ![1, 1024]⟩
abbrev S4096x2048 : Shape := ⟨2, ![4096, 2048]⟩
abbrev S128x1024 : Shape := ⟨2, ![128, 1024]⟩
abbrev S128 : Shape := ⟨1, ![128]⟩
abbrev S128x1 : Shape := ⟨2, ![128, 1]⟩
abbrev S1024 : Shape := ⟨1, ![1024]⟩

abbrev nBuf : Space → Nat
  | .hbm => 5
  | .vmem => 8
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x2048, .f32⟩
  | .hbm, ⟨3, _⟩ => ⟨S4096x1024, .bf16⟩
  | .hbm, ⟨4, _⟩ => ⟨S1x1024, .f32⟩
  | .local _ .vmem, ⟨0, _⟩ => ⟨S128x1024, .f32⟩
  | .local _ .vmem, ⟨1, _⟩ => ⟨S128x1024, .f32⟩
  | .local _ .vmem, ⟨2, _⟩ => ⟨S1x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .bf16⟩
  | .local _ .vmem, ⟨6, _⟩ => ⟨S128x1024, .bf16⟩
  | .local _ .vmem, ⟨7, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== Reference30Ideal.lean ====
abbrev S4096x1024 : Shape := ⟨2, ![4096, 1024]⟩
abbrev S1x1024 : Shape := ⟨2, ![1, 1024]⟩
abbrev S4096x2048 : Shape := ⟨2, ![4096, 2048]⟩
abbrev S1024 : Shape := ⟨1, ![1024]⟩
abbrev S_ : Shape := ⟨0, ![]⟩
abbrev S4096 : Shape := ⟨1, ![4096]⟩
abbrev S4096x1 : Shape := ⟨2, ![4096, 1]⟩

abbrev nBuf : Space → Nat
  | .hbm => 52
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x2048, .f32⟩
  | .hbm, ⟨3, _⟩ => ⟨S1024, .f32⟩
  | .hbm, ⟨4, _⟩ => ⟨S4096x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1024, .f32⟩
  | .hbm, ⟨20, _⟩ => ⟨S4096x1024, .f32⟩
  | .hbm, ⟨21, _⟩ => ⟨S1x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S_, .f32⟩
  | .hbm, ⟨27, _⟩ => ⟨S1024, .f32⟩
  | .hbm, ⟨28, _⟩ => ⟨S1x1024, .f32⟩
  | .hbm, ⟨29, _⟩ => ⟨S4096x1024, .f32⟩
  | .hbm, ⟨30, _⟩ => ⟨S4096x1024, .f32⟩
  | .hbm, ⟨31, _⟩ => ⟨S_, .f32⟩
  | .hbm, ⟨32, _⟩ => ⟨S1024, .f32⟩
  | .hbm, ⟨33, _⟩ => ⟨S4096x1024, .f32⟩
  | .hbm, ⟨34, _⟩ => ⟨S_, .f32⟩
  | .hbm, ⟨35, _⟩ => ⟨S4096, .f32⟩
  | .hbm, ⟨36, _⟩ => ⟨S4096x1, .f32⟩
  | .hbm, ⟨37, _⟩ => ⟨S4096x1024, .f32⟩
  | .hbm, ⟨38, _⟩ => ⟨S4096x1024, .f32⟩
  | .hbm, ⟨39, _⟩ => ⟨S4096x1, .f32⟩
  | .hbm, ⟨40, _⟩ => ⟨S_, .f32⟩
  | .hbm, ⟨41, _⟩ => ⟨S4096x1, .f32⟩
  | .hbm, ⟨42, _⟩ => ⟨S4096x1, .f32⟩
  | .hbm, ⟨43, _⟩ => ⟨S_, .f32⟩
  | .hbm, ⟨44, _⟩ => ⟨S4096, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1024, .bf16⟩
  | .hbm, ⟨51, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_3 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_4 : Ref sig .tc := ⟨.hbm, 31, rfl⟩
abbrev main_v23 : Ref sig .tc := ⟨.hbm, 32, rfl⟩
abbrev main_v24 : Ref sig .tc := ⟨.hbm, 33, rfl⟩
abbrev main_cst_5 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_6 : Ref sig .tc := ⟨.hbm, 40, rfl⟩
abbrev main_v30 : Ref sig .tc := ⟨.hbm, 41, rfl⟩
abbrev main_v31 : Ref sig .tc := ⟨.hbm, 42, rfl⟩
abbrev main_cst_7 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩

abbrev nD : Nat := 1
abbrev τ : Topo := Topo.v7x

variable {F : FTy → Type} [FloatOps F]
-- ==== Kernel31.lean ====
abbrev S4096x1024 : Shape := ⟨2, ![4096, 1024]⟩
abbrev S1x1024 : Shape := ⟨2, ![1, 1024]⟩
abbrev S128x1024 : Shape := ⟨2, ![128, 1024]⟩
abbrev S128 : Shape := ⟨1, ![128]⟩
abbrev S128x1 : Shape := ⟨2, ![128, 1]⟩
abbrev S1024 : Shape := ⟨1, ![1024]⟩

abbrev nBuf : Space → Nat
  | .hbm => 7
  | .vmem => 10
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024, .f32⟩
  | .hbm, ⟨3, _⟩ => ⟨S4096x1024, .f32⟩
  | .hbm, ⟨4, _⟩ => ⟨S4096x1024, .f32⟩
  | .hbm, ⟨5, _⟩ => ⟨S1x1024, .f32⟩
  | .hbm, ⟨6, _⟩ => ⟨S1x1024, .f32⟩
  | .local _ .vmem, ⟨0, _⟩ => ⟨S128x1024, .f32⟩
  | .local _ .vmem, ⟨1, _⟩ => ⟨S128x1024, .f32⟩
  | .local _ .vmem, ⟨2, _⟩ => ⟨S1x1024, .f32⟩
  | .local _ .vmem, ⟨3, _⟩ => ⟨S1x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S1x1024, .f32⟩
  | .local _ .vmem, ⟨9, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference31Ideal.lean ====
abbrev S4096x1024 : Shape := ⟨2, ![4096, 1024]⟩
abbrev S1x1024 : Shape := ⟨2, ![1, 1024]⟩
abbrev S1024 : Shape := ⟨1, ![1024]⟩
abbrev S_ : Shape := ⟨0, ![]⟩
abbrev S4096 : Shape := ⟨1, ![4096]⟩
abbrev S4096x1 : Shape := ⟨2, ![4096, 1]⟩

abbrev nBuf : Space → Nat
  | .hbm => 97
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024, .f32⟩
  | .hbm, ⟨3, _⟩ => ⟨S4096x1024, .f32⟩
  | .hbm, ⟨4, _⟩ => ⟨S1024, .f32⟩
  | .hbm, ⟨5, _⟩ => ⟨S1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S4096x1024, .f32⟩
  | .hbm, ⟨13, _⟩ => ⟨S4096x1024, .f32⟩
  | .hbm, ⟨14, _⟩ => ⟨S4096x1024, .f32⟩
  | .hbm, ⟨15, _⟩ => ⟨S_, .f32⟩
  | .hbm, ⟨16, _⟩ => ⟨S4096, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S_, .f32⟩
  | .hbm, ⟨22, _⟩ => ⟨S4096x1, .f32⟩
  | .hbm, ⟨23, _⟩ => ⟨S4096x1, .f32⟩
  | .hbm, ⟨24, _⟩ => ⟨S4096x1, .f32⟩
  | .hbm, ⟨25, _⟩ => ⟨S4096x1, .f32⟩
  | .hbm, ⟨26, _⟩ => ⟨S_, .f32⟩
  | .hbm, ⟨27, _⟩ => ⟨S4096x1, .f32⟩
  | .hbm, ⟨28, _⟩ => ⟨S4096x1, .f32⟩
  | .hbm, ⟨29, _⟩ => ⟨S4096x1024, .f32⟩
  | .hbm, ⟨30, _⟩ => ⟨S4096x1024, .f32⟩
  | .hbm, ⟨31, _⟩ => ⟨S1x1024, .f32⟩
  | .hbm, ⟨32, _⟩ => ⟨S4096x1024, .f32⟩
  | .hbm, ⟨33, _⟩ => ⟨S4096x1024, .f32⟩
  | .hbm, ⟨34, _⟩ => ⟨S1x1024, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S_, .f32⟩
  | .hbm, ⟨40, _⟩ => ⟨S4096x1024, .f32⟩
  | .hbm, ⟨41, _⟩ => ⟨S4096x1024, .f32⟩
  | .hbm, ⟨42, _⟩ => ⟨S_, .f32⟩
  | .hbm, ⟨43, _⟩ => ⟨S4096x1024, .f32⟩
  | .hbm, ⟨44, _⟩ => ⟨S4096x1024, .f32⟩
  | .hbm, ⟨45, _⟩ => ⟨S_, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S_, .f32⟩
  | .hbm, ⟨55, _⟩ => ⟨S1024, .f32⟩
  | .hbm, ⟨56, _⟩ => ⟨S1x1024, .f32⟩
  | .hbm, ⟨57, _⟩ => ⟨S_, .f32⟩
  | .hbm, ⟨58, _⟩ => ⟨S1024, .f32⟩
  | .hbm, ⟨59, _⟩ => ⟨S4096x1024, .f32⟩
  | .hbm, ⟨60, _⟩ => ⟨S_, .f32⟩
  | .hbm, ⟨61, _⟩ => ⟨S1024, .f32⟩
  | .hbm, ⟨62, _⟩ => ⟨S1x1024, .f32⟩
  | .hbm, ⟨63, _⟩ => ⟨S4096x1024, .f32⟩
  | .hbm, ⟨64, _⟩ => ⟨S4096x1024, .f32⟩
  | .hbm, ⟨65, _⟩ => ⟨S_, .f32⟩
  | .hbm, ⟨66, _⟩ => ⟨S1024, .f32⟩
  | .hbm, ⟨67, _⟩ => ⟨S4096x1024, .f32⟩
  | .hbm, ⟨68, _⟩ => ⟨S_, .f32⟩
  | .hbm, ⟨69, _⟩ => ⟨S4096, .f32⟩
  | .hbm, ⟨70, _⟩ => ⟨S4096x1, .f32⟩
  | .hbm, ⟨71, _⟩ => ⟨S4096x1024, .f32⟩
  | .hbm, ⟨72, _⟩ => ⟨S4096x1024, .f32⟩
  | .hbm, ⟨73, _⟩ => ⟨S4096x1, .f32⟩
  | .hbm, ⟨74, _⟩ => ⟨S_, .f32⟩
  | .hbm, ⟨75, _⟩ => ⟨S4096x1, .f32⟩
  | .hbm, ⟨76, _⟩ => ⟨S4096x1, .f32⟩
  | .hbm, ⟨77, _⟩ => ⟨S_, .f32⟩
  | .hbm, ⟨78, _⟩ => ⟨S4096, .f32⟩
  | .hbm, ⟨79, _⟩ => ⟨S4096x1024, .f32⟩
  | .hbm, ⟨80, _⟩ => ⟨S4096x1024, .f32⟩
  | .hbm, ⟨81, _⟩ => ⟨S4096x1024, .f32⟩
  | .hbm, ⟨82, _⟩ => ⟨S4096x1024, .f32⟩
  | .hbm, ⟨83, _⟩ => ⟨S4096x1024, .f32⟩
  | .hbm, ⟨84, _⟩ => ⟨S4096x1024, .f32⟩
  | .hbm, ⟨85, _⟩ => ⟨S_, .f32⟩
  | .hbm, ⟨86, _⟩ => ⟨S4096, .f32⟩
  | .hbm, ⟨87, _⟩ => ⟨S4096x1, .f32⟩
  | .hbm, ⟨88, _⟩ => ⟨S_, .f32⟩
  | .hbm, ⟨89, _⟩ => ⟨S4096x1, .f32⟩
  | .hbm, ⟨90, _⟩ => ⟨S4096x1, .f32⟩
  | .hbm, ⟨91, _⟩ => ⟨S_, .f32⟩
  | .hbm, ⟨92, _⟩ => ⟨S4096, .f32⟩
  | .hbm, ⟨93, _⟩ => ⟨S4096x1024, .f32⟩
  | .hbm, ⟨94, _⟩ => ⟨S4096x1024, .f32⟩
  | .hbm, ⟨95, _⟩ => ⟨S1x1024, .f32⟩
  | .hbm, ⟨96, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_4 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_call0_v0 : Ref sig .tc := ⟨.hbm, 37, rfl⟩
abbrev main_call0_v1 : Ref sig .tc := ⟨.hbm, 38, rfl⟩
abbrev main_call0_cst : Ref sig .tc := ⟨.hbm, 39, rfl⟩
abbrev main_call0_v2 : Ref sig .tc := ⟨.hbm, 40, rfl⟩
abbrev main_call0_v3 : Ref sig .tc := ⟨.hbm, 41, rfl⟩
abbrev main_call0_cst_0 : Ref sig .tc := ⟨.hbm, 42, rfl⟩
abbrev main_call0_v4 : Ref sig .tc := ⟨.hbm, 43, rfl⟩
abbrev main_v27_2 : Ref sig .tc := ⟨.hbm, 44, rfl⟩
abbrev main_call0_cst_1 : Ref sig .tc := ⟨.hbm, 45, rfl⟩
abbrev main_call0_v6 : Ref sig .tc := ⟨.hbm, 46, rfl⟩
abbrev main_call0_v7 : Ref sig .tc := ⟨.hbm, 47, rfl⟩
abbrev main_v27_1 : Ref sig .tc := ⟨.hbm, 48, rfl⟩
abbrev main_v27_0 : Ref sig .tc := ⟨.hbm, 49, rfl⟩
abbrev main_call1_v0 : Ref sig .tc := ⟨.hbm, 50, rfl⟩
abbrev main_call1_v1 : Ref sig .tc := ⟨.hbm, 51, rfl⟩
abbrev main_call1_v2 : Ref sig .tc := ⟨.hbm, 52, rfl⟩
abbrev main_v28 : Ref sig .tc := ⟨.hbm, 53, rfl⟩
abbrev main_cst_5 : Ref sig .tc := ⟨.hbm, 54, rfl⟩
abbrev main_v29 : Ref sig .tc := ⟨.hbm, 55, rfl⟩
abbrev main_v30 : Ref sig .tc := ⟨.hbm, 56, rfl⟩
abbrev main_cst_6 : Ref sig .tc := ⟨.hbm, 57, rfl⟩
abbrev main_v31 : Ref sig .tc := ⟨.hbm, 58, rfl⟩
abbrev main_v32 : Ref sig .tc := ⟨.hbm, 59, rfl⟩
abbrev main_cst_7 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_cst_8 : Ref sig .tc := ⟨.hbm, 65, rfl⟩
abbrev main_v37 : Ref sig .tc := ⟨.hbm, 66, rfl⟩
abbrev main_v38 : Ref sig .tc := ⟨.hbm, 67, rfl⟩
abbrev main_cst_9 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_cst_10 : Ref sig .tc := ⟨.hbm, 74, rfl⟩
abbrev main_v44 : Ref sig .tc := ⟨.hbm, 75, rfl⟩
abbrev main_v45 : Ref sig .tc := ⟨.hbm, 76, rfl⟩
abbrev main_cst_11 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_cst_12 : Ref sig .tc := ⟨.hbm, 85, rfl⟩
abbrev main_v53 : Ref sig .tc := ⟨.hbm, 86, rfl⟩
abbrev main_v54 : Ref sig .tc := ⟨.hbm, 87, rfl⟩
abbrev main_cst_13 : Ref sig .tc := ⟨.hbm, 88, rfl⟩
abbrev main_v55 : Ref sig .tc := ⟨.hbm, 89, rfl⟩
abbrev main_v56 : Ref sig .tc := ⟨.hbm, 90, rfl⟩
abbrev main_cst_14 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩

abbrev nD : Nat := 1
abbrev τ : Topo := Topo.v7x

variable {F : FTy → Type} [FloatOps F]
-- ==== Kernel32.lean ====
abbrev S4096x1024 : Shape := ⟨2, ![4096, 1024]⟩
abbrev S4096x6272 : Shape := ⟨2, ![4096, 6272]⟩
abbrev S1x128 : Shape := ⟨2, ![1, 128]⟩
abbrev S4096x2048 : Shape := ⟨2, ![4096, 2048]⟩
abbrev S128x1024 : Shape := ⟨2, ![128, 1024]⟩
abbrev S128x128 : Shape := ⟨2, ![128, 128]⟩
abbrev S128 : Shape := ⟨1, ![128]⟩
abbrev S128x1 : Shape := ⟨2, ![128, 1]⟩

abbrev nBuf : Space → Nat
  | .hbm => 7
  | .vmem => 12
  | .smem => 0
  | _ => 0

abbrev bufTy : (tb : Table) → Fin (tcTables nBuf tb) → BufTy
  | .hbm, ⟨0, _⟩ => ⟨S4096x1024, .f32⟩
  | .hbm, ⟨1, _⟩ => ⟨S4096x6272, .f32⟩
  | .hbm, ⟨2, _⟩ => ⟨S1x128, .f32⟩
  | .hbm, ⟨3, _⟩ => ⟨S4096x2048, .f32⟩
  | .hbm, ⟨4, _⟩ => ⟨S4096x1024, .f32⟩
  | .hbm, ⟨5, _⟩ => ⟨S4096x1024, .bf16⟩
  | .hbm, ⟨6, _⟩ => ⟨S1x128, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S1x128, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | .local _ .vmem, ⟨9, _⟩ => ⟨S128x1024, .bf16⟩
  | .local _ .vmem, ⟨10, _⟩ => ⟨S128x1024, .bf16⟩
  | .local _ .vmem, ⟨11, _⟩ => ⟨S1x128, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference32Ideal.lean ====
abbrev S4096x1024 : Shape := ⟨2, ![4096, 1024]⟩
abbrev S4096x6272 : Shape := ⟨2, ![4096, 6272]⟩
abbrev S1x128 : Shape := ⟨2, ![1, 128]⟩
abbrev S4096x2048 : Shape := ⟨2, ![4096, 2048]⟩
abbrev S128 : Shape := ⟨1, ![128]⟩
abbrev S4096x8x128 : Shape := ⟨3, ![4096, 8, 128]⟩
abbrev S_ : Shape := ⟨0, ![]⟩
abbrev S4096x8 : Shape := ⟨2, ![4096, 8]⟩
abbrev S4096x8x1 : Shape := ⟨3, ![4096, 8, 1]⟩
abbrev S1x1x128 : Shape := ⟨3, ![1, 1, 128]⟩

abbrev nBuf : Space → Nat
  | .hbm => 80
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x6272, .f32⟩
  | .hbm, ⟨2, _⟩ => ⟨S1x128, .f32⟩
  | .hbm, ⟨3, _⟩ => ⟨S4096x2048, .f32⟩
  | .hbm, ⟨4, _⟩ => ⟨S4096x1024, .f32⟩
  | .hbm, ⟨5, _⟩ => ⟨S128, .f32⟩
  | .hbm, ⟨6, _⟩ => ⟨S4096x8x128, .f32⟩
  | .hbm, ⟨7, _⟩ => ⟨S4096x8x128, .f32⟩
  | .hbm, ⟨8, _⟩ => ⟨S_, .f32⟩
  | .hbm, ⟨9, _⟩ => ⟨S4096x8, .f32⟩
  | .hbm, ⟨10, _⟩ => ⟨S4096x8x1, .f32⟩
  | .hbm, ⟨11, _⟩ => ⟨S_, .f32⟩
  | .hbm, ⟨12, _⟩ => ⟨S4096x8x1, .f32⟩
  | .hbm, ⟨13, _⟩ => ⟨S4096x8x1, .f32⟩
  | .hbm, ⟨14, _⟩ => ⟨S_, .f32⟩
  | .hbm, ⟨15, _⟩ => ⟨S4096x8x1, .f32⟩
  | .hbm, ⟨16, _⟩ => ⟨S4096x8x1, .f32⟩
  | .hbm, ⟨17, _⟩ => ⟨S4096x8x1, .f32⟩
  | .hbm, ⟨18, _⟩ => ⟨S4096x8x1, .f32⟩
  | .hbm, ⟨19, _⟩ => ⟨S_, .f32⟩
  | .hbm, ⟨20, _⟩ => ⟨S4096x8x1, .f32⟩
  | .hbm, ⟨21, _⟩ => ⟨S4096x8x1, .f32⟩
  | .hbm, ⟨22, _⟩ => ⟨S4096x8x128, .f32⟩
  | .hbm, ⟨23, _⟩ => ⟨S4096x8x128, .f32⟩
  | .hbm, ⟨24, _⟩ => ⟨S1x1x128, .f32⟩
  | .hbm, ⟨25, _⟩ => ⟨S4096x8x128, .f32⟩
  | .hbm, ⟨26, _⟩ => ⟨S4096x8x128, .f32⟩
  | .hbm, ⟨27, _⟩ => ⟨S4096x8x128, .f32⟩
  | .hbm, ⟨28, _⟩ => ⟨S4096x8x128, .f32⟩
  | .hbm, ⟨29, _⟩ => ⟨S4096x8x128, .f32⟩
  | .hbm, ⟨30, _⟩ => ⟨S_, .f32⟩
  | .hbm, ⟨31, _⟩ => ⟨S4096x8x128, .f32⟩
  | .hbm, ⟨32, _⟩ => ⟨S4096x8x128, .f32⟩
  | .hbm, ⟨33, _⟩ => ⟨S_, .f32⟩
  | .hbm, ⟨34, _⟩ => ⟨S4096x8x128, .f32⟩
  | .hbm, ⟨35, _⟩ => ⟨S4096x8x128, .f32⟩
  | .hbm, ⟨36, _⟩ => ⟨S_, .f32⟩
  | .hbm, ⟨37, _⟩ => ⟨S4096x8x128, .f32⟩
  | .hbm, ⟨38, _⟩ => ⟨S4096x8x128, .f32⟩
  | .hbm, ⟨39, _⟩ => ⟨S4096x8x128, .f32⟩
  | .hbm, ⟨40, _⟩ => ⟨S4096x8x128, .f32⟩
  | .hbm, ⟨41, _⟩ => ⟨S4096x8x128, .f32⟩
  | .hbm, ⟨42, _⟩ => ⟨S4096x1024, .f32⟩
  | .hbm, ⟨43, _⟩ => ⟨S4096x1024, .f32⟩
  | .hbm, ⟨44, _⟩ => ⟨S4096x8x128, .f32⟩
  | .hbm, ⟨45, _⟩ => ⟨S4096x8x128, .f32⟩
  | .hbm, ⟨46, _⟩ => ⟨S4096x8x128, .f32⟩
  | .hbm, ⟨47, _⟩ => ⟨S4096x8x128, .f32⟩
  | .hbm, ⟨48, _⟩ => ⟨S4096x8x128, .f32⟩
  | .hbm, ⟨49, _⟩ => ⟨S4096x8x128, .f32⟩
  | .hbm, ⟨50, _⟩ => ⟨S4096x8x128, .f32⟩
  | .hbm, ⟨51, _⟩ => ⟨S4096x1024, .f32⟩
  | .hbm, ⟨52, _⟩ => ⟨S4096x8x128, .f32⟩
  | .hbm, ⟨53, _⟩ => ⟨S_, .f32⟩
  | .hbm, ⟨54, _⟩ => ⟨S128, .f32⟩
  | .hbm, ⟨55, _⟩ => ⟨S1x1x128, .f32⟩
  | .hbm, ⟨56, _⟩ => ⟨S4096x8x128, .f32⟩
  | .hbm, ⟨57, _⟩ => ⟨S4096x8x128, .f32⟩
  | .hbm, ⟨58, _⟩ => ⟨S_, .f32⟩
  | .hbm, ⟨59, _⟩ => ⟨S128, .f32⟩
  | .hbm, ⟨60, _⟩ => ⟨S4096x8x128, .f32⟩
  | .hbm, ⟨61, _⟩ => ⟨S_, .f32⟩
  | .hbm, ⟨62, _⟩ => ⟨S4096x8, .f32⟩
  | .hbm, ⟨63, _⟩ => ⟨S4096x8x1, .f32⟩
  | .hbm, ⟨64, _⟩ => ⟨S4096x8x128, .f32⟩
  | .hbm, ⟨65, _⟩ => ⟨S4096x8x128, .f32⟩
  | .hbm, ⟨66, _⟩ => ⟨S4096x8x1, .f32⟩
  | .hbm, ⟨67, _⟩ => ⟨S_, .f32⟩
  | .hbm, ⟨68, _⟩ => ⟨S4096x8x1, .f32⟩
  | .hbm, ⟨69, _⟩ => ⟨S4096x8x1, .f32⟩
  | .hbm, ⟨70, _⟩ => ⟨S_, .f32⟩
  | .hbm, ⟨71, _⟩ => ⟨S4096x8, .f32⟩
  | .hbm, ⟨72, _⟩ => ⟨S4096x8x128, .f32⟩
  | .hbm, ⟨73, _⟩ => ⟨S4096x8x128, .f32⟩
  | .hbm, ⟨74, _⟩ => ⟨S4096x8x128, .f32⟩
  | .hbm, ⟨75, _⟩ => ⟨S4096x8x128, .f32⟩
  | .hbm, ⟨76, _⟩ => ⟨S4096x8x128, .f32⟩
  | .hbm, ⟨77, _⟩ => ⟨S4096x1024, .f32⟩
  | .hbm, ⟨78, _⟩ => ⟨S4096x1024, .bf16⟩
  | .hbm, ⟨79, _⟩ => ⟨S1x128, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_call0_v0 : Ref sig .tc := ⟨.hbm, 28, rfl⟩
abbrev main_call0_v1 : Ref sig .tc := ⟨.hbm, 29, rfl⟩
abbrev main_call0_cst : Ref sig .tc := ⟨.hbm, 30, rfl⟩
abbrev main_call0_v2 : Ref sig .tc := ⟨.hbm, 31, rfl⟩
abbrev main_call0_v3 : Ref sig .tc := ⟨.hbm, 32, rfl⟩
abbrev main_call0_cst_0 : Ref sig .tc := ⟨.hbm, 33, rfl⟩
abbrev main_call0_v4 : Ref sig .tc := ⟨.hbm, 34, rfl⟩
abbrev main_v20_2 : Ref sig .tc := ⟨.hbm, 35, rfl⟩
abbrev main_call0_cst_1 : Ref sig .tc := ⟨.hbm, 36, rfl⟩
abbrev main_call0_v6 : Ref sig .tc := ⟨.hbm, 37, rfl⟩
abbrev main_call0_v7 : Ref sig .tc := ⟨.hbm, 38, rfl⟩
abbrev main_v20_1 : Ref sig .tc := ⟨.hbm, 39, rfl⟩
abbrev main_v20_0 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_call1_v0 : Ref sig .tc := ⟨.hbm, 47, rfl⟩
abbrev main_call1_v1 : Ref sig .tc := ⟨.hbm, 48, rfl⟩
abbrev main_call1_v2 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_cst_3 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_cst_4 : Ref sig .tc := ⟨.hbm, 58, rfl⟩
abbrev main_v34 : Ref sig .tc := ⟨.hbm, 59, rfl⟩
abbrev main_v35 : Ref sig .tc := ⟨.hbm, 60, rfl⟩
abbrev main_cst_5 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_cst_6 : Ref sig .tc := ⟨.hbm, 67, rfl⟩
abbrev main_v41 : Ref sig .tc := ⟨.hbm, 68, rfl⟩
abbrev main_v42 : Ref sig .tc := ⟨.hbm, 69, rfl⟩
abbrev main_cst_7 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩

abbrev nD : Nat := 1
abbrev τ : Topo := Topo.v7x

variable {F : FTy → Type} [FloatOps F]
-- ==== Kernel33.lean ====
abbrev S4096x2048 : Shape := ⟨2, ![4096, 2048]⟩
abbrev S2x1x2048 : Shape := ⟨3, ![2, 1, 2048]⟩
abbrev S1x2048 : Shape := ⟨2, ![1, 2048]⟩
abbrev S4096x1 : Shape := ⟨2, ![4096, 1]⟩
abbrev S128x2048 : Shape := ⟨2, ![128, 2048]⟩
abbrev S1x1x2048 : Shape := ⟨3, ![1, 1, 2048]⟩
abbrev S128x1 : Shape := ⟨2, ![128, 1]⟩
abbrev S128 : Shape := ⟨1, ![128]⟩
abbrev S2048 : Shape := ⟨1, ![2048]⟩
abbrev S_ : Shape := ⟨0, ![]⟩

abbrev nBuf : Space → Nat
  | .hbm => 16
  | .vmem => 26
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S2x1x2048, .f32⟩
  | .hbm, ⟨4, _⟩ => ⟨S2x1x2048, .f32⟩
  | .hbm, ⟨5, _⟩ => ⟨S2x1x2048, .f32⟩
  | .hbm, ⟨6, _⟩ => ⟨S1x2048, .f32⟩
  | .hbm, ⟨7, _⟩ => ⟨S4096x1, .f32⟩
  | .hbm, ⟨8, _⟩ => ⟨S4096x2048, .f32⟩
  | .hbm, ⟨9, _⟩ => ⟨S4096x2048, .bf16⟩
  | .hbm, ⟨10, _⟩ => ⟨S2x1x2048, .f32⟩
  | .hbm, ⟨11, _⟩ => ⟨S2x1x2048, .f32⟩
  | .hbm, ⟨12, _⟩ => ⟨S2x1x2048, .f32⟩
  | .hbm, ⟨13, _⟩ => ⟨S1x2048, .f32⟩
  | .hbm, ⟨14, _⟩ => ⟨S_, .f32⟩
  | .hbm, ⟨15, _⟩ => ⟨S_, .f32⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S1x1x2048, .f32⟩
  | .local _ .vmem, ⟨7, _⟩ => ⟨S1x1x2048, .f32⟩
  | .local _ .vmem, ⟨8, _⟩ => ⟨S1x1x2048, .f32⟩
  | .local _ .vmem, ⟨9, _⟩ => ⟨S1x1x2048, .f32⟩
  | .local _ .vmem, ⟨10, _⟩ => ⟨S1x1x2048, .f32⟩
  | .local _ .vmem, ⟨11, _⟩ => ⟨S1x1x2048, .f32⟩
  | .local _ .vmem, ⟨12, _⟩ => ⟨S1x2048, .f32⟩
  | .local _ .vmem, ⟨13, _⟩ => ⟨S128x1, .f32⟩
  | .local _ .vmem, ⟨14, _⟩ => ⟨S128x1, .f32⟩
  | .local _ .vmem, ⟨15, _⟩ => ⟨S128x2048, .f32⟩
  | .local _ .vmem, ⟨16, _⟩ => ⟨S128x2048, .f32⟩
  | .local _ .vmem, ⟨17, _⟩ => ⟨S128x2048, .bf16⟩
  | .local _ .vmem, ⟨18, _⟩ => ⟨S128x2048, .bf16⟩
  | .local _ .vmem, ⟨19, _⟩ => ⟨S1x1x2048, .f32⟩
  | .local _ .vmem, ⟨20, _⟩ => ⟨S1x1x2048, .f32⟩
  | .local _ .vmem, ⟨21, _⟩ => ⟨S1x1x2048, .f32⟩
  | .local _ .vmem, ⟨22, _⟩ => ⟨S1x1x2048, .f32⟩
  | .local _ .vmem, ⟨23, _⟩ => ⟨S1x1x2048, .f32⟩
  | .local _ .vmem, ⟨24, _⟩ => ⟨S1x1x2048, .f32⟩
  | .local _ .vmem, ⟨25, _⟩ => ⟨S1x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev main_v0_4 : Ref sig .tc := ⟨.hbm, 11, rfl⟩
abbrev main_v0_5 : Ref sig .tc := ⟨.hbm, 12, rfl⟩
abbrev main_v0_6 : Ref sig .tc := ⟨.hbm, 13, rfl⟩
abbrev main_cst : Ref sig .tc := ⟨.hbm, 14, rfl⟩
abbrev main_v1 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg12_1 : Ref sig .tc := ⟨.vmem, 24, rfl⟩
abbrev cc0_stg13_0 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24
abbrev cc0_sem13_0 : DmaSem sig := 25

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_5 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_11 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_12 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S128x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S128x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x1x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x1x2048 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x1x2048 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S1x2048 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== Reference33Ideal.lean ====
abbrev S4096x2048 : Shape := ⟨2, ![4096, 2048]⟩
abbrev S2x1x2048 : Shape := ⟨3, ![2, 1, 2048]⟩
abbrev S1x2048 : Shape := ⟨2, ![1, 2048]⟩
abbrev S2x2048x2048 : Shape := ⟨3, ![2, 2048, 2048]⟩
abbrev S2x2048 : Shape := ⟨2, ![2, 2048]⟩
abbrev S2048 : Shape := ⟨1, ![2048]⟩
abbrev S_ : Shape := ⟨0, ![]⟩
abbrev S2x2048x1 : Shape := ⟨3, ![2, 2048, 1]⟩
abbrev S1x1x2048 : Shape := ⟨3, ![1, 1, 2048]⟩

abbrev nBuf : Space → Nat
  | .hbm => 123
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S2x1x2048, .f32⟩
  | .hbm, ⟨4, _⟩ => ⟨S2x1x2048, .f32⟩
  | .hbm, ⟨5, _⟩ => ⟨S2x1x2048, .f32⟩
  | .hbm, ⟨6, _⟩ => ⟨S1x2048, .f32⟩
  | .hbm, ⟨7, _⟩ => ⟨S2x2048x2048, .f32⟩
  | .hbm, ⟨8, _⟩ => ⟨S2x2048x2048, .f32⟩
  | .hbm, ⟨9, _⟩ => ⟨S2x2048, .f32⟩
  | .hbm, ⟨10, _⟩ => ⟨S2x2048, .f32⟩
  | .hbm, ⟨11, _⟩ => ⟨S2x2048, .f32⟩
  | .hbm, ⟨12, _⟩ => ⟨S2048, .f32⟩
  | .hbm, ⟨13, _⟩ => ⟨S2x1x2048, .f32⟩
  | .hbm, ⟨14, _⟩ => ⟨S2x2048x2048, .f32⟩
  | .hbm, ⟨15, _⟩ => ⟨S2x2048x2048, .f32⟩
  | .hbm, ⟨16, _⟩ => ⟨S2x2048x2048, .f32⟩
  | .hbm, ⟨17, _⟩ => ⟨S2x2048x2048, .f32⟩
  | .hbm, ⟨18, _⟩ => ⟨S_, .f32⟩
  | .hbm, ⟨19, _⟩ => ⟨S2x2048, .f32⟩
  | .hbm, ⟨20, _⟩ => ⟨S2x2048x1, .f32⟩
  | .hbm, ⟨21, _⟩ => ⟨S_, .f32⟩
  | .hbm, ⟨22, _⟩ => ⟨S2x2048x1, .f32⟩
  | .hbm, ⟨23, _⟩ => ⟨S2x2048x1, .f32⟩
  | .hbm, ⟨24, _⟩ => ⟨S_, .f32⟩
  | .hbm, ⟨25, _⟩ => ⟨S2x2048x1, .f32⟩
  | .hbm, ⟨26, _⟩ => ⟨S2x2048x1, .f32⟩
  | .hbm, ⟨27, _⟩ => ⟨S2x2048x1, .f32⟩
  | .hbm, ⟨28, _⟩ => ⟨S2x2048x1, .f32⟩
  | .hbm, ⟨29, _⟩ => ⟨S_, .f32⟩
  | .hbm, ⟨30, _⟩ => ⟨S2x2048x1, .f32⟩
  | .hbm, ⟨31, _⟩ => ⟨S2x2048x1, .f32⟩
  | .hbm, ⟨32, _⟩ => ⟨S2x2048x2048, .f32⟩
  | .hbm, ⟨33, _⟩ => ⟨S2x2048x2048, .f32⟩
  | .hbm, ⟨34, _⟩ => ⟨S1x1x2048, .f32⟩
  | .hbm, ⟨35, _⟩ => ⟨S2x2048x2048, .f32⟩
  | .hbm, ⟨36, _⟩ => ⟨S2x2048x2048, .f32⟩
  | .hbm, ⟨37, _⟩ => ⟨S2x1x2048, .f32⟩
  | .hbm, ⟨38, _⟩ => ⟨S_, .f32⟩
  | .hbm, ⟨39, _⟩ => ⟨S2x1x2048, .f32⟩
  | .hbm, ⟨40, _⟩ => ⟨S2x1x2048, .f32⟩
  | .hbm, ⟨41, _⟩ => ⟨S2x2048x2048, .f32⟩
  | .hbm, ⟨42, _⟩ => ⟨S2x2048x2048, .f32⟩
  | .hbm, ⟨43, _⟩ => ⟨S2x1x2048, .f32⟩
  | .hbm, ⟨44, _⟩ => ⟨S2x2048x2048, .f32⟩
  | .hbm, ⟨45, _⟩ => ⟨S2x2048x2048, .f32⟩
  | .hbm, ⟨46, _⟩ => ⟨S2x2048x2048, .f32⟩
  | .hbm, ⟨47, _⟩ => ⟨S2x2048x2048, .f32⟩
  | .hbm, ⟨48, _⟩ => ⟨S2x2048x2048, .f32⟩
  | .hbm, ⟨49, _⟩ => ⟨S_, .f32⟩
  | .hbm, ⟨50, _⟩ => ⟨S2x2048x2048, .f32⟩
  | .hbm, ⟨51, _⟩ => ⟨S2x2048x2048, .f32⟩
  | .hbm, ⟨52, _⟩ => ⟨S_, .f32⟩
  | .hbm, ⟨53, _⟩ => ⟨S2x2048, .f32⟩
  | .hbm, ⟨54, _⟩ => ⟨S_, .f32⟩
  | .hbm, ⟨55, _⟩ => ⟨S2x2048, .f32⟩
  | .hbm, ⟨56, _⟩ => ⟨S2x2048, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S2x2048, .f32⟩
  | .hbm, ⟨65, _⟩ => ⟨S_, .f32⟩
  | .hbm, ⟨66, _⟩ => ⟨S2x2048, .f32⟩
  | .hbm, ⟨67, _⟩ => ⟨S2x2048, .f32⟩
  | .hbm, ⟨68, _⟩ => ⟨S2x2048x2048, .f32⟩
  | .hbm, ⟨69, _⟩ => ⟨S2x2048x2048, .f32⟩
  | .hbm, ⟨70, _⟩ => ⟨S_, .f32⟩
  | .hbm, ⟨71, _⟩ => ⟨S2x2048, .f32⟩
  | .hbm, ⟨72, _⟩ => ⟨S2x1x2048, .f32⟩
  | .hbm, ⟨73, _⟩ => ⟨S_, .f32⟩
  | .hbm, ⟨74, _⟩ => ⟨S2x2048, .f32⟩
  | .hbm, ⟨75, _⟩ => ⟨S2x2048x2048, .f32⟩
  | .hbm, ⟨76, _⟩ => ⟨S_, .f32⟩
  | .hbm, ⟨77, _⟩ => ⟨S2x2048, .f32⟩
  | .hbm, ⟨78, _⟩ => ⟨S2x1x2048, .f32⟩
  | .hbm, ⟨79, _⟩ => ⟨S2x2048x2048, .f32⟩
  | .hbm, ⟨80, _⟩ => ⟨S2x2048x2048, .f32⟩
  | .hbm, ⟨81, _⟩ => ⟨S_, .f32⟩
  | .hbm, ⟨82, _⟩ => ⟨S2x2048, .f32⟩
  | .hbm, ⟨83, _⟩ => ⟨S2x2048x2048, .f32⟩
  | .hbm, ⟨84, _⟩ => ⟨S_, .f32⟩
  | .hbm, ⟨85, _⟩ => ⟨S2048, .f32⟩
  | .hbm, ⟨86, _⟩ => ⟨S1x1x2048, .f32⟩
  | .hbm, ⟨87, _⟩ => ⟨S2x2048x2048, .f32⟩
  | .hbm, ⟨88, _⟩ => ⟨S2x2048x2048, .f32⟩
  | .hbm, ⟨89, _⟩ => ⟨S_, .f32⟩
  | .hbm, ⟨90, _⟩ => ⟨S2048, .f32⟩
  | .hbm, ⟨91, _⟩ => ⟨S2x2048x2048, .f32⟩
  | .hbm, ⟨92, _⟩ => ⟨S_, .f32⟩
  | .hbm, ⟨93, _⟩ => ⟨S2x2048, .f32⟩
  | .hbm, ⟨94, _⟩ => ⟨S2x2048x1, .f32⟩
  | .hbm, ⟨95, _⟩ => ⟨S2x2048x2048, .f32⟩
  | .hbm, ⟨96, _⟩ => ⟨S2x2048x2048, .f32⟩
  | .hbm, ⟨97, _⟩ => ⟨S2x2048x1, .f32⟩
  | .hbm, ⟨98, _⟩ => ⟨S_, .f32⟩
  | .hbm, ⟨99, _⟩ => ⟨S2x2048x1, .f32⟩
  | .hbm, ⟨100, _⟩ => ⟨S2x2048x1, .f32⟩
  | .hbm, ⟨101, _⟩ => ⟨S_, .f32⟩
  | .hbm, ⟨102, _⟩ => ⟨S2x2048, .f32⟩
  | .hbm, ⟨103, _⟩ => ⟨S2x2048x2048, .f32⟩
  | .hbm, ⟨104, _⟩ => ⟨S2x2048x2048, .f32⟩
  | .hbm, ⟨105, _⟩ => ⟨S2x2048x2048, .f32⟩
  | .hbm, ⟨106, _⟩ => ⟨S2x2048x2048, .f32⟩
  | .hbm, ⟨107, _⟩ => ⟨S2x2048x2048, .f32⟩
  | .hbm, ⟨108, _⟩ => ⟨S2x2048x2048, .f32⟩
  | .hbm, ⟨109, _⟩ => ⟨S2x2048x2048, .f32⟩
  | .hbm, ⟨110, _⟩ => ⟨S2x2048x2048, .f32⟩
  | .hbm, ⟨111, _⟩ => ⟨S_, .f32⟩
  | .hbm, ⟨112, _⟩ => ⟨S2x2048, .f32⟩
  | .hbm, ⟨113, _⟩ => ⟨S2x1x2048, .f32⟩
  | .hbm, ⟨114, _⟩ => ⟨S_, .f32⟩
  | .hbm, ⟨115, _⟩ => ⟨S2x2048, .f32⟩
  | .hbm, ⟨116, _⟩ => ⟨S4096x2048, .f32⟩
  | .hbm, ⟨117, _⟩ => ⟨S4096x2048, .f32⟩
  | .hbm, ⟨118, _⟩ => ⟨S4096x2048, .bf16⟩
  | .hbm, ⟨119, _⟩ => ⟨S2x1x2048, .f32⟩
  | .hbm, ⟨120, _⟩ => ⟨S2x1x2048, .f32⟩
  | .hbm, ⟨121, _⟩ => ⟨S2x1x2048, .f32⟩
  | .hbm, ⟨122, _⟩ => ⟨S1x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_cst_0 : Ref sig .tc := ⟨.hbm, 21, rfl⟩
abbrev main_v13 : Ref sig .tc := ⟨.hbm, 22, rfl⟩
abbrev main_v14 : Ref sig .tc := ⟨.hbm, 23, rfl⟩
abbrev main_cst_1 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_2 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_3 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_cst_4 : Ref sig .tc := ⟨.hbm, 49, rfl⟩
abbrev main_v37 : Ref sig .tc := ⟨.hbm, 50, rfl⟩
abbrev main_v38 : Ref sig .tc := ⟨.hbm, 51, rfl⟩
abbrev main_cst_5 : Ref sig .tc := ⟨.hbm, 52, rfl⟩
abbrev main_v39 : Ref sig .tc := ⟨.hbm, 53, rfl⟩
abbrev main_cst_6 : Ref sig .tc := ⟨.hbm, 54, rfl⟩
abbrev main_v40 : Ref sig .tc := ⟨.hbm, 55, rfl⟩
abbrev main_v41 : Ref sig .tc := ⟨.hbm, 56, rfl⟩
abbrev main_cst_7 : Ref sig .tc := ⟨.hbm, 57, rfl⟩
abbrev main_v42 : Ref sig .tc := ⟨.hbm, 58, rfl⟩
abbrev main_cst_8 : Ref sig .tc := ⟨.hbm, 59, rfl⟩
abbrev main_v43 : Ref sig .tc := ⟨.hbm, 60, rfl⟩
abbrev main_cst_9 : Ref sig .tc := ⟨.hbm, 61, rfl⟩
abbrev main_cst_10 : Ref sig .tc := ⟨.hbm, 62, rfl⟩
abbrev main_v44 : Ref sig .tc := ⟨.hbm, 63, rfl⟩
abbrev main_v45 : Ref sig .tc := ⟨.hbm, 64, rfl⟩
abbrev main_cst_11 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_cst_12 : Ref sig .tc := ⟨.hbm, 70, rfl⟩
abbrev main_v50 : Ref sig .tc := ⟨.hbm, 71, rfl⟩
abbrev main_v51 : Ref sig .tc := ⟨.hbm, 72, rfl⟩
abbrev main_cst_13 : Ref sig .tc := ⟨.hbm, 73, rfl⟩
abbrev main_v52 : Ref sig .tc := ⟨.hbm, 74, rfl⟩
abbrev main_v53 : Ref sig .tc := ⟨.hbm, 75, rfl⟩
abbrev main_cst_14 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_cst_15 : Ref sig .tc := ⟨.hbm, 81, rfl⟩
abbrev main_v58 : Ref sig .tc := ⟨.hbm, 82, rfl⟩
abbrev main_v59 : Ref sig .tc := ⟨.hbm, 83, rfl⟩
abbrev main_cst_16 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_cst_17 : Ref sig .tc := ⟨.hbm, 89, rfl⟩
abbrev main_v64 : Ref sig .tc := ⟨.hbm, 90, rfl⟩
abbrev main_v65 : Ref sig .tc := ⟨.hbm, 91, rfl⟩
abbrev main_cst_18 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_cst_19 : Ref sig .tc := ⟨.hbm, 98, rfl⟩
abbrev main_v71 : Ref sig .tc := ⟨.hbm, 99, rfl⟩
abbrev main_v72 : Ref sig .tc := ⟨.hbm, 100, rfl⟩
abbrev main_cst_20 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_cst_21 : Ref sig .tc := ⟨.hbm, 111, rfl⟩
abbrev main_v82 : Ref sig .tc := ⟨.hbm, 112, rfl⟩
abbrev main_v83 : Ref sig .tc := ⟨.hbm, 113, rfl⟩
abbrev main_cst_22 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩

abbrev nD : Nat := 1
abbrev τ : Topo := Topo.v7x

variable {F : FTy → Type} [FloatOps F]
-- ==== Proof.MatProd.lean ====
/- Three plain matrix products over the extended reals, named by how their operands are laid out:
   `nn` is `a @ b`, `nt` is `a @ bᵀ`, `tn` is `aᵀ @ b`. -/
module

public import Idealize.ShloMosaic.Lib.Pipeline.ValueKit
public import Idealize.ShloMosaic.Lib.Pointwise

@[expose] public section

noncomputable section

open Idealize.ShloMosaic

namespace MatProd

/-- A matrix of extended reals with `a` rows and `b` columns. -/
abbrev Mat (a b : ℕ) : Type := (⟨2, ![a, b]⟩ : Shape).Idx → EReal

/-- `a @ b`. -/
def nn {M N : ℕ} (K : ℕ) (a : Mat M K) (b : Mat K N) : Mat M N :=
  fun i => ∑ k : Fin K, a (Idealize.ShloMosaic.ix2 (i 0) k) * b (Idealize.ShloMosaic.ix2 k (i 1))

/-- `a @ bᵀ`. -/
def nt {M N : ℕ} (K : ℕ) (a : Mat M K) (b : Mat N K) : Mat M N :=
  fun i => ∑ k : Fin K, a (Idealize.ShloMosaic.ix2 (i 0) k) * b (Idealize.ShloMosaic.ix2 (i 1) k)

/-- `aᵀ @ b`. -/
def tn {M N : ℕ} (K : ℕ) (a : Mat K M) (b : Mat K N) : Mat M N :=
  fun i => ∑ k : Fin K, a (Idealize.ShloMosaic.ix2 k (i 0)) * b (Idealize.ShloMosaic.ix2 k (i 1))

end MatProd

end
-- ==== Proof.DDownX.lean ====
/- The gradient of the second MLP product with respect to the first product, through the squared relu. -/
module

public import proofs.«01_k».proof.Defs
public import proofs.«01_k».proof.Proof.MatProd
public import proofs.«01_k».proof.Proof.Gen.KernelIdeal.Value
public import proofs.«01_k».proof.Proof.Gen.ReferenceIdeal.Run
public import Idealize.ShloMosaic.Lib.Pipeline.ReadBack
public import Idealize.ShloMosaic.Lib.Tactic
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.KernelIdeal.Product

open Cert.KernelIdeal Cert.KernelIdeal.Gen Cert.KernelIdeal.Value

variable (m : (ℓ : Loc nD τ sig) → Buf (Elt Ideal) ℓ)

/-- The accumulator starts at zero. -/
theorem zero_block (j) : k0_pay1 (F := Ideal) j = 0 := by
  unfold k0_pay1; simp only [pointwise]

/-- One grid point adds the product of its two blocks to the accumulator. -/
theorem step (x acc y) (j) : k0_pay2 (F := Ideal) x acc y j = acc j + MatProd.nt 2048 y x j := by
  unfold k0_pay2 MatProd.nt; simp only [pointwise, zero_add]

/-- The result of a point: the accumulator times the squared relu's derivative, twice the relu. -/
theorem through_relu2 (acc u) (j) : k0_pay3 (F := Ideal) acc u j = acc j * (Ideal.ofBits .f32 0x40000000#32 * max (u j) 0) := by
  unfold k0_pay3; simp only [pointwise]

/-- Where the derivative's select takes the zero, the product is zero too: no finiteness is asked. -/
theorem select_pos (g two u : EReal) : (if 0 < u then g * (two * max u 0) else 0) = g * (two * max u 0) := by
  split
  · rfl
  · next h => rw [max_eq_right (not_lt.mp h), mul_zero, mul_zero]

/-- The blocks that grid point `t` works on. -/
theorem idx : ∀ t : Fin grid0.N, win0_0.index t = ![t.val / 8, 0] ∧ win0_1.index t = ![t.val % 8, 0]
    ∧ win0_2.index t = ![t.val / 8, t.val % 8] ∧ win0_3.index t = ![t.val / 8, t.val % 8] := by decide +kernel

/-- The result array is the whole product times the derivative. -/
theorem result (c : Dev nD) : (dats m 0 c).arrAt 3 (cfgs 0).N
    = fun i => MatProd.nt 2048 (m ((c : Thread nD τ).loc main_arg0)) (m ((c : Thread nD τ).loc main_arg1)) i
      * (Ideal.ofBits .f32 0x40000000#32 * max (show EReal from m ((c : Thread nD τ).loc main_arg2) i) 0) := by
  refine (dats m 0 c).arrAt_eq_of_covers 3 _ (by decide +kernel) fun t hf y => ?_
  obtain ⟨e0, e1, e2, e3⟩ := idx t
  blk_simp
  rw [after0_3]; unfold outsAt0; frame_out
  rw [through_relu2, step, zero_block, zero_add]
  unfold MatProd.nt
  congr 1
  refine Finset.sum_congr rfl fun k _ => ?_
  congr 1 <;> blk_ext [iblk, V, e0, e1, e3]

/-- The reference runs to its end and keeps its arguments. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Kernel and reference leave the same array. -/
theorem algebraic : Cert.algebraic_KernelIdeal_ReferenceIdeal := by
  intro m g m' g' _ hagree
  refine ⟨_, Cert.KernelIdeal.Value.run_blocks (F := Ideal) m g, ?_⟩
  refine (θ_run _ _ _).mono (fun r h c => ⟨(h c).1.trans ?_, (h c).2⟩) (Cert.ReferenceIdeal.Value.run (F := Ideal) m' g')
  show _ = (dats m 0 c).arrAt 3 (cfgs 0).N
  rw [result, (hagree c).1, (hagree c).2.1, (hagree c).2.2]
  funext i
  unfold MatProd.nt
  simp only [pointwise, zero_add]
  exact select_pos _ _ _

end Cert.KernelIdeal.Product

end
-- ==== Proof.DUpX.lean ====
/- The gradient of the first MLP product with respect to its input. -/
module

public import proofs.«01_k».proof.Defs
public import proofs.«01_k».proof.Proof.MatProd
public import proofs.«01_k».proof.Proof.Gen.Kernel2Ideal.Value
public import proofs.«01_k».proof.Proof.Gen.Reference2Ideal.Run
public import Idealize.ShloMosaic.Lib.Pipeline.ReadBack
public import Idealize.ShloMosaic.Lib.Tactic
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.Kernel2Ideal.Product

open Cert.Kernel2Ideal Cert.Kernel2Ideal.Gen Cert.Kernel2Ideal.Value

variable (m : (ℓ : Loc nD τ sig) → Buf (Elt Ideal) ℓ)

/-- The accumulator starts at zero. -/
theorem zero_block (j) : k0_pay1 (F := Ideal) j = 0 := by
  unfold k0_pay1; simp only [pointwise]

/-- One grid point adds the product of its two blocks to the accumulator. -/
theorem step (x acc y) (j) : k0_pay2 (F := Ideal) x acc y j = acc j + MatProd.nt 2048 y x j := by
  unfold k0_pay2 MatProd.nt; simp only [pointwise, zero_add]

/-- The blocks that grid point `t` works on. -/
theorem idx : ∀ t : Fin grid0.N, win0_0.index t = ![t.val / 8, t.val % 4] ∧ win0_1.index t = ![t.val / 4 % 2, t.val % 4]
    ∧ win0_2.index t = ![t.val / 8, t.val / 4 % 2] := by decide +kernel

/-- After the last point of a run the accumulator holds the run's block products, summed. -/
theorem carried (c : Dev nD) (t : Fin cfg0.N) (ht : t.val % 4 = 3) (j : S1024x1024.Idx) :
    (outsAt0 m c t.val t.isLt).2 j = 0 + ∑ s : Fin 4,
      MatProd.nt 2048 (iblk m c 0 ⟨4 * (t.val / 4) + s, Pipeline.run_point_lt_of_flush t ht s⟩)
        (iblk m c 1 ⟨4 * (t.val / 4) + s, Pipeline.run_point_lt_of_flush t ht s⟩) j := by
  refine Pipeline.eq_sum_fin_of_reset_step_apply_of_flush (fun n h => (outsAt0 m c n h).2) 4 (fun _ => 0)
    (fun t j => MatProd.nt 2048 (iblk m c 0 t) (iblk m c 1 t) j)
    (fun t h j => ?_) (fun t h j => ?_) t ht j
  · rw [outsAt0_A m c t h (by omega)]; frame_out; rw [step, zero_block]
  · by_cases h1 : t.val % 4 = 3
    · rw [outsAt0_C m c t h h1]; frame_out; rw [step, read_unread_whole]
    · rw [outsAt0_B m c t h h1]; frame_out; rw [step, read_unread_whole]

/-- The last point of a run writes the accumulator out. -/
theorem written (c : Dev nD) (t : Fin cfg0.N) (ht : t.val % 4 = 3) :
    (outsAt0 m c t.val t.isLt).1 = (outsAt0 m c t.val t.isLt).2 := by
  rw [outsAt0_C m c t (by omega) ht]; frame_out

/-- The result array is the whole product. -/
theorem result (c : Dev nD) : (dats m 0 c).arrAt 2 (cfgs 0).N
    = MatProd.nt 8192 (m ((c : Thread nD τ).loc main_arg0)) (m ((c : Thread nD τ).loc main_arg1)) := by
  refine (dats m 0 c).arrAt_eq_of_covers 2 _ (by decide +kernel) fun t hf y => ?_
  have ht := (flush0_2 t).mp hf
  blk_simp
  rw [after0_2, written m c t ht, carried m c t ht, zero_add]
  unfold MatProd.nt
  refine Fin.sum_mul_add_congr fun s k hk => ?_
  obtain ⟨e0, e1, e2⟩ := idx t
  obtain ⟨e3, e4, e5⟩ := idx ⟨4 * (t.val / 4) + s, Pipeline.run_point_lt_of_flush t ht s⟩
  congr 1 <;> blk_ext [iblk, V, e0, e1, e2, e3, e4]

/-- The reference runs to its end and keeps its arguments. -/
theorem frame_reference : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

/-- Kernel and reference leave the same array. -/
theorem algebraic : Cert.algebraic_Kernel2Ideal_Reference2Ideal := by
  intro m g m' g' _ hagree
  refine ⟨_, Cert.Kernel2Ideal.Value.run_blocks (F := Ideal) m g, ?_⟩
  refine (θ_run _ _ _).mono (fun r h c => ⟨(h c).1.trans ?_, (h c).2⟩) (Cert.Reference2Ideal.Value.run (F := Ideal) m' g')
  show _ = (dats m 0 c).arrAt 2 (cfgs 0).N
  rw [result, (hagree c).1, (hagree c).2]
  funext i
  unfold MatProd.nt
  simp only [pointwise, zero_add]

end Cert.Kernel2Ideal.Product

end
-- ==== Proof.DDownW.lean ====
/- The gradient of the second MLP product with respect to its weight. -/
module

public import proofs.«01_k».proof.Defs
public import proofs.«01_k».proof.Proof.MatProd
public import proofs.«01_k».proof.Proof.Gen.Kernel3Ideal.Value
public import proofs.«01_k».proof.Proof.Gen.Reference3Ideal.Run
public import Idealize.ShloMosaic.Lib.Pipeline.ReadBack
public import Idealize.ShloMosaic.Lib.Tactic
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.Kernel3Ideal.Product

open Cert.Kernel3Ideal Cert.Kernel3Ideal.Gen Cert.Kernel3Ideal.Value

variable (m : (ℓ : Loc nD τ sig) → Buf (Elt Ideal) ℓ)

/-- The accumulator starts at zero. -/
theorem zero_block (j) : k0_pay1 (F := Ideal) j = 0 := by
  unfold k0_pay1; simp only [pointwise]

/-- One grid point adds the product of its two blocks to the accumulator. -/
theorem step (x acc y) (j) : k0_pay2 (F := Ideal) x acc y j = acc j + MatProd.tn 2048 y x j := by
  unfold k0_pay2 MatProd.tn; simp only [pointwise, zero_add]

/-- The result's change of format is the identity. -/
theorem narrowed (x) : k0_pay3 (F := Ideal) x = x := by
  funext j; unfold k0_pay3; simp only [pointwise]

/-- The blocks that grid point `t` works on. -/
theorem idx : ∀ t : Fin grid0.N, win0_0.index t = ![t.val % 2, t.val / 4] ∧ win0_1.index t = ![t.val % 2, t.val / 2 % 2]
    ∧ win0_2.index t = ![t.val / 4, t.val / 2 % 2] := by decide +kernel

/-- After the last point of a run the accumulator holds the run's block products, summed. -/
theorem carried (c : Dev nD) (t : Fin cfg0.N) (ht : t.val % 2 = 1) (j : S1024x1024.Idx) :
    (outsAt0 m c t.val t.isLt).2 j = 0 + ∑ s : Fin 2,
      MatProd.tn 2048 (iblk m c 0 ⟨2 * (t.val / 2) + s, Pipeline.run_point_lt_of_flush t ht s⟩)
        (iblk m c 1 ⟨2 * (t.val / 2) + s, Pipeline.run_point_lt_of_flush t ht s⟩) j := by
  refine Pipeline.eq_sum_fin_of_reset_step_apply_of_flush (fun n h => (outsAt0 m c n h).2) 2 (fun _ => 0)
    (fun t j => MatProd.tn 2048 (iblk m c 0 t) (iblk m c 1 t) j)
    (fun t h j => ?_) (fun t h j => ?_) t ht j
  · rw [outsAt0_A m c t h (by omega)]; frame_out; rw [step, zero_block]
  · rw [outsAt0_B m c t h (by omega)]; frame_out; rw [step, read_unread_whole]

/-- The last point of a run writes the accumulator out. -/
theorem written (c : Dev nD) (t : Fin cfg0.N) (ht : t.val % 2 = 1) :
    (outsAt0 m c t.val t.isLt).1 = (outsAt0 m c t.val t.isLt).2 := by
  rw [outsAt0_B m c t (by omega) ht]; frame_out; rw [narrowed]

/-- The result array is the whole product. -/
theorem result (c : Dev nD) : (dats m 0 c).arrAt 2 (cfgs 0).N
    = MatProd.tn 4096 (m ((c : Thread nD τ).loc main_arg0)) (m ((c : Thread nD τ).loc main_arg1)) := by
  refine (dats m 0 c).arrAt_eq_of_covers 2 _ (by decide +kernel) fun t hf y => ?_
  have ht := (flush0_2 t).mp hf
  blk_simp
  rw [after0_2, written m c t ht, carried m c t ht, zero_add]
  unfold MatProd.tn
  refine Fin.sum_mul_add_congr fun s k hk => ?_
  obtain ⟨e0, e1, e2⟩ := idx t
  obtain ⟨e3, e4, e5⟩ := idx ⟨2 * (t.val / 2) + s, Pipeline.run_point_lt_of_flush t ht s⟩
  congr 1 <;> blk_ext [iblk, V, e0, e1, e2, e3, e4]

/-- The reference runs to its end and keeps its arguments. -/
theorem frame_reference : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

/-- Kernel and reference leave the same array. -/
theorem algebraic : Cert.algebraic_Kernel3Ideal_Reference3Ideal := by
  intro m g m' g' _ hagree
  refine ⟨_, Cert.Kernel3Ideal.Value.run_blocks (F := Ideal) m g, ?_⟩
  refine (θ_run _ _ _).mono (fun r h c => ⟨(h c).1.trans ?_, (h c).2⟩) (Cert.Reference3Ideal.Value.run (F := Ideal) m' g')
  show _ = (dats m 0 c).arrAt 2 (cfgs 0).N
  rw [result, (hagree c).1, (hagree c).2]
  funext i
  unfold MatProd.tn
  simp only [pointwise, zero_add]
  exact Finset.sum_congr rfl fun k _ => mul_comm _ _

end Cert.Kernel3Ideal.Product

end
-- ==== Proof.DUpW.lean ====
/- The gradient of the first MLP product with respect to its weight. -/
module

public import proofs.«01_k».proof.Defs
public import proofs.«01_k».proof.Proof.MatProd
public import proofs.«01_k».proof.Proof.Gen.Kernel4Ideal.Value
public import proofs.«01_k».proof.Proof.Gen.Reference4Ideal.Run
public import Idealize.ShloMosaic.Lib.Pipeline.ReadBack
public import Idealize.ShloMosaic.Lib.Tactic
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.Kernel4Ideal.Product

open Cert.Kernel4Ideal Cert.Kernel4Ideal.Gen Cert.Kernel4Ideal.Value

variable (m : (ℓ : Loc nD τ sig) → Buf (Elt Ideal) ℓ)

/-- The accumulator starts at zero. -/
theorem zero_block (j) : k0_pay1 (F := Ideal) j = 0 := by
  unfold k0_pay1; simp only [pointwise]

/-- One grid point adds the product of its two blocks to the accumulator. -/
theorem step (x acc y) (j) : k0_pay2 (F := Ideal) x acc y j = acc j + MatProd.tn 2048 y x j := by
  unfold k0_pay2 MatProd.tn; simp only [pointwise, zero_add]

/-- The result's change of format is the identity. -/
theorem narrowed (x) : k0_pay3 (F := Ideal) x = x := by
  funext j; unfold k0_pay3; simp only [pointwise]

/-- The blocks that grid point `t` works on. -/
theorem idx : ∀ t : Fin grid0.N, win0_0.index t = ![t.val % 2, t.val / 16] ∧ win0_1.index t = ![t.val % 2, t.val / 2 % 8]
    ∧ win0_2.index t = ![t.val / 16, t.val / 2 % 8] := by decide +kernel

/-- After the last point of a run the accumulator holds the run's block products, summed. -/
theorem carried (c : Dev nD) (t : Fin cfg0.N) (ht : t.val % 2 = 1) (j : S1024x1024.Idx) :
    (outsAt0 m c t.val t.isLt).2 j = 0 + ∑ s : Fin 2,
      MatProd.tn 2048 (iblk m c 0 ⟨2 * (t.val / 2) + s, Pipeline.run_point_lt_of_flush t ht s⟩)
        (iblk m c 1 ⟨2 * (t.val / 2) + s, Pipeline.run_point_lt_of_flush t ht s⟩) j := by
  refine Pipeline.eq_sum_fin_of_reset_step_apply_of_flush (fun n h => (outsAt0 m c n h).2) 2 (fun _ => 0)
    (fun t j => MatProd.tn 2048 (iblk m c 0 t) (iblk m c 1 t) j)
    (fun t h j => ?_) (fun t h j => ?_) t ht j
  · rw [outsAt0_A m c t h (by omega)]; frame_out; rw [step, zero_block]
  · rw [outsAt0_B m c t h (by omega)]; frame_out; rw [step, read_unread_whole]

/-- The last point of a run writes the accumulator out. -/
theorem written (c : Dev nD) (t : Fin cfg0.N) (ht : t.val % 2 = 1) :
    (outsAt0 m c t.val t.isLt).1 = (outsAt0 m c t.val t.isLt).2 := by
  rw [outsAt0_B m c t (by omega) ht]; frame_out; rw [narrowed]

/-- The result array is the whole product. -/
theorem result (c : Dev nD) : (dats m 0 c).arrAt 2 (cfgs 0).N
    = MatProd.tn 4096 (m ((c : Thread nD τ).loc main_arg0)) (m ((c : Thread nD τ).loc main_arg1)) := by
  refine (dats m 0 c).arrAt_eq_of_covers 2 _ (by decide +kernel) fun t hf y => ?_
  have ht := (flush0_2 t).mp hf
  blk_simp
  rw [after0_2, written m c t ht, carried m c t ht, zero_add]
  unfold MatProd.tn
  refine Fin.sum_mul_add_congr fun s k hk => ?_
  obtain ⟨e0, e1, e2⟩ := idx t
  obtain ⟨e3, e4, e5⟩ := idx ⟨2 * (t.val / 2) + s, Pipeline.run_point_lt_of_flush t ht s⟩
  congr 1 <;> blk_ext [iblk, V, e0, e1, e2, e3, e4]

/-- The reference runs to its end and keeps its arguments. -/
theorem frame_reference : Cert.quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

/-- Kernel and reference leave the same array. -/
theorem algebraic : Cert.algebraic_Kernel4Ideal_Reference4Ideal := by
  intro m g m' g' _ hagree
  refine ⟨_, Cert.Kernel4Ideal.Value.run_blocks (F := Ideal) m g, ?_⟩
  refine (θ_run _ _ _).mono (fun r h c => ⟨(h c).1.trans ?_, (h c).2⟩) (Cert.Reference4Ideal.Value.run (F := Ideal) m' g')
  show _ = (dats m 0 c).arrAt 2 (cfgs 0).N
  rw [result, (hagree c).1, (hagree c).2]
  funext i
  unfold MatProd.tn
  simp only [pointwise, zero_add]
  exact Finset.sum_congr rfl fun k _ => mul_comm _ _

end Cert.Kernel4Ideal.Product

end
-- ==== Proof.DOutX.lean ====
/- The gradient of the output projection with respect to its input. -/
module

public import proofs.«01_k».proof.Defs
public import proofs.«01_k».proof.Proof.MatProd
public import proofs.«01_k».proof.Proof.Gen.Kernel5Ideal.Value
public import proofs.«01_k».proof.Proof.Gen.Reference5Ideal.Run
public import Idealize.ShloMosaic.Lib.Pipeline.ReadBack
public import Idealize.ShloMosaic.Lib.Tactic
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.Kernel5Ideal.Product

open Cert.Kernel5Ideal Cert.Kernel5Ideal.Gen Cert.Kernel5Ideal.Value

variable (m : (ℓ : Loc nD τ sig) → Buf (Elt Ideal) ℓ)

/-- The accumulator starts at zero. -/
theorem zero_block (j) : k0_pay1 (F := Ideal) j = 0 := by
  unfold k0_pay1; simp only [pointwise]

/-- One grid point adds the product of its two blocks to the accumulator. -/
theorem step (x acc y) (j) : k0_pay2 (F := Ideal) x acc y j = acc j + MatProd.nt 2048 y x j := by
  unfold k0_pay2 MatProd.nt; simp only [pointwise, zero_add]

/-- The blocks that grid point `t` works on. -/
theorem idx : ∀ t : Fin grid0.N, win0_0.index t = ![t.val / 2, 0] ∧ win0_1.index t = ![t.val % 2, 0]
    ∧ win0_2.index t = ![t.val / 2, t.val % 2] := by decide +kernel

/-- The result array is the whole product. -/
theorem result (c : Dev nD) : (dats m 0 c).arrAt 2 (cfgs 0).N
    = MatProd.nt 2048 (m ((c : Thread nD τ).loc main_arg0)) (m ((c : Thread nD τ).loc main_arg1)) := by
  refine (dats m 0 c).arrAt_eq_of_covers 2 _ (by decide +kernel) fun t hf y => ?_
  blk_simp
  rw [after0_2]; unfold outsAt0; frame_out
  rw [step, zero_block, zero_add]
  unfold MatProd.nt
  refine Fin.sum_fin_congr fun k => ?_
  obtain ⟨e0, e1, e2⟩ := idx t
  congr 1 <;> blk_ext [iblk, V, e0, e1, e2]

/-- The reference runs to its end and keeps its arguments. -/
theorem frame_reference : Cert.quiescent_Reference5Ideal := fun m ρ _ =>
  (θ_run Cert.Reference5Ideal.defs _ _).mono (fun r h => ⟨fun c => (h c).2, sem_eq_zero_of_no_sems (by decide) r.2⟩)
    (Cert.Reference5Ideal.Value.run (F := Ideal) m ρ)

/-- Kernel and reference leave the same array. -/
theorem algebraic : Cert.algebraic_Kernel5Ideal_Reference5Ideal := by
  intro m g m' g' _ hagree
  refine ⟨_, Cert.Kernel5Ideal.Value.run_blocks (F := Ideal) m g, ?_⟩
  refine (θ_run _ _ _).mono (fun r h c => ⟨(h c).1.trans ?_, (h c).2⟩) (Cert.Reference5Ideal.Value.run (F := Ideal) m' g')
  show _ = (dats m 0 c).arrAt 2 (cfgs 0).N
  rw [result, (hagree c).1, (hagree c).2]
  funext i
  unfold MatProd.nt
  simp only [pointwise, zero_add]

end Cert.Kernel5Ideal.Product

end
-- ==== Proof.DOutW.lean ====
/- The gradient of the output projection with respect to its weight. -/
module

public import proofs.«01_k».proof.Defs
public import proofs.«01_k».proof.Proof.MatProd
public import proofs.«01_k».proof.Proof.Gen.Kernel6Ideal.Value
public import proofs.«01_k».proof.Proof.Gen.Reference6Ideal.Run
public import Idealize.ShloMosaic.Lib.Pipeline.ReadBack
public import Idealize.ShloMosaic.Lib.Tactic
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.Kernel6Ideal.Product

open Cert.Kernel6Ideal Cert.Kernel6Ideal.Gen Cert.Kernel6Ideal.Value

variable (m : (ℓ : Loc nD τ sig) → Buf (Elt Ideal) ℓ)

/-- The accumulator starts at zero. -/
theorem zero_block (j) : k0_pay1 (F := Ideal) j = 0 := by
  unfold k0_pay1; simp only [pointwise]

/-- One grid point adds the product of its two blocks to the accumulator. -/
theorem step (x acc y) (j) : k0_pay2 (F := Ideal) x acc y j = acc j + MatProd.tn 2048 y x j := by
  unfold k0_pay2 MatProd.tn; simp only [pointwise, zero_add]

/-- The result's change of format is the identity. -/
theorem narrowed (x) : k0_pay3 (F := Ideal) x = x := by
  funext j; unfold k0_pay3; simp only [pointwise]

/-- The blocks that grid point `t` works on. -/
theorem idx : ∀ t : Fin grid0.N, win0_0.index t = ![t.val % 2, t.val / 4] ∧ win0_1.index t = ![t.val % 2, t.val / 2 % 2]
    ∧ win0_2.index t = ![t.val / 4, t.val / 2 % 2] := by decide +kernel

/-- After the last point of a run the accumulator holds the run's block products, summed. -/
theorem carried (c : Dev nD) (t : Fin cfg0.N) (ht : t.val % 2 = 1) (j : S1024x1024.Idx) :
    (outsAt0 m c t.val t.isLt).2 j = 0 + ∑ s : Fin 2,
      MatProd.tn 2048 (iblk m c 0 ⟨2 * (t.val / 2) + s, Pipeline.run_point_lt_of_flush t ht s⟩)
        (iblk m c 1 ⟨2 * (t.val / 2) + s, Pipeline.run_point_lt_of_flush t ht s⟩) j := by
  refine Pipeline.eq_sum_fin_of_reset_step_apply_of_flush (fun n h => (outsAt0 m c n h).2) 2 (fun _ => 0)
    (fun t j => MatProd.tn 2048 (iblk m c 0 t) (iblk m c 1 t) j)
    (fun t h j => ?_) (fun t h j => ?_) t ht j
  · rw [outsAt0_A m c t h (by omega)]; frame_out; rw [step, zero_block]
  · rw [outsAt0_B m c t h (by omega)]; frame_out; rw [step, read_unread_whole]

/-- The last point of a run writes the accumulator out. -/
theorem written (c : Dev nD) (t : Fin cfg0.N) (ht : t.val % 2 = 1) :
    (outsAt0 m c t.val t.isLt).1 = (outsAt0 m c t.val t.isLt).2 := by
  rw [outsAt0_B m c t (by omega) ht]; frame_out; rw [narrowed]

/-- The result array is the whole product. -/
theorem result (c : Dev nD) : (dats m 0 c).arrAt 2 (cfgs 0).N
    = MatProd.tn 4096 (m ((c : Thread nD τ).loc main_arg0)) (m ((c : Thread nD τ).loc main_arg1)) := by
  refine (dats m 0 c).arrAt_eq_of_covers 2 _ (by decide +kernel) fun t hf y => ?_
  have ht := (flush0_2 t).mp hf
  blk_simp
  rw [after0_2, written m c t ht, carried m c t ht, zero_add]
  unfold MatProd.tn
  refine Fin.sum_mul_add_congr fun s k hk => ?_
  obtain ⟨e0, e1, e2⟩ := idx t
  obtain ⟨e3, e4, e5⟩ := idx ⟨2 * (t.val / 2) + s, Pipeline.run_point_lt_of_flush t ht s⟩
  congr 1 <;> blk_ext [iblk, V, e0, e1, e2, e3, e4]

/-- The reference runs to its end and keeps its arguments. -/
theorem frame_reference : Cert.quiescent_Reference6Ideal := fun m ρ _ =>
  (θ_run Cert.Reference6Ideal.defs _ _).mono (fun r h => ⟨fun c => (h c).2, sem_eq_zero_of_no_sems (by decide) r.2⟩)
    (Cert.Reference6Ideal.Value.run (F := Ideal) m ρ)

/-- Kernel and reference leave the same array. -/
theorem algebraic : Cert.algebraic_Kernel6Ideal_Reference6Ideal := by
  intro m g m' g' _ hagree
  refine ⟨_, Cert.Kernel6Ideal.Value.run_blocks (F := Ideal) m g, ?_⟩
  refine (θ_run _ _ _).mono (fun r h c => ⟨(h c).1.trans ?_, (h c).2⟩) (Cert.Reference6Ideal.Value.run (F := Ideal) m' g')
  show _ = (dats m 0 c).arrAt 2 (cfgs 0).N
  rw [result, (hagree c).1, (hagree c).2]
  funext i
  unfold MatProd.tn
  simp only [pointwise, zero_add]
  exact Finset.sum_congr rfl fun k _ => mul_comm _ _

end Cert.Kernel6Ideal.Product

end
-- ==== Proof.DProjX.lean ====
/- The gradient of the input projection with respect to its input. -/
module

public import proofs.«01_k».proof.Defs
public import proofs.«01_k».proof.Proof.MatProd
public import proofs.«01_k».proof.Proof.Gen.Kernel7Ideal.Value
public import proofs.«01_k».proof.Proof.Gen.Reference7Ideal.Run
public import Idealize.ShloMosaic.Lib.Pipeline.ReadBack
public import Idealize.ShloMosaic.Lib.Tactic
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.Kernel7Ideal.Product

open Cert.Kernel7Ideal Cert.Kernel7Ideal.Gen Cert.Kernel7Ideal.Value

variable (m : (ℓ : Loc nD τ sig) → Buf (Elt Ideal) ℓ)

/-- The accumulator starts at zero. -/
theorem zero_block (j) : k0_pay1 (F := Ideal) j = 0 := by
  unfold k0_pay1; simp only [pointwise]

/-- One grid point adds the product of its two blocks to the accumulator. -/
theorem step (x acc y) (j) : k0_pay2 (F := Ideal) x acc y j = acc j + MatProd.nt 896 y x j := by
  unfold k0_pay2 MatProd.nt; simp only [pointwise, zero_add]

/-- The blocks that grid point `t` works on. -/
theorem idx : ∀ t : Fin grid0.N, win0_0.index t = ![t.val / 14, t.val % 7] ∧ win0_1.index t = ![t.val / 7 % 2, t.val % 7]
    ∧ win0_2.index t = ![t.val / 14, t.val / 7 % 2] := by decide +kernel

/-- After the last point of a run the accumulator holds the run's block products, summed. -/
theorem carried (c : Dev nD) (t : Fin cfg0.N) (ht : t.val % 7 = 6) (j : S1024x1024.Idx) :
    (outsAt0 m c t.val t.isLt).2 j = 0 + ∑ s : Fin 7,
      MatProd.nt 896 (iblk m c 0 ⟨7 * (t.val / 7) + s, Pipeline.run_point_lt_of_flush t ht s⟩)
        (iblk m c 1 ⟨7 * (t.val / 7) + s, Pipeline.run_point_lt_of_flush t ht s⟩) j := by
  refine Pipeline.eq_sum_fin_of_reset_step_apply_of_flush (fun n h => (outsAt0 m c n h).2) 7 (fun _ => 0)
    (fun t j => MatProd.nt 896 (iblk m c 0 t) (iblk m c 1 t) j)
    (fun t h j => ?_) (fun t h j => ?_) t ht j
  · rw [outsAt0_A m c t h (by omega)]; frame_out; rw [step, zero_block]
  · by_cases h1 : t.val % 7 = 6
    · rw [outsAt0_C m c t h h1]; frame_out; rw [step, read_unread_whole]
    · rw [outsAt0_B m c t h h1]; frame_out; rw [step, read_unread_whole]

/-- The last point of a run writes the accumulator out. -/
theorem written (c : Dev nD) (t : Fin cfg0.N) (ht : t.val % 7 = 6) :
    (outsAt0 m c t.val t.isLt).1 = (outsAt0 m c t.val t.isLt).2 := by
  rw [outsAt0_C m c t (by omega) ht]; frame_out

/-- The result array is the whole product. -/
theorem result (c : Dev nD) : (dats m 0 c).arrAt 2 (cfgs 0).N
    = MatProd.nt 6272 (m ((c : Thread nD τ).loc main_arg0)) (m ((c : Thread nD τ).loc main_arg1)) := by
  refine (dats m 0 c).arrAt_eq_of_covers 2 _ (by decide +kernel) fun t hf y => ?_
  have ht := (flush0_2 t).mp hf
  blk_simp
  rw [after0_2, written m c t ht, carried m c t ht, zero_add]
  unfold MatProd.nt
  refine Fin.sum_mul_add_congr fun s k hk => ?_
  obtain ⟨e0, e1, e2⟩ := idx t
  obtain ⟨e3, e4, e5⟩ := idx ⟨7 * (t.val / 7) + s, Pipeline.run_point_lt_of_flush t ht s⟩
  congr 1 <;> blk_ext [iblk, V, e0, e1, e2, e3, e4]

/-- The reference runs to its end and keeps its arguments. -/
theorem frame_reference : Cert.quiescent_Reference7Ideal := fun m ρ _ =>
  (θ_run Cert.Reference7Ideal.defs _ _).mono (fun r h => ⟨fun c => (h c).2, sem_eq_zero_of_no_sems (by decide) r.2⟩)
    (Cert.Reference7Ideal.Value.run (F := Ideal) m ρ)

/-- Kernel and reference leave the same array. -/
theorem algebraic : Cert.algebraic_Kernel7Ideal_Reference7Ideal := by
  intro m g m' g' _ hagree
  refine ⟨_, Cert.Kernel7Ideal.Value.run_blocks (F := Ideal) m g, ?_⟩
  refine (θ_run _ _ _).mono (fun r h c => ⟨(h c).1.trans ?_, (h c).2⟩) (Cert.Reference7Ideal.Value.run (F := Ideal) m' g')
  show _ = (dats m 0 c).arrAt 2 (cfgs 0).N
  rw [result, (hagree c).1, (hagree c).2]
  funext i
  unfold MatProd.nt
  simp only [pointwise, zero_add]

end Cert.Kernel7Ideal.Product

end
-- ==== Proof.DProjW.lean ====
/- The gradient of the input projection with respect to its weight. -/
module

public import proofs.«01_k».proof.Defs
public import proofs.«01_k».proof.Proof.MatProd
public import proofs.«01_k».proof.Proof.Gen.Kernel8Ideal.Value
public import proofs.«01_k».proof.Proof.Gen.Reference8Ideal.Run
public import Idealize.ShloMosaic.Lib.Pipeline.ReadBack
public import Idealize.ShloMosaic.Lib.Tactic
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.Kernel8Ideal.Product

open Cert.Kernel8Ideal Cert.Kernel8Ideal.Gen Cert.Kernel8Ideal.Value

variable (m : (ℓ : Loc nD τ sig) → Buf (Elt Ideal) ℓ)

/-- The accumulator starts at zero. -/
theorem zero_block (j) : k0_pay1 (F := Ideal) j = 0 := by
  unfold k0_pay1; simp only [pointwise]

/-- One grid point adds the product of its two blocks to the accumulator. -/
theorem step (x acc y) (j) : k0_pay2 (F := Ideal) x acc y j = acc j + MatProd.tn 2048 y x j := by
  unfold k0_pay2 MatProd.tn; simp only [pointwise, zero_add]

/-- The result's change of format is the identity. -/
theorem narrowed (x) : k0_pay3 (F := Ideal) x = x := by
  funext j; unfold k0_pay3; simp only [pointwise]

/-- The blocks that grid point `t` works on. -/
theorem idx : ∀ t : Fin grid0.N, win0_0.index t = ![t.val % 2, t.val / 14] ∧ win0_1.index t = ![t.val % 2, t.val / 2 % 7]
    ∧ win0_2.index t = ![t.val / 14, t.val / 2 % 7] := by decide +kernel

/-- After the last point of a run the accumulator holds the run's block products, summed. -/
theorem carried (c : Dev nD) (t : Fin cfg0.N) (ht : t.val % 2 = 1) (j : S1024x896.Idx) :
    (outsAt0 m c t.val t.isLt).2 j = 0 + ∑ s : Fin 2,
      MatProd.tn 2048 (iblk m c 0 ⟨2 * (t.val / 2) + s, Pipeline.run_point_lt_of_flush t ht s⟩)
        (iblk m c 1 ⟨2 * (t.val / 2) + s, Pipeline.run_point_lt_of_flush t ht s⟩) j := by
  refine Pipeline.eq_sum_fin_of_reset_step_apply_of_flush (fun n h => (outsAt0 m c n h).2) 2 (fun _ => 0)
    (fun t j => MatProd.tn 2048 (iblk m c 0 t) (iblk m c 1 t) j)
    (fun t h j => ?_) (fun t h j => ?_) t ht j
  · rw [outsAt0_A m c t h (by omega)]; frame_out; rw [step, zero_block]
  · rw [outsAt0_B m c t h (by omega)]; frame_out; rw [step, read_unread_whole]

/-- The last point of a run writes the accumulator out. -/
theorem written (c : Dev nD) (t : Fin cfg0.N) (ht : t.val % 2 = 1) :
    (outsAt0 m c t.val t.isLt).1 = (outsAt0 m c t.val t.isLt).2 := by
  rw [outsAt0_B m c t (by omega) ht]; frame_out; rw [narrowed]

/-- The result array is the whole product. -/
theorem result (c : Dev nD) : (dats m 0 c).arrAt 2 (cfgs 0).N
    = MatProd.tn 4096 (m ((c : Thread nD τ).loc main_arg0)) (m ((c : Thread nD τ).loc main_arg1)) := by
  refine (dats m 0 c).arrAt_eq_of_covers 2 _ (by decide +kernel) fun t hf y => ?_
  have ht := (flush0_2 t).mp hf
  blk_simp
  rw [after0_2, written m c t ht, carried m c t ht, zero_add]
  unfold MatProd.tn
  refine Fin.sum_mul_add_congr fun s k hk => ?_
  obtain ⟨e0, e1, e2⟩ := idx t
  obtain ⟨e3, e4, e5⟩ := idx ⟨2 * (t.val / 2) + s, Pipeline.run_point_lt_of_flush t ht s⟩
  congr 1 <;> blk_ext [iblk, V, e0, e1, e2, e3, e4]

/-- The reference runs to its end and keeps its arguments. -/
theorem frame_reference : Cert.quiescent_Reference8Ideal := fun m ρ _ =>
  (θ_run Cert.Reference8Ideal.defs _ _).mono (fun r h => ⟨fun c => (h c).2, sem_eq_zero_of_no_sems (by decide) r.2⟩)
    (Cert.Reference8Ideal.Value.run (F := Ideal) m ρ)

/-- Kernel and reference leave the same array. -/
theorem algebraic : Cert.algebraic_Kernel8Ideal_Reference8Ideal := by
  intro m g m' g' _ hagree
  refine ⟨_, Cert.Kernel8Ideal.Value.run_blocks (F := Ideal) m g, ?_⟩
  refine (θ_run _ _ _).mono (fun r h c => ⟨(h c).1.trans ?_, (h c).2⟩) (Cert.Reference8Ideal.Value.run (F := Ideal) m' g')
  show _ = (dats m 0 c).arrAt 2 (cfgs 0).N
  rw [result, (hagree c).1, (hagree c).2]
  funext i
  unfold MatProd.tn
  simp only [pointwise, zero_add]
  exact Finset.sum_congr rfl fun k _ => mul_comm _ _

end Cert.Kernel8Ideal.Product

end
-- ==== Proof.DPw2X.lean ====
/- The gradient of the pointwise convolution product with respect to its input. -/
module

public import proofs.«01_k».proof.Defs
public import proofs.«01_k».proof.Proof.MatProd
public import proofs.«01_k».proof.Proof.Gen.Kernel9Ideal.Value
public import proofs.«01_k».proof.Proof.Gen.Reference9Ideal.Run
public import Idealize.ShloMosaic.Lib.Pipeline.ReadBack
public import Idealize.ShloMosaic.Lib.Tactic
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.Kernel9Ideal.Product

open Cert.Kernel9Ideal Cert.Kernel9Ideal.Gen Cert.Kernel9Ideal.Value

variable (m : (ℓ : Loc nD τ sig) → Buf (Elt Ideal) ℓ)

/-- The accumulator starts at zero. -/
theorem zero_block (j) : k0_pay1 (F := Ideal) j = 0 := by
  unfold k0_pay1; simp only [pointwise]

/-- One grid point adds the product of its two blocks to the accumulator. -/
theorem step (x acc y) (j) : k0_pay2 (F := Ideal) x acc y j = acc j + MatProd.nt 1024 y x j := by
  unfold k0_pay2 MatProd.nt; simp only [pointwise, zero_add]

/-- The blocks that grid point `t` works on. -/
theorem idx : ∀ t : Fin grid0.N, win0_0.index t = ![t.val, 0] ∧ win0_1.index t = ![0, 0]
    ∧ win0_2.index t = ![t.val, 0] := by decide +kernel

/-- The result array is the whole product. -/
theorem result (c : Dev nD) : (dats m 0 c).arrAt 2 (cfgs 0).N
    = MatProd.nt 1024 (m ((c : Thread nD τ).loc main_arg0)) (m ((c : Thread nD τ).loc main_arg1)) := by
  refine (dats m 0 c).arrAt_eq_of_covers 2 _ (by decide +kernel) fun t hf y => ?_
  blk_simp
  rw [after0_2]; unfold outsAt0; frame_out
  rw [step, zero_block, zero_add]
  unfold MatProd.nt
  refine Fin.sum_fin_congr fun k => ?_
  obtain ⟨e0, e1, e2⟩ := idx t
  congr 1 <;> blk_ext [iblk, V, e0, e1, e2]

/-- The reference runs to its end and keeps its arguments. -/
theorem frame_reference : Cert.quiescent_Reference9Ideal := fun m ρ _ =>
  (θ_run Cert.Reference9Ideal.defs _ _).mono (fun r h => ⟨fun c => (h c).2, sem_eq_zero_of_no_sems (by decide) r.2⟩)
    (Cert.Reference9Ideal.Value.run (F := Ideal) m ρ)

/-- Kernel and reference leave the same array. -/
theorem algebraic : Cert.algebraic_Kernel9Ideal_Reference9Ideal := by
  intro m g m' g' _ hagree
  refine ⟨_, Cert.Kernel9Ideal.Value.run_blocks (F := Ideal) m g, ?_⟩
  refine (θ_run _ _ _).mono (fun r h c => ⟨(h c).1.trans ?_, (h c).2⟩) (Cert.Reference9Ideal.Value.run (F := Ideal) m' g')
  show _ = (dats m 0 c).arrAt 2 (cfgs 0).N
  rw [result, (hagree c).1, (hagree c).2]
  funext i
  unfold MatProd.nt
  simp only [pointwise, zero_add]

end Cert.Kernel9Ideal.Product

end
-- ==== Proof.DPw2W.lean ====
/- The gradient of the pointwise convolution product with respect to its weight. -/
module

public import proofs.«01_k».proof.Defs
public import proofs.«01_k».proof.Proof.MatProd
public import proofs.«01_k».proof.Proof.Gen.Kernel10Ideal.Value
public import proofs.«01_k».proof.Proof.Gen.Reference10Ideal.Run
public import Idealize.ShloMosaic.Lib.Pipeline.ReadBack
public import Idealize.ShloMosaic.Lib.Tactic
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.Kernel10Ideal.Product

open Cert.Kernel10Ideal Cert.Kernel10Ideal.Gen Cert.Kernel10Ideal.Value

variable (m : (ℓ : Loc nD τ sig) → Buf (Elt Ideal) ℓ)

/-- The accumulator starts at zero. -/
theorem zero_block (j) : k0_pay1 (F := Ideal) j = 0 := by
  unfold k0_pay1; simp only [pointwise]

/-- One grid point adds the product of its two blocks to the accumulator. -/
theorem step (x acc y) (j) : k0_pay2 (F := Ideal) x acc y j = acc j + MatProd.tn 2048 y x j := by
  unfold k0_pay2 MatProd.tn; simp only [pointwise, zero_add]

/-- The result's change of format is the identity. -/
theorem narrowed (x) : k0_pay3 (F := Ideal) x = x := by
  funext j; unfold k0_pay3; simp only [pointwise]

/-- The blocks that grid point `t` works on. -/
theorem idx : ∀ t : Fin grid0.N, win0_0.index t = ![t.val, 0] ∧ win0_1.index t = ![t.val, 0]
    ∧ win0_2.index t = ![0, 0] := by decide +kernel

/-- After the last point of a run the accumulator holds the run's block products, summed. -/
theorem carried (c : Dev nD) (t : Fin cfg0.N) (ht : t.val % 2 = 1) (j : S1024x1024.Idx) :
    (outsAt0 m c t.val t.isLt).2 j = 0 + ∑ s : Fin 2,
      MatProd.tn 2048 (iblk m c 0 ⟨2 * (t.val / 2) + s, Pipeline.run_point_lt_of_flush t ht s⟩)
        (iblk m c 1 ⟨2 * (t.val / 2) + s, Pipeline.run_point_lt_of_flush t ht s⟩) j := by
  refine Pipeline.eq_sum_fin_of_reset_step_apply_of_flush (fun n h => (outsAt0 m c n h).2) 2 (fun _ => 0)
    (fun t j => MatProd.tn 2048 (iblk m c 0 t) (iblk m c 1 t) j)
    (fun t h j => ?_) (fun t h j => ?_) t ht j
  · rw [outsAt0_A m c t h (by omega)]; frame_out; rw [step, zero_block]
  · rw [outsAt0_B m c t h (by omega)]; frame_out; rw [step, read_unread_whole]

/-- The last point of a run writes the accumulator out. -/
theorem written (c : Dev nD) (t : Fin cfg0.N) (ht : t.val % 2 = 1) :
    (outsAt0 m c t.val t.isLt).1 = (outsAt0 m c t.val t.isLt).2 := by
  rw [outsAt0_B m c t (by omega) ht]; frame_out; rw [narrowed]

/-- The result array is the whole product. -/
theorem result (c : Dev nD) : (dats m 0 c).arrAt 2 (cfgs 0).N
    = MatProd.tn 4096 (m ((c : Thread nD τ).loc main_arg0)) (m ((c : Thread nD τ).loc main_arg1)) := by
  refine (dats m 0 c).arrAt_eq_of_covers 2 _ (by decide +kernel) fun t hf y => ?_
  have ht := (flush0_2 t).mp hf
  blk_simp
  rw [after0_2, written m c t ht, carried m c t ht, zero_add]
  unfold MatProd.tn
  refine Fin.sum_mul_add_congr fun s k hk => ?_
  obtain ⟨e0, e1, e2⟩ := idx t
  obtain ⟨e3, e4, e5⟩ := idx ⟨2 * (t.val / 2) + s, Pipeline.run_point_lt_of_flush t ht s⟩
  congr 1 <;> blk_ext [iblk, V, e0, e1, e2, e3, e4]

/-- The reference runs to its end and keeps its arguments. -/
theorem frame_reference : Cert.quiescent_Reference10Ideal := fun m ρ _ =>
  (θ_run Cert.Reference10Ideal.defs _ _).mono (fun r h => ⟨fun c => (h c).2, sem_eq_zero_of_no_sems (by decide) r.2⟩)
    (Cert.Reference10Ideal.Value.run (F := Ideal) m ρ)

/-- Kernel and reference leave the same array. -/
theorem algebraic : Cert.algebraic_Kernel10Ideal_Reference10Ideal := by
  intro m g m' g' _ hagree
  refine ⟨_, Cert.Kernel10Ideal.Value.run_blocks (F := Ideal) m g, ?_⟩
  refine (θ_run _ _ _).mono (fun r h c => ⟨(h c).1.trans ?_, (h c).2⟩) (Cert.Reference10Ideal.Value.run (F := Ideal) m' g')
  show _ = (dats m 0 c).arrAt 2 (cfgs 0).N
  rw [result, (hagree c).1, (hagree c).2]
  funext i
  unfold MatProd.tn
  simp only [pointwise, zero_add]
  exact Finset.sum_congr rfl fun k _ => mul_comm _ _

end Cert.Kernel10Ideal.Product

end
-- ==== Proof.Up.lean ====
/- The first MLP product and its squared relu. -/
module

public import proofs.«01_k».proof.Defs
public import proofs.«01_k».proof.Proof.MatProd
public import proofs.«01_k».proof.Proof.Gen.Kernel11Ideal.Value
public import proofs.«01_k».proof.Proof.Gen.Reference11Ideal.Run
public import Idealize.ShloMosaic.Lib.Pipeline.ReadBack
public import Idealize.ShloMosaic.Lib.Tactic
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.Kernel11Ideal.Product

open Cert.Kernel11Ideal Cert.Kernel11Ideal.Gen Cert.Kernel11Ideal.Value

variable (m : (ℓ : Loc nD τ sig) → Buf (Elt Ideal) ℓ)

/-- The accumulator starts at zero. -/
theorem zero_block (j) : k0_pay1 (F := Ideal) j = 0 := by
  unfold k0_pay1; simp only [pointwise]

/-- One grid point adds the product of its two blocks to the accumulator. -/
theorem step (x acc y) (j) : k0_pay2 (F := Ideal) x acc y j = acc j + MatProd.nn 2048 y x j := by
  unfold k0_pay2 MatProd.nn; simp only [pointwise, zero_add]

/-- The second result of a point: the squared relu of the accumulator. -/
theorem relu2 (acc) (j) : k0_pay3 (F := Ideal) acc j = max (acc j) 0 * max (acc j) 0 := by
  unfold k0_pay3; simp only [pointwise]

/-- The blocks that grid point `t` works on. -/
theorem idx : ∀ t : Fin grid0.N, win0_0.index t = ![t.val / 8, 0] ∧ win0_1.index t = ![0, t.val % 8]
    ∧ win0_2.index t = ![t.val / 8, t.val % 8] ∧ win0_3.index t = ![t.val / 8, t.val % 8] := by decide +kernel

/-- A point's block product is the whole product there. -/
theorem block_product (c : Dev nD) (t : Fin cfg0.N) (i : S4096x8192.Idx) (y : S1024x1024.Idx)
    (h0 : (i 0).val = t.val / 8 * 1024 + (y 0).val) (h1 : (i 1).val = t.val % 8 * 1024 + (y 1).val) :
    MatProd.nn 2048 (iblk m c 0 t) (iblk m c 1 t) y
      = MatProd.nn 2048 (m ((c : Thread nD τ).loc main_arg0)) (m ((c : Thread nD τ).loc main_arg1)) i := by
  obtain ⟨e0, e1, e2, e3⟩ := idx t
  unfold MatProd.nn
  refine Finset.sum_congr rfl fun k _ => ?_
  congr 1 <;> blk_ext [iblk, V, e0, e1, h0, h1]

/-- The first result array is the whole product. -/
theorem result (c : Dev nD) : (dats m 0 c).arrAt 2 (cfgs 0).N
    = MatProd.nn 2048 (m ((c : Thread nD τ).loc main_arg0)) (m ((c : Thread nD τ).loc main_arg1)) := by
  refine (dats m 0 c).arrAt_eq_of_covers 2 _ (by decide +kernel) fun t hf y => ?_
  obtain ⟨e0, e1, e2, e3⟩ := idx t
  blk_simp
  rw [after0_2]; unfold outsAt0; frame_out
  rw [step, zero_block, zero_add]
  exact block_product m c t _ _ (by blk_simp [e2]) (by blk_simp [e2])

/-- The second result array is the whole product's squared relu. -/
theorem result_relu2 (c : Dev nD) : (dats m 0 c).arrAt 3 (cfgs 0).N
    = fun i => max (MatProd.nn 2048 (m ((c : Thread nD τ).loc main_arg0)) (m ((c : Thread nD τ).loc main_arg1)) i) 0
      * max (MatProd.nn 2048 (m ((c : Thread nD τ).loc main_arg0)) (m ((c : Thread nD τ).loc main_arg1)) i) 0 := by
  refine (dats m 0 c).arrAt_eq_of_covers 3 _ (by decide +kernel) fun t hf y => ?_
  obtain ⟨e0, e1, e2, e3⟩ := idx t
  blk_simp
  rw [after0_3]; unfold outsAt0; frame_out
  rw [relu2, step, zero_block, zero_add,
    block_product m c t (((cfg0.win 3).blk t).view.emb y) _ (by blk_simp [e3]) (by blk_simp [e3])]

/-- The reference runs to its end and keeps its arguments. -/
theorem frame_reference : Cert.quiescent_Reference11Ideal := fun m ρ _ =>
  (θ_run Cert.Reference11Ideal.defs _ _).mono (fun r h => ⟨fun c => (h c).2.2, sem_eq_zero_of_no_sems (by decide) r.2⟩)
    (Cert.Reference11Ideal.Value.run (F := Ideal) m ρ)

/-- Kernel and reference leave the same arrays. -/
theorem algebraic : Cert.algebraic_Kernel11Ideal_Reference11Ideal := by
  intro m g m' g' _ hagree
  refine ⟨_, _, Cert.Kernel11Ideal.Value.run_blocks (F := Ideal) m g, ?_⟩
  refine (θ_run _ _ _).mono (fun r h c => ⟨(h c).1.trans ?_, (h c).2.1.trans ?_, (h c).2.2⟩)
    (Cert.Reference11Ideal.Value.run (F := Ideal) m' g')
  · show _ = (dats m 0 c).arrAt 2 (cfgs 0).N
    rw [result, (hagree c).1, (hagree c).2]
    funext i
    unfold MatProd.nn
    simp only [pointwise, zero_add]
  · show _ = (dats m 0 c).arrAt 3 (cfgs 0).N
    rw [result_relu2, (hagree c).1, (hagree c).2]
    funext i
    unfold MatProd.nn
    simp only [pointwise, zero_add]

end Cert.Kernel11Ideal.Product

end
-- ==== Proof.Down.lean ====
/- The second MLP product. -/
module

public import proofs.«01_k».proof.Defs
public import proofs.«01_k».proof.Proof.MatProd
public import proofs.«01_k».proof.Proof.Gen.Kernel12Ideal.Value
public import proofs.«01_k».proof.Proof.Gen.Reference12Ideal.Run
public import Idealize.ShloMosaic.Lib.Pipeline.ReadBack
public import Idealize.ShloMosaic.Lib.Tactic
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.Kernel12Ideal.Product

open Cert.Kernel12Ideal Cert.Kernel12Ideal.Gen Cert.Kernel12Ideal.Value

variable (m : (ℓ : Loc nD τ sig) → Buf (Elt Ideal) ℓ)

/-- The accumulator starts at zero. -/
theorem zero_block (j) : k0_pay1 (F := Ideal) j = 0 := by
  unfold k0_pay1; simp only [pointwise]

/-- One grid point adds the product of its two blocks to the accumulator. -/
theorem step (x acc y) (j) : k0_pay2 (F := Ideal) x acc y j = acc j + MatProd.nn 2048 y x j := by
  unfold k0_pay2 MatProd.nn; simp only [pointwise, zero_add]

/-- The blocks that grid point `t` works on. -/
theorem idx : ∀ t : Fin grid0.N, win0_0.index t = ![t.val / 8, t.val % 4] ∧ win0_1.index t = ![t.val % 4, t.val / 4 % 2]
    ∧ win0_2.index t = ![t.val / 8, t.val / 4 % 2] := by decide +kernel

/-- After the last point of a run the accumulator holds the run's block products, summed. -/
theorem carried (c : Dev nD) (t : Fin cfg0.N) (ht : t.val % 4 = 3) (j : S1024x1024.Idx) :
    (outsAt0 m c t.val t.isLt).2 j = 0 + ∑ s : Fin 4,
      MatProd.nn 2048 (iblk m c 0 ⟨4 * (t.val / 4) + s, Pipeline.run_point_lt_of_flush t ht s⟩)
        (iblk m c 1 ⟨4 * (t.val / 4) + s, Pipeline.run_point_lt_of_flush t ht s⟩) j := by
  refine Pipeline.eq_sum_fin_of_reset_step_apply_of_flush (fun n h => (outsAt0 m c n h).2) 4 (fun _ => 0)
    (fun t j => MatProd.nn 2048 (iblk m c 0 t) (iblk m c 1 t) j)
    (fun t h j => ?_) (fun t h j => ?_) t ht j
  · rw [outsAt0_A m c t h (by omega)]; frame_out; rw [step, zero_block]
  · by_cases h1 : t.val % 4 = 3
    · rw [outsAt0_C m c t h h1]; frame_out; rw [step, read_unread_whole]
    · rw [outsAt0_B m c t h h1]; frame_out; rw [step, read_unread_whole]

/-- The last point of a run writes the accumulator out. -/
theorem written (c : Dev nD) (t : Fin cfg0.N) (ht : t.val % 4 = 3) :
    (outsAt0 m c t.val t.isLt).1 = (outsAt0 m c t.val t.isLt).2 := by
  rw [outsAt0_C m c t (by omega) ht]; frame_out

/-- The result array is the whole product. -/
theorem result (c : Dev nD) : (dats m 0 c).arrAt 2 (cfgs 0).N
    = MatProd.nn 8192 (m ((c : Thread nD τ).loc main_arg0)) (m ((c : Thread nD τ).loc main_arg1)) := by
  refine (dats m 0 c).arrAt_eq_of_covers 2 _ (by decide +kernel) fun t hf y => ?_
  have ht := (flush0_2 t).mp hf
  blk_simp
  rw [after0_2, written m c t ht, carried m c t ht, zero_add]
  unfold MatProd.nn
  refine Fin.sum_mul_add_congr fun s k hk => ?_
  obtain ⟨e0, e1, e2⟩ := idx t
  obtain ⟨e3, e4, e5⟩ := idx ⟨4 * (t.val / 4) + s, Pipeline.run_point_lt_of_flush t ht s⟩
  congr 1 <;> blk_ext [iblk, V, e0, e1, e2, e3, e4]

/-- The reference runs to its end and keeps its arguments. -/
theorem frame_reference : Cert.quiescent_Reference12Ideal := fun m ρ _ =>
  (θ_run Cert.Reference12Ideal.defs _ _).mono (fun r h => ⟨fun c => (h c).2, sem_eq_zero_of_no_sems (by decide) r.2⟩)
    (Cert.Reference12Ideal.Value.run (F := Ideal) m ρ)

/-- Kernel and reference leave the same array. -/
theorem algebraic : Cert.algebraic_Kernel12Ideal_Reference12Ideal := by
  intro m g m' g' _ hagree
  refine ⟨_, Cert.Kernel12Ideal.Value.run_blocks (F := Ideal) m g, ?_⟩
  refine (θ_run _ _ _).mono (fun r h c => ⟨(h c).1.trans ?_, (h c).2⟩) (Cert.Reference12Ideal.Value.run (F := Ideal) m' g')
  show _ = (dats m 0 c).arrAt 2 (cfgs 0).N
  rw [result, (hagree c).1, (hagree c).2]
  funext i
  unfold MatProd.nn
  simp only [pointwise, zero_add]

end Cert.Kernel12Ideal.Product

end
-- ==== Proof.Proj.lean ====
/- The input projection. -/
module

public import proofs.«01_k».proof.Defs
public import proofs.«01_k».proof.Proof.MatProd
public import proofs.«01_k».proof.Proof.Gen.Kernel13Ideal.Value
public import proofs.«01_k».proof.Proof.Gen.Reference13Ideal.Run
public import Idealize.ShloMosaic.Lib.Pipeline.ReadBack
public import Idealize.ShloMosaic.Lib.Tactic
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.Kernel13Ideal.Product

open Cert.Kernel13Ideal Cert.Kernel13Ideal.Gen Cert.Kernel13Ideal.Value

variable (m : (ℓ : Loc nD τ sig) → Buf (Elt Ideal) ℓ)

/-- The accumulator starts at zero. -/
theorem zero_block (j) : k0_pay1 (F := Ideal) j = 0 := by
  unfold k0_pay1; simp only [pointwise]

/-- One grid point adds the product of its two blocks to the accumulator. -/
theorem step (x acc y) (j) : k0_pay2 (F := Ideal) x acc y j = acc j + MatProd.nn 2048 y x j := by
  unfold k0_pay2 MatProd.nn; simp only [pointwise, zero_add]

/-- The blocks that grid point `t` works on. -/
theorem idx : ∀ t : Fin grid0.N, win0_0.index t = ![t.val / 7, 0] ∧ win0_1.index t = ![0, t.val % 7]
    ∧ win0_2.index t = ![t.val / 7, t.val % 7] := by decide +kernel

/-- The result array is the whole product. -/
theorem result (c : Dev nD) : (dats m 0 c).arrAt 2 (cfgs 0).N
    = MatProd.nn 2048 (m ((c : Thread nD τ).loc main_arg0)) (m ((c : Thread nD τ).loc main_arg1)) := by
  refine (dats m 0 c).arrAt_eq_of_covers 2 _ (by decide +kernel) fun t hf y => ?_
  blk_simp
  rw [after0_2]; unfold outsAt0; frame_out
  rw [step, zero_block, zero_add]
  unfold MatProd.nn
  refine Fin.sum_fin_congr fun k => ?_
  obtain ⟨e0, e1, e2⟩ := idx t
  congr 1 <;> blk_ext [iblk, V, e0, e1, e2]

/-- The reference runs to its end and keeps its arguments. -/
theorem frame_reference : Cert.quiescent_Reference13Ideal := fun m ρ _ =>
  (θ_run Cert.Reference13Ideal.defs _ _).mono (fun r h => ⟨fun c => (h c).2, sem_eq_zero_of_no_sems (by decide) r.2⟩)
    (Cert.Reference13Ideal.Value.run (F := Ideal) m ρ)

/-- Kernel and reference leave the same array. -/
theorem algebraic : Cert.algebraic_Kernel13Ideal_Reference13Ideal := by
  intro m g m' g' _ hagree
  refine ⟨_, Cert.Kernel13Ideal.Value.run_blocks (F := Ideal) m g, ?_⟩
  refine (θ_run _ _ _).mono (fun r h c => ⟨(h c).1.trans ?_, (h c).2⟩) (Cert.Reference13Ideal.Value.run (F := Ideal) m' g')
  show _ = (dats m 0 c).arrAt 2 (cfgs 0).N
  rw [result, (hagree c).1, (hagree c).2]
  funext i
  unfold MatProd.nn
  simp only [pointwise, zero_add]

end Cert.Kernel13Ideal.Product

end
-- ==== Proof.Out.lean ====
/- The output projection. -/
module

public import proofs.«01_k».proof.Defs
public import proofs.«01_k».proof.Proof.MatProd
public import proofs.«01_k».proof.Proof.Gen.Kernel14Ideal.Value
public import proofs.«01_k».proof.Proof.Gen.Reference14Ideal.Run
public import Idealize.ShloMosaic.Lib.Pipeline.ReadBack
public import Idealize.ShloMosaic.Lib.Tactic
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.Kernel14Ideal.Product

open Cert.Kernel14Ideal Cert.Kernel14Ideal.Gen Cert.Kernel14Ideal.Value

variable (m : (ℓ : Loc nD τ sig) → Buf (Elt Ideal) ℓ)

/-- The accumulator starts at zero. -/
theorem zero_block (j) : k0_pay1 (F := Ideal) j = 0 := by
  unfold k0_pay1; simp only [pointwise]

/-- One grid point adds the product of its two blocks to the accumulator. -/
theorem step (x acc y) (j) : k0_pay2 (F := Ideal) x acc y j = acc j + MatProd.nn 2048 y x j := by
  unfold k0_pay2 MatProd.nn; simp only [pointwise, zero_add]

/-- The blocks that grid point `t` works on. -/
theorem idx : ∀ t : Fin grid0.N, win0_0.index t = ![t.val / 2, 0] ∧ win0_1.index t = ![0, t.val % 2]
    ∧ win0_2.index t = ![t.val / 2, t.val % 2] := by decide +kernel

/-- The result array is the whole product. -/
theorem result (c : Dev nD) : (dats m 0 c).arrAt 2 (cfgs 0).N
    = MatProd.nn 2048 (m ((c : Thread nD τ).loc main_arg0)) (m ((c : Thread nD τ).loc main_arg1)) := by
  refine (dats m 0 c).arrAt_eq_of_covers 2 _ (by decide +kernel) fun t hf y => ?_
  blk_simp
  rw [after0_2]; unfold outsAt0; frame_out
  rw [step, zero_block, zero_add]
  unfold MatProd.nn
  refine Fin.sum_fin_congr fun k => ?_
  obtain ⟨e0, e1, e2⟩ := idx t
  congr 1 <;> blk_ext [iblk, V, e0, e1, e2]

/-- The reference runs to its end and keeps its arguments. -/
theorem frame_reference : Cert.quiescent_Reference14Ideal := fun m ρ _ =>
  (θ_run Cert.Reference14Ideal.defs _ _).mono (fun r h => ⟨fun c => (h c).2, sem_eq_zero_of_no_sems (by decide) r.2⟩)
    (Cert.Reference14Ideal.Value.run (F := Ideal) m ρ)

/-- Kernel and reference leave the same array. -/
theorem algebraic : Cert.algebraic_Kernel14Ideal_Reference14Ideal := by
  intro m g m' g' _ hagree
  refine ⟨_, Cert.Kernel14Ideal.Value.run_blocks (F := Ideal) m g, ?_⟩
  refine (θ_run _ _ _).mono (fun r h c => ⟨(h c).1.trans ?_, (h c).2⟩) (Cert.Reference14Ideal.Value.run (F := Ideal) m' g')
  show _ = (dats m 0 c).arrAt 2 (cfgs 0).N
  rw [result, (hagree c).1, (hagree c).2]
  funext i
  unfold MatProd.nn
  simp only [pointwise, zero_add]

end Cert.Kernel14Ideal.Product

end
-- ==== Proof.Adam.lean ====
/- One AdamW step of one element over the extended reals: the moments' updates and the weight's change. -/
module

public import Idealize.ShloMosaic.Lib.Pipeline.ValueKit
public import Idealize.ShloMosaic.Lib.Pointwise

@[expose] public section

noncomputable section

open Idealize.ShloMosaic

namespace Adam

/-- The first moment: `0.9 m + 0.1 g`. -/
def first (g m : EReal) : EReal := Ideal.ofBits .f32 0x3F666666#32 * m + Ideal.ofBits .f32 0x3DCCCCCD#32 * g

/-- The second moment: `0.999 v + 0.001 g²`. -/
def second (g v : EReal) : EReal := Ideal.ofBits .f32 0x3F7FBE77#32 * v + Ideal.ofBits .f32 0x3A83126F#32 * (g * g)

/-- The weight's change: `-0.001 (first / 0.651 / (√(second / 0.00996) + 1e-8) + 0.01 w)`. -/
def delta (w g m v : EReal) : EReal :=
  Ideal.ofBits .f32 0xBA83126F#32
    * (Ideal.div (Ideal.div (first g m) (Ideal.ofBits .f32 0x3F26BD02#32))
        (Ideal.sqrt (Ideal.div (second g v) (Ideal.ofBits .f32 0x3C231ACC#32)) + Ideal.ofBits .f32 0x322BCC77#32)
      + Ideal.ofBits .f32 0x3C23D70A#32 * w)

/-- An element of a weight with its gradient and its two moments. -/
abbrev Four : Type := EReal × EReal × EReal × EReal

/-- Four arrays as one array of quadruples. -/
def quad {s : Shape} (w g m v : s.Idx → EReal) : s.Idx → Four := fun i => (w i, g i, m i, v i)

/-- A step from zeros leaves zeros. -/
theorem first_zero : first 0 0 = 0 := by simp [first]
theorem second_zero : second 0 0 = 0 := by simp [second]
theorem bias_first_ne : Ideal.ofBits .f32 0x3F26BD02#32 ≠ 0 := by simp [Ideal.ofBits, Ideal.ieee]
theorem bias_second_ne : Ideal.ofBits .f32 0x3C231ACC#32 ≠ 0 := by simp [Ideal.ofBits, Ideal.ieee]
theorem epsilon_ne : Ideal.ofBits .f32 0x322BCC77#32 ≠ 0 := by simp [Ideal.ofBits, Ideal.ieee]
theorem div_of_zero {y : EReal} (h : y ≠ 0) : Ideal.div 0 y = 0 := by simp [Ideal.div, h]
theorem sqrt_zero : Ideal.sqrt 0 = 0 := by
  show (if (0 : ℝ) < 0 then ⊥ else (Real.sqrt 0 : EReal)) = 0
  simp
theorem delta_zero : delta 0 0 0 0 = 0 := by
  unfold delta
  rw [first_zero, second_zero, div_of_zero bias_first_ne, div_of_zero bias_second_ne, sqrt_zero, zero_add, div_of_zero epsilon_ne]
  simp

/-- A concatenation of images, read along the pieces. -/
theorem concatenateAt_map {α β : Type} (f : α → β) (t : Shape) (a : Fin t.rank) (j : t.Idx) :
    ∀ (xs : List ((s : Shape) × (s.Idx → α))) (h h') (c : Nat) (hc hc'),
      concatenateAt t a j (xs.map fun p => ⟨p.1, fun i => f (p.2 i)⟩) h' c hc' = f (concatenateAt t a j xs h c hc)
  | [], _, _, _, hc, _ => absurd hc (Nat.not_lt_zero _)
  | [p], _, _, _, _, _ => rfl
  | p :: q :: xs, h, h', c, hc, hc' => by
    simp only [List.map_cons, concatenateAt]
    split
    · rfl
    · exact concatenateAt_map f t a j (q :: xs) _ _ _ _ _

/-- A concatenation of images is the image of the concatenation. -/
theorem concatenate_map {α β : Type} (f : α → β) (t : Shape) (a : Fin t.rank) (xs : List ((s : Shape) × (s.Idx → α)))
    (h : Shape.Concatenates (xs.map (·.1)) t a) (h') (j : t.Idx) :
    concatenate t a (xs.map fun p => ⟨p.1, fun i => f (p.2 i)⟩) h' j = f (concatenate t a xs h j) := by
  rw [concatenate_apply, concatenate_apply]; exact concatenateAt_map f t a j xs _ _ _ _ _

end Adam

end
-- ==== Proof.AdamWAda.lean ====
/- AdamW of `w_ada`. -/
module

public import proofs.«01_k».proof.Defs
public import proofs.«01_k».proof.Proof.Adam
public import proofs.«01_k».proof.Proof.Gen.Kernel15Ideal.Value
public import proofs.«01_k».proof.Proof.Gen.Reference15Ideal.Run
public import Idealize.ShloMosaic.Lib.Tactic
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.Kernel15Ideal.Product

open Cert.Kernel15Ideal Cert.Kernel15Ideal.Gen Cert.Kernel15Ideal.Value

variable (m : (ℓ : Loc nD τ sig) → Buf (Elt Ideal) ℓ)

/-- A block's first moments. -/
theorem pay_first (g m) (j) : k0_pay2 (F := Ideal) g m j = Adam.first (g j) (m j) := by
  unfold k0_pay2 Adam.first; simp only [pointwise]

/-- A block's second moments. -/
theorem pay_second (g v) (j) : k0_pay3 (F := Ideal) g v j = Adam.second (g j) (v j) := by
  unfold k0_pay3 Adam.second; simp only [pointwise]

/-- A block's changes of the weight. -/
theorem pay_delta (g m v w) (j) : k0_pay1 (k0_pay4 (F := Ideal) g m v w) k0_pay5 j = Adam.delta (w j) (g j) (m j) (v j) := by
  unfold k0_pay1 k0_pay4 k0_pay5 Adam.delta; simp only [pointwise, pay_first, pay_second]

/-- Every window moves with the first result's window. -/
theorem idx : ∀ t : Fin grid0.N, win0_0.index t = win0_4.index t ∧ win0_1.index t = win0_4.index t
    ∧ win0_2.index t = win0_4.index t ∧ win0_3.index t = win0_4.index t
    ∧ win0_5.index t = win0_4.index t ∧ win0_6.index t = win0_4.index t := by decide +kernel

/-- The array of changes of the weight. -/
theorem result_delta (c : Dev nD) : (dats m 0 c).arrAt 4 (cfgs 0).N
    = fun i => Adam.delta (m ((c : Thread nD τ).loc main_arg0) i) (m ((c : Thread nD τ).loc main_arg1) i) (m ((c : Thread nD τ).loc main_arg2) i) (m ((c : Thread nD τ).loc main_arg3) i) := by
  refine (dats m 0 c).arrAt_eq_of_covers 4 _ (by decide +kernel) fun t hf y => ?_
  obtain ⟨e0, e1, e2, e3, e5, e6⟩ := idx t
  blk_simp
  rw [after0_4]; unfold out0_4; frame_out
  rw [pay_delta]
  congr 1 <;> blk_ext [iblk, V, e0, e1, e2, e3, e5, e6]

/-- The array of first moments. -/
theorem result_first (c : Dev nD) : (dats m 0 c).arrAt 5 (cfgs 0).N
    = fun i => Adam.first (m ((c : Thread nD τ).loc main_arg1) i) (m ((c : Thread nD τ).loc main_arg2) i) := by
  refine (dats m 0 c).arrAt_eq_of_covers 5 _ (by decide +kernel) fun t hf y => ?_
  obtain ⟨e0, e1, e2, e3, e5, e6⟩ := idx t
  blk_simp
  rw [after0_5]; unfold out0_5; frame_out
  rw [pay_first]
  congr 1 <;> blk_ext [iblk, V, e0, e1, e2, e3, e5, e6]

/-- The array of second moments. -/
theorem result_second (c : Dev nD) : (dats m 0 c).arrAt 6 (cfgs 0).N
    = fun i => Adam.second (m ((c : Thread nD τ).loc main_arg1) i) (m ((c : Thread nD τ).loc main_arg3) i) := by
  refine (dats m 0 c).arrAt_eq_of_covers 6 _ (by decide +kernel) fun t hf y => ?_
  obtain ⟨e0, e1, e2, e3, e5, e6⟩ := idx t
  blk_simp
  rw [after0_6]; unfold out0_6; frame_out
  rw [pay_second]
  congr 1 <;> blk_ext [iblk, V, e0, e1, e2, e3, e5, e6]

/-- The reference runs to its end and keeps its arguments. -/
theorem frame_reference : Cert.quiescent_Reference15Ideal := fun m ρ _ =>
  (θ_run Cert.Reference15Ideal.defs _ _).mono (fun r h => ⟨fun c => (h c).2.2.2, sem_eq_zero_of_no_sems (by decide) r.2⟩)
    (Cert.Reference15Ideal.Value.run (F := Ideal) m ρ)

/-- Kernel and reference leave the same three arrays. -/
theorem algebraic : Cert.algebraic_Kernel15Ideal_Reference15Ideal := by
  intro m g m' g' _ hagree
  refine ⟨_, _, _, Cert.Kernel15Ideal.Value.run_blocks (F := Ideal) m g, ?_⟩
  refine (θ_run _ _ _).mono (fun r h c => ⟨(h c).1.trans ?_, (h c).2.1.trans ?_, (h c).2.2.1.trans ?_, (h c).2.2.2⟩)
    (Cert.Reference15Ideal.Value.run (F := Ideal) m' g')
  · show _ = (dats m 0 c).arrAt 4 (cfgs 0).N
    rw [result_delta, (hagree c).1, (hagree c).2.1, (hagree c).2.2.1, (hagree c).2.2.2]
    funext i
    unfold Adam.delta Adam.first Adam.second
    simp only [pointwise]
  · show _ = (dats m 0 c).arrAt 5 (cfgs 0).N
    rw [result_first, (hagree c).2.1, (hagree c).2.2.1]
    funext i
    unfold Adam.first
    simp only [pointwise]
  · show _ = (dats m 0 c).arrAt 6 (cfgs 0).N
    rw [result_second, (hagree c).2.1, (hagree c).2.2.2]
    funext i
    unfold Adam.second
    simp only [pointwise]

end Cert.Kernel15Ideal.Product

end
-- ==== Proof.AdamWIn.lean ====
/- AdamW of `w_in`. -/
module

public import proofs.«01_k».proof.Defs
public import proofs.«01_k».proof.Proof.Adam
public import proofs.«01_k».proof.Proof.Gen.Kernel16Ideal.Value
public import proofs.«01_k».proof.Proof.Gen.Reference16Ideal.Run
public import Idealize.ShloMosaic.Lib.Tactic
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.Kernel16Ideal.Product

open Cert.Kernel16Ideal Cert.Kernel16Ideal.Gen Cert.Kernel16Ideal.Value

variable (m : (ℓ : Loc nD τ sig) → Buf (Elt Ideal) ℓ)

/-- A block's first moments. -/
theorem pay_first (g m) (j) : k0_pay2 (F := Ideal) g m j = Adam.first (g j) (m j) := by
  unfold k0_pay2 Adam.first; simp only [pointwise]

/-- A block's second moments. -/
theorem pay_second (g v) (j) : k0_pay3 (F := Ideal) g v j = Adam.second (g j) (v j) := by
  unfold k0_pay3 Adam.second; simp only [pointwise]

/-- A block's changes of the weight. -/
theorem pay_delta (g m v w) (j) : k0_pay1 (k0_pay4 (F := Ideal) g m v w) k0_pay5 j = Adam.delta (w j) (g j) (m j) (v j) := by
  unfold k0_pay1 k0_pay4 k0_pay5 Adam.delta; simp only [pointwise, pay_first, pay_second]

/-- Every window moves with the first result's window. -/
theorem idx : ∀ t : Fin grid0.N, win0_0.index t = win0_4.index t ∧ win0_1.index t = win0_4.index t
    ∧ win0_2.index t = win0_4.index t ∧ win0_3.index t = win0_4.index t
    ∧ win0_5.index t = win0_4.index t ∧ win0_6.index t = win0_4.index t := by decide +kernel

/-- The array of changes of the weight. -/
theorem result_delta (c : Dev nD) : (dats m 0 c).arrAt 4 (cfgs 0).N
    = fun i => Adam.delta (m ((c : Thread nD τ).loc main_arg0) i) (m ((c : Thread nD τ).loc main_arg1) i) (m ((c : Thread nD τ).loc main_arg2) i) (m ((c : Thread nD τ).loc main_arg3) i) := by
  refine (dats m 0 c).arrAt_eq_of_covers 4 _ (by decide +kernel) fun t hf y => ?_
  obtain ⟨e0, e1, e2, e3, e5, e6⟩ := idx t
  blk_simp
  rw [after0_4]; unfold out0_4; frame_out
  rw [pay_delta]
  congr 1 <;> blk_ext [iblk, V, e0, e1, e2, e3, e5, e6]

/-- The array of first moments. -/
theorem result_first (c : Dev nD) : (dats m 0 c).arrAt 5 (cfgs 0).N
    = fun i => Adam.first (m ((c : Thread nD τ).loc main_arg1) i) (m ((c : Thread nD τ).loc main_arg2) i) := by
  refine (dats m 0 c).arrAt_eq_of_covers 5 _ (by decide +kernel) fun t hf y => ?_
  obtain ⟨e0, e1, e2, e3, e5, e6⟩ := idx t
  blk_simp
  rw [after0_5]; unfold out0_5; frame_out
  rw [pay_first]
  congr 1 <;> blk_ext [iblk, V, e0, e1, e2, e3, e5, e6]

/-- The array of second moments. -/
theorem result_second (c : Dev nD) : (dats m 0 c).arrAt 6 (cfgs 0).N
    = fun i => Adam.second (m ((c : Thread nD τ).loc main_arg1) i) (m ((c : Thread nD τ).loc main_arg3) i) := by
  refine (dats m 0 c).arrAt_eq_of_covers 6 _ (by decide +kernel) fun t hf y => ?_
  obtain ⟨e0, e1, e2, e3, e5, e6⟩ := idx t
  blk_simp
  rw [after0_6]; unfold out0_6; frame_out
  rw [pay_second]
  congr 1 <;> blk_ext [iblk, V, e0, e1, e2, e3, e5, e6]

/-- The reference runs to its end and keeps its arguments. -/
theorem frame_reference : Cert.quiescent_Reference16Ideal := fun m ρ _ =>
  (θ_run Cert.Reference16Ideal.defs _ _).mono (fun r h => ⟨fun c => (h c).2.2.2, sem_eq_zero_of_no_sems (by decide) r.2⟩)
    (Cert.Reference16Ideal.Value.run (F := Ideal) m ρ)

/-- Kernel and reference leave the same three arrays. -/
theorem algebraic : Cert.algebraic_Kernel16Ideal_Reference16Ideal := by
  intro m g m' g' _ hagree
  refine ⟨_, _, _, Cert.Kernel16Ideal.Value.run_blocks (F := Ideal) m g, ?_⟩
  refine (θ_run _ _ _).mono (fun r h c => ⟨(h c).1.trans ?_, (h c).2.1.trans ?_, (h c).2.2.1.trans ?_, (h c).2.2.2⟩)
    (Cert.Reference16Ideal.Value.run (F := Ideal) m' g')
  · show _ = (dats m 0 c).arrAt 4 (cfgs 0).N
    rw [result_delta, (hagree c).1, (hagree c).2.1, (hagree c).2.2.1, (hagree c).2.2.2]
    funext i
    unfold Adam.delta Adam.first Adam.second
    simp only [pointwise]
  · show _ = (dats m 0 c).arrAt 5 (cfgs 0).N
    rw [result_first, (hagree c).2.1, (hagree c).2.2.1]
    funext i
    unfold Adam.first
    simp only [pointwise]
  · show _ = (dats m 0 c).arrAt 6 (cfgs 0).N
    rw [result_second, (hagree c).2.1, (hagree c).2.2.2]
    funext i
    unfold Adam.second
    simp only [pointwise]

end Cert.Kernel16Ideal.Product

end
-- ==== Proof.AdamWPw2.lean ====
/- AdamW of `w_pw2`. -/
module

public import proofs.«01_k».proof.Defs
public import proofs.«01_k».proof.Proof.Adam
public import proofs.«01_k».proof.Proof.Gen.Kernel17Ideal.Value
public import proofs.«01_k».proof.Proof.Gen.Reference17Ideal.Run
public import Idealize.ShloMosaic.Lib.Tactic
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.Kernel17Ideal.Product

open Cert.Kernel17Ideal Cert.Kernel17Ideal.Gen Cert.Kernel17Ideal.Value

variable (m : (ℓ : Loc nD τ sig) → Buf (Elt Ideal) ℓ)

/-- A block's first moments. -/
theorem pay_first (g m) (j) : k0_pay2 (F := Ideal) g m j = Adam.first (g j) (m j) := by
  unfold k0_pay2 Adam.first; simp only [pointwise]

/-- A block's second moments. -/
theorem pay_second (g v) (j) : k0_pay3 (F := Ideal) g v j = Adam.second (g j) (v j) := by
  unfold k0_pay3 Adam.second; simp only [pointwise]

/-- A block's changes of the weight. -/
theorem pay_delta (g m v w) (j) : k0_pay1 (k0_pay4 (F := Ideal) g m v w) k0_pay5 j = Adam.delta (w j) (g j) (m j) (v j) := by
  unfold k0_pay1 k0_pay4 k0_pay5 Adam.delta; simp only [pointwise, pay_first, pay_second]

/-- Every window moves with the first result's window. -/
theorem idx : ∀ t : Fin grid0.N, win0_0.index t = win0_4.index t ∧ win0_1.index t = win0_4.index t
    ∧ win0_2.index t = win0_4.index t ∧ win0_3.index t = win0_4.index t
    ∧ win0_5.index t = win0_4.index t ∧ win0_6.index t = win0_4.index t := by decide +kernel

/-- The array of changes of the weight. -/
theorem result_delta (c : Dev nD) : (dats m 0 c).arrAt 4 (cfgs 0).N
    = fun i => Adam.delta (m ((c : Thread nD τ).loc main_arg0) i) (m ((c : Thread nD τ).loc main_arg1) i) (m ((c : Thread nD τ).loc main_arg2) i) (m ((c : Thread nD τ).loc main_arg3) i) := by
  refine (dats m 0 c).arrAt_eq_of_covers 4 _ (by decide +kernel) fun t hf y => ?_
  obtain ⟨e0, e1, e2, e3, e5, e6⟩ := idx t
  blk_simp
  rw [after0_4]; unfold out0_4; frame_out
  rw [pay_delta]
  congr 1 <;> blk_ext [iblk, V, e0, e1, e2, e3, e5, e6]

/-- The array of first moments. -/
theorem result_first (c : Dev nD) : (dats m 0 c).arrAt 5 (cfgs 0).N
    = fun i => Adam.first (m ((c : Thread nD τ).loc main_arg1) i) (m ((c : Thread nD τ).loc main_arg2) i) := by
  refine (dats m 0 c).arrAt_eq_of_covers 5 _ (by decide +kernel) fun t hf y => ?_
  obtain ⟨e0, e1, e2, e3, e5, e6⟩ := idx t
  blk_simp
  rw [after0_5]; unfold out0_5; frame_out
  rw [pay_first]
  congr 1 <;> blk_ext [iblk, V, e0, e1, e2, e3, e5, e6]

/-- The array of second moments. -/
theorem result_second (c : Dev nD) : (dats m 0 c).arrAt 6 (cfgs 0).N
    = fun i => Adam.second (m ((c : Thread nD τ).loc main_arg1) i) (m ((c : Thread nD τ).loc main_arg3) i) := by
  refine (dats m 0 c).arrAt_eq_of_covers 6 _ (by decide +kernel) fun t hf y => ?_
  obtain ⟨e0, e1, e2, e3, e5, e6⟩ := idx t
  blk_simp
  rw [after0_6]; unfold out0_6; frame_out
  rw [pay_second]
  congr 1 <;> blk_ext [iblk, V, e0, e1, e2, e3, e5, e6]

/-- The reference runs to its end and keeps its arguments. -/
theorem frame_reference : Cert.quiescent_Reference17Ideal := fun m ρ _ =>
  (θ_run Cert.Reference17Ideal.defs _ _).mono (fun r h => ⟨fun c => (h c).2.2.2, sem_eq_zero_of_no_sems (by decide) r.2⟩)
    (Cert.Reference17Ideal.Value.run (F := Ideal) m ρ)

/-- Kernel and reference leave the same three arrays. -/
theorem algebraic : Cert.algebraic_Kernel17Ideal_Reference17Ideal := by
  intro m g m' g' _ hagree
  refine ⟨_, _, _, Cert.Kernel17Ideal.Value.run_blocks (F := Ideal) m g, ?_⟩
  refine (θ_run _ _ _).mono (fun r h c => ⟨(h c).1.trans ?_, (h c).2.1.trans ?_, (h c).2.2.1.trans ?_, (h c).2.2.2⟩)
    (Cert.Reference17Ideal.Value.run (F := Ideal) m' g')
  · show _ = (dats m 0 c).arrAt 4 (cfgs 0).N
    rw [result_delta, (hagree c).1, (hagree c).2.1, (hagree c).2.2.1, (hagree c).2.2.2]
    funext i
    unfold Adam.delta Adam.first Adam.second
    simp only [pointwise]
  · show _ = (dats m 0 c).arrAt 5 (cfgs 0).N
    rw [result_first, (hagree c).2.1, (hagree c).2.2.1]
    funext i
    unfold Adam.first
    simp only [pointwise]
  · show _ = (dats m 0 c).arrAt 6 (cfgs 0).N
    rw [result_second, (hagree c).2.1, (hagree c).2.2.2]
    funext i
    unfold Adam.second
    simp only [pointwise]

end Cert.Kernel17Ideal.Product

end
-- ==== Proof.AdamWOut.lean ====
/- AdamW of `w_out`. -/
module

public import proofs.«01_k».proof.Defs
public import proofs.«01_k».proof.Proof.Adam
public import proofs.«01_k».proof.Proof.Gen.Kernel18Ideal.Value
public import proofs.«01_k».proof.Proof.Gen.Reference18Ideal.Run
public import Idealize.ShloMosaic.Lib.Tactic
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.Kernel18Ideal.Product

open Cert.Kernel18Ideal Cert.Kernel18Ideal.Gen Cert.Kernel18Ideal.Value

variable (m : (ℓ : Loc nD τ sig) → Buf (Elt Ideal) ℓ)

/-- A block's first moments. -/
theorem pay_first (g m) (j) : k0_pay2 (F := Ideal) g m j = Adam.first (g j) (m j) := by
  unfold k0_pay2 Adam.first; simp only [pointwise]

/-- A block's second moments. -/
theorem pay_second (g v) (j) : k0_pay3 (F := Ideal) g v j = Adam.second (g j) (v j) := by
  unfold k0_pay3 Adam.second; simp only [pointwise]

/-- A block's changes of the weight. -/
theorem pay_delta (g m v w) (j) : k0_pay1 (k0_pay4 (F := Ideal) g m v w) k0_pay5 j = Adam.delta (w j) (g j) (m j) (v j) := by
  unfold k0_pay1 k0_pay4 k0_pay5 Adam.delta; simp only [pointwise, pay_first, pay_second]

/-- Every window moves with the first result's window. -/
theorem idx : ∀ t : Fin grid0.N, win0_0.index t = win0_4.index t ∧ win0_1.index t = win0_4.index t
    ∧ win0_2.index t = win0_4.index t ∧ win0_3.index t = win0_4.index t
    ∧ win0_5.index t = win0_4.index t ∧ win0_6.index t = win0_4.index t := by decide +kernel

/-- The array of changes of the weight. -/
theorem result_delta (c : Dev nD) : (dats m 0 c).arrAt 4 (cfgs 0).N
    = fun i => Adam.delta (m ((c : Thread nD τ).loc main_arg0) i) (m ((c : Thread nD τ).loc main_arg1) i) (m ((c : Thread nD τ).loc main_arg2) i) (m ((c : Thread nD τ).loc main_arg3) i) := by
  refine (dats m 0 c).arrAt_eq_of_covers 4 _ (by decide +kernel) fun t hf y => ?_
  obtain ⟨e0, e1, e2, e3, e5, e6⟩ := idx t
  blk_simp
  rw [after0_4]; unfold out0_4; frame_out
  rw [pay_delta]
  congr 1 <;> blk_ext [iblk, V, e0, e1, e2, e3, e5, e6]

/-- The array of first moments. -/
theorem result_first (c : Dev nD) : (dats m 0 c).arrAt 5 (cfgs 0).N
    = fun i => Adam.first (m ((c : Thread nD τ).loc main_arg1) i) (m ((c : Thread nD τ).loc main_arg2) i) := by
  refine (dats m 0 c).arrAt_eq_of_covers 5 _ (by decide +kernel) fun t hf y => ?_
  obtain ⟨e0, e1, e2, e3, e5, e6⟩ := idx t
  blk_simp
  rw [after0_5]; unfold out0_5; frame_out
  rw [pay_first]
  congr 1 <;> blk_ext [iblk, V, e0, e1, e2, e3, e5, e6]

/-- The array of second moments. -/
theorem result_second (c : Dev nD) : (dats m 0 c).arrAt 6 (cfgs 0).N
    = fun i => Adam.second (m ((c : Thread nD τ).loc main_arg1) i) (m ((c : Thread nD τ).loc main_arg3) i) := by
  refine (dats m 0 c).arrAt_eq_of_covers 6 _ (by decide +kernel) fun t hf y => ?_
  obtain ⟨e0, e1, e2, e3, e5, e6⟩ := idx t
  blk_simp
  rw [after0_6]; unfold out0_6; frame_out
  rw [pay_second]
  congr 1 <;> blk_ext [iblk, V, e0, e1, e2, e3, e5, e6]

/-- The reference runs to its end and keeps its arguments. -/
theorem frame_reference : Cert.quiescent_Reference18Ideal := fun m ρ _ =>
  (θ_run Cert.Reference18Ideal.defs _ _).mono (fun r h => ⟨fun c => (h c).2.2.2, sem_eq_zero_of_no_sems (by decide) r.2⟩)
    (Cert.Reference18Ideal.Value.run (F := Ideal) m ρ)

/-- Kernel and reference leave the same three arrays. -/
theorem algebraic : Cert.algebraic_Kernel18Ideal_Reference18Ideal := by
  intro m g m' g' _ hagree
  refine ⟨_, _, _, Cert.Kernel18Ideal.Value.run_blocks (F := Ideal) m g, ?_⟩
  refine (θ_run _ _ _).mono (fun r h c => ⟨(h c).1.trans ?_, (h c).2.1.trans ?_, (h c).2.2.1.trans ?_, (h c).2.2.2⟩)
    (Cert.Reference18Ideal.Value.run (F := Ideal) m' g')
  · show _ = (dats m 0 c).arrAt 4 (cfgs 0).N
    rw [result_delta, (hagree c).1, (hagree c).2.1, (hagree c).2.2.1, (hagree c).2.2.2]
    funext i
    unfold Adam.delta Adam.first Adam.second
    simp only [pointwise]
  · show _ = (dats m 0 c).arrAt 5 (cfgs 0).N
    rw [result_first, (hagree c).2.1, (hagree c).2.2.1]
    funext i
    unfold Adam.first
    simp only [pointwise]
  · show _ = (dats m 0 c).arrAt 6 (cfgs 0).N
    rw [result_second, (hagree c).2.1, (hagree c).2.2.2]
    funext i
    unfold Adam.second
    simp only [pointwise]

end Cert.Kernel18Ideal.Product

end
-- ==== Proof.AdamWUp.lean ====
/- AdamW of `w_up`. -/
module

public import proofs.«01_k».proof.Defs
public import proofs.«01_k».proof.Proof.Adam
public import proofs.«01_k».proof.Proof.Gen.Kernel19Ideal.Value
public import proofs.«01_k».proof.Proof.Gen.Reference19Ideal.Run
public import Idealize.ShloMosaic.Lib.Tactic
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.Kernel19Ideal.Product

open Cert.Kernel19Ideal Cert.Kernel19Ideal.Gen Cert.Kernel19Ideal.Value

variable (m : (ℓ : Loc nD τ sig) → Buf (Elt Ideal) ℓ)

/-- A block's first moments. -/
theorem pay_first (g m) (j) : k0_pay2 (F := Ideal) g m j = Adam.first (g j) (m j) := by
  unfold k0_pay2 Adam.first; simp only [pointwise]

/-- A block's second moments. -/
theorem pay_second (g v) (j) : k0_pay3 (F := Ideal) g v j = Adam.second (g j) (v j) := by
  unfold k0_pay3 Adam.second; simp only [pointwise]

/-- A block's changes of the weight. -/
theorem pay_delta (g m v w) (j) : k0_pay1 (k0_pay4 (F := Ideal) g m v w) k0_pay5 j = Adam.delta (w j) (g j) (m j) (v j) := by
  unfold k0_pay1 k0_pay4 k0_pay5 Adam.delta; simp only [pointwise, pay_first, pay_second]

/-- Every window moves with the first result's window. -/
theorem idx : ∀ t : Fin grid0.N, win0_0.index t = win0_4.index t ∧ win0_1.index t = win0_4.index t
    ∧ win0_2.index t = win0_4.index t ∧ win0_3.index t = win0_4.index t
    ∧ win0_5.index t = win0_4.index t ∧ win0_6.index t = win0_4.index t := by decide +kernel

/-- The array of changes of the weight. -/
theorem result_delta (c : Dev nD) : (dats m 0 c).arrAt 4 (cfgs 0).N
    = fun i => Adam.delta (m ((c : Thread nD τ).loc main_arg0) i) (m ((c : Thread nD τ).loc main_arg1) i) (m ((c : Thread nD τ).loc main_arg2) i) (m ((c : Thread nD τ).loc main_arg3) i) := by
  refine (dats m 0 c).arrAt_eq_of_covers 4 _ (by decide +kernel) fun t hf y => ?_
  obtain ⟨e0, e1, e2, e3, e5, e6⟩ := idx t
  blk_simp
  rw [after0_4]; unfold out0_4; frame_out
  rw [pay_delta]
  congr 1 <;> blk_ext [iblk, V, e0, e1, e2, e3, e5, e6]

/-- The array of first moments. -/
theorem result_first (c : Dev nD) : (dats m 0 c).arrAt 5 (cfgs 0).N
    = fun i => Adam.first (m ((c : Thread nD τ).loc main_arg1) i) (m ((c : Thread nD τ).loc main_arg2) i) := by
  refine (dats m 0 c).arrAt_eq_of_covers 5 _ (by decide +kernel) fun t hf y => ?_
  obtain ⟨e0, e1, e2, e3, e5, e6⟩ := idx t
  blk_simp
  rw [after0_5]; unfold out0_5; frame_out
  rw [pay_first]
  congr 1 <;> blk_ext [iblk, V, e0, e1, e2, e3, e5, e6]

/-- The array of second moments. -/
theorem result_second (c : Dev nD) : (dats m 0 c).arrAt 6 (cfgs 0).N
    = fun i => Adam.second (m ((c : Thread nD τ).loc main_arg1) i) (m ((c : Thread nD τ).loc main_arg3) i) := by
  refine (dats m 0 c).arrAt_eq_of_covers 6 _ (by decide +kernel) fun t hf y => ?_
  obtain ⟨e0, e1, e2, e3, e5, e6⟩ := idx t
  blk_simp
  rw [after0_6]; unfold out0_6; frame_out
  rw [pay_second]
  congr 1 <;> blk_ext [iblk, V, e0, e1, e2, e3, e5, e6]

/-- The reference runs to its end and keeps its arguments. -/
theorem frame_reference : Cert.quiescent_Reference19Ideal := fun m ρ _ =>
  (θ_run Cert.Reference19Ideal.defs _ _).mono (fun r h => ⟨fun c => (h c).2.2.2, sem_eq_zero_of_no_sems (by decide) r.2⟩)
    (Cert.Reference19Ideal.Value.run (F := Ideal) m ρ)

/-- Kernel and reference leave the same three arrays. -/
theorem algebraic : Cert.algebraic_Kernel19Ideal_Reference19Ideal := by
  intro m g m' g' _ hagree
  refine ⟨_, _, _, Cert.Kernel19Ideal.Value.run_blocks (F := Ideal) m g, ?_⟩
  refine (θ_run _ _ _).mono (fun r h c => ⟨(h c).1.trans ?_, (h c).2.1.trans ?_, (h c).2.2.1.trans ?_, (h c).2.2.2⟩)
    (Cert.Reference19Ideal.Value.run (F := Ideal) m' g')
  · show _ = (dats m 0 c).arrAt 4 (cfgs 0).N
    rw [result_delta, (hagree c).1, (hagree c).2.1, (hagree c).2.2.1, (hagree c).2.2.2]
    funext i
    unfold Adam.delta Adam.first Adam.second
    simp only [pointwise]
  · show _ = (dats m 0 c).arrAt 5 (cfgs 0).N
    rw [result_first, (hagree c).2.1, (hagree c).2.2.1]
    funext i
    unfold Adam.first
    simp only [pointwise]
  · show _ = (dats m 0 c).arrAt 6 (cfgs 0).N
    rw [result_second, (hagree c).2.1, (hagree c).2.2.2]
    funext i
    unfold Adam.second
    simp only [pointwise]

end Cert.Kernel19Ideal.Product

end
-- ==== Proof.AdamWDown.lean ====
/- AdamW of `w_down`. -/
module

public import proofs.«01_k».proof.Defs
public import proofs.«01_k».proof.Proof.Adam
public import proofs.«01_k».proof.Proof.Gen.Kernel20Ideal.Value
public import proofs.«01_k».proof.Proof.Gen.Reference20Ideal.Run
public import Idealize.ShloMosaic.Lib.Tactic
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.Kernel20Ideal.Product

open Cert.Kernel20Ideal Cert.Kernel20Ideal.Gen Cert.Kernel20Ideal.Value

variable (m : (ℓ : Loc nD τ sig) → Buf (Elt Ideal) ℓ)

/-- A block's first moments. -/
theorem pay_first (g m) (j) : k0_pay2 (F := Ideal) g m j = Adam.first (g j) (m j) := by
  unfold k0_pay2 Adam.first; simp only [pointwise]

/-- A block's second moments. -/
theorem pay_second (g v) (j) : k0_pay3 (F := Ideal) g v j = Adam.second (g j) (v j) := by
  unfold k0_pay3 Adam.second; simp only [pointwise]

/-- A block's changes of the weight. -/
theorem pay_delta (g m v w) (j) : k0_pay1 (k0_pay4 (F := Ideal) g m v w) k0_pay5 j = Adam.delta (w j) (g j) (m j) (v j) := by
  unfold k0_pay1 k0_pay4 k0_pay5 Adam.delta; simp only [pointwise, pay_first, pay_second]

/-- Every window moves with the first result's window. -/
theorem idx : ∀ t : Fin grid0.N, win0_0.index t = win0_4.index t ∧ win0_1.index t = win0_4.index t
    ∧ win0_2.index t = win0_4.index t ∧ win0_3.index t = win0_4.index t
    ∧ win0_5.index t = win0_4.index t ∧ win0_6.index t = win0_4.index t := by decide +kernel

/-- The array of changes of the weight. -/
theorem result_delta (c : Dev nD) : (dats m 0 c).arrAt 4 (cfgs 0).N
    = fun i => Adam.delta (m ((c : Thread nD τ).loc main_arg0) i) (m ((c : Thread nD τ).loc main_arg1) i) (m ((c : Thread nD τ).loc main_arg2) i) (m ((c : Thread nD τ).loc main_arg3) i) := by
  refine (dats m 0 c).arrAt_eq_of_covers 4 _ (by decide +kernel) fun t hf y => ?_
  obtain ⟨e0, e1, e2, e3, e5, e6⟩ := idx t
  blk_simp
  rw [after0_4]; unfold out0_4; frame_out
  rw [pay_delta]
  congr 1 <;> blk_ext [iblk, V, e0, e1, e2, e3, e5, e6]

/-- The array of first moments. -/
theorem result_first (c : Dev nD) : (dats m 0 c).arrAt 5 (cfgs 0).N
    = fun i => Adam.first (m ((c : Thread nD τ).loc main_arg1) i) (m ((c : Thread nD τ).loc main_arg2) i) := by
  refine (dats m 0 c).arrAt_eq_of_covers 5 _ (by decide +kernel) fun t hf y => ?_
  obtain ⟨e0, e1, e2, e3, e5, e6⟩ := idx t
  blk_simp
  rw [after0_5]; unfold out0_5; frame_out
  rw [pay_first]
  congr 1 <;> blk_ext [iblk, V, e0, e1, e2, e3, e5, e6]

/-- The array of second moments. -/
theorem result_second (c : Dev nD) : (dats m 0 c).arrAt 6 (cfgs 0).N
    = fun i => Adam.second (m ((c : Thread nD τ).loc main_arg1) i) (m ((c : Thread nD τ).loc main_arg3) i) := by
  refine (dats m 0 c).arrAt_eq_of_covers 6 _ (by decide +kernel) fun t hf y => ?_
  obtain ⟨e0, e1, e2, e3, e5, e6⟩ := idx t
  blk_simp
  rw [after0_6]; unfold out0_6; frame_out
  rw [pay_second]
  congr 1 <;> blk_ext [iblk, V, e0, e1, e2, e3, e5, e6]

/-- The reference runs to its end and keeps its arguments. -/
theorem frame_reference : Cert.quiescent_Reference20Ideal := fun m ρ _ =>
  (θ_run Cert.Reference20Ideal.defs _ _).mono (fun r h => ⟨fun c => (h c).2.2.2, sem_eq_zero_of_no_sems (by decide) r.2⟩)
    (Cert.Reference20Ideal.Value.run (F := Ideal) m ρ)

/-- Kernel and reference leave the same three arrays. -/
theorem algebraic : Cert.algebraic_Kernel20Ideal_Reference20Ideal := by
  intro m g m' g' _ hagree
  refine ⟨_, _, _, Cert.Kernel20Ideal.Value.run_blocks (F := Ideal) m g, ?_⟩
  refine (θ_run _ _ _).mono (fun r h c => ⟨(h c).1.trans ?_, (h c).2.1.trans ?_, (h c).2.2.1.trans ?_, (h c).2.2.2⟩)
    (Cert.Reference20Ideal.Value.run (F := Ideal) m' g')
  · show _ = (dats m 0 c).arrAt 4 (cfgs 0).N
    rw [result_delta, (hagree c).1, (hagree c).2.1, (hagree c).2.2.1, (hagree c).2.2.2]
    funext i
    unfold Adam.delta Adam.first Adam.second
    simp only [pointwise]
  · show _ = (dats m 0 c).arrAt 5 (cfgs 0).N
    rw [result_first, (hagree c).2.1, (hagree c).2.2.1]
    funext i
    unfold Adam.first
    simp only [pointwise]
  · show _ = (dats m 0 c).arrAt 6 (cfgs 0).N
    rw [result_second, (hagree c).2.1, (hagree c).2.2.2]
    funext i
    unfold Adam.second
    simp only [pointwise]

end Cert.Kernel20Ideal.Product

end
-- ==== Proof.AdamWFinal.lean ====
/- AdamW of `final_ada_w`. -/
module

public import proofs.«01_k».proof.Defs
public import proofs.«01_k».proof.Proof.Adam
public import proofs.«01_k».proof.Proof.Gen.Kernel21Ideal.Value
public import proofs.«01_k».proof.Proof.Gen.Reference21Ideal.Run
public import Idealize.ShloMosaic.Lib.Tactic
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.Kernel21Ideal.Product

open Cert.Kernel21Ideal Cert.Kernel21Ideal.Gen Cert.Kernel21Ideal.Value

variable (m : (ℓ : Loc nD τ sig) → Buf (Elt Ideal) ℓ)

/-- A block's first moments. -/
theorem pay_first (g m) (j) : k0_pay3 (F := Ideal) g m j = Adam.first (g j) (m j) := by
  unfold k0_pay3 k0_pay2 Adam.first; simp only [pointwise, shapeCast_self]

/-- A block's second moments. -/
theorem pay_second (g v) (j) : k0_pay4 (F := Ideal) g v j = Adam.second (g j) (v j) := by
  unfold k0_pay4 k0_pay2 Adam.second; simp only [pointwise, shapeCast_self]

/-- A block's changes of the weight. -/
theorem pay_delta (g m v w) (j) : k0_pay1 (k0_pay5 (F := Ideal) g m v) (k0_pay6 w) k0_pay7 j = Adam.delta (w j) (g j) (m j) (v j) := by
  unfold k0_pay1 k0_pay5 k0_pay6 k0_pay7 Adam.delta; simp only [pointwise, pay_first, pay_second, shapeCast_self]

/-- Every window moves with the first result's window. -/
theorem idx : ∀ t : Fin grid0.N, win0_0.index t = win0_4.index t ∧ win0_1.index t = win0_4.index t
    ∧ win0_2.index t = win0_4.index t ∧ win0_3.index t = win0_4.index t
    ∧ win0_5.index t = win0_4.index t ∧ win0_6.index t = win0_4.index t := by decide +kernel

/-- The array of changes of the weight. -/
theorem result_delta (c : Dev nD) : (dats m 0 c).arrAt 4 (cfgs 0).N
    = fun i => Adam.delta (V m c main_v0 i) (V m c main_v1 i) (V m c main_v2 i) (V m c main_v3 i) := by
  refine (dats m 0 c).arrAt_eq_of_covers 4 _ (by decide +kernel) fun t hf y => ?_
  obtain ⟨e0, e1, e2, e3, e5, e6⟩ := idx t
  blk_simp
  rw [after0_4]; unfold out0_4; frame_out
  rw [pay_delta]
  congr 1 <;> blk_ext [iblk, e0, e1, e2, e3, e5, e6]

/-- The array of first moments. -/
theorem result_first (c : Dev nD) : (dats m 0 c).arrAt 5 (cfgs 0).N
    = fun i => Adam.first (V m c main_v1 i) (V m c main_v2 i) := by
  refine (dats m 0 c).arrAt_eq_of_covers 5 _ (by decide +kernel) fun t hf y => ?_
  obtain ⟨e0, e1, e2, e3, e5, e6⟩ := idx t
  blk_simp
  rw [after0_5]; unfold out0_5; frame_out
  rw [pay_first]
  congr 1 <;> blk_ext [iblk, e0, e1, e2, e3, e5, e6]

/-- The array of second moments. -/
theorem result_second (c : Dev nD) : (dats m 0 c).arrAt 6 (cfgs 0).N
    = fun i => Adam.second (V m c main_v1 i) (V m c main_v3 i) := by
  refine (dats m 0 c).arrAt_eq_of_covers 6 _ (by decide +kernel) fun t hf y => ?_
  obtain ⟨e0, e1, e2, e3, e5, e6⟩ := idx t
  blk_simp
  rw [after0_6]; unfold out0_6; frame_out
  rw [pay_second]
  congr 1 <;> blk_ext [iblk, e0, e1, e2, e3, e5, e6]

/-- What the host code hands to the windows: the arguments with a leading axis of one. -/
theorem prepared (c : Dev nD) : V m c main_v0 = shapeCast S1x2048x1024 (m ((c : Thread nD τ).loc main_arg0)) shapeCasts_S2048x1024_S1x2048x1024
    ∧ V m c main_v1 = shapeCast S1x2048x1024 (m ((c : Thread nD τ).loc main_arg1)) shapeCasts_S2048x1024_S1x2048x1024
    ∧ V m c main_v2 = shapeCast S1x2048x1024 (m ((c : Thread nD τ).loc main_arg2)) shapeCasts_S2048x1024_S1x2048x1024
    ∧ V m c main_v3 = shapeCast S1x2048x1024 (m ((c : Thread nD τ).loc main_arg3)) shapeCasts_S2048x1024_S1x2048x1024 := by
  refine ⟨?_, ?_, ?_, ?_⟩ <;> (unfold V hostOps0; after_results_simp; rfl)

/-- The reference runs to its end and keeps its arguments. -/
theorem frame_reference : Cert.quiescent_Reference21Ideal := fun m ρ _ =>
  (θ_run Cert.Reference21Ideal.defs _ _).mono (fun r h => ⟨fun c => (h c).2.2.2, sem_eq_zero_of_no_sems (by decide) r.2⟩)
    (Cert.Reference21Ideal.Value.run (F := Ideal) m ρ)

/-- Kernel and reference leave the same three arrays. -/
theorem algebraic : Cert.algebraic_Kernel21Ideal_Reference21Ideal := by
  intro m g m' g' _ hagree
  refine ⟨_, _, _, Cert.Kernel21Ideal.Value.run_blocks (F := Ideal) m g, ?_⟩
  have p := prepared m
  refine (θ_run _ _ _).mono (fun r h c => ⟨(h c).1.trans ?_, (h c).2.1.trans ?_, (h c).2.2.1.trans ?_, (h c).2.2.2⟩)
    (Cert.Reference21Ideal.Value.run (F := Ideal) m' g')
  · show _ = (dats m 0 c).arrAt 4 (cfgs 0).N
    rw [result_delta, (hagree c).1, (hagree c).2.1, (hagree c).2.2.1, (hagree c).2.2.2,
      (p c).1, (p c).2.1, (p c).2.2.1, (p c).2.2.2]
    funext i
    unfold Adam.delta Adam.first Adam.second
    simp only [pointwise]
    rfl
  · show _ = (dats m 0 c).arrAt 5 (cfgs 0).N
    rw [result_first, (hagree c).2.1, (hagree c).2.2.1, (p c).2.1, (p c).2.2.1]
    funext i
    unfold Adam.first
    simp only [pointwise]
    rfl
  · show _ = (dats m 0 c).arrAt 6 (cfgs 0).N
    rw [result_second, (hagree c).2.1, (hagree c).2.2.2, (p c).2.1, (p c).2.2.2]
    funext i
    unfold Adam.second
    simp only [pointwise]
    rfl

end Cert.Kernel21Ideal.Product

end
-- ==== Proof.AdamSmall.lean ====
/- AdamW of the fourteen small weights, packed end to end into one array of rows. -/
module

public import proofs.«01_k».proof.Defs
public import proofs.«01_k».proof.Proof.Adam
public import proofs.«01_k».proof.Proof.Gen.Kernel22Ideal.Value
public import proofs.«01_k».proof.Proof.Gen.Reference22Ideal.Run
public import Idealize.ShloMosaic.Lib.Tactic
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.Kernel22Ideal.Product

open Cert.Kernel22Ideal Cert.Kernel22Ideal.Gen Cert.Kernel22Ideal.Value

variable (m : (ℓ : Loc nD τ sig) → Buf (Elt Ideal) ℓ)

/-- A block's first moments. -/
theorem pay_first (g m) (j) : k0_pay3 (F := Ideal) g m j = Adam.first (g j) (m j) := by
  unfold k0_pay3 k0_pay2 Adam.first; simp only [pointwise, shapeCast_self]

/-- A block's second moments. -/
theorem pay_second (g v) (j) : k0_pay4 (F := Ideal) g v j = Adam.second (g j) (v j) := by
  unfold k0_pay4 k0_pay2 Adam.second; simp only [pointwise, shapeCast_self]

/-- A block's changes of the weight. -/
theorem pay_delta (g m v w) (j) : k0_pay1 (k0_pay5 (F := Ideal) g m v) (k0_pay6 w) k0_pay7 j = Adam.delta (w j) (g j) (m j) (v j) := by
  unfold k0_pay1 k0_pay5 k0_pay6 k0_pay7 Adam.delta; simp only [pointwise, pay_first, pay_second, shapeCast_self]

/-- Every window moves with the first result's window. -/
theorem idx : ∀ t : Fin grid0.N, win0_0.index t = win0_4.index t ∧ win0_1.index t = win0_4.index t
    ∧ win0_2.index t = win0_4.index t ∧ win0_3.index t = win0_4.index t
    ∧ win0_5.index t = win0_4.index t ∧ win0_6.index t = win0_4.index t := by decide +kernel

/-- The array of changes of the weight. -/
theorem result_delta (c : Dev nD) : (dats m 0 c).arrAt 4 (cfgs 0).N
    = fun i => Adam.delta (V m c main_v15 i) (V m c main_v31 i) (V m c main_v47 i) (V m c main_v63 i) := by
  refine (dats m 0 c).arrAt_eq_of_covers 4 _ (by decide +kernel) fun t hf y => ?_
  obtain ⟨e0, e1, e2, e3, e5, e6⟩ := idx t
  blk_simp
  rw [after0_4]; unfold out0_4; frame_out
  rw [pay_delta]
  congr 1 <;> blk_ext [iblk, e0, e1, e2, e3, e5, e6]

/-- The array of first moments. -/
theorem result_first (c : Dev nD) : (dats m 0 c).arrAt 5 (cfgs 0).N
    = fun i => Adam.first (V m c main_v31 i) (V m c main_v47 i) := by
  refine (dats m 0 c).arrAt_eq_of_covers 5 _ (by decide +kernel) fun t hf y => ?_
  obtain ⟨e0, e1, e2, e3, e5, e6⟩ := idx t
  blk_simp
  rw [after0_5]; unfold out0_5; frame_out
  rw [pay_first]
  congr 1 <;> blk_ext [iblk, e0, e1, e2, e3, e5, e6]

/-- The array of second moments. -/
theorem result_second (c : Dev nD) : (dats m 0 c).arrAt 6 (cfgs 0).N
    = fun i => Adam.second (V m c main_v31 i) (V m c main_v63 i) := by
  refine (dats m 0 c).arrAt_eq_of_covers 6 _ (by decide +kernel) fun t hf y => ?_
  obtain ⟨e0, e1, e2, e3, e5, e6⟩ := idx t
  blk_simp
  rw [after0_6]; unfold out0_6; frame_out
  rw [pay_second]
  congr 1 <;> blk_ext [iblk, e0, e1, e2, e3, e5, e6]

/-- The fourteen weights' pieces, each element with its gradient and its two moments. -/
def pieces (w0 g0 m0 v0 : S4x12288.Idx → EReal) (w1 g1 m1 v1 : S4x2048.Idx → EReal) (w2 g2 m2 v2 : S4x31x256.Idx → EReal) (w3 g3 m3 v3 : S4x1024.Idx → EReal) (w4 g4 m4 v4 : S4x1024.Idx → EReal) (w5 g5 m5 v5 : S4x1024.Idx → EReal) (w6 g6 m6 v6 : S4x1024.Idx → EReal) (w7 g7 m7 v7 : S4x4x768.Idx → EReal) (w8 g8 m8 v8 : S4x8.Idx → EReal) (w9 g9 m9 v9 : S4x8.Idx → EReal) (w10 g10 m10 v10 : S4x128.Idx → EReal) (w11 g11 m11 v11 : S4x2048.Idx → EReal) (w12 g12 m12 v12 : S4096.Idx → EReal) (w13 g13 m13 v13 : S2048.Idx → EReal) :
    List ((s : Shape) × (s.Idx → Adam.Four)) :=
  [⟨S49152, shapeCast S49152 (Adam.quad w0 g0 m0 v0) shapeCasts_S4x12288_S49152⟩,
    ⟨S8192, shapeCast S8192 (Adam.quad w1 g1 m1 v1) shapeCasts_S4x2048_S8192⟩,
    ⟨S31744, shapeCast S31744 (Adam.quad w2 g2 m2 v2) shapeCasts_S4x31x256_S31744⟩,
    ⟨S4096, shapeCast S4096 (Adam.quad w3 g3 m3 v3) shapeCasts_S4x1024_S4096⟩,
    ⟨S4096, shapeCast S4096 (Adam.quad w4 g4 m4 v4) shapeCasts_S4x1024_S4096⟩,
    ⟨S4096, shapeCast S4096 (Adam.quad w5 g5 m5 v5) shapeCasts_S4x1024_S4096⟩,
    ⟨S4096, shapeCast S4096 (Adam.quad w6 g6 m6 v6) shapeCasts_S4x1024_S4096⟩,
    ⟨S12288, shapeCast S12288 (Adam.quad w7 g7 m7 v7) shapeCasts_S4x4x768_S12288⟩,
    ⟨S32, shapeCast S32 (Adam.quad w8 g8 m8 v8) shapeCasts_S4x8_S32⟩,
    ⟨S32, shapeCast S32 (Adam.quad w9 g9 m9 v9) shapeCasts_S4x8_S32⟩,
    ⟨S512, shapeCast S512 (Adam.quad w10 g10 m10 v10) shapeCasts_S4x128_S512⟩,
    ⟨S8192, shapeCast S8192 (Adam.quad w11 g11 m11 v11) shapeCasts_S4x2048_S8192⟩,
    ⟨S4096, Adam.quad w12 g12 m12 v12⟩,
    ⟨S2048, Adam.quad w13 g13 m13 v13⟩]

/-- The pieces of the arguments on core `c`. -/
def pieces_at (c : Dev nD) : List ((s : Shape) × (s.Idx → Adam.Four)) :=
  pieces (m ((c : Thread nD τ).loc main_arg0)) (m ((c : Thread nD τ).loc main_arg14)) (m ((c : Thread nD τ).loc main_arg28)) (m ((c : Thread nD τ).loc main_arg42)) (m ((c : Thread nD τ).loc main_arg1)) (m ((c : Thread nD τ).loc main_arg15)) (m ((c : Thread nD τ).loc main_arg29)) (m ((c : Thread nD τ).loc main_arg43)) (m ((c : Thread nD τ).loc main_arg2)) (m ((c : Thread nD τ).loc main_arg16)) (m ((c : Thread nD τ).loc main_arg30)) (m ((c : Thread nD τ).loc main_arg44)) (m ((c : Thread nD τ).loc main_arg3)) (m ((c : Thread nD τ).loc main_arg17)) (m ((c : Thread nD τ).loc main_arg31)) (m ((c : Thread nD τ).loc main_arg45)) (m ((c : Thread nD τ).loc main_arg4)) (m ((c : Thread nD τ).loc main_arg18)) (m ((c : Thread nD τ).loc main_arg32)) (m ((c : Thread nD τ).loc main_arg46)) (m ((c : Thread nD τ).loc main_arg5)) (m ((c : Thread nD τ).loc main_arg19)) (m ((c : Thread nD τ).loc main_arg33)) (m ((c : Thread nD τ).loc main_arg47)) (m ((c : Thread nD τ).loc main_arg6)) (m ((c : Thread nD τ).loc main_arg20)) (m ((c : Thread nD τ).loc main_arg34)) (m ((c : Thread nD τ).loc main_arg48)) (m ((c : Thread nD τ).loc main_arg7)) (m ((c : Thread nD τ).loc main_arg21)) (m ((c : Thread nD τ).loc main_arg35)) (m ((c : Thread nD τ).loc main_arg49)) (m ((c : Thread nD τ).loc main_arg8)) (m ((c : Thread nD τ).loc main_arg22)) (m ((c : Thread nD τ).loc main_arg36)) (m ((c : Thread nD τ).loc main_arg50)) (m ((c : Thread nD τ).loc main_arg9)) (m ((c : Thread nD τ).loc main_arg23)) (m ((c : Thread nD τ).loc main_arg37)) (m ((c : Thread nD τ).loc main_arg51)) (m ((c : Thread nD τ).loc main_arg10)) (m ((c : Thread nD τ).loc main_arg24)) (m ((c : Thread nD τ).loc main_arg38)) (m ((c : Thread nD τ).loc main_arg52)) (m ((c : Thread nD τ).loc main_arg11)) (m ((c : Thread nD τ).loc main_arg25)) (m ((c : Thread nD τ).loc main_arg39)) (m ((c : Thread nD τ).loc main_arg53)) (m ((c : Thread nD τ).loc main_arg12)) (m ((c : Thread nD τ).loc main_arg26)) (m ((c : Thread nD τ).loc main_arg40)) (m ((c : Thread nD τ).loc main_arg54)) (m ((c : Thread nD τ).loc main_arg13)) (m ((c : Thread nD τ).loc main_arg27)) (m ((c : Thread nD τ).loc main_arg41)) (m ((c : Thread nD τ).loc main_arg55))

/-- Pieces end to end, filled up with `z`, in rows. -/
def rows {α : Type} (z : α) (xs : List ((s : Shape) × (s.Idx → α))) (h : Shape.Concatenates (xs.map (·.1)) S132672 0) : S136x1024.Idx → α :=
  shapeCast S136x1024 (pad S139264 ![0] ![6592] ![0] (concatenate S132672 0 xs h) (fun _ : S_.Idx => z) pads_S132672_S139264_065920 h_S_) shapeCasts_S139264_S136x1024

/-- Rows of images are the images of the rows. -/
theorem rows_map {α β : Type} (f : α → β) (z : α) (xs : List ((s : Shape) × (s.Idx → α))) (h h') (i) :
    rows (f z) (xs.map fun p => ⟨p.1, fun j => f (p.2 j)⟩) h' i = f (rows z xs h i) := by
  unfold rows shapeCast pad
  dsimp only
  split
  · exact Adam.concatenate_map f S132672 0 xs h h' _
  · rfl

/-- The arguments' pieces fill the packed array. -/
theorem fits (c : Dev nD) : Shape.Concatenates ((pieces_at m c).map (·.1)) S132672 0 := concatenates_S49152_S8192_S31744_S4096_S4096_S4096_S4096_S12288_S32_S32_S512_S8192_S4096_S2048_S132672_d0

/-- One component, or one function, of the pieces of the arguments. -/
abbrev image (f : Adam.Four → EReal) (c : Dev nD) : List ((s : Shape) × (s.Idx → EReal)) := (pieces_at m c).map fun p => ⟨p.1, fun j => f (p.2 j)⟩

theorem fits_image (f : Adam.Four → EReal) (c : Dev nD) : Shape.Concatenates ((image m f c).map (·.1)) S132672 0 := concatenates_S49152_S8192_S31744_S4096_S4096_S4096_S4096_S12288_S32_S32_S512_S8192_S4096_S2048_S132672_d0

/-- The packed quadruples. -/
def packed (c : Dev nD) : S136x1024.Idx → Adam.Four := rows (0, 0, 0, 0) (pieces_at m c) (fits m c)

/-- The host code's filling is zero. -/
theorem filling : sitofp (F := Ideal) .f32 (constantI S_ 32 0#32) = fun _ : S_.Idx => (0 : EReal) := by
  funext j; show (((0#32).toInt : ℝ) : EReal) = 0; simp

/-- Rows of one function of the quadruples. -/
theorem rows_image (f : Adam.Four → EReal) (hf : f (0, 0, 0, 0) = 0) (c : Dev nD) (i) :
    rows (0 : EReal) (image m f c) (fits_image m f c) i = f (packed m c i) := by
  have h := rows_map f (0, 0, 0, 0) (pieces_at m c) (fits m c) (fits_image m f c) i
  rwa [hf] at h

/-- The packed array of one function of the quadruples, with a leading axis of one. -/
def spread (f : Adam.Four → EReal) (c : Dev nD) : S1x136x1024.Idx → EReal :=
  broadcastInDim S1x136x1024 ![1, 2] bcast_S136x1024_S1x136x1024_1_2 (rows (0 : EReal) (image m f c) (fits_image m f c))

theorem spread_apply (f : Adam.Four → EReal) (hf : f (0, 0, 0, 0) = 0) (c : Dev nD) (i) :
    spread m f c i = f (packed m c (ix2 (i 1) (i 2))) := by
  unfold spread
  rw [← rows_image m f hf]
  simp only [pointwise]
  rfl

/-- What the host code hands to the four windows: the components of the packed quadruples. -/
theorem prepared (c : Dev nD) : V m c main_v15 = spread m (fun q => q.1) c ∧ V m c main_v31 = spread m (fun q => q.2.1) c
    ∧ V m c main_v47 = spread m (fun q => q.2.2.1) c ∧ V m c main_v63 = spread m (fun q => q.2.2.2) c := by
  refine ⟨?_, ?_, ?_, ?_⟩
  all_goals
    unfold spread rows
    rw [← filling]
    unfold V
    simp only [hostOps0, hostOps0_1, hostOps0_2, hostOps0_3, hostOps0_4, hostOps0_5, hostOps0_6, hostOps0_7, hostOps0_8, List.flatten_cons, List.flatten_nil,
      List.append_nil, List.cons_append, List.nil_append]
    after_results_simp
    rfl

/-- Rows with a leading axis of one. -/
def led {α : Type} (z : α) (xs : List ((s : Shape) × (s.Idx → α))) (h : Shape.Concatenates (xs.map (·.1)) S132672 0) : S1x136x1024.Idx → α :=
  shapeCast S1x136x1024 (pad S139264 ![0] ![6592] ![0] (concatenate S132672 0 xs h) (fun _ : S_.Idx => z) pads_S132672_S139264_065920 h_S_)
    Cert.Reference22Ideal.Gen.shapeCasts_S139264_S1x136x1024

theorem led_image (f : Adam.Four → EReal) (hf : f (0, 0, 0, 0) = 0) (c : Dev nD) (i)
    (xs : List ((s : Shape) × (s.Idx → Adam.Four))) (e : pieces_at m c = xs) (h) :
    led (0 : EReal) (xs.map fun p => ⟨p.1, fun j => f (p.2 j)⟩) h i = f (packed m c (ix2 (i 1) (i 2))) := by
  subst e
  rw [← rows_image m f hf]
  unfold led rows
  simp only [pointwise]

/-- The reference runs to its end and keeps its arguments. -/
theorem frame_reference : Cert.quiescent_Reference22Ideal := fun m ρ _ =>
  (θ_run Cert.Reference22Ideal.defs _ _).mono (fun r h => ⟨fun c => (h c).2.2.2, sem_eq_zero_of_no_sems (by decide) r.2⟩)
    (Cert.Reference22Ideal.Value.run (F := Ideal) m ρ)

/-- The pieces of equal arguments. -/
theorem agree (m' : (ℓ : Loc Cert.Reference22Ideal.nD Cert.Reference22Ideal.τ Cert.Reference22Ideal.sig) → Buf (Elt Ideal) ℓ) (c : Dev nD)
    (h : m' ((c : Thread nD τ).loc Cert.Reference22Ideal.main_arg0) = m ((c : Thread nD τ).loc main_arg0) ∧ m' ((c : Thread nD τ).loc Cert.Reference22Ideal.main_arg1) = m ((c : Thread nD τ).loc main_arg1) ∧ m' ((c : Thread nD τ).loc Cert.Reference22Ideal.main_arg2) = m ((c : Thread nD τ).loc main_arg2) ∧ m' ((c : Thread nD τ).loc Cert.Reference22Ideal.main_arg3) = m ((c : Thread nD τ).loc main_arg3) ∧ m' ((c : Thread nD τ).loc Cert.Reference22Ideal.main_arg4) = m ((c : Thread nD τ).loc main_arg4) ∧ m' ((c : Thread nD τ).loc Cert.Reference22Ideal.main_arg5) = m ((c : Thread nD τ).loc main_arg5) ∧ m' ((c : Thread nD τ).loc Cert.Reference22Ideal.main_arg6) = m ((c : Thread nD τ).loc main_arg6) ∧ m' ((c : Thread nD τ).loc Cert.Reference22Ideal.main_arg7) = m ((c : Thread nD τ).loc main_arg7) ∧ m' ((c : Thread nD τ).loc Cert.Reference22Ideal.main_arg8) = m ((c : Thread nD τ).loc main_arg8) ∧ m' ((c : Thread nD τ).loc Cert.Reference22Ideal.main_arg9) = m ((c : Thread nD τ).loc main_arg9) ∧ m' ((c : Thread nD τ).loc Cert.Reference22Ideal.main_arg10) = m ((c : Thread nD τ).loc main_arg10) ∧ m' ((c : Thread nD τ).loc Cert.Reference22Ideal.main_arg11) = m ((c : Thread nD τ).loc main_arg11) ∧ m' ((c : Thread nD τ).loc Cert.Reference22Ideal.main_arg12) = m ((c : Thread nD τ).loc main_arg12) ∧ m' ((c : Thread nD τ).loc Cert.Reference22Ideal.main_arg13) = m ((c : Thread nD τ).loc main_arg13) ∧ m' ((c : Thread nD τ).loc Cert.Reference22Ideal.main_arg14) = m ((c : Thread nD τ).loc main_arg14) ∧ m' ((c : Thread nD τ).loc Cert.Reference22Ideal.main_arg15) = m ((c : Thread nD τ).loc main_arg15) ∧ m' ((c : Thread nD τ).loc Cert.Reference22Ideal.main_arg16) = m ((c : Thread nD τ).loc main_arg16) ∧ m' ((c : Thread nD τ).loc Cert.Reference22Ideal.main_arg17) = m ((c : Thread nD τ).loc main_arg17) ∧ m' ((c : Thread nD τ).loc Cert.Reference22Ideal.main_arg18) = m ((c : Thread nD τ).loc main_arg18) ∧ m' ((c : Thread nD τ).loc Cert.Reference22Ideal.main_arg19) = m ((c : Thread nD τ).loc main_arg19) ∧ m' ((c : Thread nD τ).loc Cert.Reference22Ideal.main_arg20) = m ((c : Thread nD τ).loc main_arg20) ∧ m' ((c : Thread nD τ).loc Cert.Reference22Ideal.main_arg21) = m ((c : Thread nD τ).loc main_arg21) ∧ m' ((c : Thread nD τ).loc Cert.Reference22Ideal.main_arg22) = m ((c : Thread nD τ).loc main_arg22) ∧ m' ((c : Thread nD τ).loc Cert.Reference22Ideal.main_arg23) = m ((c : Thread nD τ).loc main_arg23) ∧ m' ((c : Thread nD τ).loc Cert.Reference22Ideal.main_arg24) = m ((c : Thread nD τ).loc main_arg24) ∧ m' ((c : Thread nD τ).loc Cert.Reference22Ideal.main_arg25) = m ((c : Thread nD τ).loc main_arg25) ∧ m' ((c : Thread nD τ).loc Cert.Reference22Ideal.main_arg26) = m ((c : Thread nD τ).loc main_arg26) ∧ m' ((c : Thread nD τ).loc Cert.Reference22Ideal.main_arg27) = m ((c : Thread nD τ).loc main_arg27) ∧ m' ((c : Thread nD τ).loc Cert.Reference22Ideal.main_arg28) = m ((c : Thread nD τ).loc main_arg28) ∧ m' ((c : Thread nD τ).loc Cert.Reference22Ideal.main_arg29) = m ((c : Thread nD τ).loc main_arg29) ∧ m' ((c : Thread nD τ).loc Cert.Reference22Ideal.main_arg30) = m ((c : Thread nD τ).loc main_arg30) ∧ m' ((c : Thread nD τ).loc Cert.Reference22Ideal.main_arg31) = m ((c : Thread nD τ).loc main_arg31) ∧ m' ((c : Thread nD τ).loc Cert.Reference22Ideal.main_arg32) = m ((c : Thread nD τ).loc main_arg32) ∧ m' ((c : Thread nD τ).loc Cert.Reference22Ideal.main_arg33) = m ((c : Thread nD τ).loc main_arg33) ∧ m' ((c : Thread nD τ).loc Cert.Reference22Ideal.main_arg34) = m ((c : Thread nD τ).loc main_arg34) ∧ m' ((c : Thread nD τ).loc Cert.Reference22Ideal.main_arg35) = m ((c : Thread nD τ).loc main_arg35) ∧ m' ((c : Thread nD τ).loc Cert.Reference22Ideal.main_arg36) = m ((c : Thread nD τ).loc main_arg36) ∧ m' ((c : Thread nD τ).loc Cert.Reference22Ideal.main_arg37) = m ((c : Thread nD τ).loc main_arg37) ∧ m' ((c : Thread nD τ).loc Cert.Reference22Ideal.main_arg38) = m ((c : Thread nD τ).loc main_arg38) ∧ m' ((c : Thread nD τ).loc Cert.Reference22Ideal.main_arg39) = m ((c : Thread nD τ).loc main_arg39) ∧ m' ((c : Thread nD τ).loc Cert.Reference22Ideal.main_arg40) = m ((c : Thread nD τ).loc main_arg40) ∧ m' ((c : Thread nD τ).loc Cert.Reference22Ideal.main_arg41) = m ((c : Thread nD τ).loc main_arg41) ∧ m' ((c : Thread nD τ).loc Cert.Reference22Ideal.main_arg42) = m ((c : Thread nD τ).loc main_arg42) ∧ m' ((c : Thread nD τ).loc Cert.Reference22Ideal.main_arg43) = m ((c : Thread nD τ).loc main_arg43) ∧ m' ((c : Thread nD τ).loc Cert.Reference22Ideal.main_arg44) = m ((c : Thread nD τ).loc main_arg44) ∧ m' ((c : Thread nD τ).loc Cert.Reference22Ideal.main_arg45) = m ((c : Thread nD τ).loc main_arg45) ∧ m' ((c : Thread nD τ).loc Cert.Reference22Ideal.main_arg46) = m ((c : Thread nD τ).loc main_arg46) ∧ m' ((c : Thread nD τ).loc Cert.Reference22Ideal.main_arg47) = m ((c : Thread nD τ).loc main_arg47) ∧ m' ((c : Thread nD τ).loc Cert.Reference22Ideal.main_arg48) = m ((c : Thread nD τ).loc main_arg48) ∧ m' ((c : Thread nD τ).loc Cert.Reference22Ideal.main_arg49) = m ((c : Thread nD τ).loc main_arg49) ∧ m' ((c : Thread nD τ).loc Cert.Reference22Ideal.main_arg50) = m ((c : Thread nD τ).loc main_arg50) ∧ m' ((c : Thread nD τ).loc Cert.Reference22Ideal.main_arg51) = m ((c : Thread nD τ).loc main_arg51) ∧ m' ((c : Thread nD τ).loc Cert.Reference22Ideal.main_arg52) = m ((c : Thread nD τ).loc main_arg52) ∧ m' ((c : Thread nD τ).loc Cert.Reference22Ideal.main_arg53) = m ((c : Thread nD τ).loc main_arg53) ∧ m' ((c : Thread nD τ).loc Cert.Reference22Ideal.main_arg54) = m ((c : Thread nD τ).loc main_arg54) ∧ m' ((c : Thread nD τ).loc Cert.Reference22Ideal.main_arg55) = m ((c : Thread nD τ).loc main_arg55)) :
    pieces_at m c = pieces (m' ((c : Thread nD τ).loc Cert.Reference22Ideal.main_arg0)) (m' ((c : Thread nD τ).loc Cert.Reference22Ideal.main_arg14)) (m' ((c : Thread nD τ).loc Cert.Reference22Ideal.main_arg28)) (m' ((c : Thread nD τ).loc Cert.Reference22Ideal.main_arg42)) (m' ((c : Thread nD τ).loc Cert.Reference22Ideal.main_arg1)) (m' ((c : Thread nD τ).loc Cert.Reference22Ideal.main_arg15)) (m' ((c : Thread nD τ).loc Cert.Reference22Ideal.main_arg29)) (m' ((c : Thread nD τ).loc Cert.Reference22Ideal.main_arg43)) (m' ((c : Thread nD τ).loc Cert.Reference22Ideal.main_arg2)) (m' ((c : Thread nD τ).loc Cert.Reference22Ideal.main_arg16)) (m' ((c : Thread nD τ).loc Cert.Reference22Ideal.main_arg30)) (m' ((c : Thread nD τ).loc Cert.Reference22Ideal.main_arg44)) (m' ((c : Thread nD τ).loc Cert.Reference22Ideal.main_arg3)) (m' ((c : Thread nD τ).loc Cert.Reference22Ideal.main_arg17)) (m' ((c : Thread nD τ).loc Cert.Reference22Ideal.main_arg31)) (m' ((c : Thread nD τ).loc Cert.Reference22Ideal.main_arg45)) (m' ((c : Thread nD τ).loc Cert.Reference22Ideal.main_arg4)) (m' ((c : Thread nD τ).loc Cert.Reference22Ideal.main_arg18)) (m' ((c : Thread nD τ).loc Cert.Reference22Ideal.main_arg32)) (m' ((c : Thread nD τ).loc Cert.Reference22Ideal.main_arg46)) (m' ((c : Thread nD τ).loc Cert.Reference22Ideal.main_arg5)) (m' ((c : Thread nD τ).loc Cert.Reference22Ideal.main_arg19)) (m' ((c : Thread nD τ).loc Cert.Reference22Ideal.main_arg33)) (m' ((c : Thread nD τ).loc Cert.Reference22Ideal.main_arg47)) (m' ((c : Thread nD τ).loc Cert.Reference22Ideal.main_arg6)) (m' ((c : Thread nD τ).loc Cert.Reference22Ideal.main_arg20)) (m' ((c : Thread nD τ).loc Cert.Reference22Ideal.main_arg34)) (m' ((c : Thread nD τ).loc Cert.Reference22Ideal.main_arg48)) (m' ((c : Thread nD τ).loc Cert.Reference22Ideal.main_arg7)) (m' ((c : Thread nD τ).loc Cert.Reference22Ideal.main_arg21)) (m' ((c : Thread nD τ).loc Cert.Reference22Ideal.main_arg35)) (m' ((c : Thread nD τ).loc Cert.Reference22Ideal.main_arg49)) (m' ((c : Thread nD τ).loc Cert.Reference22Ideal.main_arg8)) (m' ((c : Thread nD τ).loc Cert.Reference22Ideal.main_arg22)) (m' ((c : Thread nD τ).loc Cert.Reference22Ideal.main_arg36)) (m' ((c : Thread nD τ).loc Cert.Reference22Ideal.main_arg50)) (m' ((c : Thread nD τ).loc Cert.Reference22Ideal.main_arg9)) (m' ((c : Thread nD τ).loc Cert.Reference22Ideal.main_arg23)) (m' ((c : Thread nD τ).loc Cert.Reference22Ideal.main_arg37)) (m' ((c : Thread nD τ).loc Cert.Reference22Ideal.main_arg51)) (m' ((c : Thread nD τ).loc Cert.Reference22Ideal.main_arg10)) (m' ((c : Thread nD τ).loc Cert.Reference22Ideal.main_arg24)) (m' ((c : Thread nD τ).loc Cert.Reference22Ideal.main_arg38)) (m' ((c : Thread nD τ).loc Cert.Reference22Ideal.main_arg52)) (m' ((c : Thread nD τ).loc Cert.Reference22Ideal.main_arg11)) (m' ((c : Thread nD τ).loc Cert.Reference22Ideal.main_arg25)) (m' ((c : Thread nD τ).loc Cert.Reference22Ideal.main_arg39)) (m' ((c : Thread nD τ).loc Cert.Reference22Ideal.main_arg53)) (m' ((c : Thread nD τ).loc Cert.Reference22Ideal.main_arg12)) (m' ((c : Thread nD τ).loc Cert.Reference22Ideal.main_arg26)) (m' ((c : Thread nD τ).loc Cert.Reference22Ideal.main_arg40)) (m' ((c : Thread nD τ).loc Cert.Reference22Ideal.main_arg54)) (m' ((c : Thread nD τ).loc Cert.Reference22Ideal.main_arg13)) (m' ((c : Thread nD τ).loc Cert.Reference22Ideal.main_arg27)) (m' ((c : Thread nD τ).loc Cert.Reference22Ideal.main_arg41)) (m' ((c : Thread nD τ).loc Cert.Reference22Ideal.main_arg55)) := by
  obtain ⟨h0, h1, h2, h3, h4, h5, h6, h7, h8, h9, h10, h11, h12, h13, h14, h15, h16, h17, h18, h19, h20, h21, h22, h23, h24, h25, h26, h27, h28, h29, h30, h31, h32, h33, h34, h35, h36, h37, h38, h39, h40, h41, h42, h43, h44, h45, h46, h47, h48, h49, h50, h51, h52, h53, h54, h55⟩ := h
  unfold pieces_at
  rw [← h0, ← h1, ← h2, ← h3, ← h4, ← h5, ← h6, ← h7, ← h8, ← h9, ← h10, ← h11, ← h12, ← h13, ← h14, ← h15, ← h16, ← h17, ← h18, ← h19, ← h20, ← h21, ← h22, ← h23, ← h24, ← h25, ← h26, ← h27, ← h28, ← h29, ← h30, ← h31, ← h32, ← h33, ← h34, ← h35, ← h36, ← h37, ← h38, ← h39, ← h40, ← h41, ← h42, ← h43, ← h44, ← h45, ← h46, ← h47, ← h48, ← h49, ← h50, ← h51, ← h52, ← h53, ← h54, ← h55]

/-- Kernel and reference leave the same three arrays. -/
theorem algebraic : Cert.algebraic_Kernel22Ideal_Reference22Ideal := by
  intro m g m' g' _ hagree
  refine ⟨_, _, _, Cert.Kernel22Ideal.Value.run_blocks (F := Ideal) m g, ?_⟩
  have p := prepared m
  refine (θ_run _ _ _).mono (fun r h c => ⟨(h c).1.trans ?_, (h c).2.1.trans ?_, (h c).2.2.1.trans ?_, (h c).2.2.2⟩)
    (Cert.Reference22Ideal.Value.run (F := Ideal) m' g')
  · show _ = (dats m 0 c).arrAt 4 (cfgs 0).N
    rw [result_delta]
    funext i
    rw [show V m c main_v15 = _ from (p c).1, show V m c main_v31 = _ from (p c).2.1, show V m c main_v47 = _ from (p c).2.2.1, show V m c main_v63 = _ from (p c).2.2.2]
    simp only [spread_apply]
    refine Eq.trans ?_ (led_image m (fun q => Adam.delta q.1 q.2.1 q.2.2.1 q.2.2.2) Adam.delta_zero c i _ (agree m m' c (hagree c)) concatenates_S49152_S8192_S31744_S4096_S4096_S4096_S4096_S12288_S32_S32_S512_S8192_S4096_S2048_S132672_d0)
    unfold led
    rw [← filling]
    rfl
  · show _ = (dats m 0 c).arrAt 5 (cfgs 0).N
    rw [result_first]
    funext i
    rw [show V m c main_v31 = _ from (p c).2.1, show V m c main_v47 = _ from (p c).2.2.1]
    simp only [spread_apply]
    refine Eq.trans ?_ (led_image m (fun q => Adam.first q.2.1 q.2.2.1) Adam.first_zero c i _ (agree m m' c (hagree c)) concatenates_S49152_S8192_S31744_S4096_S4096_S4096_S4096_S12288_S32_S32_S512_S8192_S4096_S2048_S132672_d0)
    unfold led
    rw [← filling]
    rfl
  · show _ = (dats m 0 c).arrAt 6 (cfgs 0).N
    rw [result_second]
    funext i
    rw [show V m c main_v31 = _ from (p c).2.1, show V m c main_v63 = _ from (p c).2.2.2]
    simp only [spread_apply]
    refine Eq.trans ?_ (led_image m (fun q => Adam.second q.2.1 q.2.2.2) Adam.second_zero c i _ (agree m m' c (hagree c)) concatenates_S49152_S8192_S31744_S4096_S4096_S4096_S4096_S12288_S32_S32_S512_S8192_S4096_S2048_S132672_d0)
    unfold led
    rw [← filling]
    rfl

end Cert.Kernel22Ideal.Product

end
-- ==== Proof.DAdaW.lean ====
/- The gradient of the conditioning products with respect to `w_ada`, one layer after the other. -/
module

public import proofs.«01_k».proof.Defs
public import Idealize.ShloMosaic.Lib.Pipeline.ValueKit
public import Idealize.ShloMosaic.Lib.Pointwise
public import proofs.«01_k».proof.Proof.Gen.Kernel23Ideal.Value
public import proofs.«01_k».proof.Proof.Gen.Reference23Ideal.Run
public import proofs.«01_k».proof.Proof.MatProd
public import Idealize.ShloMosaic.Lib.Pipeline.ReadBack
public import Idealize.ShloMosaic.Lib.Tactic
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.Kernel23Ideal.Product

open Cert.Kernel23Ideal Cert.Kernel23Ideal.Gen Cert.Kernel23Ideal.Value

variable (m : (ℓ : Loc nD τ sig) → Buf (Elt Ideal) ℓ)

/-- The accumulator starts at zero. -/
theorem zero_block (j) : k0_pay1 (F := Ideal) j = 0 := by
  unfold k0_pay1; simp only [pointwise]

/-- One grid point's product of its two blocks. -/
theorem step (x acc y) (j) : k0_pay2 (F := Ideal) x acc y j = acc j + MatProd.tn 16 y x j := by
  unfold k0_pay2 MatProd.tn; simp only [pointwise, zero_add]

/-- The result is stored with a leading axis of one. -/
theorem stored (x) (j) : k0_pay3 (F := Ideal) x j = x (ix2 (j 1) (j 2)) := by
  unfold k0_pay3; simp only [pointwise]

/-- The blocks that grid point `t` works on. -/
theorem idx : ∀ t : Fin grid0.N, win0_0.index t = ![0, t.val / 12] ∧ win0_1.index t = ![0, t.val % 12]
    ∧ win0_2.index t = ![t.val % 12 / 3, t.val / 12, t.val % 3] := by decide +kernel

/-- The column of the four arrays side by side that belongs to column `n` of layer `l`. -/
def col (l : Fin 4) (n : Fin 3072) : Fin 12288 := ⟨l.val * 3072 + n.val, by omega⟩

set_option maxHeartbeats 2000000 in
/-- The result array: layer `l` is the product with the columns of layer `l`. -/
theorem result (c : Dev nD) : (dats m 0 c).arrAt 2 (cfgs 0).N
    = fun i => MatProd.tn (N := 12288) 16 (m ((c : Thread nD τ).loc main_arg0)) (V m c main_v0) (ix2 (i 1) (col (i 0) (i 2))) := by
  refine (dats m 0 c).arrAt_eq_of_covers 2 _ (by decide +kernel) fun t hf y => ?_
  blk_simp
  rw [after0_2]; unfold outsAt0; frame_out
  rw [stored, step, zero_block, zero_add]
  unfold MatProd.tn col
  refine Fin.sum_fin_congr fun k => ?_
  obtain ⟨e0, e1, e2⟩ := idx t
  refine congrArg₂ HMul.hMul ?_ ?_
  · blk_ext [iblk, V_main_arg0, e0, e1, e2]
  · blk_ext [iblk, e0, e1, e2]

/-- The gradient with respect to the product of layer `l`. -/
def ct (c : Dev nD) (l : Fin 4) : S16x3072.Idx → EReal :=
  ![m ((c : Thread nD τ).loc main_arg1), m ((c : Thread nD τ).loc main_arg2), m ((c : Thread nD τ).loc main_arg3),
    m ((c : Thread nD τ).loc main_arg4)] l

/-- The four layers' arrays side by side, as the host code hands them to the second window: the columns of layer `l`. -/
theorem prepared (c : Dev nD) (k : Fin 16) (l : Fin 4) (n : Fin 3072) : V m c main_v0 (ix2 k (col l n)) = ct m c l (ix2 k n) := by
  have e : V m c main_v0 = concatenate S16x12288 1
      [⟨S16x3072, m ((c : Thread nD τ).loc main_arg1)⟩, ⟨S16x3072, m ((c : Thread nD τ).loc main_arg2)⟩,
        ⟨S16x3072, m ((c : Thread nD τ).loc main_arg3)⟩, ⟨S16x3072, m ((c : Thread nD τ).loc main_arg4)⟩]
      concatenates_S16x3072_S16x3072_S16x3072_S16x3072_S16x12288_d1 := by
    unfold V hostOps0; after_results_simp; rfl
  rw [e]
  simp only [pointwise, col]
  have hn := n.isLt
  fin_cases l
  · rw [dif_pos (by simp)]; exact congrArg _ (congrArg₂ ix2 (Fin.ext (by simp)) (Fin.ext (by simp)))
  · rw [dif_neg (by simp), dif_pos (by simp)]; exact congrArg _ (congrArg₂ ix2 (Fin.ext (by simp)) (Fin.ext (by simp)))
  · rw [dif_neg (by simp; omega), dif_neg (by simp; omega), dif_pos (by simp; omega)]
    exact congrArg _ (congrArg₂ ix2 (Fin.ext (by simp)) (Fin.ext (by simp; omega)))
  · rw [dif_neg (by simp; omega), dif_neg (by simp; omega), dif_neg (by simp; omega)]
    exact congrArg _ (congrArg₂ ix2 (Fin.ext (by simp)) (Fin.ext (by simp; omega)))

/-- The product of layer `l`, read through the arrays as they were handed in. -/
theorem layer (c : Dev nD) (l : Fin 4) (p : Fin 2048) (n : Fin 3072) :
    MatProd.tn (N := 12288) 16 (m ((c : Thread nD τ).loc main_arg0)) (V m c main_v0) (ix2 p (col l n))
      = ∑ k : Fin 16, ct m c l (ix2 k n) * m ((c : Thread nD τ).loc main_arg0) (ix2 k p) :=
  Finset.sum_congr rfl fun k _ => (congrArg _ (prepared m c k l n)).trans (mul_comm _ _)

/-- The reference runs to its end and keeps its arguments. -/
theorem frame_reference : Cert.quiescent_Reference23Ideal := fun m ρ _ =>
  (θ_run Cert.Reference23Ideal.defs _ _).mono (fun r h => ⟨fun c => (h c).2, sem_eq_zero_of_no_sems (by decide) r.2⟩)
    (Cert.Reference23Ideal.Value.run (F := Ideal) m ρ)

/-- Kernel and reference leave the same array. -/
theorem algebraic : Cert.algebraic_Kernel23Ideal_Reference23Ideal := by
  intro m g m' g' _ hagree
  refine ⟨_, Cert.Kernel23Ideal.Value.run_blocks (F := Ideal) m g, ?_⟩
  refine (θ_run _ _ _).mono (fun r h c => ⟨(h c).1.trans ?_, (h c).2⟩) (Cert.Reference23Ideal.Value.run (F := Ideal) m' g')
  clear h
  show _ = (dats m 0 c).arrAt 2 (cfgs 0).N
  rw [result]
  obtain ⟨h0, h1, h2, h3, h4⟩ := hagree c
  rw [h0, h1, h2, h3, h4]
  funext i
  obtain ⟨l, p, n, rfl⟩ : ∃ (l : Fin 4) (p : Fin 2048) (n : Fin 3072), i = ix3 l p n := ⟨i 0, i 1, i 2, by blk_ext⟩
  have hp := p.isLt
  have hn := n.isLt
  refine Eq.trans ?_ (layer m c l p n).symm
  simp only [pointwise]
  fin_cases l <;> simp [Fin.forall_fin_succ, ct, Nat.mod_one]

end Cert.Kernel23Ideal.Product

end
-- ==== Proof.DFinalAdaW.lean ====
/- The gradient of the final conditioning with respect to its weight. -/
module

public import proofs.«01_k».proof.Defs
public import proofs.«01_k».proof.Proof.MatProd
public import proofs.«01_k».proof.Proof.Gen.Kernel24Ideal.Value
public import proofs.«01_k».proof.Proof.Gen.Reference24Ideal.Run
public import Idealize.ShloMosaic.Lib.Pipeline.ReadBack
public import Idealize.ShloMosaic.Lib.Tactic
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.Kernel24Ideal.Product

open Cert.Kernel24Ideal Cert.Kernel24Ideal.Gen Cert.Kernel24Ideal.Value

variable (m : (ℓ : Loc nD τ sig) → Buf (Elt Ideal) ℓ)

/-- The accumulator starts at zero. -/
theorem zero_block (j) : k0_pay1 (F := Ideal) j = 0 := by
  unfold k0_pay1; simp only [pointwise]

/-- One grid point adds the product of its two blocks to the accumulator. -/
theorem step (x acc y) (j) : k0_pay2 (F := Ideal) x acc y j = acc j + MatProd.tn 16 y x j := by
  unfold k0_pay2 MatProd.tn; simp only [pointwise, zero_add]

/-- The blocks that grid point `t` works on. -/
theorem idx : ∀ t : Fin grid0.N, win0_0.index t = ![0, t.val] ∧ win0_1.index t = ![0, 0]
    ∧ win0_2.index t = ![t.val, 0] := by decide +kernel

/-- The result array is the whole product. -/
theorem result (c : Dev nD) : (dats m 0 c).arrAt 2 (cfgs 0).N
    = MatProd.tn 16 (m ((c : Thread nD τ).loc main_arg0)) (m ((c : Thread nD τ).loc main_arg1)) := by
  refine (dats m 0 c).arrAt_eq_of_covers 2 _ (by decide +kernel) fun t hf y => ?_
  blk_simp
  rw [after0_2]; unfold outsAt0; frame_out
  rw [step, zero_block, zero_add]
  unfold MatProd.tn
  refine Fin.sum_fin_congr fun k => ?_
  obtain ⟨e0, e1, e2⟩ := idx t
  congr 1 <;> blk_ext [iblk, V, e0, e1, e2]

/-- The reference runs to its end and keeps its arguments. -/
theorem frame_reference : Cert.quiescent_Reference24Ideal := fun m ρ _ =>
  (θ_run Cert.Reference24Ideal.defs _ _).mono (fun r h => ⟨fun c => (h c).2, sem_eq_zero_of_no_sems (by decide) r.2⟩)
    (Cert.Reference24Ideal.Value.run (F := Ideal) m ρ)

/-- Kernel and reference leave the same array. -/
theorem algebraic : Cert.algebraic_Kernel24Ideal_Reference24Ideal := by
  intro m g m' g' _ hagree
  refine ⟨_, Cert.Kernel24Ideal.Value.run_blocks (F := Ideal) m g, ?_⟩
  refine (θ_run _ _ _).mono (fun r h c => ⟨(h c).1.trans ?_, (h c).2⟩) (Cert.Reference24Ideal.Value.run (F := Ideal) m' g')
  show _ = (dats m 0 c).arrAt 2 (cfgs 0).N
  rw [result, (hagree c).1, (hagree c).2]
  funext i
  unfold MatProd.tn
  simp only [pointwise, zero_add]
  exact Finset.sum_congr rfl fun k _ => mul_comm _ _

end Cert.Kernel24Ideal.Product

end
-- ==== Proof.DModSum.lean ====
/- The sum of the gradients of the conditioning over the sixteen sequences. -/
module

public import proofs.«01_k».proof.Defs
public import Idealize.ShloMosaic.Lib.Pipeline.ValueKit
public import Idealize.ShloMosaic.Lib.Pointwise
public import proofs.«01_k».proof.Proof.Gen.Kernel25Ideal.Value
public import proofs.«01_k».proof.Proof.Gen.Reference25Ideal.Run
public import Idealize.ShloMosaic.Lib.Tactic
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.Kernel25Ideal.Product

open Cert.Kernel25Ideal Cert.Kernel25Ideal.Gen Cert.Kernel25Ideal.Value

variable (m : (ℓ : Loc nD τ sig) → Buf (Elt Ideal) ℓ)

/-- The blocks that grid point `t` works on. -/
theorem idx : ∀ t : Fin grid0.N, win0_0.index t = ![0, 0, 0] ∧ win0_1.index t = ![0, 0] := by decide +kernel

set_option maxHeartbeats 2000000 in
/-- The result array is the sum over the leading axis. -/
theorem result (c : Dev nD) : (dats m 0 c).arrAt 1 (cfgs 0).N
    = fun i => ∑ k : Fin 16, (show EReal from V m c main_v0 (ix3 k (i 0) (i 1))) := by
  refine (dats m 0 c).arrAt_eq_of_covers 1 _ (by decide +kernel) fun t hf y => ?_
  obtain ⟨e0, e1⟩ := idx t
  blk_simp
  rw [after0_1]; unfold out0_1
  rw [canon1_eq]
  simp only [Fin.sum_univ_castSucc, Fin.sum_univ_zero, zero_add, pointwise]
  iterate 15 refine congrArg₂ HAdd.hAdd ?_ (by blk_ext [iblk, e0, e1] <;> rfl)
  blk_ext [iblk, e0, e1] <;> rfl

/-- What the host code hands to the window: each row cut in 52. -/
theorem prepared (c : Dev nD) : V m c main_v0 = shapeCast S16x52x1024 (m ((c : Thread nD τ).loc main_arg0)) shapeCasts_S16x53248_S16x52x1024 := by
  unfold V hostOps0; after_results_simp; rfl

/-- The reference runs to its end and keeps its arguments. -/
theorem frame_reference : Cert.quiescent_Reference25Ideal := fun m ρ _ =>
  (θ_run Cert.Reference25Ideal.defs _ _).mono (fun r h => ⟨fun c => (h c).2, sem_eq_zero_of_no_sems (by decide) r.2⟩)
    (Cert.Reference25Ideal.Value.run (F := Ideal) m ρ)

/-- Kernel and reference leave the same array. -/
theorem algebraic : Cert.algebraic_Kernel25Ideal_Reference25Ideal := by
  intro m g m' g' _ hagree
  refine ⟨_, Cert.Kernel25Ideal.Value.run_blocks (F := Ideal) m g, ?_⟩
  refine (θ_run _ _ _).mono (fun r h c => ⟨(h c).1.trans ?_, (h c).2⟩) (Cert.Reference25Ideal.Value.run (F := Ideal) m' g')
  show _ = (dats m 0 c).arrAt 1 (cfgs 0).N
  rw [result, hagree c, prepared]
  funext i
  simp only [pointwise, zero_add]

end Cert.Kernel25Ideal.Product

end
-- ==== Proof.DSmallSum.lean ====
/- The sum of the packed small gradients over the eight devices. -/
module

public import proofs.«01_k».proof.Defs
public import Idealize.ShloMosaic.Lib.Pipeline.ValueKit
public import Idealize.ShloMosaic.Lib.Pointwise
public import proofs.«01_k».proof.Proof.Gen.Kernel26Ideal.Value
public import proofs.«01_k».proof.Proof.Gen.Reference26Ideal.Run
public import Idealize.ShloMosaic.Lib.Tactic
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.Kernel26Ideal.Product

open Cert.Kernel26Ideal Cert.Kernel26Ideal.Gen Cert.Kernel26Ideal.Value

variable (m : (ℓ : Loc nD τ sig) → Buf (Elt Ideal) ℓ)

/-- The blocks that grid point `t` works on. -/
theorem idx : ∀ t : Fin grid0.N, win0_0.index t = ![0, t.val, 0] ∧ win0_1.index t = ![t.val, 0] := by decide +kernel

/-- The result array is the sum over the leading axis. -/
theorem result (c : Dev nD) : (dats m 0 c).arrAt 1 (cfgs 0).N
    = fun i => ∑ k : Fin 8, (show EReal from m ((c : Thread nD τ).loc main_arg0) (ix3 k (i 0) (i 1))) := by
  refine (dats m 0 c).arrAt_eq_of_covers 1 _ (by decide +kernel) fun t hf y => ?_
  obtain ⟨e0, e1⟩ := idx t
  blk_simp
  rw [after0_1]; unfold out0_1
  rw [canon1_eq]
  simp only [Fin.sum_univ_castSucc, Fin.sum_univ_zero, zero_add, pointwise]
  iterate 7 refine congrArg₂ HAdd.hAdd ?_ (by blk_ext [iblk, V, e0, e1] <;> rfl)
  blk_ext [iblk, V, e0, e1] <;> rfl

/-- The reference runs to its end and keeps its arguments. -/
theorem frame_reference : Cert.quiescent_Reference26Ideal := fun m ρ _ =>
  (θ_run Cert.Reference26Ideal.defs _ _).mono (fun r h => ⟨fun c => (h c).2, sem_eq_zero_of_no_sems (by decide) r.2⟩)
    (Cert.Reference26Ideal.Value.run (F := Ideal) m ρ)

/-- Kernel and reference leave the same array. -/
theorem algebraic : Cert.algebraic_Kernel26Ideal_Reference26Ideal := by
  intro m g m' g' _ hagree
  refine ⟨_, Cert.Kernel26Ideal.Value.run_blocks (F := Ideal) m g, ?_⟩
  refine (θ_run _ _ _).mono (fun r h c => ⟨(h c).1.trans ?_, (h c).2⟩) (Cert.Reference26Ideal.Value.run (F := Ideal) m' g')
  show _ = (dats m 0 c).arrAt 1 (cfgs 0).N
  rw [result, hagree c]
  funext i
  simp only [pointwise, zero_add]

end Cert.Kernel26Ideal.Product

end
-- ==== Proof.Pw2.lean ====
/- The pointwise convolution. -/
module

public import proofs.«01_k».proof.Defs
public import proofs.«01_k».proof.Proof.MatProd
public import proofs.«01_k».proof.Proof.Gen.Kernel27Ideal.Value
public import proofs.«01_k».proof.Proof.Gen.Reference27Ideal.Run
public import Idealize.ShloMosaic.Lib.Pipeline.ReadBack
public import Idealize.ShloMosaic.Lib.Tactic
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.Kernel27Ideal.Product

open Cert.Kernel27Ideal Cert.Kernel27Ideal.Gen Cert.Kernel27Ideal.Value

variable (m : (ℓ : Loc nD τ sig) → Buf (Elt Ideal) ℓ)

/-- The accumulator starts at zero. -/
theorem zero_block (j) : k0_pay1 (F := Ideal) j = 0 := by
  unfold k0_pay1; simp only [pointwise]

/-- One grid point adds the product of its two blocks to the accumulator. -/
theorem step (x acc y) (j) : k0_pay2 (F := Ideal) x acc y j = acc j + MatProd.nn 1024 y x j := by
  unfold k0_pay2 MatProd.nn; simp only [pointwise, zero_add]

/-- The blocks that grid point `t` works on. -/
theorem idx : ∀ t : Fin grid0.N, win0_0.index t = ![t.val, 0] ∧ win0_1.index t = ![0, 0]
    ∧ win0_2.index t = ![t.val, 0] := by decide +kernel

/-- The result array is the whole product. -/
theorem result (c : Dev nD) : (dats m 0 c).arrAt 2 (cfgs 0).N
    = MatProd.nn 1024 (m ((c : Thread nD τ).loc main_arg0)) (m ((c : Thread nD τ).loc main_arg1)) := by
  refine (dats m 0 c).arrAt_eq_of_covers 2 _ (by decide +kernel) fun t hf y => ?_
  blk_simp
  rw [after0_2]; unfold outsAt0; frame_out
  rw [step, zero_block, zero_add]
  unfold MatProd.nn
  refine Fin.sum_fin_congr fun k => ?_
  obtain ⟨e0, e1, e2⟩ := idx t
  congr 1 <;> blk_ext [iblk, V, e0, e1, e2]

/-- The reference runs to its end and keeps its arguments. -/
theorem frame_reference : Cert.quiescent_Reference27Ideal := fun m ρ _ =>
  (θ_run Cert.Reference27Ideal.defs _ _).mono (fun r h => ⟨fun c => (h c).2, sem_eq_zero_of_no_sems (by decide) r.2⟩)
    (Cert.Reference27Ideal.Value.run (F := Ideal) m ρ)

/-- Kernel and reference leave the same array. -/
theorem algebraic : Cert.algebraic_Kernel27Ideal_Reference27Ideal := by
  intro m g m' g' _ hagree
  refine ⟨_, Cert.Kernel27Ideal.Value.run_blocks (F := Ideal) m g, ?_⟩
  refine (θ_run _ _ _).mono (fun r h c => ⟨(h c).1.trans ?_, (h c).2⟩) (Cert.Reference27Ideal.Value.run (F := Ideal) m' g')
  show _ = (dats m 0 c).arrAt 2 (cfgs 0).N
  rw [result, (hagree c).1, (hagree c).2]
  funext i
  unfold MatProd.nn
  simp only [pointwise, zero_add]

end Cert.Kernel27Ideal.Product

end
-- ==== Proof.Rows.lean ====
/- One row of the root-mean-square norm and of its gradient over the extended reals. -/
module

public import Idealize.ShloMosaic.Lib.Pipeline.ValueKit
public import Idealize.ShloMosaic.Lib.Pointwise

@[expose] public section

noncomputable section

open Idealize.ShloMosaic

namespace Rows

variable {n : ℕ}

/-- The mean square of a row of length `N`, with the norm's small constant. -/
def ms (N : EReal) (x : Fin n → EReal) : EReal := Ideal.div (∑ k, x k * x k) N + Ideal.ofBits .f32 0x358637BD#32

/-- The norm's factor. -/
def inv (N : EReal) (x : Fin n → EReal) : EReal := Ideal.rsqrt (ms N x)

/-- What the mean's gradient adds to each element of the row: `g` is the gradient of the row over the factor. -/
def mean (N : EReal) (x g : Fin n → EReal) : EReal :=
  Ideal.div ((∑ k, x k * g k) * (Ideal.ofBits .f32 0xBF000000#32 * Ideal.div (inv N x) (ms N x))) N

/-- The gradient of the norm to its row. -/
def grad (N : EReal) (x g : Fin n → EReal) (k : Fin n) : EReal := g k * inv N x + x k * mean N x g + mean N x g * x k

/-- The gradient depends on the row, on the factor's gradient and on the place alone. -/
theorem grad_congr {N : EReal} {x x' g g' : Fin n → EReal} {k k' : Fin n} (hx : ∀ k, x k = x' k) (hg : ∀ k, g k = g' k) (hk : k = k') :
    grad N x g k = grad N x' g' k' := by
  rw [funext hx, funext hg, hk]

/-- So does the factor. -/
theorem inv_congr {N : EReal} {x x' : Fin n → EReal} (hx : ∀ k, x k = x' k) : inv N x = inv N x' := by rw [funext hx]

end Rows

end
-- ==== Proof.TwoAxes.lean ====
/- The host's sum over the first two of three axes, at an index: the double sum along them. -/
module

public import Idealize.ShloMosaic.Lib.Pipeline.ValueKit
public import Idealize.ShloMosaic.Lib.Pointwise

@[expose] public section

noncomputable section

open Idealize.ShloMosaic

namespace TwoAxes

variable {a b n : ℕ} {t : Shape}

theorem rank_eq (h : (⟨3, ![a, b, n]⟩ : Shape).ReducesTo [0, 1] t) : t.rank = 1 := h.1

/-- The coordinate on the last axis that an index of the result has. -/
def last (h : (⟨3, ![a, b, n]⟩ : Shape).ReducesTo [0, 1] t) (j : t.Idx) : Fin n :=
  have h0 : 0 < t.rank := by have := rank_eq h; omega
  ⟨(j ⟨0, h0⟩).val, Shape.coordLt (j ⟨0, h0⟩) (h.2 ⟨0, h0⟩)⟩

/-- What drops to `j` are the indices with `j`'s coordinate on the last axis. -/
theorem fiber (h : (⟨3, ![a, b, n]⟩ : Shape).ReducesTo [0, 1] t) (j : t.Idx)
    (i : (⟨3, ![a, b, n]⟩ : Shape).Idx) : h.drop i = j ↔ ∃ k : Fin a × Fin b, ix3 k.1 k.2 (last h j) = i := by
  have h1 := rank_eq h
  refine ⟨fun e => ⟨(i 0, i 1), ?_⟩, ?_⟩
  · funext d
    match d with
    | ⟨0, _⟩ => rfl
    | ⟨1, _⟩ => rfl
    | ⟨2, _⟩ => exact Fin.ext (congrArg Fin.val (congrFun e ⟨0, by omega⟩)).symm
  · rintro ⟨k, rfl⟩
    funext d
    match d with
    | ⟨0, _⟩ => rfl
    | ⟨d + 1, hd⟩ => omega

/-- The sum at an index. -/
theorem sum (h : (⟨3, ![a, b, n]⟩ : Shape).ReducesTo [0, 1] t) (v : (⟨3, ![a, b, n]⟩ : Shape).Idx → EReal)
    (init : EReal) (j : t.Idx) :
    Ideal.hostReduceAdd h v init j = init + ∑ s : Fin a, ∑ r : Fin b, v (ix3 s r (last h j)) := by
  refine congrArg (init + ·) ((Finset.sum_filter_eq_sum_of_fiber _ (fun k : Fin a × Fin b => ix3 k.1 k.2 (last h j))
    (fun _ _ e => Prod.ext (congrFun e 0) (congrFun e 1)) (fiber h j) v).trans ?_)
  simp only [Fintype.sum_prod_type]

end TwoAxes

end
-- ==== Proof.DJunction.lean ====
/- The gradient of the residual and the modulated norm behind it. -/
module

public import proofs.«01_k».proof.Defs
public import proofs.«01_k».proof.Proof.Rows
public import proofs.«01_k».proof.Proof.TwoAxes
public import proofs.«01_k».proof.Proof.Gen.Kernel28Ideal.Value
public import proofs.«01_k».proof.Proof.Gen.Reference28Ideal.Run
public import Idealize.ShloMosaic.Lib.Pipeline.ReadBack
public import Idealize.ShloMosaic.Lib.Tactic
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.Kernel28Ideal.Product

open Cert.Kernel28Ideal Cert.Kernel28Ideal.Gen Cert.Kernel28Ideal.Value

variable (m : (ℓ : Loc nD τ sig) → Buf (Elt Ideal) ℓ)

/-- The row's length. -/
abbrev len : EReal := Ideal.ofBits .f32 0x45000000#32

/-- A row of a block. -/
def row {r : ℕ} (x : (⟨2, ![r, 2048]⟩ : Shape).Idx → EReal) (i : Fin r) : Fin 2048 → EReal := fun k => x (ix2 i k)

/-- A sequence's row of modulation. -/
def seq {r : ℕ} (x : (⟨3, ![r, 1, 2048]⟩ : Shape).Idx → EReal) (i : Fin r) : Fin 2048 → EReal := fun k => x (ix3 i 0 k)

/-- A token's row after the residual. -/
def res (x y gate : Fin 2048 → EReal) (k : Fin 2048) : EReal := x k + gate k * y k

/-- The gradient of the norm before its weight. -/
def mod (scale dh : Fin 2048 → EReal) (k : Fin 2048) : EReal := dh k * (1 + scale k)

/-- The gradient of the row after the residual: what arrives directly and what comes through the norm. -/
def back (x y gate scale w dx dh : Fin 2048 → EReal) (k : Fin 2048) : EReal :=
  let u := res x y gate
  let g := fun k => mod scale dh k * w k
  dx k + g k * Rows.inv len u + u k * Rows.mean len u g + Rows.mean len u g * u k

theorem pay_res (gate x y j) : k0_pay8 (F := Ideal) gate x y j = res (row x (j 0)) (row y (j 0)) (seq gate 0) (j 1) := by
  obtain ⟨a, b, rfl⟩ : ∃ a b, j = ix2 a b := ⟨_, _, eq_ix2 j⟩
  unfold k0_pay8 k0_pay3; simp only [pointwise]; rfl

theorem pay_ms (gate x y j) : k0_pay9 (F := Ideal) gate x y j = Rows.ms len (res (row x (j 0)) (row y (j 0)) (seq gate 0)) := by
  unfold k0_pay9 Rows.ms; simp only [pointwise, pay_res, zero_add]

theorem pay_inv (gate x y j) : k0_pay10 (F := Ideal) gate x y j = Rows.inv len (res (row x (j 0)) (row y (j 0)) (seq gate 0)) := by
  unfold k0_pay10 Rows.inv; simp only [pointwise, pay_ms]

theorem pay_mod (scale dh j) : k0_pay16 (F := Ideal) (k0_pay14 scale) (k0_pay15 dh) j = mod (seq scale 0) (row dh (j 0)) (j 1) := by
  obtain ⟨a, b, rfl⟩ : ∃ a b, j = ix2 a b := ⟨_, _, eq_ix2 j⟩
  unfold k0_pay16 k0_pay14 k0_pay15; simp only [pointwise, Ideal.ofBits_one_f32]; rfl

/-- A block's gradients of the rows after the residual. -/
theorem pay_back (gate scale w x y dx dh j) :
    k0_pay17 (F := Ideal) w (k0_pay8 gate x y) (k0_pay10 gate x y) (k0_pay11 gate x y) (k0_pay14 scale) dx (k0_pay15 dh) j
      = back (row x (j 0)) (row y (j 0)) (seq gate 0) (seq scale 0) (row w 0) (row dx (j 0)) (row dh (j 0)) (j 1) := by
  obtain ⟨a, b, rfl⟩ : ∃ a b, j = ix2 a b := ⟨_, _, eq_ix2 j⟩
  unfold k0_pay17 k0_pay11 back Rows.mean
  simp only [pointwise, pay_res, pay_ms, pay_inv, pay_mod, zero_add, Fin.sum_univ_one, Nat.reduceEqDiff, reduceDIte]
  rfl

/-- A block's gradients of the branch. -/
theorem pay_branch (gate scale w x y dx dh j) :
    k0_pay19 (F := Ideal) (k0_pay3 gate) w (k0_pay8 gate x y) (k0_pay10 gate x y) (k0_pay11 gate x y) (k0_pay14 scale) dx (k0_pay15 dh) j
      = seq gate 0 (j 1)
        * back (row x (j 0)) (row y (j 0)) (seq gate 0) (seq scale 0) (row w 0) (row dx (j 0)) (row dh (j 0)) (j 1) := by
  obtain ⟨a, b, rfl⟩ : ∃ a b, j = ix2 a b := ⟨_, _, eq_ix2 j⟩
  unfold k0_pay19 k0_pay18 k0_pay3
  simp only [pointwise, pay_back]
  rfl

/-- A block's share of the gradient of the gate. -/
theorem pay_gate (gate scale w x y dx dh acc j) :
    k0_pay27 (F := Ideal) (k0_pay20 w k0_pay4 y (k0_pay8 gate x y) (k0_pay10 gate x y) (k0_pay11 gate x y) (k0_pay14 scale) dx
        (k0_pay15 dh)) acc j
      = acc j + ∑ p : Fin 128, back (row x p) (row y p) (seq gate 0) (seq scale 0) (row w 0) (row dx p) (row dh p) (j 2)
          * row y p (j 2) := by
  unfold k0_pay27 k0_pay20 k0_pay18 k0_pay4
  simp only [pointwise, pay_back, zero_add]
  rfl

/-- A block's share of the gradient of the shift. -/
theorem pay_shift (dh acc j) :
    k0_pay28 (F := Ideal) (k0_pay21 k0_pay5 dh) acc j = acc j + ∑ p : Fin 128, row dh p (j 2) := by
  unfold k0_pay28 k0_pay21 k0_pay5
  simp only [pointwise, zero_add]
  rfl

/-- A block's share of the gradient of the scale. -/
theorem pay_scale (gate w x y dh acc j) :
    k0_pay29 (F := Ideal) (k0_pay22 k0_pay6 (k0_pay13 gate w x y) (k0_pay15 dh)) acc j
      = acc j + ∑ p : Fin 128, res (row x p) (row y p) (seq gate 0) (j 2) * Rows.inv len (res (row x p) (row y p) (seq gate 0))
          * row w 0 (j 2) * row dh p (j 2) := by
  unfold k0_pay29 k0_pay22 k0_pay6 k0_pay13 k0_pay12 k0_pay15
  simp only [pointwise, pay_res, pay_inv, zero_add]
  rfl

/-- A block's share of the gradient of the weight. -/
theorem pay_weight (gate scale x y dh acc j) :
    k0_pay2 (F := Ideal) (k0_pay23 k0_pay7 (k0_pay12 gate x y) (k0_pay14 scale) (k0_pay15 dh)) acc j
      = acc j + ∑ p : Fin 128, res (row x p) (row y p) (seq gate 0) (j 1) * Rows.inv len (res (row x p) (row y p) (seq gate 0))
          * mod (seq scale 0) (row dh p) (j 1) := by
  unfold k0_pay2 k0_pay23 k0_pay7 k0_pay12
  simp only [pointwise, pay_res, pay_inv, pay_mod, zero_add]
  rfl

theorem zero_gate (j) : k0_pay24 (F := Ideal) j = 0 := by unfold k0_pay24; simp only [pointwise]
theorem zero_shift (j) : k0_pay25 (F := Ideal) j = 0 := by unfold k0_pay25; simp only [pointwise]
theorem zero_scale (j) : k0_pay26 (F := Ideal) j = 0 := by unfold k0_pay26; simp only [pointwise]
theorem zero_weight (j) : k0_pay1 (F := Ideal) j = 0 := by unfold k0_pay1; simp only [pointwise]

/-- The windows of rows move along the rows, those of the modulation along the sequences; the weight and its gradient stay. -/
theorem idx : ∀ t : Fin grid0.N, win0_0.index t = ![t.val, 0] ∧ win0_1.index t = ![t.val, 0]
    ∧ win0_2.index t = ![t.val / 16, 0, 0] ∧ win0_4.index t = ![t.val / 16, 0, 0] ∧ win0_5.index t = ![0, 0]
    ∧ win0_6.index t = ![t.val, 0] ∧ win0_7.index t = ![t.val, 0] ∧ win0_8.index t = ![t.val, 0] ∧ win0_9.index t = ![t.val, 0]
    ∧ win0_10.index t = ![t.val / 16, 0, 0] ∧ win0_11.index t = ![t.val / 16, 0, 0] ∧ win0_12.index t = ![t.val / 16, 0, 0]
    ∧ win0_13.index t = ![0, 0] := by decide +kernel

section blocks

variable (c : Dev nD) (t : Fin cfg0.N) (p : Fin 128) (n : Fin 4096) (s : Fin 2)

/-- The rows and sequences of the arrays that a point's blocks hold. -/
theorem blk_x (h : n.val = t.val * 128 + p.val) : row (iblk m c 0 t) p = row (m ((c : Thread nD τ).loc main_arg0)) n := by
  obtain ⟨e, -⟩ := idx t
  funext k; dsimp only [row]; blk_ext [iblk, V, e]

theorem blk_y (h : n.val = t.val * 128 + p.val) : row (iblk m c 1 t) p = row (m ((c : Thread nD τ).loc main_arg1)) n := by
  obtain ⟨-, e, -⟩ := idx t
  funext k; dsimp only [row]; blk_ext [iblk, V, e]

theorem blk_gate (h : s.val = t.val / 16) : seq (iblk m c 2 t) 0 = seq (m ((c : Thread nD τ).loc main_arg2)) s := by
  obtain ⟨-, -, e, -⟩ := idx t
  funext k; dsimp only [seq]; blk_ext [iblk, V, e]

theorem blk_scale (h : s.val = t.val / 16) : seq (iblk m c 4 t) 0 = seq (m ((c : Thread nD τ).loc main_arg4)) s := by
  obtain ⟨-, -, -, e, -⟩ := idx t
  funext k; dsimp only [seq]; blk_ext [iblk, V, e]

theorem blk_w : row (iblk m c 5 t) 0 = row (m ((c : Thread nD τ).loc main_arg5)) 0 := by
  obtain ⟨-, -, -, -, e, -⟩ := idx t
  funext k; dsimp only [row]; blk_ext [iblk, V, e]

theorem blk_dx (h : n.val = t.val * 128 + p.val) : row (iblk m c 6 t) p = row (m ((c : Thread nD τ).loc main_arg6)) n := by
  obtain ⟨-, -, -, -, -, e, -⟩ := idx t
  funext k; dsimp only [row]; blk_ext [iblk, V, e]

theorem blk_dh (h : n.val = t.val * 128 + p.val) : row (iblk m c 7 t) p = row (m ((c : Thread nD τ).loc main_arg7)) n := by
  obtain ⟨-, -, -, -, -, -, e, -⟩ := idx t
  funext k; dsimp only [row]; blk_ext [iblk, V, e]

/-- Token `n` of sequence `s` after the residual. -/
def resAt : Fin 2048 → EReal :=
  res (row (m ((c : Thread nD τ).loc main_arg0)) n) (row (m ((c : Thread nD τ).loc main_arg1)) n) (seq (m ((c : Thread nD τ).loc main_arg2)) s)

/-- Its gradient. -/
def backAt : Fin 2048 → EReal :=
  back (row (m ((c : Thread nD τ).loc main_arg0)) n) (row (m ((c : Thread nD τ).loc main_arg1)) n) (seq (m ((c : Thread nD τ).loc main_arg2)) s)
    (seq (m ((c : Thread nD τ).loc main_arg4)) s) (row (m ((c : Thread nD τ).loc main_arg5)) 0) (row (m ((c : Thread nD τ).loc main_arg6)) n)
    (row (m ((c : Thread nD τ).loc main_arg7)) n)

theorem blk_res (h : n.val = t.val * 128 + p.val) (h' : s.val = t.val / 16) :
    res (row (iblk m c 0 t) p) (row (iblk m c 1 t) p) (seq (iblk m c 2 t) 0) = resAt m c n s := by
  rw [blk_x m c t p n h, blk_y m c t p n h, blk_gate m c t s h']; rfl

theorem blk_back (h : n.val = t.val * 128 + p.val) (h' : s.val = t.val / 16) :
    back (row (iblk m c 0 t) p) (row (iblk m c 1 t) p) (seq (iblk m c 2 t) 0) (seq (iblk m c 4 t) 0) (row (iblk m c 5 t) 0)
      (row (iblk m c 6 t) p) (row (iblk m c 7 t) p) = backAt m c n s := by
  rw [blk_x m c t p n h, blk_y m c t p n h, blk_gate m c t s h', blk_scale m c t s h', blk_w, blk_dx m c t p n h, blk_dh m c t p n h]; rfl

end blocks

/-- The sequence of a token. -/
abbrev seqOf (n : Fin 4096) : Fin 2 := ⟨n.val / 2048, by omega⟩

/-- A sequence's token. -/
abbrev tok (s : Fin 2) (k : Fin 2048) : Fin 4096 := ⟨s.val * 2048 + k.val, by omega⟩

/-- Each grid point writes its rows' gradients and the branch's. -/
theorem written (c : Dev nD) (t : Fin cfg0.N) :
    (outsAt0 m c t.val t.isLt).1 = k0_pay17 (F := Ideal) (iblk m c 5 t) (k0_pay8 (iblk m c 2 t) (iblk m c 0 t) (iblk m c 1 t))
        (k0_pay10 (iblk m c 2 t) (iblk m c 0 t) (iblk m c 1 t)) (k0_pay11 (iblk m c 2 t) (iblk m c 0 t) (iblk m c 1 t))
        (k0_pay14 (iblk m c 4 t)) (iblk m c 6 t) (k0_pay15 (iblk m c 7 t)) := by
  by_cases h : t.val % 32 = 0
  · have h' : t.val % 16 = 0 := by omega
    rw [outsAt0_A m c t h' h]; funext j; frame_out
  · by_cases h' : t.val % 16 = 0
    · rw [outsAt0_C m c t h' h]; funext j; frame_out
    · rw [outsAt0_B m c t h' h]; funext j; frame_out

theorem written_branch (c : Dev nD) (t : Fin cfg0.N) :
    (outsAt0 m c t.val t.isLt).2.1 = k0_pay19 (F := Ideal) (k0_pay3 (iblk m c 2 t)) (iblk m c 5 t)
        (k0_pay8 (iblk m c 2 t) (iblk m c 0 t) (iblk m c 1 t))
        (k0_pay10 (iblk m c 2 t) (iblk m c 0 t) (iblk m c 1 t)) (k0_pay11 (iblk m c 2 t) (iblk m c 0 t) (iblk m c 1 t))
        (k0_pay14 (iblk m c 4 t)) (iblk m c 6 t) (k0_pay15 (iblk m c 7 t)) := by
  by_cases h : t.val % 32 = 0
  · have h' : t.val % 16 = 0 := by omega
    rw [outsAt0_A m c t h' h]; funext j; frame_out
  · by_cases h' : t.val % 16 = 0
    · rw [outsAt0_C m c t h' h]; funext j; frame_out
    · rw [outsAt0_B m c t h' h]; funext j; frame_out

/-- The array of gradients of the rows. -/
theorem result_x (c : Dev nD) : (dats m 0 c).arrAt 8 (cfgs 0).N = fun i : S4096x2048.Idx => backAt m c (i 0) (seqOf (i 0)) (i 1) := by
  refine (dats m 0 c).arrAt_eq_of_covers 8 _ (by decide +kernel) fun t hf y => ?_
  obtain ⟨-, -, -, -, -, -, -, e, -⟩ := idx t
  have e0 : ((win0_8.blk t).view.emb y 0).val = t.val * 128 + (y 0).val := by blk_simp [e]
  have e1 : y 1 = (win0_8.blk t).view.emb y 1 := Fin.ext (by blk_simp [e])
  have es : (seqOf ((win0_8.blk t).view.emb y 0)).val = t.val / 16 := by
    show ((win0_8.blk t).view.emb y 0).val / 2048 = _
    have : (y 0).val < 128 := (y 0).isLt
    omega
  blk_simp
  rw [after0_8, written, pay_back, blk_back m c t (y 0) _ _ e0 es, e1]

/-- The array of gradients of the branch. -/
theorem result_y (c : Dev nD) : (dats m 0 c).arrAt 9 (cfgs 0).N = fun i : S4096x2048.Idx =>
    seq (m ((c : Thread nD τ).loc main_arg2)) (seqOf (i 0)) (i 1) * backAt m c (i 0) (seqOf (i 0)) (i 1) := by
  refine (dats m 0 c).arrAt_eq_of_covers 9 _ (by decide +kernel) fun t hf y => ?_
  obtain ⟨-, -, -, -, -, -, -, -, e, -⟩ := idx t
  have e0 : ((win0_9.blk t).view.emb y 0).val = t.val * 128 + (y 0).val := by blk_simp [e]
  have e1 : y 1 = (win0_9.blk t).view.emb y 1 := Fin.ext (by blk_simp [e])
  have es : (seqOf ((win0_9.blk t).view.emb y 0)).val = t.val / 16 := by
    show ((win0_9.blk t).view.emb y 0).val / 2048 = _
    have : (y 0).val < 128 := (y 0).isLt
    omega
  blk_simp
  rw [after0_9, written_branch, pay_branch, blk_back m c t (y 0) _ _ e0 es, blk_gate m c t _ es, e1]

/-- A point's share of the gradient of the gate. -/
def gateTerm (c : Dev nD) (t : Fin cfg0.N) (j : S1x1x2048.Idx) : EReal := ∑ p : Fin 128,
  back (row (iblk m c 0 t) p) (row (iblk m c 1 t) p) (seq (iblk m c 2 t) 0) (seq (iblk m c 4 t) 0) (row (iblk m c 5 t) 0)
    (row (iblk m c 6 t) p) (row (iblk m c 7 t) p) (j 2) * row (iblk m c 1 t) p (j 2)

/-- A point's share of the gradient of the shift. -/
def shiftTerm (c : Dev nD) (t : Fin cfg0.N) (j : S1x1x2048.Idx) : EReal := ∑ p : Fin 128, row (iblk m c 7 t) p (j 2)

/-- A point's share of the gradient of the scale. -/
def scaleTerm (c : Dev nD) (t : Fin cfg0.N) (j : S1x1x2048.Idx) : EReal := ∑ p : Fin 128,
  res (row (iblk m c 0 t) p) (row (iblk m c 1 t) p) (seq (iblk m c 2 t) 0) (j 2)
    * Rows.inv len (res (row (iblk m c 0 t) p) (row (iblk m c 1 t) p) (seq (iblk m c 2 t) 0)) * row (iblk m c 5 t) 0 (j 2)
    * row (iblk m c 7 t) p (j 2)

/-- A point's share of the gradient of the weight. -/
def weightTerm (c : Dev nD) (t : Fin cfg0.N) (j : S1x2048.Idx) : EReal := ∑ p : Fin 128,
  res (row (iblk m c 0 t) p) (row (iblk m c 1 t) p) (seq (iblk m c 2 t) 0) (j 1)
    * Rows.inv len (res (row (iblk m c 0 t) p) (row (iblk m c 1 t) p) (seq (iblk m c 2 t) 0))
    * mod (seq (iblk m c 4 t) 0) (row (iblk m c 7 t) p) (j 1)

/-- After a sequence's last point the three accumulators of its modulation hold its points' shares, summed. -/
theorem carried_gate (c : Dev nD) (t : Fin cfg0.N) (ht : t.val % 16 = 15) (j : S1x1x2048.Idx) :
    (outsAt0 m c t.val t.isLt).2.2.1 j
      = 0 + ∑ s : Fin 16, gateTerm m c ⟨16 * (t.val / 16) + s, Pipeline.run_point_lt_of_flush t ht s⟩ j := by
  refine Pipeline.eq_sum_fin_of_reset_step_apply_of_flush (fun n h => (outsAt0 m c n h).2.2.1) 16 (fun _ => 0)
    (gateTerm m c) (fun t h j => ?_) (fun t h j => ?_) t ht j
  · by_cases h' : t.val % 32 = 0
    · rw [outsAt0_A m c t h h']; frame_out; rw [pay_gate, zero_gate]; rfl
    · rw [outsAt0_C m c t h h']; frame_out; rw [pay_gate, zero_gate]; rfl
  · rw [outsAt0_B m c t h (by omega)]; frame_out; rw [pay_gate]; rfl

theorem carried_shift (c : Dev nD) (t : Fin cfg0.N) (ht : t.val % 16 = 15) (j : S1x1x2048.Idx) :
    (outsAt0 m c t.val t.isLt).2.2.2.1 j
      = 0 + ∑ s : Fin 16, shiftTerm m c ⟨16 * (t.val / 16) + s, Pipeline.run_point_lt_of_flush t ht s⟩ j := by
  refine Pipeline.eq_sum_fin_of_reset_step_apply_of_flush (fun n h => (outsAt0 m c n h).2.2.2.1) 16 (fun _ => 0)
    (shiftTerm m c) (fun t h j => ?_) (fun t h j => ?_) t ht j
  · by_cases h' : t.val % 32 = 0
    · rw [outsAt0_A m c t h h']; frame_out; rw [pay_shift, zero_shift]; rfl
    · rw [outsAt0_C m c t h h']; frame_out; rw [pay_shift, zero_shift]; rfl
  · rw [outsAt0_B m c t h (by omega)]; frame_out; rw [pay_shift]; rfl

theorem carried_scale (c : Dev nD) (t : Fin cfg0.N) (ht : t.val % 16 = 15) (j : S1x1x2048.Idx) :
    (outsAt0 m c t.val t.isLt).2.2.2.2.1 j
      = 0 + ∑ s : Fin 16, scaleTerm m c ⟨16 * (t.val / 16) + s, Pipeline.run_point_lt_of_flush t ht s⟩ j := by
  refine Pipeline.eq_sum_fin_of_reset_step_apply_of_flush (fun n h => (outsAt0 m c n h).2.2.2.2.1) 16 (fun _ => 0)
    (scaleTerm m c) (fun t h j => ?_) (fun t h j => ?_) t ht j
  · by_cases h' : t.val % 32 = 0
    · rw [outsAt0_A m c t h h']; frame_out; rw [pay_scale, zero_scale]; rfl
    · rw [outsAt0_C m c t h h']; frame_out; rw [pay_scale, zero_scale]; rfl
  · rw [outsAt0_B m c t h (by omega)]; frame_out; rw [pay_scale]; rfl

/-- After the last point the weight's accumulator holds all the points' shares, summed. -/
theorem carried_weight (c : Dev nD) (t : Fin cfg0.N) (ht : t.val % 32 = 31) (j : S1x2048.Idx) :
    (outsAt0 m c t.val t.isLt).2.2.2.2.2 j
      = 0 + ∑ s : Fin 32, weightTerm m c ⟨32 * (t.val / 32) + s, Pipeline.run_point_lt_of_flush t ht s⟩ j := by
  refine Pipeline.eq_sum_fin_of_reset_step_apply_of_flush (fun n h => (outsAt0 m c n h).2.2.2.2.2) 32 (fun _ => 0)
    (weightTerm m c) (fun t h j => ?_) (fun t h j => ?_) t ht j
  · rw [outsAt0_A m c t (by omega) h]; frame_out; rw [pay_weight, zero_weight]; rfl
  · by_cases h' : t.val % 16 = 0
    · rw [outsAt0_C m c t h' h]; frame_out; rw [pay_weight]; rfl
    · rw [outsAt0_B m c t h' h]; frame_out; rw [pay_weight]; rfl

section sums

variable (c : Dev nD)

/-- A sequence's gradient of the gate. -/
def gates (s : Fin 2) (k : Fin 2048) : EReal := ∑ r : Fin 2048, backAt m c (tok s r) s k * row (m ((c : Thread nD τ).loc main_arg1)) (tok s r) k

/-- A sequence's gradient of the shift. -/
def shifts (s : Fin 2) (k : Fin 2048) : EReal := ∑ r : Fin 2048, row (m ((c : Thread nD τ).loc main_arg7)) (tok s r) k

/-- A sequence's gradient of the scale. -/
def scales (s : Fin 2) (k : Fin 2048) : EReal := ∑ r : Fin 2048,
  resAt m c (tok s r) s k * Rows.inv len (resAt m c (tok s r) s) * row (m ((c : Thread nD τ).loc main_arg5)) 0 k
    * row (m ((c : Thread nD τ).loc main_arg7)) (tok s r) k

/-- A token's share of the gradient of the weight. -/
def weightAt (n : Fin 4096) (s : Fin 2) (k : Fin 2048) : EReal :=
  resAt m c n s k * Rows.inv len (resAt m c n s) * mod (seq (m ((c : Thread nD τ).loc main_arg4)) s) (row (m ((c : Thread nD τ).loc main_arg7)) n) k

/-- The gradient of the weight, over both sequences. -/
def weights (k : Fin 2048) : EReal := ∑ s : Fin 2, ∑ r : Fin 2048, weightAt m c (tok s r) s k

end sums

/-- A block's row is its sequence's token. -/
theorem run_tok {a : Fin 2} {t s k : ℕ} (h : a.val = t / 16) (hs : s < 16) (hk : s * 128 + k < 2048) :
    (tok a ⟨s * 128 + k, hk⟩).val = (16 * (t / 16) + s) * 128 + k ∧ a.val = (16 * (t / 16) + s) / 16 := by
  refine ⟨?_, by omega⟩
  show a.val * 2048 + (s * 128 + k) = _
  omega

/-- The array of gradients of the gate. -/
theorem result_gate (c : Dev nD) : (dats m 0 c).arrAt 10 (cfgs 0).N = fun i : S2x1x2048.Idx => gates m c (i 0) (i 2) := by
  refine (dats m 0 c).arrAt_eq_of_covers 10 _ (by decide +kernel) fun t hf y => ?_
  have ht := (flush0_10 t).mp hf
  obtain ⟨-, -, -, -, -, -, -, -, -, e, -⟩ := idx t
  have e0 : ((win0_10.blk t).view.emb y 0).val = t.val / 16 := by blk_simp [e]
  have e2 : y 2 = (win0_10.blk t).view.emb y 2 := Fin.ext (by blk_simp [e])
  blk_simp
  rw [after0_10, carried_gate m c t ht, zero_add]
  unfold gateTerm gates
  refine Fin.sum_mul_add_congr fun s k hk => ?_
  obtain ⟨hn, hs⟩ := run_tok e0 s.isLt hk
  have b := Pipeline.run_point_lt_of_flush t ht s
  rw [blk_back m c ⟨16 * (t.val / 16) + s, b⟩ k _ _ hn hs, blk_y m c ⟨16 * (t.val / 16) + s, b⟩ k _ hn, e2]

/-- The array of gradients of the shift. -/
theorem result_shift (c : Dev nD) : (dats m 0 c).arrAt 11 (cfgs 0).N = fun i : S2x1x2048.Idx => shifts m c (i 0) (i 2) := by
  refine (dats m 0 c).arrAt_eq_of_covers 11 _ (by decide +kernel) fun t hf y => ?_
  have ht := (flush0_11 t).mp hf
  obtain ⟨-, -, -, -, -, -, -, -, -, -, e, -⟩ := idx t
  have e0 : ((win0_11.blk t).view.emb y 0).val = t.val / 16 := by blk_simp [e]
  have e2 : y 2 = (win0_11.blk t).view.emb y 2 := Fin.ext (by blk_simp [e])
  blk_simp
  rw [after0_11, carried_shift m c t ht, zero_add]
  unfold shiftTerm shifts
  refine Fin.sum_mul_add_congr fun s k hk => ?_
  obtain ⟨hn, hs⟩ := run_tok e0 s.isLt hk
  have b := Pipeline.run_point_lt_of_flush t ht s
  rw [blk_dh m c ⟨16 * (t.val / 16) + s, b⟩ k _ hn, e2]

/-- The array of gradients of the scale. -/
theorem result_scale (c : Dev nD) : (dats m 0 c).arrAt 12 (cfgs 0).N = fun i : S2x1x2048.Idx => scales m c (i 0) (i 2) := by
  refine (dats m 0 c).arrAt_eq_of_covers 12 _ (by decide +kernel) fun t hf y => ?_
  have ht := (flush0_12 t).mp hf
  obtain ⟨-, -, -, -, -, -, -, -, -, -, -, e, -⟩ := idx t
  have e0 : ((win0_12.blk t).view.emb y 0).val = t.val / 16 := by blk_simp [e]
  have e2 : y 2 = (win0_12.blk t).view.emb y 2 := Fin.ext (by blk_simp [e])
  blk_simp
  rw [after0_12, carried_scale m c t ht, zero_add]
  unfold scaleTerm scales
  refine Fin.sum_mul_add_congr fun s k hk => ?_
  obtain ⟨hn, hs⟩ := run_tok e0 s.isLt hk
  have b := Pipeline.run_point_lt_of_flush t ht s
  rw [blk_res m c ⟨16 * (t.val / 16) + s, b⟩ k _ _ hn hs, blk_w, blk_dh m c ⟨16 * (t.val / 16) + s, b⟩ k _ hn, e2]

/-- The array of gradients of the weight. -/
theorem result_weight (c : Dev nD) : (dats m 0 c).arrAt 13 (cfgs 0).N = fun i : S1x2048.Idx => weights m c (i 1) := by
  refine (dats m 0 c).arrAt_eq_of_covers 13 _ (by decide +kernel) fun t hf y => ?_
  have ht := (flush0_13 t).mp hf
  obtain ⟨-, -, -, -, -, -, -, -, -, -, -, -, e⟩ := idx t
  have e1 : y 1 = (win0_13.blk t).view.emb y 1 := Fin.ext (by blk_simp [e])
  blk_simp
  rw [after0_13, carried_weight m c t ht, zero_add]
  unfold weightTerm weights
  refine (Fin.sum_mul_add_congr (f := fun n : Fin 4096 => weightAt m c n (seqOf n) ((win0_13.blk t).view.emb y 1)) fun s k hk => ?_).trans
    (Fin.sum_mul_add_congr fun s r hr => ?_).symm
  · have b := Pipeline.run_point_lt_of_flush t ht s
    have h0 : t.val / 32 = 0 := by have : t.val < 32 := t.isLt; omega
    have hn : (⟨s.val * 128 + k.val, hk⟩ : Fin 4096).val = (32 * (t.val / 32) + s.val) * 128 + k.val := by
      show s.val * 128 + k.val = _
      omega
    have hs : (seqOf ⟨s.val * 128 + k.val, hk⟩).val = (32 * (t.val / 32) + s.val) / 16 := by
      show (s.val * 128 + k.val) / 2048 = _
      omega
    unfold weightAt
    rw [blk_res m c ⟨32 * (t.val / 32) + s, b⟩ k _ _ hn hs, blk_scale m c ⟨32 * (t.val / 32) + s, b⟩ _ hs,
      blk_dh m c ⟨32 * (t.val / 32) + s, b⟩ k _ hn, e1]
  · have : seqOf ⟨s.val * 2048 + r.val, hr⟩ = s := Fin.ext (show (s.val * 2048 + r.val) / 2048 = _ by omega)
    show _ = weightAt m c ⟨s.val * 2048 + r.val, hr⟩ (seqOf ⟨s.val * 2048 + r.val, hr⟩) _
    rw [this]

/-- The reference runs to its end and keeps its arguments. -/
theorem frame_reference : Cert.quiescent_Reference28Ideal := fun m ρ _ =>
  (θ_run Cert.Reference28Ideal.defs _ _).mono
    (fun r h => ⟨fun c => (h c).2.2.2.2.2.2, sem_eq_zero_of_no_sems (by decide) r.2⟩)
    (Cert.Reference28Ideal.Value.run (F := Ideal) m ρ)

set_option maxHeartbeats 4000000 in
/-- Kernel and reference leave the same six arrays. -/
theorem algebraic : Cert.algebraic_Kernel28Ideal_Reference28Ideal := by
  intro m g m' g' _ hagree
  refine ⟨_, _, _, _, _, _, Cert.Kernel28Ideal.Value.run_blocks (F := Ideal) m g, ?_⟩
  refine (θ_run _ _ _).mono (fun r h c => ⟨(h c).1.trans ?_, (h c).2.1.trans ?_, (h c).2.2.1.trans ?_, (h c).2.2.2.1.trans ?_,
      (h c).2.2.2.2.1.trans ?_, (h c).2.2.2.2.2.1.trans ?_, (h c).2.2.2.2.2.2⟩)
    (Cert.Reference28Ideal.Value.run (F := Ideal) m' g')
  all_goals obtain ⟨h0, h1, h2, -, h4, h5, h6, h7⟩ := hagree c
  · show _ = (dats m 0 c).arrAt 8 (cfgs 0).N
    rw [result_x]
    unfold Cert.Reference28Ideal.Value.res_main_v72
    rw [h0, h1, h2, h4, h5, h6, h7]
    funext i
    obtain ⟨a, b, rfl⟩ : ∃ a b, i = ix2 a b := ⟨_, _, eq_ix2 i⟩
    unfold backAt back res mod row seq Rows.mean Rows.inv Rows.ms
    simp only [pointwise, zero_add, Fin.sum_univ_one, Nat.reduceEqDiff, reduceDIte, Matrix.cons_val_zero, Matrix.cons_val_one, Ideal.ofBits_one_f32]
  · show _ = (dats m 0 c).arrAt 9 (cfgs 0).N
    rw [result_y]
    unfold Cert.Reference28Ideal.Value.res_main_v74
    rw [h0, h1, h2, h4, h5, h6, h7]
    funext i
    obtain ⟨a, b, rfl⟩ : ∃ a b, i = ix2 a b := ⟨_, _, eq_ix2 i⟩
    unfold backAt back res mod row seq Rows.mean Rows.inv Rows.ms
    simp only [pointwise, zero_add, Fin.sum_univ_one, Nat.reduceEqDiff, reduceDIte, Matrix.cons_val_zero, Matrix.cons_val_one, Ideal.ofBits_one_f32]
  · show _ = (dats m 0 c).arrAt 10 (cfgs 0).N
    rw [result_gate]
    unfold Cert.Reference28Ideal.Value.res_main_v75
    rw [h0, h1, h2, h4, h5, h6, h7]
    funext i
    obtain ⟨a, d, b, rfl⟩ : ∃ a d b, i = ix3 a d b := ⟨_, _, _, eq_ix3 i⟩
    unfold gates backAt back res mod row seq Rows.mean Rows.inv Rows.ms
    simp only [pointwise, zero_add, Fin.sum_univ_one, Nat.reduceEqDiff, reduceDIte, Matrix.cons_val_zero, Matrix.cons_val_one, Ideal.ofBits_one_f32]
  · show _ = (dats m 0 c).arrAt 11 (cfgs 0).N
    rw [result_shift, h7]
    funext i
    obtain ⟨a, d, b, rfl⟩ : ∃ a d b, i = ix3 a d b := ⟨_, _, _, eq_ix3 i⟩
    unfold shifts row
    simp only [pointwise, zero_add, Fin.sum_univ_one, Nat.reduceEqDiff, reduceDIte, Matrix.cons_val_zero, Matrix.cons_val_one]
  · show _ = (dats m 0 c).arrAt 12 (cfgs 0).N
    rw [result_scale, h0, h1, h2, h5, h7]
    funext i
    obtain ⟨a, d, b, rfl⟩ : ∃ a d b, i = ix3 a d b := ⟨_, _, _, eq_ix3 i⟩
    unfold scales resAt res row seq Rows.inv Rows.ms
    simp only [pointwise, zero_add, Fin.sum_univ_one, Nat.reduceEqDiff, reduceDIte, Matrix.cons_val_zero, Matrix.cons_val_one]
  · show _ = (dats m 0 c).arrAt 13 (cfgs 0).N
    rw [result_weight, h0, h1, h2, h4, h7]
    funext i
    obtain ⟨a, b, rfl⟩ : ∃ a b, i = ix2 a b := ⟨_, _, eq_ix2 i⟩
    unfold weights weightAt resAt res mod row seq Rows.inv Rows.ms
    simp only [pointwise, TwoAxes.sum, TwoAxes.last, zero_add, Fin.sum_univ_one, Nat.reduceEqDiff, reduceDIte, Matrix.cons_val_zero, Matrix.cons_val_one, Ideal.ofBits_one_f32]

end Cert.Kernel28Ideal.Product

end
-- ==== Proof.Swish.lean ====
/- The sigmoid and its derivative over the extended reals: the kernel differentiates `1 / (1 + exp (-x))` as a quotient, the
   reference has `s (1 - s)`. Both are the same number at every extended real. -/
module

public import Idealize.ShloMosaic.Lib.Pipeline.ValueKit
public import Idealize.ShloMosaic.Lib.Pointwise

@[expose] public section

noncomputable section

open Idealize.ShloMosaic

namespace Swish

/-- The sigmoid. -/
def sig (x : EReal) : EReal := Ideal.div 1 (1 + Ideal.exp (-x))

/-- The quotient's derivative times the exponential is `s (1 - s)`. -/
theorem slope (x : EReal) :
    Ideal.div 1 ((1 + Ideal.exp (-x)) * (1 + Ideal.exp (-x))) * Ideal.exp (-x) = sig x * (1 - sig x) := by
  unfold sig
  induction x using EReal.rec with
  | bot =>
    have e : (1 : EReal) + ⊤ = ⊤ := EReal.add_top_of_ne_bot (EReal.coe_ne_bot 1)
    simp [Ideal.div, e]
  | top =>
    have e : (1 : EReal) - 1 = 0 := by rw [← EReal.coe_one, ← EReal.coe_sub, sub_self, EReal.coe_zero]
    simp [Ideal.div, e]
  | coe r =>
    have h : (0 : ℝ) < 1 + Real.exp (-r) := by positivity
    have e : (1 : EReal) + Ideal.exp (-(r : EReal)) = ((1 + Real.exp (-r) : ℝ) : EReal) := by
      rw [← EReal.coe_neg, Ideal.exp_coe, ← EReal.coe_one, ← EReal.coe_add]
    rw [e, ← EReal.coe_mul, Ideal.div_coe h.ne', Ideal.div_coe (mul_pos h h).ne', ← EReal.coe_neg, Ideal.exp_coe]
    simp only [one_mul, ← EReal.coe_one, ← EReal.coe_sub, ← EReal.coe_mul]
    congr 1
    field_simp
    ring

/-- The kernel's derivative of the sigmoid, with its signs. -/
theorem kernel_slope (a x : EReal) :
    0 - (0 - a * Ideal.div 1 ((1 + Ideal.exp (0 - x)) * (1 + Ideal.exp (0 - x))) * 1) * Ideal.exp (0 - x) = a * (sig x * (1 - sig x)) := by
  rw [← slope]
  simp only [zero_sub, neg_mul, neg_neg, mul_one, mul_assoc]

/-- The gradient of the swish `x * sig x` at `x`, for the upstream gradient `dy`. -/
def grad (x dy : EReal) : EReal := dy * sig x + x * dy * (sig x * (1 - sig x))

end Swish

end
-- ==== Proof.DGlu.lean ====
/- The gradient of the gated linear unit. -/
module

public import proofs.«01_k».proof.Defs
public import proofs.«01_k».proof.Proof.Swish
public import proofs.«01_k».proof.Proof.Gen.Kernel29Ideal.Value
public import proofs.«01_k».proof.Proof.Gen.Reference29Ideal.Run
public import Idealize.ShloMosaic.Lib.Tactic
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.Kernel29Ideal.Product

open Cert.Kernel29Ideal Cert.Kernel29Ideal.Gen Cert.Kernel29Ideal.Value

variable (m : (ℓ : Loc nD τ sig) → Buf (Elt Ideal) ℓ)

/-- The gradient of one value. -/
def valueGrad (dy gate : EReal) : EReal := dy * Swish.sig gate

/-- A block's gradients of the values. -/
theorem pay_value (gate dy) (j) : k0_pay3 (F := Ideal) gate dy j = valueGrad (dy j) (gate j) := by
  unfold valueGrad k0_pay3 k0_pay2 k0_pay1 Swish.sig; simp only [pointwise, zero_sub, Ideal.ofBits_one_f32]

/-- The gradient of one gate. -/
def gateGrad (val dy gate : EReal) : EReal := val * dy * (Swish.sig gate * (1 - Swish.sig gate))

/-- A block's gradients of the gates. -/
theorem pay_gate (val gate dy) (j) : k0_pay4 (F := Ideal) val gate dy j = gateGrad (val j) (dy j) (gate j) := by
  unfold gateGrad
  rw [← Swish.kernel_slope]
  unfold k0_pay4 k0_pay2 k0_pay1; simp only [pointwise, Ideal.ofBits_one_f32]

/-- The values are the first, the gates the second part of the projection; every window moves along the rows. -/
theorem idx : ∀ t : Fin grid0.N, win0_0.index t = win0_3.index t ∧ win0_1.index t 0 = win0_3.index t 0 ∧ win0_1.index t 1 = 1
    ∧ win0_2.index t = win0_3.index t ∧ win0_4.index t = win0_3.index t ∧ win0_3.index t 1 = 0 := by decide +kernel

/-- The gate of an element. -/
def gateAt (p : S4096x6272.Idx → EReal) (i : S4096x1024.Idx) : EReal :=
  p (ix2 ⟨(i 0).val, (i 0).isLt⟩ ⟨1024 + (i 1).val, by have h : (i 1).val < 1024 := (i 1).isLt; omega⟩)

/-- The value of an element. -/
def valueAt (p : S4096x6272.Idx → EReal) (i : S4096x1024.Idx) : EReal :=
  p (ix2 ⟨(i 0).val, (i 0).isLt⟩ ⟨(i 1).val, by have h : (i 1).val < 1024 := (i 1).isLt; omega⟩)

/-- The array of gradients of the values. -/
theorem result_value (c : Dev nD) : (dats m 0 c).arrAt 3 (cfgs 0).N
    = fun i : S4096x1024.Idx => valueGrad (m ((c : Thread nD τ).loc main_arg1) i) (gateAt (m ((c : Thread nD τ).loc main_arg0)) i) := by
  refine (dats m 0 c).arrAt_eq_of_covers 3 _ (by decide +kernel) fun t hf y => ?_
  obtain ⟨e0, e1, e1', e2, e4, e3⟩ := idx t
  blk_simp
  rw [after0_3]; simp only [outsAt0]; unfold out0_A_3; frame_out
  rw [pay_value]; unfold X0_1 Pipeline.Window.fill; rw [dif_pos (moved0_1 t y)]
  unfold gateAt
  refine congrArg₂ valueGrad ?_ ?_ <;> blk_ext [iblk, V, e0, e1, e1', e2, e3, e4]

/-- The array of gradients of the gates. -/
theorem result_gate (c : Dev nD) : (dats m 0 c).arrAt 4 (cfgs 0).N
    = fun i : S4096x1024.Idx => gateGrad (valueAt (m ((c : Thread nD τ).loc main_arg0)) i) (m ((c : Thread nD τ).loc main_arg1) i)
        (gateAt (m ((c : Thread nD τ).loc main_arg0)) i) := by
  refine (dats m 0 c).arrAt_eq_of_covers 4 _ (by decide +kernel) fun t hf y => ?_
  obtain ⟨e0, e1, e1', e2, e4, e3⟩ := idx t
  blk_simp
  rw [after0_4]; simp only [outsAt0]; unfold out0_A_4; frame_out
  rw [pay_gate]; unfold X0_0 X0_1 Pipeline.Window.fill; rw [dif_pos (moved0_0 t y), dif_pos (moved0_1 t y)]
  unfold gateAt valueAt
  refine congr (congrArg₂ gateGrad ?_ ?_) ?_ <;> blk_ext [iblk, V, e0, e1, e1', e2, e3, e4]

/-- The reference runs to its end and keeps its arguments. -/
theorem frame_reference : Cert.quiescent_Reference29Ideal := fun m ρ _ =>
  (θ_run Cert.Reference29Ideal.defs _ _).mono (fun r h => ⟨fun c => (h c).2.2, sem_eq_zero_of_no_sems (by decide) r.2⟩)
    (Cert.Reference29Ideal.Value.run (F := Ideal) m ρ)

/-- Kernel and reference leave the same two arrays. -/
theorem algebraic : Cert.algebraic_Kernel29Ideal_Reference29Ideal := by
  intro m g m' g' _ hagree
  refine ⟨_, _, Cert.Kernel29Ideal.Value.run_blocks (F := Ideal) m g, ?_⟩
  refine (θ_run _ _ _).mono (fun r h c => ⟨(h c).1.trans ?_, (h c).2.1.trans ?_, (h c).2.2⟩)
    (Cert.Reference29Ideal.Value.run (F := Ideal) m' g')
  · show _ = (dats m 0 c).arrAt 3 (cfgs 0).N
    rw [result_value, (hagree c).1, (hagree c).2]
    funext i
    unfold valueGrad gateAt Swish.sig
    simp only [pointwise, Ideal.ofBits_one_f32]
    simp only [Matrix.cons_val_zero, Matrix.cons_val_one, zero_add]
    rfl
  · show _ = (dats m 0 c).arrAt 4 (cfgs 0).N
    rw [result_gate, (hagree c).1, (hagree c).2]
    funext i
    unfold gateGrad gateAt valueAt Swish.sig
    simp only [pointwise, Ideal.ofBits_one_f32]
    simp only [Matrix.cons_val_zero, Matrix.cons_val_one, zero_add]
    rfl

end Cert.Kernel29Ideal.Product

end
-- ==== Proof.DConvOutNorm.lean ====
/- The gradient of the convolution group's output norm. -/
module

public import proofs.«01_k».proof.Defs
public import proofs.«01_k».proof.Proof.Rows
public import proofs.«01_k».proof.Proof.Gen.Kernel30Ideal.Value
public import proofs.«01_k».proof.Proof.Gen.Reference30Ideal.Run
public import Idealize.ShloMosaic.Lib.Pipeline.ReadBack
public import Idealize.ShloMosaic.Lib.Tactic
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.Kernel30Ideal.Product

open Cert.Kernel30Ideal Cert.Kernel30Ideal.Gen Cert.Kernel30Ideal.Value

variable (m : (ℓ : Loc nD τ sig) → Buf (Elt Ideal) ℓ)

/-- The row's length. -/
abbrev len : EReal := Ideal.ofBits .f32 0x44800000#32

/-- A row of a block. -/
abbrev row {r : ℕ} (x : (⟨2, ![r, 1024]⟩ : Shape).Idx → EReal) (i : Fin r) : Fin 1024 → EReal := fun k => x (ix2 i k)

theorem pay_ms (x) (j) : k0_pay3 (F := Ideal) x j = Rows.ms len (row x (j 0)) := by
  unfold k0_pay3 Rows.ms; simp only [pointwise, zero_add]

theorem pay_inv (x) (j) : k0_pay4 (F := Ideal) x j = Rows.inv len (row x (j 0)) := by
  unfold k0_pay4 Rows.inv; simp only [pointwise, pay_ms]

/-- A block's gradients of the rows. -/
theorem pay_grad (w x dy) (j) : k0_pay5 (F := Ideal) w x dy j
    = Rows.grad len (row x (j 0)) (fun k => dy (ix2 (j 0) k) * w (ix2 0 k)) (j 1) := by
  obtain ⟨a, b, rfl⟩ : ∃ a b, j = ix2 a b := ⟨_, _, eq_ix2 j⟩
  unfold k0_pay5 Rows.grad Rows.mean; simp only [pointwise, pay_ms, pay_inv, zero_add, Fin.sum_univ_one, Nat.reduceEqDiff, reduceDIte]

/-- A block's share of the gradient of the weight. -/
def weight {r : ℕ} (x dy : (⟨2, ![r, 1024]⟩ : Shape).Idx → EReal) (i : Fin 1024) : EReal :=
  ∑ k : Fin r, x (ix2 k i) * Rows.inv len (row x k) * dy (ix2 k i)

theorem pay_weight (x dy acc) (j) : k0_pay2 (F := Ideal) (k0_pay6 x dy) acc j = acc j + weight x dy (j 1) := by
  unfold k0_pay2 k0_pay6 weight; simp only [pointwise, pay_inv, zero_add, Nat.reduceEqDiff, reduceDIte]

theorem pay_zero (j) : k0_pay1 (F := Ideal) j = 0 := by
  unfold k0_pay1; simp only [pointwise]

/-- Every window of rows moves along the rows; the weight and its gradient stay. -/
theorem idx : ∀ t : Fin grid0.N, win0_0.index t = ![t.val, 0] ∧ win0_1.index t = ![0, 0] ∧ win0_2.index t = ![t.val, 0]
    ∧ win0_3.index t = ![t.val, 0] ∧ win0_4.index t = ![0, 0] := by decide +kernel

/-- Each grid point writes its rows' gradients. -/
theorem written (c : Dev nD) (t : Fin cfg0.N) : (outsAt0 m c t.val t.isLt).1
    = k0_pay5 (F := Ideal) (iblk m c 1 t) (iblk m c 0 t) (iblk m c 2 t) := by
  by_cases h : t.val % 32 = 0
  · rw [outsAt0_A m c t h]; funext j; frame_out
  · rw [outsAt0_B m c t h]; funext j; frame_out

/-- A row of the upstream gradient, the first half of its array, times the weight. -/
def scaled (w : S1x1024.Idx → EReal) (dy : S4096x2048.Idx → EReal) (i : S4096x1024.Idx) (k : Fin 1024) : EReal :=
  dy (ix2 ⟨(i 0).val, (i 0).isLt⟩ ⟨k.val, k.isLt.trans (by decide)⟩) * w (ix2 0 k)

/-- The whole gradient of the weight. -/
def weights (x : S4096x1024.Idx → EReal) (dy : S4096x2048.Idx → EReal) (i : S1x1024.Idx) : EReal :=
  ∑ k : Fin 4096, x (ix2 k (i 1)) * Rows.inv len (row x k) * dy (ix2 k ⟨(i 1).val, (i 1).isLt.trans (by decide)⟩)

/-- The array of gradients of the rows. -/
theorem result_rows (c : Dev nD) : (dats m 0 c).arrAt 3 (cfgs 0).N
    = fun i : S4096x1024.Idx => Rows.grad len (row (m ((c : Thread nD τ).loc main_arg0)) (i 0))
        (scaled (m ((c : Thread nD τ).loc main_arg1)) (m ((c : Thread nD τ).loc main_arg2)) i) (i 1) := by
  refine (dats m 0 c).arrAt_eq_of_covers 3 _ (by decide +kernel) fun t hf y => ?_
  obtain ⟨e0, e1, e2, e3, e4⟩ := idx t
  blk_simp
  rw [after0_3, written, pay_grad]
  refine Rows.grad_congr (fun k => ?_) (fun k => congrArg₂ HMul.hMul ?_ ?_) ?_
  · dsimp only [row]; blk_ext [iblk, V, e0, e3]
  · blk_ext [iblk, V, e2, e3]
  · blk_ext [iblk, V, e1]
  · refine Fin.ext ?_; blk_simp [e3]

/-- After the last point the accumulator holds the points' shares, summed. -/
theorem carried (c : Dev nD) (t : Fin cfg0.N) (ht : t.val % 32 = 31) (j : S1x1024.Idx) :
    (outsAt0 m c t.val t.isLt).2 j = 0 + ∑ s : Fin 32,
      weight (iblk m c 0 ⟨32 * (t.val / 32) + s, Pipeline.run_point_lt_of_flush t ht s⟩)
        (iblk m c 2 ⟨32 * (t.val / 32) + s, Pipeline.run_point_lt_of_flush t ht s⟩) (j 1) := by
  refine Pipeline.eq_sum_fin_of_reset_step_apply_of_flush (fun n h => (outsAt0 m c n h).2) 32 (fun _ => 0)
    (fun t j => weight (iblk m c 0 t) (iblk m c 2 t) (j 1))
    (fun t h j => ?_) (fun t h j => ?_) t ht j
  · rw [outsAt0_A m c t h]; frame_out; rw [pay_weight, pay_zero]
  · rw [outsAt0_B m c t h]; frame_out; rw [pay_weight]

/-- The array of gradients of the weight. -/
theorem result_weight (c : Dev nD) : (dats m 0 c).arrAt 4 (cfgs 0).N
    = weights (m ((c : Thread nD τ).loc main_arg0)) (m ((c : Thread nD τ).loc main_arg2)) := by
  refine (dats m 0 c).arrAt_eq_of_covers 4 _ (by decide +kernel) fun t hf y => ?_
  have ht := (flush0_4 t).mp hf
  blk_simp
  rw [after0_4, carried m c t ht, zero_add]
  unfold weight weights
  refine Fin.sum_mul_add_congr fun s k hk => ?_
  obtain ⟨_, _, _, _, e4⟩ := idx t
  obtain ⟨e0, _, e2, _, _⟩ := idx ⟨32 * (t.val / 32) + s, Pipeline.run_point_lt_of_flush t ht s⟩
  refine congrArg₂ HMul.hMul (congrArg₂ HMul.hMul ?_ (Rows.inv_congr fun k => ?_)) ?_
  · blk_ext [iblk, V, e0, e2, e4]
  · dsimp only [row]; blk_ext [iblk, V, e0, e2, e4]
  · blk_ext [iblk, V, e0, e2, e4]

/-- The reference runs to its end and keeps its arguments. -/
theorem frame_reference : Cert.quiescent_Reference30Ideal := fun m ρ _ =>
  (θ_run Cert.Reference30Ideal.defs _ _).mono (fun r h => ⟨fun c => (h c).2.2, sem_eq_zero_of_no_sems (by decide) r.2⟩)
    (Cert.Reference30Ideal.Value.run (F := Ideal) m ρ)

/-- Kernel and reference leave the same two arrays. -/
theorem algebraic : Cert.algebraic_Kernel30Ideal_Reference30Ideal := by
  intro m g m' g' _ hagree
  refine ⟨_, _, Cert.Kernel30Ideal.Value.run_blocks (F := Ideal) m g, ?_⟩
  refine (θ_run _ _ _).mono (fun r h c => ⟨(h c).1.trans ?_, (h c).2.1.trans ?_, (h c).2.2⟩)
    (Cert.Reference30Ideal.Value.run (F := Ideal) m' g')
  · show _ = (dats m 0 c).arrAt 3 (cfgs 0).N
    rw [result_rows]
    unfold Cert.Reference30Ideal.Value.res_main_v38
    rw [(hagree c).1, (hagree c).2.1, (hagree c).2.2]
    funext i
    obtain ⟨a, b, rfl⟩ : ∃ a b, i = ix2 a b := ⟨_, _, eq_ix2 i⟩
    unfold Rows.grad Rows.mean Rows.inv Rows.ms scaled
    simp only [pointwise, zero_add, Fin.sum_univ_one, Nat.reduceEqDiff, reduceDIte, Matrix.cons_val_zero, Matrix.cons_val_one]
  · show _ = (dats m 0 c).arrAt 4 (cfgs 0).N
    rw [result_weight, (hagree c).1, (hagree c).2.2]
    funext i
    unfold weights Rows.inv Rows.ms
    simp only [pointwise, zero_add, Fin.sum_univ_one, Nat.reduceEqDiff, reduceDIte, Matrix.cons_val_zero, Matrix.cons_val_one]

end Cert.Kernel30Ideal.Product

end
-- ==== Proof.DLnSilu.lean ====
/- The gradient of the layer norm and the swish behind it. -/
module

public import proofs.«01_k».proof.Defs
public import proofs.«01_k».proof.Proof.Rows
public import proofs.«01_k».proof.Proof.Swish
public import proofs.«01_k».proof.Proof.Gen.Kernel31Ideal.Value
public import proofs.«01_k».proof.Proof.Gen.Reference31Ideal.Run
public import Idealize.ShloMosaic.Lib.Pipeline.ReadBack
public import Idealize.ShloMosaic.Lib.Tactic
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.Kernel31Ideal.Product

open Cert.Kernel31Ideal Cert.Kernel31Ideal.Gen Cert.Kernel31Ideal.Value

variable (m : (ℓ : Loc nD τ sig) → Buf (Elt Ideal) ℓ)

/-- The row's length. -/
abbrev len : EReal := Ideal.ofBits .f32 0x44800000#32

/-- A row of a block. -/
def row {r : ℕ} (x : (⟨2, ![r, 1024]⟩ : Shape).Idx → EReal) (i : Fin r) : Fin 1024 → EReal := fun k => x (ix2 i k)

/-- A row less its mean. -/
def cen (x : Fin 1024 → EReal) (k : Fin 1024) : EReal := x k - Ideal.div (∑ k, x k) len

/-- A row after the norm, its weight and its bias. -/
def hidden (w b x : Fin 1024 → EReal) (k : Fin 1024) : EReal := cen x k * Rows.inv len (cen x) * w k + b k

/-- The gradient of the row before the swish. -/
def back (w b x dy : Fin 1024 → EReal) (k : Fin 1024) : EReal := Swish.grad (hidden w b x k) (dy k)

/-- The gradient of the row less its mean. -/
def cenGrad (w b x dy : Fin 1024 → EReal) : Fin 1024 → EReal := Rows.grad len (cen x) fun k => back w b x dy k * w k

/-- The gradient of the row. -/
def rowGrad (w b x dy : Fin 1024 → EReal) (k : Fin 1024) : EReal :=
  cenGrad w b x dy k + Ideal.div (∑ k, -cenGrad w b x dy k) len

theorem pay_cen (x) (j) : k0_pay7 (F := Ideal) x j = cen (row x (j 0)) (j 1) := by
  obtain ⟨a, b, rfl⟩ : ∃ a b, j = ix2 a b := ⟨_, _, eq_ix2 j⟩
  unfold k0_pay7 cen row; simp only [pointwise, zero_add, Nat.reduceEqDiff, reduceDIte]

theorem pay_ms (x) (j) : k0_pay8 (F := Ideal) x j = Rows.ms len (cen (row x (j 0))) := by
  unfold k0_pay8 Rows.ms; simp only [pointwise, pay_cen, zero_add]

theorem pay_inv (x) (j) : k0_pay9 (F := Ideal) x j = Rows.inv len (cen (row x (j 0))) := by
  unfold k0_pay9 Rows.inv; simp only [pointwise, pay_ms]

theorem pay_normed (x) (j) : k0_pay11 (F := Ideal) x j = cen (row x (j 0)) (j 1) * Rows.inv len (cen (row x (j 0))) := by
  obtain ⟨a, b, rfl⟩ : ∃ a b, j = ix2 a b := ⟨_, _, eq_ix2 j⟩
  unfold k0_pay11; simp only [pointwise, pay_cen, pay_inv, Nat.reduceEqDiff, reduceDIte]

theorem pay_hidden (w b x) (j) : k0_pay12 (F := Ideal) w b x j = hidden (row w 0) (row b 0) (row x (j 0)) (j 1) := by
  obtain ⟨p, q, rfl⟩ : ∃ p q, j = ix2 p q := ⟨_, _, eq_ix2 j⟩
  unfold k0_pay12 hidden; simp only [pointwise, pay_normed]; rfl

/-- A block's gradients before the swish. -/
abbrev before (w b : Vec Ideal S1x1024 .f32) (x dy : Vec Ideal S128x1024 .f32) :=
  k0_pay17 (F := Ideal) (k0_pay12 w b x) (k0_pay13 w b x) (k0_pay15 w b x) (k0_pay16 w b x) dy

theorem pay_back (w b x dy) (j) : before w b x dy j = back (row w 0) (row b 0) (row x (j 0)) (row dy (j 0)) (j 1) := by
  obtain ⟨p, q, rfl⟩ : ∃ p q, j = ix2 p q := ⟨_, _, eq_ix2 j⟩
  unfold back Swish.grad
  rw [← Swish.kernel_slope]
  unfold Swish.sig before k0_pay17 k0_pay16 k0_pay15 k0_pay14 k0_pay13
  simp only [pointwise, pay_hidden, zero_sub, Ideal.ofBits_one_f32]; rfl

/-- A block's gradients of the rows. -/
theorem pay_rows (w b x dy) (j) : k0_pay19 (F := Ideal) w (k0_pay7 x) (k0_pay9 x) (k0_pay10 x) (k0_pay12 w b x) (k0_pay13 w b x)
      (k0_pay15 w b x) (k0_pay16 w b x) dy j = rowGrad (row w 0) (row b 0) (row x (j 0)) (row dy (j 0)) (j 1) := by
  obtain ⟨p, q, rfl⟩ : ∃ p q, j = ix2 p q := ⟨_, _, eq_ix2 j⟩
  unfold rowGrad cenGrad Rows.grad Rows.mean k0_pay19 k0_pay10
  simp only [pointwise, pay_cen, pay_ms, pay_inv, pay_back, zero_add, zero_sub, Fin.sum_univ_one, Nat.reduceEqDiff, reduceDIte]; rfl

/-- A row's share of the gradient of the weight. -/
def weight (w b x dy : Fin 1024 → EReal) (k : Fin 1024) : EReal := cen x k * Rows.inv len (cen x) * back w b x dy k

theorem pay_weight (w b x dy acc) (j) : k0_pay3 (F := Ideal) (k0_pay20 k0_pay5 (k0_pay11 x) (k0_pay12 w b x) (k0_pay13 w b x)
      (k0_pay15 w b x) (k0_pay16 w b x) dy) acc j
    = acc j + ∑ p : Fin 128, weight (row w 0) (row b 0) (row x p) (row dy p) (j 1) := by
  unfold k0_pay3 k0_pay20 k0_pay5 weight
  simp only [pointwise, pay_normed, pay_back, zero_add, Nat.reduceEqDiff, reduceDIte]

theorem pay_bias (w b x dy acc) (j) : k0_pay4 (F := Ideal) k0_pay6 (k0_pay18 (k0_pay12 w b x) (k0_pay13 w b x)
      (k0_pay15 w b x) (k0_pay16 w b x) dy) acc j
    = acc j + ∑ p : Fin 128, back (row w 0) (row b 0) (row x p) (row dy p) (j 1) := by
  unfold k0_pay4 k0_pay18 k0_pay6
  simp only [pointwise, pay_back, zero_add, Nat.reduceEqDiff, reduceDIte]

theorem pay_zero_weight (j) : k0_pay1 (F := Ideal) j = 0 := by unfold k0_pay1; simp only [pointwise]

theorem pay_zero_bias (j) : k0_pay2 (F := Ideal) j = 0 := by unfold k0_pay2; simp only [pointwise]

/-- Every window of rows moves along the rows; the weight, the bias and their gradients stay. -/
theorem idx : ∀ t : Fin grid0.N, win0_0.index t = ![t.val, 0] ∧ win0_1.index t = ![0, 0] ∧ win0_2.index t = ![0, 0]
    ∧ win0_3.index t = ![t.val, 0] ∧ win0_4.index t = ![t.val, 0] ∧ win0_5.index t = ![0, 0] ∧ win0_6.index t = ![0, 0] := by
  decide +kernel

/-- A row of the block of inputs. -/
theorem blk_x (c : Dev nD) (t : Fin grid0.N) (p : Fin 128) (n : Fin 4096) (h : n.val = t.val * 128 + p.val) :
    row (iblk m c 0 t) p = row (m ((c : Thread nD τ).loc main_arg0)) n := by
  obtain ⟨e, -⟩ := idx t
  funext k; dsimp only [row]; blk_ext [iblk, V, e]

/-- The weight. -/
theorem blk_w (c : Dev nD) (t : Fin grid0.N) : row (iblk m c 1 t) 0 = row (m ((c : Thread nD τ).loc main_arg1)) 0 := by
  obtain ⟨-, e, -⟩ := idx t
  funext k; dsimp only [row]; blk_ext [iblk, V, e]

/-- The bias. -/
theorem blk_b (c : Dev nD) (t : Fin grid0.N) : row (iblk m c 2 t) 0 = row (m ((c : Thread nD τ).loc main_arg2)) 0 := by
  obtain ⟨-, -, e, -⟩ := idx t
  funext k; dsimp only [row]; blk_ext [iblk, V, e]

/-- A row of the block of upstream gradients. -/
theorem blk_dy (c : Dev nD) (t : Fin grid0.N) (p : Fin 128) (n : Fin 4096) (h : n.val = t.val * 128 + p.val) :
    row (iblk m c 3 t) p = row (m ((c : Thread nD τ).loc main_arg3)) n := by
  obtain ⟨-, -, -, e, -⟩ := idx t
  funext k; dsimp only [row]; blk_ext [iblk, V, e]

/-- Each grid point writes its rows' gradients. -/
theorem written (c : Dev nD) (t : Fin cfg0.N) (j) : (outsAt0 m c t.val t.isLt).1 j
    = rowGrad (row (iblk m c 1 t) 0) (row (iblk m c 2 t) 0) (row (iblk m c 0 t) (j 0)) (row (iblk m c 3 t) (j 0)) (j 1) := by
  by_cases h : t.val % 32 = 0
  · rw [outsAt0_A m c t h]; frame_out; rw [pay_rows]
  · rw [outsAt0_B m c t h]; frame_out; rw [pay_rows]

/-- The array of gradients of the rows. -/
theorem result_rows (c : Dev nD) : (dats m 0 c).arrAt 4 (cfgs 0).N
    = fun i : S4096x1024.Idx => rowGrad (row (m ((c : Thread nD τ).loc main_arg1)) 0) (row (m ((c : Thread nD τ).loc main_arg2)) 0)
        (row (m ((c : Thread nD τ).loc main_arg0)) (i 0)) (row (m ((c : Thread nD τ).loc main_arg3)) (i 0)) (i 1) := by
  refine (dats m 0 c).arrAt_eq_of_covers 4 _ (by decide +kernel) fun t hf y => ?_
  obtain ⟨-, -, -, -, e, -⟩ := idx t
  have e0 : ((win0_4.blk t).view.emb y 0).val = t.val * 128 + (y 0).val := by blk_simp [e]
  have e1 : y 1 = (win0_4.blk t).view.emb y 1 := Fin.ext (by blk_simp [e])
  blk_simp
  rw [after0_4, written, blk_w, blk_b, blk_x m c t (y 0) _ e0, blk_dy m c t (y 0) _ e0, e1]

/-- The whole gradient of the weight. -/
def weights (x : S4096x1024.Idx → EReal) (w b : S1x1024.Idx → EReal) (dy : S4096x1024.Idx → EReal) (i : S1x1024.Idx) : EReal :=
  ∑ n : Fin 4096, weight (row w 0) (row b 0) (row x n) (row dy n) (i 1)

/-- The whole gradient of the bias. -/
def biases (x : S4096x1024.Idx → EReal) (w b : S1x1024.Idx → EReal) (dy : S4096x1024.Idx → EReal) (i : S1x1024.Idx) : EReal :=
  ∑ n : Fin 4096, back (row w 0) (row b 0) (row x n) (row dy n) (i 1)

/-- A block's share of the gradient of the weight. -/
def weightTerm (c : Dev nD) (t : Fin cfg0.N) (j : S1x1024.Idx) : EReal := ∑ p : Fin 128,
  weight (row (iblk m c 1 t) 0) (row (iblk m c 2 t) 0) (row (iblk m c 0 t) p) (row (iblk m c 3 t) p) (j 1)

/-- A block's share of the gradient of the bias. -/
def biasTerm (c : Dev nD) (t : Fin cfg0.N) (j : S1x1024.Idx) : EReal := ∑ p : Fin 128,
  back (row (iblk m c 1 t) 0) (row (iblk m c 2 t) 0) (row (iblk m c 0 t) p) (row (iblk m c 3 t) p) (j 1)

/-- After the last point the first accumulator holds the points' shares of the weight's gradient, summed. -/
theorem carried_weight (c : Dev nD) (t : Fin cfg0.N) (ht : t.val % 32 = 31) (j : S1x1024.Idx) :
    (outsAt0 m c t.val t.isLt).2.1 j = 0 + ∑ s : Fin 32,
      weightTerm m c ⟨32 * (t.val / 32) + s, Pipeline.run_point_lt_of_flush t ht s⟩ j := by
  refine Pipeline.eq_sum_fin_of_reset_step_apply_of_flush (fun n h => (outsAt0 m c n h).2.1) 32 (fun _ => 0)
    (weightTerm m c) (fun t h j => ?_) (fun t h j => ?_) t ht j
  · rw [outsAt0_A m c t h]; frame_out; rw [pay_weight, pay_zero_weight]; rfl
  · rw [outsAt0_B m c t h]; frame_out; rw [pay_weight]; rfl

/-- And the second the shares of the bias's. -/
theorem carried_bias (c : Dev nD) (t : Fin cfg0.N) (ht : t.val % 32 = 31) (j : S1x1024.Idx) :
    (outsAt0 m c t.val t.isLt).2.2 j = 0 + ∑ s : Fin 32,
      biasTerm m c ⟨32 * (t.val / 32) + s, Pipeline.run_point_lt_of_flush t ht s⟩ j := by
  refine Pipeline.eq_sum_fin_of_reset_step_apply_of_flush (fun n h => (outsAt0 m c n h).2.2) 32 (fun _ => 0)
    (biasTerm m c) (fun t h j => ?_) (fun t h j => ?_) t ht j
  · rw [outsAt0_A m c t h]; frame_out; rw [pay_bias, pay_zero_bias]; rfl
  · rw [outsAt0_B m c t h]; frame_out; rw [pay_bias]; rfl

/-- The array of gradients of the weight. -/
theorem result_weight (c : Dev nD) : (dats m 0 c).arrAt 5 (cfgs 0).N
    = weights (m ((c : Thread nD τ).loc main_arg0)) (m ((c : Thread nD τ).loc main_arg1)) (m ((c : Thread nD τ).loc main_arg2))
        (m ((c : Thread nD τ).loc main_arg3)) := by
  refine (dats m 0 c).arrAt_eq_of_covers 5 _ (by decide +kernel) fun t hf y => ?_
  have ht := (flush0_5 t).mp hf
  obtain ⟨-, -, -, -, -, e, -⟩ := idx t
  have e1 : y 1 = (win0_5.blk t).view.emb y 1 := Fin.ext (by blk_simp [e])
  blk_simp
  rw [after0_5, carried_weight m c t ht, zero_add]
  unfold weights weightTerm
  refine Fin.sum_mul_add_congr fun s k hk => ?_
  have h32 : t.val < 32 := lt_of_lt_of_eq t.isLt (by decide +kernel)
  have b := Pipeline.run_point_lt_of_flush t ht s
  have hn : (⟨s.val * 128 + k.val, hk⟩ : Fin 4096).val = (32 * (t.val / 32) + s.val) * 128 + k.val := by
    show s.val * 128 + k.val = _
    omega
  rw [blk_w, blk_b, blk_x m c ⟨32 * (t.val / 32) + s, b⟩ k _ hn, blk_dy m c ⟨32 * (t.val / 32) + s, b⟩ k _ hn, e1]

/-- The array of gradients of the bias. -/
theorem result_bias (c : Dev nD) : (dats m 0 c).arrAt 6 (cfgs 0).N
    = biases (m ((c : Thread nD τ).loc main_arg0)) (m ((c : Thread nD τ).loc main_arg1)) (m ((c : Thread nD τ).loc main_arg2))
        (m ((c : Thread nD τ).loc main_arg3)) := by
  refine (dats m 0 c).arrAt_eq_of_covers 6 _ (by decide +kernel) fun t hf y => ?_
  have ht := (flush0_6 t).mp hf
  obtain ⟨-, -, -, -, -, -, e⟩ := idx t
  have e1 : y 1 = (win0_6.blk t).view.emb y 1 := Fin.ext (by blk_simp [e])
  blk_simp
  rw [after0_6, carried_bias m c t ht, zero_add]
  unfold biases biasTerm
  refine Fin.sum_mul_add_congr fun s k hk => ?_
  have h32 : t.val < 32 := lt_of_lt_of_eq t.isLt (by decide +kernel)
  have b := Pipeline.run_point_lt_of_flush t ht s
  have hn : (⟨s.val * 128 + k.val, hk⟩ : Fin 4096).val = (32 * (t.val / 32) + s.val) * 128 + k.val := by
    show s.val * 128 + k.val = _
    omega
  rw [blk_w, blk_b, blk_x m c ⟨32 * (t.val / 32) + s, b⟩ k _ hn, blk_dy m c ⟨32 * (t.val / 32) + s, b⟩ k _ hn, e1]

/-- The reference runs to its end and keeps its arguments. -/
theorem frame_reference : Cert.quiescent_Reference31Ideal := fun m ρ _ =>
  (θ_run Cert.Reference31Ideal.defs _ _).mono (fun r h => ⟨fun c => (h c).2.2.2, sem_eq_zero_of_no_sems (by decide) r.2⟩)
    (Cert.Reference31Ideal.Value.run (F := Ideal) m ρ)

set_option maxHeartbeats 4000000 in
/-- Kernel and reference leave the same three arrays. -/
theorem algebraic : Cert.algebraic_Kernel31Ideal_Reference31Ideal := by
  intro m g m' g' _ hagree
  refine ⟨_, _, _, Cert.Kernel31Ideal.Value.run_blocks (F := Ideal) m g, ?_⟩
  refine (θ_run _ _ _).mono (fun r h c => ⟨(h c).1.trans ?_, (h c).2.1.trans ?_, (h c).2.2.1.trans ?_, (h c).2.2.2⟩)
    (Cert.Reference31Ideal.Value.run (F := Ideal) m' g')
  all_goals obtain ⟨h0, h1, h2, h3⟩ := hagree c
  · show _ = (dats m 0 c).arrAt 4 (cfgs 0).N
    rw [result_rows]
    unfold Cert.Reference31Ideal.Value.res_main_v59
    rw [h0, h1, h2, h3]
    funext i
    obtain ⟨a, b, rfl⟩ : ∃ a b, i = ix2 a b := ⟨_, _, eq_ix2 i⟩
    unfold rowGrad cenGrad back hidden Swish.grad Swish.sig Rows.grad Rows.mean Rows.inv Rows.ms cen row
    simp only [pointwise, zero_add, Fin.sum_univ_one, Nat.reduceEqDiff, reduceDIte, Matrix.cons_val_zero, Matrix.cons_val_one,
      Ideal.ofBits_one_f32]
  · show _ = (dats m 0 c).arrAt 5 (cfgs 0).N
    rw [result_weight]
    unfold Cert.Reference31Ideal.Value.res_main_v60
    rw [h0, h1, h2, h3]
    funext i
    obtain ⟨a, b, rfl⟩ : ∃ a b, i = ix2 a b := ⟨_, _, eq_ix2 i⟩
    unfold weights weight back hidden Swish.grad Swish.sig Rows.inv Rows.ms cen row
    simp only [pointwise, zero_add, Fin.sum_univ_one, Nat.reduceEqDiff, reduceDIte, Matrix.cons_val_zero, Matrix.cons_val_one,
      Ideal.ofBits_one_f32]
  · show _ = (dats m 0 c).arrAt 6 (cfgs 0).N
    rw [result_bias]
    unfold Cert.Reference31Ideal.Value.res_main_v61
    rw [h0, h1, h2, h3]
    funext i
    obtain ⟨a, b, rfl⟩ : ∃ a b, i = ix2 a b := ⟨_, _, eq_ix2 i⟩
    unfold biases back hidden Swish.grad Swish.sig Rows.inv Rows.ms cen row
    simp only [pointwise, zero_add, Fin.sum_univ_one, Nat.reduceEqDiff, reduceDIte, Matrix.cons_val_zero, Matrix.cons_val_one,
      Ideal.ofBits_one_f32]

end Cert.Kernel31Ideal.Product

end
-- ==== Proof.DDnOutNorm.lean ====
/- The gradient of the DeltaNet group's gated norm, head by head. -/
module

public import proofs.«01_k».proof.Defs
public import proofs.«01_k».proof.Proof.Rows
public import proofs.«01_k».proof.Proof.TwoAxes
public import proofs.«01_k».proof.Proof.Swish
public import proofs.«01_k».proof.Proof.Gen.Kernel32Ideal.Value
public import proofs.«01_k».proof.Proof.Gen.Reference32Ideal.Run
public import Idealize.ShloMosaic.Lib.Pipeline.ReadBack
public import Idealize.ShloMosaic.Lib.Tactic
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.Kernel32Ideal.Product

open Cert.Kernel32Ideal Cert.Kernel32Ideal.Gen Cert.Kernel32Ideal.Value

/-- The head's length. -/
abbrev len : EReal := Ideal.ofBits .f32 0x43000000#32

/-- A row of a head's block. -/
def row {r : ℕ} (x : (⟨2, ![r, 128]⟩ : Shape).Idx → EReal) (i : Fin r) : Fin 128 → EReal := fun k => x (ix2 i k)

/-- A head's part of a row: the heads' values begin at column `base`. -/
def part {r n : ℕ} (base : ℕ) (h : base + 1024 ≤ n) (x : (⟨2, ![r, n]⟩ : Shape).Idx → EReal) (i : Fin r) (q : Fin 8) :
    Fin 128 → EReal := fun k => x (ix2 i ⟨base + (q.val * 128 + k.val), by omega⟩)

/-- The head a column belongs to. -/
def head (k : Fin 1024) : Fin 8 := ⟨k.val / 128, by omega⟩

/-- The column's place in its head. -/
def lane (k : Fin 1024) : Fin 128 := ⟨k.val % 128, by omega⟩

/-- The gradient of the norm's output, from the gate and the upstream gradient. -/
def gated (z dy : Fin 128 → EReal) (k : Fin 128) : EReal := dy k * (z k * Swish.sig (z k))

/-- The gradient of a head's output. -/
def oGrad (w o z dy : Fin 128 → EReal) : Fin 128 → EReal := Rows.grad len o fun k => gated z dy k * w k

/-- The gradient of a head's gate. -/
def zGrad (w o z dy : Fin 128 → EReal) (k : Fin 128) : EReal := Swish.grad (z k) (o k * Rows.inv len o * w k * dy k)

/-- A head's share of the gradient of the weight. -/
def wGrad (o z dy : Fin 128 → EReal) (k : Fin 128) : EReal := o k * Rows.inv len o * gated z dy k

theorem pay_ms (o) (j) : k0_pay6 (F := Ideal) o j = Rows.ms len (row o (j 0)) := by
  unfold k0_pay6 Rows.ms; simp only [pointwise, zero_add]; rfl

theorem pay_inv (o) (j) : k0_pay7 (F := Ideal) o j = Rows.inv len (row o (j 0)) := by
  unfold k0_pay7 Rows.inv; simp only [pointwise, pay_ms]

theorem pay_gated (z dy) (j) : k0_pay14 (F := Ideal) z dy j = gated (row z (j 0)) (row dy (j 0)) (j 1) := by
  obtain ⟨a, b, rfl⟩ : ∃ a b, j = ix2 a b := ⟨_, _, eq_ix2 j⟩
  unfold gated Swish.sig k0_pay14 k0_pay12 k0_pay11 k0_pay10
  simp only [pointwise, zero_sub, Ideal.ofBits_one_f32]; rfl

/-- The first head's block of gradients of the outputs, as the kernel computes it. -/
abbrev oHead (w : Vec Ideal S1x128 .f32) (o z dy : Vec Ideal S128x128 .f32) : Vec Ideal S128x128 .f32 :=
  k0_pay17 (F := Ideal) w o (k0_pay7 o) (k0_pay8 o) (k0_pay14 z dy)

theorem pay_o (w o z dy) (j) : oHead w o z dy j = oGrad (row w 0) (row o (j 0)) (row z (j 0)) (row dy (j 0)) (j 1) := by
  obtain ⟨a, b, rfl⟩ : ∃ a b, j = ix2 a b := ⟨_, _, eq_ix2 j⟩
  unfold oHead oGrad Rows.grad Rows.mean k0_pay17 k0_pay8
  simp only [pointwise, pay_ms, pay_inv, pay_gated, zero_add, Fin.sum_univ_one, Nat.reduceEqDiff, reduceDIte]; rfl

/-- The first head's block of gradients of the gates, as the kernel computes it. -/
abbrev zHead (w : Vec Ideal S1x128 .f32) (o z dy : Vec Ideal S128x128 .f32) : Vec Ideal S128x128 .bf16 :=
  k0_pay18 (F := Ideal) (k0_pay10 z) (k0_pay15 w o z dy) (k0_pay16 w o z dy)

theorem pay_z (w o z dy) (j) : zHead w o z dy j = zGrad (row w 0) (row o (j 0)) (row z (j 0)) (row dy (j 0)) (j 1) := by
  obtain ⟨a, b, rfl⟩ : ∃ a b, j = ix2 a b := ⟨_, _, eq_ix2 j⟩
  unfold zGrad Swish.grad
  rw [← Swish.kernel_slope]
  unfold Swish.sig zHead k0_pay18 k0_pay16 k0_pay15 k0_pay13 k0_pay12 k0_pay11 k0_pay10 k0_pay9
  simp only [pointwise, pay_inv, zero_sub, Ideal.ofBits_one_f32, Nat.reduceEqDiff, reduceDIte]; rfl

theorem pay_w (acc o z dy) (j) : k0_pay19 (F := Ideal) acc (k0_pay9 o) (k0_pay14 z dy) j
    = acc j + ∑ p : Fin 128, wGrad (row o p) (row z p) (row dy p) (j 1) := by
  unfold k0_pay19 k0_pay9 wGrad
  simp only [pointwise, pay_inv, pay_gated, zero_add, Nat.reduceEqDiff, reduceDIte]; rfl

theorem pay_zero_sum (j) : k0_pay5 (F := Ideal) j = 0 := by unfold k0_pay5; simp only [pointwise]

theorem pay_zero (j) : k0_pay3 (F := Ideal) j = 0 := by unfold k0_pay3; simp only [pointwise]

/-- A row of the window a head's load reads is the head's part of the row. -/
theorem ld_part (x : Vec Ideal S128x1024 .f32) (off : ℕ) (q : Fin 8) (h : off = q.val * 128) (inb) (i : Fin 128) :
    row (View.ld x (Rect.unit (s := S128x1024) ![0, off] ![128, 128] inb)) i = part 0 (by decide) x i q := by
  subst h
  funext k
  refine congrArg x (funext fun d => Fin.ext ?_)
  match d with
  | ⟨0, _⟩ => exact (Rect.idx_unit_val _ _ _ _ _).trans (Nat.zero_add _)
  | ⟨1, _⟩ => exact (Rect.idx_unit_val _ _ _ _ _).trans (Nat.zero_add _).symm

/-- A head's window covers the head's columns. -/
theorem emb_head (off : ℕ) (q : Fin 8) (h : off = q.val * 128) (inb) (x : S128x128.Idx) :
    (Rect.unit (s := S128x1024) ![0, off] ![128, 128] inb).emb x 0 = x 0
    ∧ head ((Rect.unit (s := S128x1024) ![0, off] ![128, 128] inb).emb x 1) = q
    ∧ lane ((Rect.unit (s := S128x1024) ![0, off] ![128, 128] inb).emb x 1) = x 1 := by
  have e0 := ValueKit.rect_emb_unit_val (s := S128x1024) ![0, off] ![128, 128] inb x 0
  have e1 : _ = off + _ := ValueKit.rect_emb_unit_val (s := S128x1024) ![0, off] ![128, 128] inb x 1
  have b : (x 1).val < 128 := (x 1).isLt
  refine ⟨Fin.ext (e0.trans (Nat.zero_add _)), Fin.ext ?_, Fin.ext ?_⟩
  · show _ / 128 = _
    rw [e1]; omega
  · show _ % 128 = _
    rw [e1]; omega

section blocks

variable (w : Vec Ideal S1x128 .f32) (o z dy : Vec Ideal S128x1024 .f32)

/-- A block's gradients of the outputs, all the heads. -/
def oBlock (j : S128x1024.Idx) : EReal :=
  oGrad (row w 0) (part 0 (by decide) o (j 0) (head (j 1))) (part 0 (by decide) z (j 0) (head (j 1)))
    (part 0 (by decide) dy (j 0) (head (j 1))) (lane (j 1))

/-- A block's gradients of the gates, all the heads. -/
def zBlock (j : S128x1024.Idx) : EReal :=
  zGrad (row w 0) (part 0 (by decide) o (j 0) (head (j 1))) (part 0 (by decide) z (j 0) (head (j 1)))
    (part 0 (by decide) dy (j 0) (head (j 1))) (lane (j 1))

variable {w o z dy}

theorem piece_o (off : ℕ) (q : Fin 8) (h : off = q.val * 128) (inb) (x : S128x128.Idx) :
    oHead w (View.ld o (Rect.unit ![0, off] ![128, 128] inb)) (View.ld z (Rect.unit ![0, off] ![128, 128] inb)) (View.ld dy (Rect.unit ![0, off] ![128, 128] inb)) x = oBlock w o z dy ((Rect.unit (s := S128x1024) ![0, off] ![128, 128] inb).emb x) := by
  obtain ⟨e0, e1, e2⟩ := emb_head off q h inb x
  unfold oBlock
  rw [pay_o, e0, e1, e2]
  exact congrFun (congr (congr (congrArg (oGrad (row w 0)) (ld_part o off q h inb (x 0))) (ld_part z off q h inb (x 0)))
    (ld_part dy off q h inb (x 0))) (x 1)

theorem piece_z (off : ℕ) (q : Fin 8) (h : off = q.val * 128) (inb) (x : S128x128.Idx) :
    zHead w (View.ld o (Rect.unit ![0, off] ![128, 128] inb)) (View.ld z (Rect.unit ![0, off] ![128, 128] inb)) (View.ld dy (Rect.unit ![0, off] ![128, 128] inb)) x = zBlock w o z dy ((Rect.unit (s := S128x1024) ![0, off] ![128, 128] inb).emb x) := by
  obtain ⟨e0, e1, e2⟩ := emb_head off q h inb x
  unfold zBlock
  rw [pay_z, e0, e1, e2]
  exact congrFun (congr (congr (congrArg (zGrad (row w 0)) (ld_part o off q h inb (x 0))) (ld_part z off q h inb (x 0)))
    (ld_part dy off q h inb (x 0))) (x 1)

/-- The heads' shares of the gradient of the weight, as the kernel sums them. -/
def sums (o z dy : Fin 8 → Vec Ideal S128x128 .f32) : FVec Ideal S1x128 .f32 :=
  (k0_pay19 (k0_pay19 (k0_pay19 (k0_pay19 (k0_pay19 (k0_pay19 (k0_pay19 (k0_pay19 k0_pay5 (k0_pay9 (o 0)) (k0_pay14 (z 0) (dy 0))) (k0_pay9 (o 1)) (k0_pay14 (z 1) (dy 1))) (k0_pay9 (o 2)) (k0_pay14 (z 2) (dy 2))) (k0_pay9 (o 3)) (k0_pay14 (z 3) (dy 3))) (k0_pay9 (o 4)) (k0_pay14 (z 4) (dy 4))) (k0_pay9 (o 5)) (k0_pay14 (z 5) (dy 5))) (k0_pay9 (o 6)) (k0_pay14 (z 6) (dy 6))) (k0_pay9 (o 7)) (k0_pay14 (z 7) (dy 7)))

theorem sums_apply (o z dy) (j) : sums o z dy j
    = ∑ q : Fin 8, ∑ p : Fin 128, wGrad (row (o q) p) (row (z q) p) (row (dy q) p) (j 1) := by
  unfold sums
  rw [pay_w, pay_w, pay_w, pay_w, pay_w, pay_w, pay_w, pay_w, pay_zero_sum, zero_add, Fin.sum_univ_eight]

/-- A head's window of a block. -/
abbrev win (x : Vec Ideal S128x1024 .f32) (q : Fin 8) : Vec Ideal S128x128 .f32 :=
  View.ld x (Rect.unit (s := S128x1024) ![0, q.val * 128] ![128, 128]
    (fun d => by match d with | ⟨0, _⟩ => exact le_refl 128 | ⟨1, _⟩ => show q.val * 128 + 128 ≤ 1024; omega))

end blocks

variable (m : (ℓ : Loc nD τ sig) → Buf (Elt Ideal) ℓ)

/-- What each grid point leaves of the gradients of the outputs. -/
theorem written_o (c : Dev nD) (t : Fin cfg0.N) (j) : (outsAt0 m c t.val t.isLt).1 j
    = oBlock (iblk m c 2 t) (iblk m c 0 t) (X0_1 m c t) (iblk m c 3 t) j := by
  by_cases h : t.val % 32 = 0
  on_goal 1 => rw [outsAt0_A m c t h]
  on_goal 2 => rw [outsAt0_B m c t h]
  all_goals
    frame_out
    refine View.canon_apply_of_pieces (Val := Elt Ideal) (e := .f32) (oBlock (iblk m c 2 t) (iblk m c 0 t) (X0_1 m c t) (iblk m c 3 t)) _ ?_ j
      (View.cover_of_tiledL _ ![128, 128] (by sl_kernel_rfl) j)
    simp only [List.forall_mem_cons]
    exact ⟨piece_o 896 7 rfl _, piece_o 768 6 rfl _, piece_o 640 5 rfl _, piece_o 512 4 rfl _, piece_o 384 3 rfl _, piece_o 256 2 rfl _, piece_o 128 1 rfl _, piece_o 0 0 rfl _, fun _ h => absurd h List.not_mem_nil⟩

/-- What each grid point leaves of the gradients of the gates. -/
theorem written_z (c : Dev nD) (t : Fin cfg0.N) (j) : (outsAt0 m c t.val t.isLt).2.1 j
    = zBlock (iblk m c 2 t) (iblk m c 0 t) (X0_1 m c t) (iblk m c 3 t) j := by
  by_cases h : t.val % 32 = 0
  on_goal 1 => rw [outsAt0_A m c t h]
  on_goal 2 => rw [outsAt0_B m c t h]
  all_goals
    frame_out
    refine View.canon_apply_of_pieces (Val := Elt Ideal) (e := .bf16) (zBlock (iblk m c 2 t) (iblk m c 0 t) (X0_1 m c t) (iblk m c 3 t)) _ ?_ j
      (View.cover_of_tiledL _ ![128, 128] (by sl_kernel_rfl) j)
    simp only [List.forall_mem_cons]
    exact ⟨piece_z 896 7 rfl _, piece_z 768 6 rfl _, piece_z 640 5 rfl _, piece_z 512 4 rfl _, piece_z 384 3 rfl _, piece_z 256 2 rfl _, piece_z 128 1 rfl _, piece_z 0 0 rfl _, fun _ h => absurd h List.not_mem_nil⟩

/-- A block's share of the gradient of the weight. -/
def weightTerm (c : Dev nD) (t : Fin cfg0.N) (j : S1x128.Idx) : EReal := ∑ p : Fin 128, ∑ q : Fin 8,
  wGrad (part 0 (by decide) (iblk m c 0 t) p q) (part 0 (by decide) (X0_1 m c t) p q) (part 0 (by decide) (iblk m c 3 t) p q) (j 1)

/-- The kernel's sum over the heads and then the rows is the block's share. -/
theorem sums_win (o z dy : Vec Ideal S128x1024 .f32) (j : S1x128.Idx) : sums (win o) (win z) (win dy) j
    = ∑ p : Fin 128, ∑ q : Fin 8, wGrad (part 0 (by decide) o p q) (part 0 (by decide) z p q) (part 0 (by decide) dy p q) (j 1) := by
  rw [sums_apply, Finset.sum_comm]
  refine Finset.sum_congr rfl fun p _ => Finset.sum_congr rfl fun q _ => ?_
  exact congrFun (congr (congr (congrArg wGrad (ld_part o _ q rfl _ p)) (ld_part z _ q rfl _ p)) (ld_part dy _ q rfl _ p)) (j 1)

/-- What a grid point adds to the accumulator. -/
theorem pay_acc (s acc : FVec Ideal S1x128 .f32) (j) :
    addf (F := Ideal) (φ := .f32) (shapeCast S1x128 acc shapeCasts_S1x128_S1x128) s j = acc j + s j := by simp only [pointwise]

/-- After the last point the accumulator holds the points' shares, summed. -/
theorem carried (c : Dev nD) (t : Fin cfg0.N) (ht : t.val % 32 = 31) (j : S1x128.Idx) :
    (outsAt0 m c t.val t.isLt).2.2 j
      = 0 + ∑ s : Fin 32, weightTerm m c ⟨32 * (t.val / 32) + s, Pipeline.run_point_lt_of_flush t ht s⟩ j := by
  refine Pipeline.eq_sum_fin_of_reset_step_apply_of_flush (fun n h => (outsAt0 m c n h).2.2) 32 (fun _ => 0)
    (weightTerm m c) (fun t h j => ?_) (fun t h j => ?_) t ht j
  · rw [outsAt0_A m c t h]; frame_out
    refine (pay_acc (sums (win (iblk m c 0 t)) (win (X0_1 m c t)) (win (iblk m c 3 t))) k0_pay3 j).trans ?_
    rw [pay_zero, sums_win]; rfl
  · rw [outsAt0_B m c t h]; frame_out
    refine (pay_acc (sums (win (iblk m c 0 t)) (win (X0_1 m c t)) (win (iblk m c 3 t))) _ j).trans ?_
    rw [sums_win]; rfl

/-- Every window of rows moves along the rows, the gate at the sixth and the upstream gradient at the second block of columns. -/
theorem idx : ∀ t : Fin grid0.N, win0_0.index t = ![t.val, 0] ∧ win0_1.index t = ![t.val, 5] ∧ win0_2.index t = ![0, 0]
    ∧ win0_3.index t = ![t.val, 1] ∧ win0_4.index t = ![t.val, 0] ∧ win0_5.index t = ![t.val, 0] ∧ win0_6.index t = ![0, 0] := by
  decide +kernel

/-- A head's part of a row of the block of outputs. -/
theorem blk_o (c : Dev nD) (t : Fin grid0.N) (p : Fin 128) (q : Fin 8) (n : Fin 4096) (h : n.val = t.val * 128 + p.val) :
    part 0 (by decide) (iblk m c 0 t) p q = part 0 (by decide) (m ((c : Thread nD τ).loc main_arg0)) n q := by
  obtain ⟨e, -⟩ := idx t
  funext k; dsimp only [part]; blk_ext [iblk, V, e]

/-- A head's part of a row of the block of gates. -/
theorem blk_z (c : Dev nD) (t : Fin grid0.N) (p : Fin 128) (q : Fin 8) (n : Fin 4096) (h : n.val = t.val * 128 + p.val) :
    part 0 (by decide) (X0_1 m c t) p q = part 5120 (by decide) (m ((c : Thread nD τ).loc main_arg1)) n q := by
  obtain ⟨-, e, -⟩ := idx t
  funext k; dsimp only [part]
  unfold X0_1 Pipeline.Window.fill; rw [dif_pos (moved0_1 t _)]
  blk_ext [iblk, V, e]

/-- The weight. -/
theorem blk_w (c : Dev nD) (t : Fin grid0.N) : row (iblk m c 2 t) 0 = row (m ((c : Thread nD τ).loc main_arg2)) 0 := by
  obtain ⟨-, -, e, -⟩ := idx t
  funext k; dsimp only [row]; blk_ext [iblk, V, e]

/-- A head's part of a row of the block of upstream gradients. -/
theorem blk_dy (c : Dev nD) (t : Fin grid0.N) (p : Fin 128) (q : Fin 8) (n : Fin 4096) (h : n.val = t.val * 128 + p.val) :
    part 0 (by decide) (iblk m c 3 t) p q = part 1024 (by decide) (m ((c : Thread nD τ).loc main_arg3)) n q := by
  obtain ⟨-, -, -, e, -⟩ := idx t
  funext k; dsimp only [part]; blk_ext [iblk, V, e]

section arrays

variable (o : S4096x1024.Idx → EReal) (proj : S4096x6272.Idx → EReal) (w : S1x128.Idx → EReal) (dy : S4096x2048.Idx → EReal)

/-- The gradients of the outputs. -/
def oArray (i : S4096x1024.Idx) : EReal :=
  oGrad (row w 0) (part 0 (by decide) o (i 0) (head (i 1))) (part 5120 (by decide) proj (i 0) (head (i 1)))
    (part 1024 (by decide) dy (i 0) (head (i 1))) (lane (i 1))

/-- The gradients of the gates. -/
def zArray (i : S4096x1024.Idx) : EReal :=
  zGrad (row w 0) (part 0 (by decide) o (i 0) (head (i 1))) (part 5120 (by decide) proj (i 0) (head (i 1)))
    (part 1024 (by decide) dy (i 0) (head (i 1))) (lane (i 1))

/-- The gradient of the weight, over the rows and the heads. -/
def weights (i : S1x128.Idx) : EReal := ∑ n : Fin 4096, ∑ q : Fin 8,
  wGrad (part 0 (by decide) o n q) (part 5120 (by decide) proj n q) (part 1024 (by decide) dy n q) (i 1)

end arrays

/-- The array of gradients of the outputs. -/
theorem result_o (c : Dev nD) : (dats m 0 c).arrAt 4 (cfgs 0).N
    = oArray (m ((c : Thread nD τ).loc main_arg0)) (m ((c : Thread nD τ).loc main_arg1)) (m ((c : Thread nD τ).loc main_arg2))
        (m ((c : Thread nD τ).loc main_arg3)) := by
  refine (dats m 0 c).arrAt_eq_of_covers 4 _ (by decide +kernel) fun t hf y => ?_
  obtain ⟨-, -, -, -, e, -⟩ := idx t
  have e0 : ((win0_4.blk t).view.emb y 0).val = t.val * 128 + (y 0).val := by blk_simp [e]
  have e1 : y 1 = (win0_4.blk t).view.emb y 1 := Fin.ext (by blk_simp [e])
  blk_simp
  rw [after0_4, written_o]
  unfold oBlock oArray
  rw [blk_w, blk_o m c t (y 0) _ _ e0, blk_z m c t (y 0) _ _ e0, blk_dy m c t (y 0) _ _ e0, e1]

/-- The array of gradients of the gates. -/
theorem result_z (c : Dev nD) : (dats m 0 c).arrAt 5 (cfgs 0).N
    = zArray (m ((c : Thread nD τ).loc main_arg0)) (m ((c : Thread nD τ).loc main_arg1)) (m ((c : Thread nD τ).loc main_arg2))
        (m ((c : Thread nD τ).loc main_arg3)) := by
  refine (dats m 0 c).arrAt_eq_of_covers 5 _ (by decide +kernel) fun t hf y => ?_
  obtain ⟨-, -, -, -, -, e, -⟩ := idx t
  have e0 : ((win0_5.blk t).view.emb y 0).val = t.val * 128 + (y 0).val := by blk_simp [e]
  have e1 : y 1 = (win0_5.blk t).view.emb y 1 := Fin.ext (by blk_simp [e])
  blk_simp
  rw [after0_5, written_z]
  unfold zBlock zArray
  rw [blk_w, blk_o m c t (y 0) _ _ e0, blk_z m c t (y 0) _ _ e0, blk_dy m c t (y 0) _ _ e0, e1]

/-- The array of gradients of the weight. -/
theorem result_weight (c : Dev nD) : (dats m 0 c).arrAt 6 (cfgs 0).N
    = weights (m ((c : Thread nD τ).loc main_arg0)) (m ((c : Thread nD τ).loc main_arg1)) (m ((c : Thread nD τ).loc main_arg3)) := by
  refine (dats m 0 c).arrAt_eq_of_covers 6 _ (by decide +kernel) fun t hf y => ?_
  have ht := (flush0_6 t).mp hf
  obtain ⟨-, -, -, -, -, -, e⟩ := idx t
  have e1 : y 1 = (win0_6.blk t).view.emb y 1 := Fin.ext (by blk_simp [e])
  blk_simp
  rw [after0_6, carried m c t ht, zero_add]
  unfold weights weightTerm
  refine Fin.sum_mul_add_congr fun s k hk => ?_
  have h32 : t.val < 32 := lt_of_lt_of_eq t.isLt (by decide +kernel)
  have b := Pipeline.run_point_lt_of_flush t ht s
  have hn : (⟨s.val * 128 + k.val, hk⟩ : Fin 4096).val = (32 * (t.val / 32) + s.val) * 128 + k.val := by
    show s.val * 128 + k.val = _
    omega
  refine Finset.sum_congr (M := EReal) rfl fun q _ => ?_
  rw [blk_o m c ⟨32 * (t.val / 32) + s, b⟩ k q _ hn, blk_z m c ⟨32 * (t.val / 32) + s, b⟩ k q _ hn,
    blk_dy m c ⟨32 * (t.val / 32) + s, b⟩ k q _ hn, e1]

/-- The reference runs to its end and keeps its arguments. -/
theorem frame_reference : Cert.quiescent_Reference32Ideal := fun m ρ _ =>
  (θ_run Cert.Reference32Ideal.defs _ _).mono (fun r h => ⟨fun c => (h c).2.2.2, sem_eq_zero_of_no_sems (by decide) r.2⟩)
    (Cert.Reference32Ideal.Value.run (F := Ideal) m ρ)

set_option maxHeartbeats 4000000 in
/-- Kernel and reference leave the same three arrays. -/
theorem algebraic : Cert.algebraic_Kernel32Ideal_Reference32Ideal := by
  intro m g m' g' _ hagree
  refine ⟨_, _, _, Cert.Kernel32Ideal.Value.run_blocks (F := Ideal) m g, ?_⟩
  refine (θ_run _ _ _).mono (fun r h c => ⟨(h c).1.trans ?_, (h c).2.1.trans ?_, (h c).2.2.1.trans ?_, (h c).2.2.2⟩)
    (Cert.Reference32Ideal.Value.run (F := Ideal) m' g')
  all_goals obtain ⟨h0, h1, h2, h3⟩ := hagree c
  · show _ = (dats m 0 c).arrAt 4 (cfgs 0).N
    rw [result_o]
    unfold Cert.Reference32Ideal.Value.res_main_v49
    rw [h0, h1, h2, h3]
    clear h0 h1 h2 h3 hagree
    funext i
    obtain ⟨a, b, rfl⟩ : ∃ a b, i = ix2 a b := ⟨_, _, eq_ix2 i⟩
    unfold oArray oGrad gated Swish.sig Rows.grad Rows.mean Rows.inv Rows.ms part row head lane
    simp only [pointwise, zero_add, Fin.sum_univ_one, Nat.reduceEqDiff, reduceDIte, Matrix.cons_val_zero, Matrix.cons_val_one,
      Ideal.ofBits_one_f32, Nat.div_add_mod']
  · show _ = (dats m 0 c).arrAt 5 (cfgs 0).N
    rw [result_z, h0, h1, h2, h3]
    clear h0 h1 h2 h3 hagree
    funext i
    obtain ⟨a, b, rfl⟩ : ∃ a b, i = ix2 a b := ⟨_, _, eq_ix2 i⟩
    unfold zArray zGrad Swish.grad Swish.sig Rows.inv Rows.ms part row head lane
    simp only [pointwise, zero_add, Fin.sum_univ_one, Nat.reduceEqDiff, reduceDIte, Matrix.cons_val_zero, Matrix.cons_val_one,
      Ideal.ofBits_one_f32, Nat.div_add_mod']
  · show _ = (dats m 0 c).arrAt 6 (cfgs 0).N
    rw [result_weight, h0, h1, h3]
    clear h0 h1 h2 h3 hagree
    funext i
    obtain ⟨a, b, rfl⟩ : ∃ a b, i = ix2 a b := ⟨_, _, eq_ix2 i⟩
    unfold weights wGrad gated Swish.sig Rows.inv Rows.ms part
    simp only [pointwise, zero_add, Fin.sum_univ_one, TwoAxes.sum, TwoAxes.last, Nat.reduceEqDiff, reduceDIte,
      Matrix.cons_val_zero, Matrix.cons_val_one, Ideal.ofBits_one_f32]

end Cert.Kernel32Ideal.Product

end
-- ==== Proof.LossHead.lean ====
/- The last residual, its modulated norm, the loss and the gradients of all of them. -/
module

public import proofs.«01_k».proof.Defs
public import proofs.«01_k».proof.Proof.Rows
public import proofs.«01_k».proof.Proof.TwoAxes
public import proofs.«01_k».proof.Proof.Gen.Kernel33Ideal.Frame
public import proofs.«01_k».proof.Proof.Gen.Reference33Ideal.Run
public import Idealize.ShloMosaic.Lib.Pipeline.ReadBack
public import Idealize.ShloMosaic.Lib.Tactic
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.Kernel33Ideal.Product

open Cert.Kernel33Ideal Cert.Kernel33Ideal.Gen

variable (m : (ℓ : Loc nD τ sig) → Buf (Elt Ideal) ℓ)

/-- The row's length. -/
abbrev len : EReal := Ideal.ofBits .f32 0x45000000#32

/-- A row of a block. -/
def row {r : ℕ} (x : (⟨2, ![r, 2048]⟩ : Shape).Idx → EReal) (i : Fin r) : Fin 2048 → EReal := fun k => x (ix2 i k)

/-- A sequence's row of modulation. -/
def seq {r : ℕ} (x : (⟨3, ![r, 1, 2048]⟩ : Shape).Idx → EReal) (i : Fin r) : Fin 2048 → EReal := fun k => x (ix3 i 0 k)

/-- A token's row after the residual. -/
def res (x y gate : Fin 2048 → EReal) (k : Fin 2048) : EReal := x k + gate k * y k

/-- The gradient of the norm before its weight. -/
def mod (scale dh : Fin 2048 → EReal) (k : Fin 2048) : EReal := dh k * (1 + scale k)

/-- A token's error: its modulated norm less the target. -/
def err (u shift scale w tgt : Fin 2048 → EReal) (k : Fin 2048) : EReal := u k * Rows.inv len u * w k * (1 + scale k) + shift k - tgt k

/-- One half. -/
abbrev half : EReal := Ideal.ofBits .f32 0x3F000000#32

/-- The loss's gradient to a token's mean square error, over the row's length. -/
abbrev share : EReal := Ideal.div half len

/-- The loss's gradient to a token's modulated norm. -/
def grad (u shift scale w tgt : Fin 2048 → EReal) (k : Fin 2048) : EReal :=
  share * (Ideal.ofBits .f32 0x40000000#32 * err u shift scale w tgt k)

/-- A token's mean square error. -/
def square (u shift scale w tgt : Fin 2048 → EReal) : EReal :=
  Ideal.div (∑ k, err u shift scale w tgt k * err u shift scale w tgt k) len

/-- The loss's gradient to the row after the residual. -/
def back (u shift scale w tgt : Fin 2048 → EReal) (k : Fin 2048) : EReal :=
  Rows.grad len u (fun k => mod scale (grad u shift scale w tgt) k * w k) k

theorem half_eq : half = ((1 / 2 : ℝ) : EReal) := by simp [half, Ideal.ofBits, Ideal.ieee]; rw [← EReal.coe_mul]; norm_num

theorem len_eq : len = ((2048 : ℝ) : EReal) := by simp [len, Ideal.ofBits, Ideal.ieee]; rw [← EReal.coe_mul]; norm_num

theorem two_eq : Ideal.ofBits .f32 0x40000000#32 = ((2 : ℝ) : EReal) := by simp [Ideal.ofBits, Ideal.ieee]; rw [← EReal.coe_mul]; norm_num

theorem share_eq : share = ((1 / 4096 : ℝ) : EReal) := by
  rw [share, half_eq, len_eq, Ideal.div_coe (by norm_num), ← EReal.coe_mul]; norm_num

/-- The square's gradient, as the sum of both factors' gradients and as twice one of them. -/
theorem twice (e : EReal) : e * share + share * e = share * (Ideal.ofBits .f32 0x40000000#32 * e) := by
  have h : e + e = ((2 : ℝ) : EReal) * e := by
    rw [show ((2 : ℝ) : EReal) = 1 + 1 by norm_cast, EReal.right_distrib_of_nonneg zero_le_one zero_le_one, one_mul]
  rw [two_eq, ← h, share_eq, mul_comm e, EReal.left_distrib_of_nonneg_of_ne_top (by exact_mod_cast (by norm_num : (0 : ℝ) ≤ 1 / 4096)) (EReal.coe_ne_top _)]

/-- Half of a sum is the sum of the halves. -/
theorem half_sum {ι : Type} (s : Finset ι) (f : ι → EReal) : half * ∑ i ∈ s, f i = ∑ i ∈ s, half * f i := by
  classical
  induction s using Finset.induction_on with
  | empty => simp
  | insert a s h ih =>
    rw [Finset.sum_insert h, Finset.sum_insert h, ← ih, half_eq,
      EReal.left_distrib_of_nonneg_of_ne_top (by exact_mod_cast (by norm_num : (0 : ℝ) ≤ 1 / 2)) (EReal.coe_ne_top _)]

theorem pay_res (gate x y j) : k0_pay13 (F := Ideal) gate x y j = res (row x (j 0)) (row y (j 0)) (seq gate 0) (j 1) := by
  obtain ⟨a, b, rfl⟩ : ∃ a b, j = ix2 a b := ⟨_, _, eq_ix2 j⟩
  unfold k0_pay13 k0_pay6; simp only [pointwise]; rfl

theorem pay_ms (gate x y j) : k0_pay14 (F := Ideal) gate x y j = Rows.ms len (res (row x (j 0)) (row y (j 0)) (seq gate 0)) := by
  unfold k0_pay14 Rows.ms; simp only [pointwise, pay_res, zero_add]

theorem pay_inv (gate x y j) : k0_pay15 (F := Ideal) gate x y j = Rows.inv len (res (row x (j 0)) (row y (j 0)) (seq gate 0)) := by
  unfold k0_pay15 Rows.inv; simp only [pointwise, pay_ms]

theorem pay_norm (gate x y j) : k0_pay17 (F := Ideal) gate x y j = res (row x (j 0)) (row y (j 0)) (seq gate 0) (j 1) * Rows.inv len (res (row x (j 0)) (row y (j 0)) (seq gate 0)) := by
  obtain ⟨a, b, rfl⟩ : ∃ a b, j = ix2 a b := ⟨_, _, eq_ix2 j⟩
  unfold k0_pay17; simp only [pointwise, pay_res, pay_inv, zero_add, Fin.sum_univ_one, Nat.reduceEqDiff, reduceDIte]

theorem pay_weighted (gate w x y j) : k0_pay18 (F := Ideal) gate w x y j
    = res (row x (j 0)) (row y (j 0)) (seq gate 0) (j 1) * Rows.inv len (res (row x (j 0)) (row y (j 0)) (seq gate 0)) * row w 0 (j 1) := by
  obtain ⟨a, b, rfl⟩ : ∃ a b, j = ix2 a b := ⟨_, _, eq_ix2 j⟩
  unfold k0_pay18; simp only [pointwise, pay_norm]; rfl

/-- A block's errors. -/
theorem pay_err (gate shift scale w x y tgt j) : k0_pay21 (F := Ideal) (k0_pay7 shift) (k0_pay8 scale) tgt (k0_pay18 gate w x y) k0_pay19 j
    = err (res (row x (j 0)) (row y (j 0)) (seq gate 0)) (seq shift 0) (seq scale 0) (row w 0) (row tgt (j 0)) (j 1) := by
  obtain ⟨a, b, rfl⟩ : ∃ a b, j = ix2 a b := ⟨_, _, eq_ix2 j⟩
  unfold k0_pay21 k0_pay20 k0_pay19 k0_pay7 k0_pay8 err
  simp only [pointwise, pay_weighted, Ideal.ofBits_one_f32]; rfl

/-- A block's losses. -/
theorem pay_loss (gate shift scale w x y tgt j) : k0_pay22 (F := Ideal) (k0_pay7 shift) (k0_pay8 scale) tgt (k0_pay18 gate w x y) k0_pay19 j
    = half * square (res (row x (j 0)) (row y (j 0)) (seq gate 0)) (seq shift 0) (seq scale 0) (row w 0) (row tgt (j 0)) := by
  obtain ⟨a, b, rfl⟩ : ∃ a b, j = ix2 a b := ⟨_, _, eq_ix2 j⟩
  unfold k0_pay22 square
  simp only [pointwise, pay_err, zero_add, Fin.sum_univ_one, Nat.reduceEqDiff, reduceDIte]

/-- A block's gradients of the modulated norm. -/
theorem pay_grad (gate shift scale w x y tgt j) : k0_pay23 (F := Ideal) (k0_pay7 shift) (k0_pay8 scale) tgt (k0_pay18 gate w x y) k0_pay19 j
    = grad (res (row x (j 0)) (row y (j 0)) (seq gate 0)) (seq shift 0) (seq scale 0) (row w 0) (row tgt (j 0)) (j 1) := by
  obtain ⟨a, b, rfl⟩ : ∃ a b, j = ix2 a b := ⟨_, _, eq_ix2 j⟩
  unfold k0_pay23 grad
  simp only [pointwise, pay_err, Ideal.ofBits_one_f32, mul_one, zero_add, Fin.sum_univ_one, Nat.reduceEqDiff, reduceDIte]; exact twice _

theorem pay_mod (gate shift scale w x y tgt j) : k0_pay26 (F := Ideal) (k0_pay7 shift) (k0_pay8 scale) tgt (k0_pay18 gate w x y) k0_pay19 j
    = mod (seq scale 0) (grad (res (row x (j 0)) (row y (j 0)) (seq gate 0)) (seq shift 0) (seq scale 0) (row w 0) (row tgt (j 0))) (j 1) := by
  obtain ⟨a, b, rfl⟩ : ∃ a b, j = ix2 a b := ⟨_, _, eq_ix2 j⟩
  unfold k0_pay26 k0_pay20
  simp only [pointwise, pay_grad]
  unfold k0_pay19 k0_pay8
  simp only [pointwise, Ideal.ofBits_one_f32]; rfl

/-- A block's gradients of the rows after the residual. -/
theorem pay_back (gate shift scale w x y tgt j) :
    k0_pay31 (F := Ideal) (k0_pay13 gate x y) (k0_pay29 (k0_pay7 shift) (k0_pay8 scale) w tgt (k0_pay15 gate x y) (k0_pay18 gate w x y) k0_pay19)
      (k0_pay30 (k0_pay7 shift) (k0_pay8 scale) w tgt (k0_pay13 gate x y) (k0_pay16 gate x y) (k0_pay18 gate w x y) k0_pay19) j
      = back (res (row x (j 0)) (row y (j 0)) (seq gate 0)) (seq shift 0) (seq scale 0) (row w 0) (row tgt (j 0)) (j 1) := by
  obtain ⟨a, b, rfl⟩ : ∃ a b, j = ix2 a b := ⟨_, _, eq_ix2 j⟩
  unfold k0_pay31 k0_pay30 k0_pay29 k0_pay28 k0_pay16 back Rows.grad Rows.mean
  simp only [pointwise, pay_res, pay_ms, pay_inv, pay_mod, zero_add, Fin.sum_univ_one, Nat.reduceEqDiff, reduceDIte]
  rfl

/-- A block's gradients of the branch. -/
theorem pay_branch (gate shift scale w x y tgt j) :
    k0_pay32 (F := Ideal) (k0_pay6 gate) (k0_pay13 gate x y) (k0_pay29 (k0_pay7 shift) (k0_pay8 scale) w tgt (k0_pay15 gate x y) (k0_pay18 gate w x y) k0_pay19)
      (k0_pay30 (k0_pay7 shift) (k0_pay8 scale) w tgt (k0_pay13 gate x y) (k0_pay16 gate x y) (k0_pay18 gate w x y) k0_pay19) j
      = seq gate 0 (j 1) * back (res (row x (j 0)) (row y (j 0)) (seq gate 0)) (seq shift 0) (seq scale 0) (row w 0) (row tgt (j 0)) (j 1) := by
  obtain ⟨a, b, rfl⟩ : ∃ a b, j = ix2 a b := ⟨_, _, eq_ix2 j⟩
  unfold k0_pay32 k0_pay6
  simp only [pointwise, pay_back]
  rfl

/-- A block's share of the gradient of the gate. -/
theorem pay_gate (gate shift scale w x y tgt acc j) :
    k0_pay1 (F := Ideal) (k0_pay39 k0_pay9 y (k0_pay13 gate x y) (k0_pay29 (k0_pay7 shift) (k0_pay8 scale) w tgt (k0_pay15 gate x y) (k0_pay18 gate w x y) k0_pay19)
      (k0_pay30 (k0_pay7 shift) (k0_pay8 scale) w tgt (k0_pay13 gate x y) (k0_pay16 gate x y) (k0_pay18 gate w x y) k0_pay19) acc) j
      = acc j + ∑ p : Fin 128, back (res (row x p) (row y p) (seq gate 0)) (seq shift 0) (seq scale 0) (row w 0) (row tgt p) (j 2) * row y p (j 2) := by
  unfold k0_pay1 k0_pay39 k0_pay9
  simp only [pointwise, pay_back, zero_add]
  rfl

/-- A block's share of the gradient of the shift. -/
theorem pay_shift (gate shift scale w x y tgt acc j) :
    k0_pay2 (F := Ideal) (k0_pay33 k0_pay10 (k0_pay24 (k0_pay7 shift) (k0_pay8 scale) tgt (k0_pay18 gate w x y) k0_pay19)) acc j
      = acc j + ∑ p : Fin 128, grad (res (row x p) (row y p) (seq gate 0)) (seq shift 0) (seq scale 0) (row w 0) (row tgt p) (j 2) := by
  unfold k0_pay2 k0_pay33 k0_pay10 k0_pay24
  simp only [pointwise, pay_grad, zero_add]

/-- A block's share of the gradient of the scale. -/
theorem pay_scale (gate shift scale w x y tgt acc j) :
    k0_pay3 (F := Ideal) (k0_pay34 k0_pay11 (k0_pay25 (k0_pay7 shift) (k0_pay8 scale) tgt (k0_pay18 gate w x y) k0_pay19)) acc j
      = acc j + ∑ p : Fin 128, res (row x p) (row y p) (seq gate 0) (j 2) * Rows.inv len (res (row x p) (row y p) (seq gate 0)) * row w 0 (j 2)
          * grad (res (row x p) (row y p) (seq gate 0)) (seq shift 0) (seq scale 0) (row w 0) (row tgt p) (j 2) := by
  unfold k0_pay3 k0_pay34 k0_pay11 k0_pay25
  simp only [pointwise, pay_weighted, pay_grad, zero_add]

/-- A block's share of the gradient of the weight. -/
theorem pay_weight (gate shift scale w x y tgt acc j) :
    k0_pay5 (F := Ideal) (k0_pay35 k0_pay12 (k0_pay27 (k0_pay7 shift) (k0_pay8 scale) tgt (k0_pay17 gate x y) (k0_pay18 gate w x y) k0_pay19)) acc j
      = acc j + ∑ p : Fin 128, res (row x p) (row y p) (seq gate 0) (j 1) * Rows.inv len (res (row x p) (row y p) (seq gate 0))
          * mod (seq scale 0) (grad (res (row x p) (row y p) (seq gate 0)) (seq shift 0) (seq scale 0) (row w 0) (row tgt p)) (j 1) := by
  unfold k0_pay5 k0_pay35 k0_pay12 k0_pay27
  simp only [pointwise, pay_norm, pay_mod, zero_add]

theorem zero_gate (j) : k0_pay36 (F := Ideal) j = 0 := by unfold k0_pay36; simp only [pointwise]
theorem zero_shift (j) : k0_pay37 (F := Ideal) j = 0 := by unfold k0_pay37; simp only [pointwise]
theorem zero_scale (j) : k0_pay38 (F := Ideal) j = 0 := by unfold k0_pay38; simp only [pointwise]
theorem zero_weight (j) : k0_pay4 (F := Ideal) j = 0 := by unfold k0_pay4; simp only [pointwise]

/-- The windows of rows move along the rows, those of the modulation along the sequences; the weight and its gradient stay. -/
theorem idx : ∀ t : Fin grid0.N, win0_0.index t = ![t.val, 0] ∧ win0_1.index t = ![t.val, 0] ∧ win0_2.index t = ![t.val, 0]
    ∧ win0_3.index t = ![t.val / 16, 0, 0] ∧ win0_4.index t = ![t.val / 16, 0, 0] ∧ win0_5.index t = ![t.val / 16, 0, 0]
    ∧ win0_6.index t = ![0, 0] ∧ win0_7.index t = ![t.val, 0] ∧ win0_8.index t = ![t.val, 0] ∧ win0_9.index t = ![t.val, 0]
    ∧ win0_10.index t = ![t.val / 16, 0, 0] ∧ win0_11.index t = ![t.val / 16, 0, 0] ∧ win0_12.index t = ![t.val / 16, 0, 0]
    ∧ win0_13.index t = ![0, 0] := by decide +kernel

section blocks

variable (c : Dev nD) (t : Fin cfg0.N) (p : Fin 128) (n : Fin 4096) (s : Fin 2)

/-- The rows and sequences of the arrays that a point's blocks hold. -/
theorem blk_x (h : n.val = t.val * 128 + p.val) : row (iblk m c 0 t) p = row (m ((c : Thread nD τ).loc main_arg0)) n := by
  obtain ⟨e, -⟩ := idx t
  funext k; dsimp only [row]; blk_ext [iblk, V, e]

theorem blk_y (h : n.val = t.val * 128 + p.val) : row (iblk m c 1 t) p = row (m ((c : Thread nD τ).loc main_arg1)) n := by
  obtain ⟨-, e, -⟩ := idx t
  funext k; dsimp only [row]; blk_ext [iblk, V, e]

theorem blk_tgt (h : n.val = t.val * 128 + p.val) : row (iblk m c 2 t) p = row (m ((c : Thread nD τ).loc main_arg2)) n := by
  obtain ⟨-, -, e, -⟩ := idx t
  funext k; dsimp only [row]; blk_ext [iblk, V, e]

theorem blk_gate (h : s.val = t.val / 16) : seq (iblk m c 3 t) 0 = seq (m ((c : Thread nD τ).loc main_arg3)) s := by
  obtain ⟨-, -, -, e, -⟩ := idx t
  funext k; dsimp only [seq]; blk_ext [iblk, V, e]

theorem blk_shift (h : s.val = t.val / 16) : seq (iblk m c 4 t) 0 = seq (m ((c : Thread nD τ).loc main_arg4)) s := by
  obtain ⟨-, -, -, -, e, -⟩ := idx t
  funext k; dsimp only [seq]; blk_ext [iblk, V, e]

theorem blk_scale (h : s.val = t.val / 16) : seq (iblk m c 5 t) 0 = seq (m ((c : Thread nD τ).loc main_arg5)) s := by
  obtain ⟨-, -, -, -, -, e, -⟩ := idx t
  funext k; dsimp only [seq]; blk_ext [iblk, V, e]

theorem blk_w : row (iblk m c 6 t) 0 = row (m ((c : Thread nD τ).loc main_arg6)) 0 := by
  obtain ⟨-, -, -, -, -, -, e, -⟩ := idx t
  funext k; dsimp only [row]; blk_ext [iblk, V, e]

/-- Token `n` of sequence `s` after the residual. -/
def resAt : Fin 2048 → EReal := res (row (m ((c : Thread nD τ).loc main_arg0)) n) (row (m ((c : Thread nD τ).loc main_arg1)) n) (seq (m ((c : Thread nD τ).loc main_arg3)) s)

/-- The gradient of its modulated norm. -/
def gradAt : Fin 2048 → EReal :=
  grad (resAt m c n s) (seq (m ((c : Thread nD τ).loc main_arg4)) s) (seq (m ((c : Thread nD τ).loc main_arg5)) s) (row (m ((c : Thread nD τ).loc main_arg6)) 0) (row (m ((c : Thread nD τ).loc main_arg2)) n)

/-- Its own gradient. -/
def backAt : Fin 2048 → EReal :=
  back (resAt m c n s) (seq (m ((c : Thread nD τ).loc main_arg4)) s) (seq (m ((c : Thread nD τ).loc main_arg5)) s) (row (m ((c : Thread nD τ).loc main_arg6)) 0) (row (m ((c : Thread nD τ).loc main_arg2)) n)

/-- Its mean square error. -/
def squareAt : EReal :=
  square (resAt m c n s) (seq (m ((c : Thread nD τ).loc main_arg4)) s) (seq (m ((c : Thread nD τ).loc main_arg5)) s) (row (m ((c : Thread nD τ).loc main_arg6)) 0) (row (m ((c : Thread nD τ).loc main_arg2)) n)

variable (h : n.val = t.val * 128 + p.val) (h' : s.val = t.val / 16)

include h h'

theorem blk_res : res (row (iblk m c 0 t) p) (row (iblk m c 1 t) p) (seq (iblk m c 3 t) 0) = resAt m c n s := by
  rw [blk_x m c t p n h, blk_y m c t p n h, blk_gate m c t s h']; rfl

theorem blk_grad : grad (res (row (iblk m c 0 t) p) (row (iblk m c 1 t) p) (seq (iblk m c 3 t) 0))
    (seq (iblk m c 4 t) 0) (seq (iblk m c 5 t) 0) (row (iblk m c 6 t) 0) (row (iblk m c 2 t) p) = gradAt m c n s := by
  rw [blk_res m c t p n s h h', blk_shift m c t s h', blk_scale m c t s h', blk_w, blk_tgt m c t p n h]; rfl

theorem blk_back : back (res (row (iblk m c 0 t) p) (row (iblk m c 1 t) p) (seq (iblk m c 3 t) 0))
    (seq (iblk m c 4 t) 0) (seq (iblk m c 5 t) 0) (row (iblk m c 6 t) 0) (row (iblk m c 2 t) p) = backAt m c n s := by
  rw [blk_res m c t p n s h h', blk_shift m c t s h', blk_scale m c t s h', blk_w, blk_tgt m c t p n h]; rfl

theorem blk_square : square (res (row (iblk m c 0 t) p) (row (iblk m c 1 t) p) (seq (iblk m c 3 t) 0))
    (seq (iblk m c 4 t) 0) (seq (iblk m c 5 t) 0) (row (iblk m c 6 t) 0) (row (iblk m c 2 t) p) = squareAt m c n s := by
  rw [blk_res m c t p n s h h', blk_shift m c t s h', blk_scale m c t s h', blk_w, blk_tgt m c t p n h]; rfl

end blocks

/-- The sequence of a token. -/
abbrev seqOf (n : Fin 4096) : Fin 2 := ⟨n.val / 2048, by omega⟩

/-- A sequence's token. -/
abbrev tok (s : Fin 2) (k : Fin 2048) : Fin 4096 := ⟨s.val * 2048 + k.val, by omega⟩

/-- Each grid point writes its rows' losses, their gradients and the branch's. -/
theorem written_loss (c : Dev nD) (t : Fin cfg0.N) :
    (outsAt0 m c t.val t.isLt).1
      = k0_pay22 (F := Ideal) (k0_pay7 (iblk m c 4 t)) (k0_pay8 (iblk m c 5 t)) (iblk m c 2 t)
          (k0_pay18 (iblk m c 3 t) (iblk m c 6 t) (iblk m c 0 t) (iblk m c 1 t)) k0_pay19 := by
  by_cases h : t.val % 32 = 0
  · have h' : t.val % 16 = 0 := by omega
    rw [outsAt0_A m c t h' h]; funext j; frame_out
  · by_cases h' : t.val % 16 = 0
    · rw [outsAt0_C m c t h' h]; funext j; frame_out
    · rw [outsAt0_B m c t h' h]; funext j; frame_out

theorem written (c : Dev nD) (t : Fin cfg0.N) :
    (outsAt0 m c t.val t.isLt).2.1
      = k0_pay31 (F := Ideal) (k0_pay13 (iblk m c 3 t) (iblk m c 0 t) (iblk m c 1 t))
        (k0_pay29 (k0_pay7 (iblk m c 4 t)) (k0_pay8 (iblk m c 5 t)) (iblk m c 6 t) (iblk m c 2 t) (k0_pay15 (iblk m c 3 t) (iblk m c 0 t) (iblk m c 1 t))
          (k0_pay18 (iblk m c 3 t) (iblk m c 6 t) (iblk m c 0 t) (iblk m c 1 t)) k0_pay19)
      (k0_pay30 (k0_pay7 (iblk m c 4 t)) (k0_pay8 (iblk m c 5 t)) (iblk m c 6 t) (iblk m c 2 t) (k0_pay13 (iblk m c 3 t) (iblk m c 0 t) (iblk m c 1 t)) (k0_pay16 (iblk m c 3 t) (iblk m c 0 t) (iblk m c 1 t))
          (k0_pay18 (iblk m c 3 t) (iblk m c 6 t) (iblk m c 0 t) (iblk m c 1 t)) k0_pay19) := by
  by_cases h : t.val % 32 = 0
  · have h' : t.val % 16 = 0 := by omega
    rw [outsAt0_A m c t h' h]; funext j; frame_out
  · by_cases h' : t.val % 16 = 0
    · rw [outsAt0_C m c t h' h]; funext j; frame_out
    · rw [outsAt0_B m c t h' h]; funext j; frame_out

theorem written_branch (c : Dev nD) (t : Fin cfg0.N) :
    (outsAt0 m c t.val t.isLt).2.2.1
      = k0_pay32 (F := Ideal) (k0_pay6 (iblk m c 3 t)) (k0_pay13 (iblk m c 3 t) (iblk m c 0 t) (iblk m c 1 t))
        (k0_pay29 (k0_pay7 (iblk m c 4 t)) (k0_pay8 (iblk m c 5 t)) (iblk m c 6 t) (iblk m c 2 t) (k0_pay15 (iblk m c 3 t) (iblk m c 0 t) (iblk m c 1 t))
          (k0_pay18 (iblk m c 3 t) (iblk m c 6 t) (iblk m c 0 t) (iblk m c 1 t)) k0_pay19)
      (k0_pay30 (k0_pay7 (iblk m c 4 t)) (k0_pay8 (iblk m c 5 t)) (iblk m c 6 t) (iblk m c 2 t) (k0_pay13 (iblk m c 3 t) (iblk m c 0 t) (iblk m c 1 t)) (k0_pay16 (iblk m c 3 t) (iblk m c 0 t) (iblk m c 1 t))
          (k0_pay18 (iblk m c 3 t) (iblk m c 6 t) (iblk m c 0 t) (iblk m c 1 t)) k0_pay19) := by
  by_cases h : t.val % 32 = 0
  · have h' : t.val % 16 = 0 := by omega
    rw [outsAt0_A m c t h' h]; funext j; frame_out
  · by_cases h' : t.val % 16 = 0
    · rw [outsAt0_C m c t h' h]; funext j; frame_out
    · rw [outsAt0_B m c t h' h]; funext j; frame_out

/-- The array of losses. -/
theorem result_loss (c : Dev nD) : (dats m 0 c).arrAt 7 (cfgs 0).N = fun i : S4096x1.Idx => half * squareAt m c (i 0) (seqOf (i 0)) := by
  refine (dats m 0 c).arrAt_eq_of_covers 7 _ (by decide +kernel) fun t hf y => ?_
  obtain ⟨-, -, -, -, -, -, -, e, -⟩ := idx t
  have e0 : ((win0_7.blk t).view.emb y 0).val = t.val * 128 + (y 0).val := by blk_simp [e]
  have es : (seqOf ((win0_7.blk t).view.emb y 0)).val = t.val / 16 := by
    show ((win0_7.blk t).view.emb y 0).val / 2048 = _
    have : (y 0).val < 128 := (y 0).isLt
    omega
  blk_simp
  rw [after0_7, written_loss, pay_loss, blk_square m c t (y 0) _ _ e0 es]

/-- The array of gradients of the rows. -/
theorem result_x (c : Dev nD) : (dats m 0 c).arrAt 8 (cfgs 0).N = fun i : S4096x2048.Idx => backAt m c (i 0) (seqOf (i 0)) (i 1) := by
  refine (dats m 0 c).arrAt_eq_of_covers 8 _ (by decide +kernel) fun t hf y => ?_
  obtain ⟨-, -, -, -, -, -, -, -, e, -⟩ := idx t
  have e0 : ((win0_8.blk t).view.emb y 0).val = t.val * 128 + (y 0).val := by blk_simp [e]
  have e1 : y 1 = (win0_8.blk t).view.emb y 1 := Fin.ext (by blk_simp [e])
  have es : (seqOf ((win0_8.blk t).view.emb y 0)).val = t.val / 16 := by
    show ((win0_8.blk t).view.emb y 0).val / 2048 = _
    have : (y 0).val < 128 := (y 0).isLt
    omega
  blk_simp
  rw [after0_8, written, pay_back, blk_back m c t (y 0) _ _ e0 es, e1]

/-- The array of gradients of the branch. -/
theorem result_y (c : Dev nD) : (dats m 0 c).arrAt 9 (cfgs 0).N = fun i : S4096x2048.Idx =>
    seq (m ((c : Thread nD τ).loc main_arg3)) (seqOf (i 0)) (i 1) * backAt m c (i 0) (seqOf (i 0)) (i 1) := by
  refine (dats m 0 c).arrAt_eq_of_covers 9 _ (by decide +kernel) fun t hf y => ?_
  obtain ⟨-, -, -, -, -, -, -, -, -, e, -⟩ := idx t
  have e0 : ((win0_9.blk t).view.emb y 0).val = t.val * 128 + (y 0).val := by blk_simp [e]
  have e1 : y 1 = (win0_9.blk t).view.emb y 1 := Fin.ext (by blk_simp [e])
  have es : (seqOf ((win0_9.blk t).view.emb y 0)).val = t.val / 16 := by
    show ((win0_9.blk t).view.emb y 0).val / 2048 = _
    have : (y 0).val < 128 := (y 0).isLt
    omega
  blk_simp
  rw [after0_9, written_branch, pay_branch, blk_back m c t (y 0) _ _ e0 es, blk_gate m c t _ es, e1]

/-- A point's share of the gradient of the gate. -/
def gateTerm (c : Dev nD) (t : Fin cfg0.N) (j : S1x1x2048.Idx) : EReal := ∑ p : Fin 128,
  back (res (row (iblk m c 0 t) p) (row (iblk m c 1 t) p) (seq (iblk m c 3 t) 0))
    (seq (iblk m c 4 t) 0) (seq (iblk m c 5 t) 0) (row (iblk m c 6 t) 0) (row (iblk m c 2 t) p) (j 2) * row (iblk m c 1 t) p (j 2)

/-- A point's share of the gradient of the shift. -/
def shiftTerm (c : Dev nD) (t : Fin cfg0.N) (j : S1x1x2048.Idx) : EReal := ∑ p : Fin 128,
  grad (res (row (iblk m c 0 t) p) (row (iblk m c 1 t) p) (seq (iblk m c 3 t) 0))
    (seq (iblk m c 4 t) 0) (seq (iblk m c 5 t) 0) (row (iblk m c 6 t) 0) (row (iblk m c 2 t) p) (j 2)

/-- A point's share of the gradient of the scale. -/
def scaleTerm (c : Dev nD) (t : Fin cfg0.N) (j : S1x1x2048.Idx) : EReal := ∑ p : Fin 128,
  res (row (iblk m c 0 t) p) (row (iblk m c 1 t) p) (seq (iblk m c 3 t) 0) (j 2)
    * Rows.inv len (res (row (iblk m c 0 t) p) (row (iblk m c 1 t) p) (seq (iblk m c 3 t) 0)) * row (iblk m c 6 t) 0 (j 2)
    * grad (res (row (iblk m c 0 t) p) (row (iblk m c 1 t) p) (seq (iblk m c 3 t) 0))
        (seq (iblk m c 4 t) 0) (seq (iblk m c 5 t) 0) (row (iblk m c 6 t) 0) (row (iblk m c 2 t) p) (j 2)

/-- A point's share of the gradient of the weight. -/
def weightTerm (c : Dev nD) (t : Fin cfg0.N) (j : S1x2048.Idx) : EReal := ∑ p : Fin 128,
  res (row (iblk m c 0 t) p) (row (iblk m c 1 t) p) (seq (iblk m c 3 t) 0) (j 1)
    * Rows.inv len (res (row (iblk m c 0 t) p) (row (iblk m c 1 t) p) (seq (iblk m c 3 t) 0))
    * mod (seq (iblk m c 5 t) 0) (grad (res (row (iblk m c 0 t) p) (row (iblk m c 1 t) p) (seq (iblk m c 3 t) 0))
        (seq (iblk m c 4 t) 0) (seq (iblk m c 5 t) 0) (row (iblk m c 6 t) 0) (row (iblk m c 2 t) p)) (j 1)

/-- After a sequence's last point the three accumulators of its modulation hold its points' shares, summed. -/
theorem carried_gate (c : Dev nD) (t : Fin cfg0.N) (ht : t.val % 16 = 15) (j : S1x1x2048.Idx) :
    (outsAt0 m c t.val t.isLt).2.2.2.1 j
      = 0 + ∑ s : Fin 16, gateTerm m c ⟨16 * (t.val / 16) + s, Pipeline.run_point_lt_of_flush t ht s⟩ j := by
  refine Pipeline.eq_sum_fin_of_reset_step_apply_of_flush (fun n h => (outsAt0 m c n h).2.2.2.1) 16 (fun _ => 0)
    (gateTerm m c) (fun t h j => ?_) (fun t h j => ?_) t ht j
  · by_cases h' : t.val % 32 = 0
    · rw [outsAt0_A m c t h h']; frame_out; rw [pay_gate, zero_gate]; rfl
    · rw [outsAt0_C m c t h h']; frame_out; rw [pay_gate, zero_gate]; rfl
  · rw [outsAt0_B m c t h (by omega)]; frame_out; rw [pay_gate]; rfl

theorem carried_shift (c : Dev nD) (t : Fin cfg0.N) (ht : t.val % 16 = 15) (j : S1x1x2048.Idx) :
    (outsAt0 m c t.val t.isLt).2.2.2.2.1 j
      = 0 + ∑ s : Fin 16, shiftTerm m c ⟨16 * (t.val / 16) + s, Pipeline.run_point_lt_of_flush t ht s⟩ j := by
  refine Pipeline.eq_sum_fin_of_reset_step_apply_of_flush (fun n h => (outsAt0 m c n h).2.2.2.2.1) 16 (fun _ => 0)
    (shiftTerm m c) (fun t h j => ?_) (fun t h j => ?_) t ht j
  · by_cases h' : t.val % 32 = 0
    · rw [outsAt0_A m c t h h']; frame_out; rw [pay_shift, zero_shift]; rfl
    · rw [outsAt0_C m c t h h']; frame_out; rw [pay_shift, zero_shift]; rfl
  · rw [outsAt0_B m c t h (by omega)]; frame_out; rw [pay_shift]; rfl

theorem carried_scale (c : Dev nD) (t : Fin cfg0.N) (ht : t.val % 16 = 15) (j : S1x1x2048.Idx) :
    (outsAt0 m c t.val t.isLt).2.2.2.2.2.1 j
      = 0 + ∑ s : Fin 16, scaleTerm m c ⟨16 * (t.val / 16) + s, Pipeline.run_point_lt_of_flush t ht s⟩ j := by
  refine Pipeline.eq_sum_fin_of_reset_step_apply_of_flush (fun n h => (outsAt0 m c n h).2.2.2.2.2.1) 16 (fun _ => 0)
    (scaleTerm m c) (fun t h j => ?_) (fun t h j => ?_) t ht j
  · by_cases h' : t.val % 32 = 0
    · rw [outsAt0_A m c t h h']; frame_out; rw [pay_scale, zero_scale]; rfl
    · rw [outsAt0_C m c t h h']; frame_out; rw [pay_scale, zero_scale]; rfl
  · rw [outsAt0_B m c t h (by omega)]; frame_out; rw [pay_scale]; rfl

/-- After the last point the weight's accumulator holds all the points' shares, summed. -/
theorem carried_weight (c : Dev nD) (t : Fin cfg0.N) (ht : t.val % 32 = 31) (j : S1x2048.Idx) :
    (outsAt0 m c t.val t.isLt).2.2.2.2.2.2 j
      = 0 + ∑ s : Fin 32, weightTerm m c ⟨32 * (t.val / 32) + s, Pipeline.run_point_lt_of_flush t ht s⟩ j := by
  refine Pipeline.eq_sum_fin_of_reset_step_apply_of_flush (fun n h => (outsAt0 m c n h).2.2.2.2.2.2) 32 (fun _ => 0)
    (weightTerm m c) (fun t h j => ?_) (fun t h j => ?_) t ht j
  · rw [outsAt0_A m c t (by omega) h]; frame_out; rw [pay_weight, zero_weight]; rfl
  · by_cases h' : t.val % 16 = 0
    · rw [outsAt0_C m c t h' h]; frame_out; rw [pay_weight]; rfl
    · rw [outsAt0_B m c t h' h]; frame_out; rw [pay_weight]; rfl

section sums

variable (c : Dev nD)

/-- A sequence's gradient of the gate. -/
def gates (s : Fin 2) (k : Fin 2048) : EReal := ∑ r : Fin 2048, backAt m c (tok s r) s k * row (m ((c : Thread nD τ).loc main_arg1)) (tok s r) k

/-- A sequence's gradient of the shift. -/
def shifts (s : Fin 2) (k : Fin 2048) : EReal := ∑ r : Fin 2048, gradAt m c (tok s r) s k

/-- A sequence's gradient of the scale. -/
def scales (s : Fin 2) (k : Fin 2048) : EReal := ∑ r : Fin 2048,
  resAt m c (tok s r) s k * Rows.inv len (resAt m c (tok s r) s) * row (m ((c : Thread nD τ).loc main_arg6)) 0 k * gradAt m c (tok s r) s k

/-- A token's share of the gradient of the weight. -/
def weightAt (n : Fin 4096) (s : Fin 2) (k : Fin 2048) : EReal :=
  resAt m c n s k * Rows.inv len (resAt m c n s) * mod (seq (m ((c : Thread nD τ).loc main_arg5)) s) (gradAt m c n s) k

/-- The gradient of the weight, over both sequences. -/
def weights (k : Fin 2048) : EReal := ∑ s : Fin 2, ∑ r : Fin 2048, weightAt m c (tok s r) s k

/-- The loss, over both sequences. -/
def loss : EReal := half * ∑ s : Fin 2, ∑ r : Fin 2048, squareAt m c (tok s r) s

end sums

/-- A block's row is its sequence's token. -/
theorem run_tok {a : Fin 2} {t s k : ℕ} (h : a.val = t / 16) (hs : s < 16) (hk : s * 128 + k < 2048) :
    (tok a ⟨s * 128 + k, hk⟩).val = (16 * (t / 16) + s) * 128 + k ∧ a.val = (16 * (t / 16) + s) / 16 := by
  refine ⟨?_, by omega⟩
  show a.val * 2048 + (s * 128 + k) = _
  omega

/-- The array of gradients of the gate. -/
theorem result_gate (c : Dev nD) : (dats m 0 c).arrAt 10 (cfgs 0).N = fun i : S2x1x2048.Idx => gates m c (i 0) (i 2) := by
  refine (dats m 0 c).arrAt_eq_of_covers 10 _ (by decide +kernel) fun t hf y => ?_
  have ht := (flush0_10 t).mp hf
  obtain ⟨-, -, -, -, -, -, -, -, -, -, e, -⟩ := idx t
  have e0 : ((win0_10.blk t).view.emb y 0).val = t.val / 16 := by blk_simp [e]
  have e2 : y 2 = (win0_10.blk t).view.emb y 2 := Fin.ext (by blk_simp [e])
  blk_simp
  rw [after0_10, carried_gate m c t ht, zero_add]
  unfold gateTerm gates
  refine Fin.sum_mul_add_congr fun s k hk => ?_
  obtain ⟨hn, hs⟩ := run_tok e0 s.isLt hk
  have b := Pipeline.run_point_lt_of_flush t ht s
  rw [blk_back m c ⟨16 * (t.val / 16) + s, b⟩ k _ _ hn hs, blk_y m c ⟨16 * (t.val / 16) + s, b⟩ k _ hn, e2]

/-- The array of gradients of the shift. -/
theorem result_shift (c : Dev nD) : (dats m 0 c).arrAt 11 (cfgs 0).N = fun i : S2x1x2048.Idx => shifts m c (i 0) (i 2) := by
  refine (dats m 0 c).arrAt_eq_of_covers 11 _ (by decide +kernel) fun t hf y => ?_
  have ht := (flush0_11 t).mp hf
  obtain ⟨-, -, -, -, -, -, -, -, -, -, -, e, -⟩ := idx t
  have e0 : ((win0_11.blk t).view.emb y 0).val = t.val / 16 := by blk_simp [e]
  have e2 : y 2 = (win0_11.blk t).view.emb y 2 := Fin.ext (by blk_simp [e])
  blk_simp
  rw [after0_11, carried_shift m c t ht, zero_add]
  unfold shiftTerm shifts
  refine Fin.sum_mul_add_congr fun s k hk => ?_
  obtain ⟨hn, hs⟩ := run_tok e0 s.isLt hk
  have b := Pipeline.run_point_lt_of_flush t ht s
  rw [blk_grad m c ⟨16 * (t.val / 16) + s, b⟩ k _ _ hn hs, e2]

/-- The array of gradients of the scale. -/
theorem result_scale (c : Dev nD) : (dats m 0 c).arrAt 12 (cfgs 0).N = fun i : S2x1x2048.Idx => scales m c (i 0) (i 2) := by
  refine (dats m 0 c).arrAt_eq_of_covers 12 _ (by decide +kernel) fun t hf y => ?_
  have ht := (flush0_12 t).mp hf
  obtain ⟨-, -, -, -, -, -, -, -, -, -, -, -, e, -⟩ := idx t
  have e0 : ((win0_12.blk t).view.emb y 0).val = t.val / 16 := by blk_simp [e]
  have e2 : y 2 = (win0_12.blk t).view.emb y 2 := Fin.ext (by blk_simp [e])
  blk_simp
  rw [after0_12, carried_scale m c t ht, zero_add]
  unfold scaleTerm scales
  refine Fin.sum_mul_add_congr fun s k hk => ?_
  obtain ⟨hn, hs⟩ := run_tok e0 s.isLt hk
  have b := Pipeline.run_point_lt_of_flush t ht s
  rw [blk_grad m c ⟨16 * (t.val / 16) + s, b⟩ k _ _ hn hs, blk_res m c ⟨16 * (t.val / 16) + s, b⟩ k _ _ hn hs, blk_w, e2]

/-- The array of gradients of the weight. -/
theorem result_weight (c : Dev nD) : (dats m 0 c).arrAt 13 (cfgs 0).N = fun i : S1x2048.Idx => weights m c (i 1) := by
  refine (dats m 0 c).arrAt_eq_of_covers 13 _ (by decide +kernel) fun t hf y => ?_
  have ht := (flush0_13 t).mp hf
  obtain ⟨-, -, -, -, -, -, -, -, -, -, -, -, -, e⟩ := idx t
  have e1 : y 1 = (win0_13.blk t).view.emb y 1 := Fin.ext (by blk_simp [e])
  blk_simp
  rw [after0_13, carried_weight m c t ht, zero_add]
  unfold weightTerm weights
  refine (Fin.sum_mul_add_congr (f := fun n : Fin 4096 => weightAt m c n (seqOf n) ((win0_13.blk t).view.emb y 1)) fun s k hk => ?_).trans
    (Fin.sum_mul_add_congr fun s r hr => ?_).symm
  · have b := Pipeline.run_point_lt_of_flush t ht s
    have h0 : t.val / 32 = 0 := by have : t.val < 32 := t.isLt; omega
    have hn : (⟨s.val * 128 + k.val, hk⟩ : Fin 4096).val = (32 * (t.val / 32) + s.val) * 128 + k.val := by
      show s.val * 128 + k.val = _
      omega
    have hs : (seqOf ⟨s.val * 128 + k.val, hk⟩).val = (32 * (t.val / 32) + s.val) / 16 := by
      show (s.val * 128 + k.val) / 2048 = _
      omega
    unfold weightAt
    rw [blk_grad m c ⟨32 * (t.val / 32) + s, b⟩ k _ _ hn hs, blk_res m c ⟨32 * (t.val / 32) + s, b⟩ k _ _ hn hs,
      blk_scale m c ⟨32 * (t.val / 32) + s, b⟩ _ hs, e1]
  · have : seqOf ⟨s.val * 2048 + r.val, hr⟩ = s := Fin.ext (show (s.val * 2048 + r.val) / 2048 = _ by omega)
    show _ = weightAt m c ⟨s.val * 2048 + r.val, hr⟩ (seqOf ⟨s.val * 2048 + r.val, hr⟩) _
    rw [this]

/-- The host's sum of an array of losses. -/
def hostSum (x : FVec Ideal S4096x1 .f32) : FVec Ideal S_ .f32 :=
  Host.reduceAdd x (constant S_ .f32 0x00000000#32) reducesTo_S4096x1_S_d0_1 h_S_

/-- What the host's operation leaves, from what it reads. -/
theorem after_tail (W : Valuation τ sig (Elt Ideal)) :
    StableHlo.after (List.flatten [hostOps1]) W (Proc.devRef .tc main_v1) = hostSum (W (Proc.devRef .tc main_v0_0)) := by
  simp only [List.flatten_cons, List.flatten_nil, List.append_nil]
  after_results
  rfl

/-- The host's sum of the losses is the loss. -/
theorem total (c : Dev nD) : hostSum (fun i : S4096x1.Idx => half * squareAt m c (i 0) (seqOf (i 0))) = fun _ => loss m c := by
  funext j
  unfold hostSum
  simp only [pointwise, zero_add, Fin.sum_univ_one]
  unfold loss
  simp only [half_sum]
  refine (Fin.sum_mul_add_congr (f := fun n : Fin 4096 => half * squareAt m c n (seqOf n)) fun s r hr => ?_).symm
  have : seqOf ⟨s.val * 2048 + r.val, hr⟩ = s := Fin.ext (show (s.val * 2048 + r.val) / 2048 = _ by omega)
  show _ = half * squareAt m c ⟨s.val * 2048 + r.val, hr⟩ (seqOf ⟨s.val * 2048 + r.val, hr⟩)
  rw [this]

/-- The scalar of the loss. -/
theorem result_total (c : Dev nD) : Pipeline.afterTail₀ cfgs (dats m) 0 (V0 m) [hostOps1] c main_v1 = fun _ => loss m c := by
  unfold Pipeline.afterTail₀
  rw [after_tail]
  have h := Pipeline.withArrays_arr (cfgs 0).spec (by decide) c (V0 m c) (fun w => (dats m 0 c).arrAt w (cfgs 0).N) 7
  exact (congrArg hostSum (h.trans (result_loss m c))).trans (total m c)

/-- The kernel runs to its end, leaves these seven results and keeps its arguments. -/
theorem run (g : Dev nD → PrngReg) : θ_run defs (onTc (τ := τ) (main (F := Ideal))) ⟨m, fun _ => 0, g⟩ fun r => ∀ c : Dev nD,
      r.2.mem ((c : Thread nD τ).loc main_v1) = (fun _ => loss m c)
      ∧ r.2.mem ((c : Thread nD τ).loc main_v0_1) = (dats m 0 c).arrAt 8 (cfgs 0).N
      ∧ r.2.mem ((c : Thread nD τ).loc main_v0_2) = (dats m 0 c).arrAt 9 (cfgs 0).N
      ∧ r.2.mem ((c : Thread nD τ).loc main_v0_3) = (dats m 0 c).arrAt 10 (cfgs 0).N
      ∧ r.2.mem ((c : Thread nD τ).loc main_v0_4) = (dats m 0 c).arrAt 11 (cfgs 0).N
      ∧ r.2.mem ((c : Thread nD τ).loc main_v0_5) = (dats m 0 c).arrAt 12 (cfgs 0).N
      ∧ r.2.mem ((c : Thread nD τ).loc main_v0_6) = (dats m 0 c).arrAt 13 (cfgs 0).N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨((h.1 c).2 main_v1 (Pipeline.mem_restRefs_of main_v1 (by decide) (by decide))).trans (result_total m c),
      (h.1 c).1 8, (h.1 c).1 9, (h.1 c).1 10, (h.1 c).1 11, (h.1 c).1 12, (h.1 c).1 13, h.2 c⟩)
    (θ_run_and (run_main m g) (unchanged m g))

/-- The reference runs to its end and keeps its arguments. -/
theorem frame_reference : Cert.quiescent_Reference33Ideal := fun m ρ _ =>
  (θ_run Cert.Reference33Ideal.defs _ _).mono
    (fun r h => ⟨fun c => (h c).2.2.2.2.2.2.2, sem_eq_zero_of_no_sems (by decide) r.2⟩)
    (Cert.Reference33Ideal.Value.run (F := Ideal) m ρ)

set_option maxHeartbeats 4000000 in
/-- Kernel and reference leave the same loss and the same six arrays. -/
theorem algebraic : Cert.algebraic_Kernel33Ideal_Reference33Ideal := by
  intro m g m' g' _ hagree
  refine ⟨_, _, _, _, _, _, _, run m g, ?_⟩
  refine (θ_run _ _ _).mono (fun r h c => ⟨(h c).1.trans ?_, (h c).2.1.trans ?_, (h c).2.2.1.trans ?_, (h c).2.2.2.1.trans ?_,
      (h c).2.2.2.2.1.trans ?_, (h c).2.2.2.2.2.1.trans ?_, (h c).2.2.2.2.2.2.1.trans ?_, (h c).2.2.2.2.2.2.2⟩)
    (Cert.Reference33Ideal.Value.run (F := Ideal) m' g')
  all_goals obtain ⟨h0, h1, h2, h3, h4, h5, h6⟩ := hagree c
  · unfold Cert.Reference33Ideal.Value.res_main_v43
    rw [h0, h1, h2, h3, h4, h5, h6]
    funext i
    unfold loss squareAt square err resAt res row seq Rows.inv Rows.ms
    simp only [pointwise, TwoAxes.sum, TwoAxes.last, zero_add, mul_one, Fin.sum_univ_one, Nat.reduceEqDiff, reduceDIte,
      Matrix.cons_val_zero, Matrix.cons_val_one, Ideal.ofBits_one_f32]
  · show _ = (dats m 0 c).arrAt 8 (cfgs 0).N
    rw [result_x]
    unfold Cert.Reference33Ideal.Value.res_main_v85
    rw [h0, h1, h2, h3, h4, h5, h6]
    funext i
    obtain ⟨a, b, rfl⟩ : ∃ a b, i = ix2 a b := ⟨_, _, eq_ix2 i⟩
    unfold backAt back grad mod err resAt res row seq Rows.grad Rows.mean Rows.inv Rows.ms
    simp only [pointwise, TwoAxes.sum, TwoAxes.last, zero_add, mul_one, Fin.sum_univ_one, Nat.reduceEqDiff, reduceDIte,
      Matrix.cons_val_zero, Matrix.cons_val_one, Ideal.ofBits_one_f32]
  · show _ = (dats m 0 c).arrAt 9 (cfgs 0).N
    rw [result_y]
    unfold Cert.Reference33Ideal.Value.res_main_v87
    rw [h0, h1, h2, h3, h4, h5, h6]
    funext i
    obtain ⟨a, b, rfl⟩ : ∃ a b, i = ix2 a b := ⟨_, _, eq_ix2 i⟩
    unfold backAt back grad mod err resAt res row seq Rows.grad Rows.mean Rows.inv Rows.ms
    simp only [pointwise, TwoAxes.sum, TwoAxes.last, zero_add, mul_one, Fin.sum_univ_one, Nat.reduceEqDiff, reduceDIte,
      Matrix.cons_val_zero, Matrix.cons_val_one, Ideal.ofBits_one_f32]
  · show _ = (dats m 0 c).arrAt 10 (cfgs 0).N
    rw [result_gate]
    unfold Cert.Reference33Ideal.Value.res_main_v88
    rw [h0, h1, h2, h3, h4, h5, h6]
    funext i
    obtain ⟨a, d, b, rfl⟩ : ∃ a d b, i = ix3 a d b := ⟨_, _, _, eq_ix3 i⟩
    unfold gates backAt back grad mod err resAt res row seq Rows.grad Rows.mean Rows.inv Rows.ms
    simp only [pointwise, TwoAxes.sum, TwoAxes.last, zero_add, mul_one, Fin.sum_univ_one, Nat.reduceEqDiff, reduceDIte,
      Matrix.cons_val_zero, Matrix.cons_val_one, Ideal.ofBits_one_f32]
  · show _ = (dats m 0 c).arrAt 11 (cfgs 0).N
    rw [result_shift]
    rw [h0, h1, h2, h3, h4, h5, h6]
    funext i
    obtain ⟨a, d, b, rfl⟩ : ∃ a d b, i = ix3 a d b := ⟨_, _, _, eq_ix3 i⟩
    unfold shifts gradAt grad err resAt res row seq Rows.inv Rows.ms
    simp only [pointwise, TwoAxes.sum, TwoAxes.last, zero_add, mul_one, Fin.sum_univ_one, Nat.reduceEqDiff, reduceDIte,
      Matrix.cons_val_zero, Matrix.cons_val_one, Ideal.ofBits_one_f32]
  · show _ = (dats m 0 c).arrAt 12 (cfgs 0).N
    rw [result_scale]
    unfold Cert.Reference33Ideal.Value.res_main_v90
    rw [h0, h1, h2, h3, h4, h5, h6]
    funext i
    obtain ⟨a, d, b, rfl⟩ : ∃ a d b, i = ix3 a d b := ⟨_, _, _, eq_ix3 i⟩
    unfold scales gradAt grad err resAt res row seq Rows.inv Rows.ms
    simp only [pointwise, TwoAxes.sum, TwoAxes.last, zero_add, mul_one, Fin.sum_univ_one, Nat.reduceEqDiff, reduceDIte,
      Matrix.cons_val_zero, Matrix.cons_val_one, Ideal.ofBits_one_f32]
  · show _ = (dats m 0 c).arrAt 13 (cfgs 0).N
    rw [result_weight]
    unfold Cert.Reference33Ideal.Value.res_main_v91
    rw [h0, h1, h2, h3, h4, h5, h6]
    funext i
    obtain ⟨a, b, rfl⟩ : ∃ a b, i = ix2 a b := ⟨_, _, eq_ix2 i⟩
    unfold weights weightAt gradAt grad mod err resAt res row seq Rows.inv Rows.ms
    simp only [pointwise, TwoAxes.sum, TwoAxes.last, zero_add, mul_one, Fin.sum_univ_one, Nat.reduceEqDiff, reduceDIte,
      Matrix.cons_val_zero, Matrix.cons_val_one, Ideal.ofBits_one_f32]

end Cert.Kernel33Ideal.Product

end
-- ==== Proof.lean ====
/- The claims of `Cert.Claim`, assembled: for each call of the training step its two generated frames, its reference's
   frame and its value. Each call has a module of its own beside this file. -/
module

public import proofs.«01_k».proof.Defs
public import proofs.«01_k».proof.Proof.Gen.Kernel.Frame
public import proofs.«01_k».proof.Proof.DDownX
public import proofs.«01_k».proof.Proof.Gen.Kernel2.Frame
public import proofs.«01_k».proof.Proof.DUpX
public import proofs.«01_k».proof.Proof.Gen.Kernel3.Frame
public import proofs.«01_k».proof.Proof.DDownW
public import proofs.«01_k».proof.Proof.Gen.Kernel4.Frame
public import proofs.«01_k».proof.Proof.DUpW
public import proofs.«01_k».proof.Proof.Gen.Kernel5.Frame
public import proofs.«01_k».proof.Proof.DOutX
public import proofs.«01_k».proof.Proof.Gen.Kernel6.Frame
public import proofs.«01_k».proof.Proof.DOutW
public import proofs.«01_k».proof.Proof.Gen.Kernel7.Frame
public import proofs.«01_k».proof.Proof.DProjX
public import proofs.«01_k».proof.Proof.Gen.Kernel8.Frame
public import proofs.«01_k».proof.Proof.DProjW
public import proofs.«01_k».proof.Proof.Gen.Kernel9.Frame
public import proofs.«01_k».proof.Proof.DPw2X
public import proofs.«01_k».proof.Proof.Gen.Kernel10.Frame
public import proofs.«01_k».proof.Proof.DPw2W
public import proofs.«01_k».proof.Proof.Gen.Kernel11.Frame
public import proofs.«01_k».proof.Proof.Up
public import proofs.«01_k».proof.Proof.Gen.Kernel12.Frame
public import proofs.«01_k».proof.Proof.Down
public import proofs.«01_k».proof.Proof.Gen.Kernel13.Frame
public import proofs.«01_k».proof.Proof.Proj
public import proofs.«01_k».proof.Proof.Gen.Kernel14.Frame
public import proofs.«01_k».proof.Proof.Out
public import proofs.«01_k».proof.Proof.Gen.Kernel15.Frame
public import proofs.«01_k».proof.Proof.AdamWAda
public import proofs.«01_k».proof.Proof.Gen.Kernel16.Frame
public import proofs.«01_k».proof.Proof.AdamWIn
public import proofs.«01_k».proof.Proof.Gen.Kernel17.Frame
public import proofs.«01_k».proof.Proof.AdamWPw2
public import proofs.«01_k».proof.Proof.Gen.Kernel18.Frame
public import proofs.«01_k».proof.Proof.AdamWOut
public import proofs.«01_k».proof.Proof.Gen.Kernel19.Frame
public import proofs.«01_k».proof.Proof.AdamWUp
public import proofs.«01_k».proof.Proof.Gen.Kernel20.Frame
public import proofs.«01_k».proof.Proof.AdamWDown
public import proofs.«01_k».proof.Proof.Gen.Kernel21.Frame
public import proofs.«01_k».proof.Proof.AdamWFinal
public import proofs.«01_k».proof.Proof.Gen.Kernel22.Frame
public import proofs.«01_k».proof.Proof.AdamSmall
public import proofs.«01_k».proof.Proof.Gen.Kernel23.Frame
public import proofs.«01_k».proof.Proof.DAdaW
public import proofs.«01_k».proof.Proof.Gen.Kernel24.Frame
public import proofs.«01_k».proof.Proof.DFinalAdaW
public import proofs.«01_k».proof.Proof.Gen.Kernel25.Frame
public import proofs.«01_k».proof.Proof.DModSum
public import proofs.«01_k».proof.Proof.Gen.Kernel26.Frame
public import proofs.«01_k».proof.Proof.DSmallSum
public import proofs.«01_k».proof.Proof.Gen.Kernel27.Frame
public import proofs.«01_k».proof.Proof.Pw2
public import proofs.«01_k».proof.Proof.Gen.Kernel28.Frame
public import proofs.«01_k».proof.Proof.DJunction
public import proofs.«01_k».proof.Proof.Gen.Kernel29.Frame
public import proofs.«01_k».proof.Proof.DGlu
public import proofs.«01_k».proof.Proof.Gen.Kernel30.Frame
public import proofs.«01_k».proof.Proof.DConvOutNorm
public import proofs.«01_k».proof.Proof.Gen.Kernel31.Frame
public import proofs.«01_k».proof.Proof.DLnSilu
public import proofs.«01_k».proof.Proof.Gen.Kernel32.Frame
public import proofs.«01_k».proof.Proof.DDnOutNorm
public import proofs.«01_k».proof.Proof.Gen.Kernel33.Frame
public import proofs.«01_k».proof.Proof.LossHead

@[expose] public section

noncomputable section

namespace Cert.Proof

open Idealize.ShloMosaic Idealize.SL.Sem

theorem claim : Cert.Claim := ⟨
  Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Kernel14.Gen.facts, Cert.Kernel14Ideal.Gen.facts, Cert.Reference14Ideal.Gen.facts,
  Cert.Kernel15.Gen.facts, Cert.Kernel15Ideal.Gen.facts, Cert.Reference15Ideal.Gen.facts,
  Cert.Kernel16.Gen.facts, Cert.Kernel16Ideal.Gen.facts, Cert.Reference16Ideal.Gen.facts,
  Cert.Kernel17.Gen.facts, Cert.Kernel17Ideal.Gen.facts, Cert.Reference17Ideal.Gen.facts,
  Cert.Kernel18.Gen.facts, Cert.Kernel18Ideal.Gen.facts, Cert.Reference18Ideal.Gen.facts,
  Cert.Kernel19.Gen.facts, Cert.Kernel19Ideal.Gen.facts, Cert.Reference19Ideal.Gen.facts,
  Cert.Kernel20.Gen.facts, Cert.Kernel20Ideal.Gen.facts, Cert.Reference20Ideal.Gen.facts,
  Cert.Kernel21.Gen.facts, Cert.Kernel21Ideal.Gen.facts, Cert.Reference21Ideal.Gen.facts,
  Cert.Kernel22.Gen.facts, Cert.Kernel22Ideal.Gen.facts, Cert.Reference22Ideal.Gen.facts,
  Cert.Kernel23.Gen.facts, Cert.Kernel23Ideal.Gen.facts, Cert.Reference23Ideal.Gen.facts,
  Cert.Kernel24.Gen.facts, Cert.Kernel24Ideal.Gen.facts, Cert.Reference24Ideal.Gen.facts,
  Cert.Kernel25.Gen.facts, Cert.Kernel25Ideal.Gen.facts, Cert.Reference25Ideal.Gen.facts,
  Cert.Kernel26.Gen.facts, Cert.Kernel26Ideal.Gen.facts, Cert.Reference26Ideal.Gen.facts,
  Cert.Kernel27.Gen.facts, Cert.Kernel27Ideal.Gen.facts, Cert.Reference27Ideal.Gen.facts,
  Cert.Kernel28.Gen.facts, Cert.Kernel28Ideal.Gen.facts, Cert.Reference28Ideal.Gen.facts,
  Cert.Kernel29.Gen.facts, Cert.Kernel29Ideal.Gen.facts, Cert.Reference29Ideal.Gen.facts,
  Cert.Kernel30.Gen.facts, Cert.Kernel30Ideal.Gen.facts, Cert.Reference30Ideal.Gen.facts,
  Cert.Kernel31.Gen.facts, Cert.Kernel31Ideal.Gen.facts, Cert.Reference31Ideal.Gen.facts,
  Cert.Kernel32.Gen.facts, Cert.Kernel32Ideal.Gen.facts, Cert.Reference32Ideal.Gen.facts,
  Cert.Kernel33.Gen.facts, Cert.Kernel33Ideal.Gen.facts, Cert.Reference33Ideal.Gen.facts,
  fun m ρ _ => Cert.Kernel.Gen.frame m ρ, fun m ρ _ => Cert.KernelIdeal.Gen.frame m ρ, Cert.KernelIdeal.Product.frame_reference,
  fun m ρ _ => Cert.Kernel2.Gen.frame m ρ, fun m ρ _ => Cert.Kernel2Ideal.Gen.frame m ρ, Cert.Kernel2Ideal.Product.frame_reference,
  fun m ρ _ => Cert.Kernel3.Gen.frame m ρ, fun m ρ _ => Cert.Kernel3Ideal.Gen.frame m ρ, Cert.Kernel3Ideal.Product.frame_reference,
  fun m ρ _ => Cert.Kernel4.Gen.frame m ρ, fun m ρ _ => Cert.Kernel4Ideal.Gen.frame m ρ, Cert.Kernel4Ideal.Product.frame_reference,
  fun m ρ _ => Cert.Kernel5.Gen.frame m ρ, fun m ρ _ => Cert.Kernel5Ideal.Gen.frame m ρ, Cert.Kernel5Ideal.Product.frame_reference,
  fun m ρ _ => Cert.Kernel6.Gen.frame m ρ, fun m ρ _ => Cert.Kernel6Ideal.Gen.frame m ρ, Cert.Kernel6Ideal.Product.frame_reference,
  fun m ρ _ => Cert.Kernel7.Gen.frame m ρ, fun m ρ _ => Cert.Kernel7Ideal.Gen.frame m ρ, Cert.Kernel7Ideal.Product.frame_reference,
  fun m ρ _ => Cert.Kernel8.Gen.frame m ρ, fun m ρ _ => Cert.Kernel8Ideal.Gen.frame m ρ, Cert.Kernel8Ideal.Product.frame_reference,
  fun m ρ _ => Cert.Kernel9.Gen.frame m ρ, fun m ρ _ => Cert.Kernel9Ideal.Gen.frame m ρ, Cert.Kernel9Ideal.Product.frame_reference,
  fun m ρ _ => Cert.Kernel10.Gen.frame m ρ, fun m ρ _ => Cert.Kernel10Ideal.Gen.frame m ρ, Cert.Kernel10Ideal.Product.frame_reference,
  fun m ρ _ => Cert.Kernel11.Gen.frame m ρ, fun m ρ _ => Cert.Kernel11Ideal.Gen.frame m ρ, Cert.Kernel11Ideal.Product.frame_reference,
  fun m ρ _ => Cert.Kernel12.Gen.frame m ρ, fun m ρ _ => Cert.Kernel12Ideal.Gen.frame m ρ, Cert.Kernel12Ideal.Product.frame_reference,
  fun m ρ _ => Cert.Kernel13.Gen.frame m ρ, fun m ρ _ => Cert.Kernel13Ideal.Gen.frame m ρ, Cert.Kernel13Ideal.Product.frame_reference,
  fun m ρ _ => Cert.Kernel14.Gen.frame m ρ, fun m ρ _ => Cert.Kernel14Ideal.Gen.frame m ρ, Cert.Kernel14Ideal.Product.frame_reference,
  fun m ρ _ => Cert.Kernel15.Gen.frame m ρ, fun m ρ _ => Cert.Kernel15Ideal.Gen.frame m ρ, Cert.Kernel15Ideal.Product.frame_reference,
  fun m ρ _ => Cert.Kernel16.Gen.frame m ρ, fun m ρ _ => Cert.Kernel16Ideal.Gen.frame m ρ, Cert.Kernel16Ideal.Product.frame_reference,
  fun m ρ _ => Cert.Kernel17.Gen.frame m ρ, fun m ρ _ => Cert.Kernel17Ideal.Gen.frame m ρ, Cert.Kernel17Ideal.Product.frame_reference,
  fun m ρ _ => Cert.Kernel18.Gen.frame m ρ, fun m ρ _ => Cert.Kernel18Ideal.Gen.frame m ρ, Cert.Kernel18Ideal.Product.frame_reference,
  fun m ρ _ => Cert.Kernel19.Gen.frame m ρ, fun m ρ _ => Cert.Kernel19Ideal.Gen.frame m ρ, Cert.Kernel19Ideal.Product.frame_reference,
  fun m ρ _ => Cert.Kernel20.Gen.frame m ρ, fun m ρ _ => Cert.Kernel20Ideal.Gen.frame m ρ, Cert.Kernel20Ideal.Product.frame_reference,
  fun m ρ _ => Cert.Kernel21.Gen.frame m ρ, fun m ρ _ => Cert.Kernel21Ideal.Gen.frame m ρ, Cert.Kernel21Ideal.Product.frame_reference,
  fun m ρ _ => Cert.Kernel22.Gen.frame m ρ, fun m ρ _ => Cert.Kernel22Ideal.Gen.frame m ρ, Cert.Kernel22Ideal.Product.frame_reference,
  fun m ρ _ => Cert.Kernel23.Gen.frame m ρ, fun m ρ _ => Cert.Kernel23Ideal.Gen.frame m ρ, Cert.Kernel23Ideal.Product.frame_reference,
  fun m ρ _ => Cert.Kernel24.Gen.frame m ρ, fun m ρ _ => Cert.Kernel24Ideal.Gen.frame m ρ, Cert.Kernel24Ideal.Product.frame_reference,
  fun m ρ _ => Cert.Kernel25.Gen.frame m ρ, fun m ρ _ => Cert.Kernel25Ideal.Gen.frame m ρ, Cert.Kernel25Ideal.Product.frame_reference,
  fun m ρ _ => Cert.Kernel26.Gen.frame m ρ, fun m ρ _ => Cert.Kernel26Ideal.Gen.frame m ρ, Cert.Kernel26Ideal.Product.frame_reference,
  fun m ρ _ => Cert.Kernel27.Gen.frame m ρ, fun m ρ _ => Cert.Kernel27Ideal.Gen.frame m ρ, Cert.Kernel27Ideal.Product.frame_reference,
  fun m ρ _ => Cert.Kernel28.Gen.frame m ρ, fun m ρ _ => Cert.Kernel28Ideal.Gen.frame m ρ, Cert.Kernel28Ideal.Product.frame_reference,
  fun m ρ _ => Cert.Kernel29.Gen.frame m ρ, fun m ρ _ => Cert.Kernel29Ideal.Gen.frame m ρ, Cert.Kernel29Ideal.Product.frame_reference,
  fun m ρ _ => Cert.Kernel30.Gen.frame m ρ, fun m ρ _ => Cert.Kernel30Ideal.Gen.frame m ρ, Cert.Kernel30Ideal.Product.frame_reference,
  fun m ρ _ => Cert.Kernel31.Gen.frame m ρ, fun m ρ _ => Cert.Kernel31Ideal.Gen.frame m ρ, Cert.Kernel31Ideal.Product.frame_reference,
  fun m ρ _ => Cert.Kernel32.Gen.frame m ρ, fun m ρ _ => Cert.Kernel32Ideal.Gen.frame m ρ, Cert.Kernel32Ideal.Product.frame_reference,
  fun m ρ _ => Cert.Kernel33.Gen.frame m ρ, fun m ρ _ => Cert.Kernel33Ideal.Gen.frame m ρ, Cert.Kernel33Ideal.Product.frame_reference,
  trivial, Cert.KernelIdeal.Product.algebraic,
  trivial, Cert.Kernel2Ideal.Product.algebraic,
  trivial, Cert.Kernel3Ideal.Product.algebraic,
  trivial, Cert.Kernel4Ideal.Product.algebraic,
  trivial, Cert.Kernel5Ideal.Product.algebraic,
  trivial, Cert.Kernel6Ideal.Product.algebraic,
  trivial, Cert.Kernel7Ideal.Product.algebraic,
  trivial, Cert.Kernel8Ideal.Product.algebraic,
  trivial, Cert.Kernel9Ideal.Product.algebraic,
  trivial, Cert.Kernel10Ideal.Product.algebraic,
  trivial, Cert.Kernel11Ideal.Product.algebraic,
  trivial, Cert.Kernel12Ideal.Product.algebraic,
  trivial, Cert.Kernel13Ideal.Product.algebraic,
  trivial, Cert.Kernel14Ideal.Product.algebraic,
  trivial, Cert.Kernel15Ideal.Product.algebraic,
  trivial, Cert.Kernel16Ideal.Product.algebraic,
  trivial, Cert.Kernel17Ideal.Product.algebraic,
  trivial, Cert.Kernel18Ideal.Product.algebraic,
  trivial, Cert.Kernel19Ideal.Product.algebraic,
  trivial, Cert.Kernel20Ideal.Product.algebraic,
  trivial, Cert.Kernel21Ideal.Product.algebraic,
  trivial, Cert.Kernel22Ideal.Product.algebraic,
  trivial, Cert.Kernel23Ideal.Product.algebraic,
  trivial, Cert.Kernel24Ideal.Product.algebraic,
  trivial, Cert.Kernel25Ideal.Product.algebraic,
  trivial, Cert.Kernel26Ideal.Product.algebraic,
  trivial, Cert.Kernel27Ideal.Product.algebraic,
  trivial, Cert.Kernel28Ideal.Product.algebraic,
  trivial, Cert.Kernel29Ideal.Product.algebraic,
  trivial, Cert.Kernel30Ideal.Product.algebraic,
  trivial, Cert.Kernel31Ideal.Product.algebraic,
  trivial, Cert.Kernel32Ideal.Product.algebraic,
  trivial, Cert.Kernel33Ideal.Product.algebraic⟩

end Cert.Proof

end
